-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real [hPre_real : Cert.Pre_real.Facts] (m : (ℓ : Loc Cert.KernelIdeal.nD Cert.KernelIdeal.τ Cert.KernelIdeal.sig) → Buf (Elt Ideal) ℓ) : Prop :=
  ∀ c : Dev Cert.KernelIdeal.nD,
    (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real [hPre_real : Cert.Pre_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_real [hKernelIdeal : Cert.KernelIdeal.Facts] [hPre_real : Cert.Pre_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_real [hReferenceIdeal : Cert.ReferenceIdeal.Facts] [hPre_real : Cert.Pre_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_real [hKernelIdeal : Cert.KernelIdeal.Facts] [hReferenceIdeal : Cert.ReferenceIdeal.Facts] [hPre_real : Cert.Pre_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v141_0)) (v1 : (c : Dev Cert.KernelIdeal.nD) → Buf (Elt Ideal) ((c.tc : Thread Cert.KernelIdeal.nD Cert.KernelIdeal.τ).loc Cert.KernelIdeal.main_v141_1)) (v2 : (c : Dev Cert.KernelIdeal.nD) → Buf (Elt Ideal) ((c.tc : Thread Cert.KernelIdeal.nD Cert.KernelIdeal.τ).loc Cert.KernelIdeal.main_v141_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141_0) = v0 c
          ∧ r.2.mem ((c.tc : Thread Cert.KernelIdeal.nD Cert.KernelIdeal.τ).loc Cert.KernelIdeal.main_v141_1) = v1 c
          ∧ r.2.mem ((c.tc : Thread Cert.KernelIdeal.nD Cert.KernelIdeal.τ).loc Cert.KernelIdeal.main_v141_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_v40) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)) (v4 : (c : Dev Cert.Kernel4Ideal.nD) → Buf (Elt Ideal) ((c.tc : Thread Cert.Kernel4Ideal.nD Cert.Kernel4Ideal.τ).loc Cert.Kernel4Ideal.main_v28_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_v28_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_v71) = v3 c
          ∧ r.2.mem ((c.tc : Thread Cert.Reference4Ideal.nD Cert.Reference4Ideal.τ).loc Cert.Reference4Ideal.main_v49) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_real : Cert.Pre_real.Facts) (hPre_finite : Cert.Pre_finite.Facts),
    quiescent_Kernel (hKernel := hKernel)
    ∧ quiescent_KernelIdeal (hKernelIdeal := hKernelIdeal)
    ∧ quiescent_KernelIdeal_pre_real (hKernelIdeal := hKernelIdeal) (hPre_real := hPre_real)
    ∧ quiescent_ReferenceIdeal (hReferenceIdeal := hReferenceIdeal)
    ∧ quiescent_ReferenceIdeal_pre_real (hReferenceIdeal := hReferenceIdeal) (hPre_real := hPre_real)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal_pre_real (hKernelIdeal := hKernelIdeal) (hReferenceIdeal := hReferenceIdeal) (hPre_real := hPre_real)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S4096x1024 : Shape := ⟨2, ![4096, 1024]⟩
abbrev S1x1024 : Shape := ⟨2, ![1, 1024]⟩
abbrev S8x2x1024x704 : Shape := ⟨4, ![8, 2, 1024, 704]⟩
abbrev S8x1024x1024 : Shape := ⟨3, ![8, 1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S8x2x1024x704 : S_.BroadcastsInDim S8x2x1024x704 (![] : Fin 0 → Fin S8x2x1024x704.rank)
  bcast_S_S8x1024x1024 : S_.BroadcastsInDim S8x1024x1024 (![] : Fin 0 → Fin S8x1024x1024.rank)

variable [Facts]

def fn {F : FTy → Type} [FloatOps F] (main_arg0 : FVec F S4096x1024 .f32) (main_arg1 : FVec F S4096x1024 .f32) (main_arg2 : FVec F S1x1024 .f32) (main_arg3 : FVec F S8x2x1024x704 .bf16) (main_arg4 : FVec F S8x1024x1024 .bf16) : IVec S4096x1024 1 × IVec S1x1024 1 × IVec S8x2x1024x704 1 × IVec S8x1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8x2x1024x704 .bf16 := Host.absf main_arg3
  let main_cst_1 : FVec F S_ .bf16 := constant S_ .bf16 0x7F80#16
  let main_v7 : FVec F S8x2x1024x704 .bf16 := broadcastInDim S8x2x1024x704 ![] bcast_S_S8x2x1024x704 main_cst_1
  let main_v8 : IVec S8x2x1024x704 1 := cmpf .olt main_v6 main_v7
  let main_v9 : FVec F S8x1024x1024 .bf16 := Host.absf main_arg4
  let main_cst_2 : FVec F S_ .bf16 := constant S_ .bf16 0x7F80#16
  let main_v10 : FVec F S8x1024x1024 .bf16 := broadcastInDim S8x1024x1024 ![] bcast_S_S8x1024x1024 main_cst_2
  let main_v11 : IVec S8x1024x1024 1 := cmpf .olt main_v9 main_v10
  (main_v2, main_v5, main_v8, main_v11)
-- ==== Pre_real.lean ====
abbrev S4x4096x128 : Shape := ⟨3, ![4, 4096, 128]⟩
abbrev S2x4096x128 : Shape := ⟨3, ![2, 4096, 128]⟩
abbrev S32x8 : Shape := ⟨2, ![32, 8]⟩
abbrev S8 : Shape := ⟨1, ![8]⟩
abbrev S_ : Shape := ⟨0, ![]⟩

class Facts : Prop where
  bcast_S_S4x4096x128 : S_.BroadcastsInDim S4x4096x128 (![] : Fin 0 → Fin S4x4096x128.rank)
  bcast_S_S2x4096x128 : S_.BroadcastsInDim S2x4096x128 (![] : Fin 0 → Fin S2x4096x128.rank)
  bcast_S_S32x8 : S_.BroadcastsInDim S32x8 (![] : Fin 0 → Fin S32x8.rank)
  bcast_S_S8 : S_.BroadcastsInDim S8 (![] : Fin 0 → Fin S8.rank)

variable [Facts]

def fn {F : FTy → Type} [FloatOps F] (main_arg0 : FVec F S4x4096x128 .bf16) (main_arg1 : FVec F S2x4096x128 .bf16) (main_arg2 : FVec F S2x4096x128 .bf16) (main_arg3 : FVec F S32x8 .f32) (main_arg4 : FVec F S8 .f32) (main_arg5 : FVec F S4x4096x128 .bf16) : IVec S4x4096x128 1 × IVec S2x4096x128 1 × IVec S2x4096x128 1 × IVec S32x8 1 × IVec S8 1 × IVec S4x4096x128 1 :=
  let main_v0 : FVec F S4x4096x128 .bf16 := Host.absf main_arg0
  let main_cst : FVec F S_ .bf16 := constant S_ .bf16 0x7F80#16
  let main_v1 : FVec F S4x4096x128 .bf16 := broadcastInDim S4x4096x128 ![] bcast_S_S4x4096x128 main_cst
  let main_v2 : IVec S4x4096x128 1 := cmpf .olt main_v0 main_v1
  let main_v3 : FVec F S2x4096x128 .bf16 := Host.absf main_arg1
  let main_cst_0 : FVec F S_ .bf16 := constant S_ .bf16 0x7F80#16
  let main_v4 : FVec F S2x4096x128 .bf16 := broadcastInDim S2x4096x128 ![] bcast_S_S2x4096x128 main_cst_0
  let main_v5 : IVec S2x4096x128 1 := cmpf .olt main_v3 main_v4
  let main_v6 : FVec F S2x4096x128 .bf16 := Host.absf main_arg2
  let main_cst_1 : FVec F S_ .bf16 := constant S_ .bf16 0x7F80#16
  let main_v7 : FVec F S2x4096x128 .bf16 := broadcastInDim S2x4096x128 ![] bcast_S_S2x4096x128 main_cst_1
  let main_v8 : IVec S2x4096x128 1 := cmpf .olt main_v6 main_v7
  let main_v9 : FVec F S32x8 .f32 := Host.absf main_arg3
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_v12 : FVec F S8 .f32 := Host.absf main_arg4
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  let main_v15 : FVec F S4x4096x128 .bf16 := Host.absf main_arg5
  let main_cst_4 : FVec F S_ .bf16 := constant S_ .bf16 0x7F80#16
  let main_v16 : FVec F S4x4096x128 .bf16 := broadcastInDim S4x4096x128 ![] bcast_S_S4x4096x128 main_cst_4
  let main_v17 : IVec S4x4096x128 1 := cmpf .olt main_v15 main_v16
  (main_v2, main_v5, main_v8, main_v11, main_v14, main_v17)
-- ==== Kernel.lean ====
abbrev S4x4096x128 : Shape := ⟨3, ![4, 4096, 128]⟩
abbrev S2x4096x128 : Shape := ⟨3, ![2, 4096, 128]⟩
abbrev S32x8 : Shape := ⟨2, ![32, 8]⟩
abbrev S8 : Shape := ⟨1, ![8]⟩
abbrev S2x2x4096x2x64 : Shape := ⟨5, ![2, 2, 4096, 2, 64]⟩
abbrev S2x4096x2x64 : Shape := ⟨4, ![2, 4096, 2, 64]⟩
abbrev S2x2x4096x2x4096 : Shape := ⟨5, ![2, 2, 4096, 2, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4096x4096x1 : Shape := ⟨3, ![4096, 4096, 1]⟩
abbrev S4096x4096x8 : Shape := ⟨3, ![4096, 4096, 8]⟩
abbrev S4096x4096x2x2x2 : Shape := ⟨5, ![4096, 4096, 2, 2, 2]⟩
abbrev S1x1x4096x1x4096 : Shape := ⟨5, ![1, 1, 4096, 1, 4096]⟩
abbrev S2x2x4096x2 : Shape := ⟨4, ![2, 2, 4096, 2]⟩
abbrev S2x2x1x2 : Shape := ⟨4, ![2, 2, 1, 2]⟩
abbrev S2x2x4096x2x1 : Shape := ⟨5, ![2, 2, 4096, 2, 1]⟩
abbrev S2x2x64x2x4096 : Shape := ⟨5, ![2, 2, 64, 2, 4096]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S1x128x384 : Shape := ⟨3, ![1, 128, 384]⟩
abbrev S128x384x1 : Shape := ⟨3, ![128, 384, 1]⟩
abbrev S128x384x8 : Shape := ⟨3, ![128, 384, 8]⟩
abbrev S8x128x384 : Shape := ⟨3, ![8, 128, 384]⟩
abbrev S8x128x128 : Shape := ⟨3, ![8, 128, 128]⟩
abbrev S8x128x256 : Shape := ⟨3, ![8, 128, 256]⟩
abbrev S8x1x128x384 : Shape := ⟨4, ![8, 1, 128, 384]⟩
abbrev S8x3x128x384 : Shape := ⟨4, ![8, 3, 128, 384]⟩
abbrev S4x2x3x128x384 : Shape := ⟨5, ![4, 2, 3, 128, 384]⟩
abbrev S4x3x2x128x384 : Shape := ⟨5, ![4, 3, 2, 128, 384]⟩
abbrev S4x3x256x384 : Shape := ⟨4, ![4, 3, 256, 384]⟩
abbrev S4x3x384x256 : Shape := ⟨4, ![4, 3, 384, 256]⟩
abbrev S4x8x256 : Shape := ⟨3, ![4, 8, 256]⟩
abbrev S1x4096x128 : Shape := ⟨3, ![1, 4096, 128]⟩
abbrev S1x3x384x256 : Shape := ⟨4, ![1, 3, 384, 256]⟩
abbrev S1x8x256 : Shape := ⟨3, ![1, 8, 256]⟩
abbrev S128x128 : Shape := ⟨2, ![128, 128]⟩
abbrev S1x256 : Shape := ⟨2, ![1, 256]⟩
abbrev S3x384x256 : Shape := ⟨3, ![3, 384, 256]⟩
abbrev S1 : Shape := ⟨1, ![1]⟩
abbrev S1x128x128 : Shape := ⟨3, ![1, 128, 128]⟩
abbrev S256x128 : Shape := ⟨2, ![256, 128]⟩
abbrev S1x384x128 : Shape := ⟨3, ![1, 384, 128]⟩
abbrev S384x128 : Shape := ⟨2, ![384, 128]⟩
abbrev S1x128 : Shape := ⟨2, ![1, 128]⟩
abbrev S8x128 : Shape := ⟨2, ![8, 128]⟩
abbrev S8x256 : Shape := ⟨2, ![8, 256]⟩
abbrev S384x256 : Shape := ⟨2, ![384, 256]⟩
abbrev S1x1x384x256 : Shape := ⟨4, ![1, 1, 384, 256]⟩
abbrev S1x1x256 : Shape := ⟨3, ![1, 1, 256]⟩

abbrev nBuf : Space → Nat
  | .hbm => 195
  | .vmem => 26
  | .smem => 1
  | _ => 0

abbrev hbmTy0_0 (i : Nat) : BufTy := match i % 128 with
  | 0 => ⟨S4x4096x128, .bf16⟩
  | 1 => ⟨S2x4096x128, .bf16⟩
  | 2 => ⟨S2x4096x128, .bf16⟩
  | 3 => ⟨S32x8, .f32⟩
  | 4 => ⟨S8, .f32⟩
  | 5 => ⟨S4x4096x128, .bf16⟩
  | 6 => ⟨S2x2x4096x2x64, .bf16⟩
  | 7 => ⟨S2x4096x2x64, .bf16⟩
  | 8 => ⟨S2x4096x2x64, .bf16⟩
  | 9 => ⟨S2x2x4096x2x64, .f32⟩
  | 10 => ⟨S2x4096x2x64, .f32⟩
  | 11 => ⟨S2x2x4096x2x4096, .f32⟩
  | 12 => ⟨S2x2x4096x2x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i1⟩
  | 23 => ⟨S_, .i32⟩
  | 24 => ⟨S_, .i32⟩
  | 25 => ⟨S4096x4096, .i32⟩
  | 26 => ⟨S4096x4096, .i32⟩
  | 27 => ⟨S4096x4096, .i32⟩
  | 28 => ⟨S4096x4096, .i32⟩
  | 29 => ⟨S_, .i32⟩
  | 30 => ⟨S4096x4096, .i32⟩
  | 31 => ⟨S4096x4096, .i32⟩
  | 32 => ⟨S4096x4096, .f32⟩
  | 33 => ⟨S_, .f32⟩
  | 34 => ⟨S4096x4096, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S4096x4096, .i32⟩
  | 44 => ⟨S_, .i32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S_, .i32⟩
  | 51 => ⟨S4096x4096, .i32⟩
  | 52 => ⟨S4096x4096, .i1⟩
  | 53 => ⟨S4096x4096, .i32⟩
  | 54 => ⟨S4096x4096, .i32⟩
  | 55 => ⟨S4096x4096, .i32⟩
  | 56 => ⟨S_, .i32⟩
  | 57 => ⟨S4096x4096, .i32⟩
  | 58 => ⟨S4096x4096, .i1⟩
  | 59 => ⟨S_, .i32⟩
  | 60 => ⟨S4096x4096, .i32⟩
  | 61 => ⟨S4096x4096, .i32⟩
  | 62 => ⟨S4096x4096, .i32⟩
  | 63 => ⟨S4096x4096x1, .i32⟩
  | 64 => ⟨S4096x4096x8, .f32⟩
  | 65 => ⟨S4096x4096x2x2x2, .f32⟩
  | 66 => ⟨S2x2x4096x2x4096, .f32⟩
  | 67 => ⟨S4096x4096, .i32⟩
  | 68 => ⟨S_, .i32⟩
  | 69 => ⟨S4096x4096, .i32⟩
  | 70 => ⟨S4096x4096, .i1⟩
  | 71 => ⟨S1x1x4096x1x4096, .i1⟩
  | 72 => ⟨S2x2x4096x2x4096, .f32⟩
  | 73 => ⟨S_, .f32⟩
  | 74 => ⟨S_, .f32⟩
  | 75 => ⟨S2x2x4096x2x4096, .i1⟩
  | 76 => ⟨S2x2x4096x2x4096, .f32⟩
  | 77 => ⟨S2x2x4096x2x4096, .f32⟩
  | 78 => ⟨S_, .f32⟩
  | 79 => ⟨S2x2x4096x2, .f32⟩
  | 80 => ⟨S2x2x1x2, .f32⟩
  | 81 => ⟨S2x2x4096x2, .f32⟩
  | 82 => ⟨S2x2x4096x2, .f32⟩
  | 83 => ⟨S2x2x4096x2x1, .f32⟩
  | 84 => ⟨S2x2x4096x2x4096, .f32⟩
  | 85 => ⟨S2x2x4096x2x4096, .f32⟩
  | 86 => ⟨S2x2x4096x2x4096, .f32⟩
  | 87 => ⟨S_, .f32⟩
  | 88 => ⟨S2x2x4096x2, .f32⟩
  | 89 => ⟨S2x2x4096x2, .f32⟩
  | 90 => ⟨S2x2x4096x2, .f32⟩
  | 91 => ⟨S2x2x4096x2, .f32⟩
  | 92 => ⟨S2x2x4096x2, .f32⟩
  | 93 => ⟨S2x2x4096x2x4096, .bf16⟩
  | 94 => ⟨S2x2x4096x2x4096, .f32⟩
  | 95 => ⟨S2x4096x2x64, .f32⟩
  | 96 => ⟨S2x2x64x2x4096, .f32⟩
  | 97 => ⟨S2x2x4096x2x64, .f32⟩
  | 98 => ⟨S2x2x4096x2x1, .f32⟩
  | 99 => ⟨S2x2x4096x2x64, .f32⟩
  | 100 => ⟨S2x2x4096x2x64, .f32⟩
  | 101 => ⟨S2x2x4096x2, .f32⟩
  | 102 => ⟨S2x2x4096x2, .f32⟩
  | 103 => ⟨S384, .i32⟩
  | 104 => ⟨S1x384, .i32⟩
  | 105 => ⟨S_, .i32⟩
  | 106 => ⟨S1x384, .i32⟩
  | 107 => ⟨S1x384, .i32⟩
  | 108 => ⟨S128, .i32⟩
  | 109 => ⟨S128x1, .i32⟩
  | 110 => ⟨S128x384, .i32⟩
  | 111 => ⟨S128x384, .i32⟩
  | 112 => ⟨S128x384, .i32⟩
  | 113 => ⟨S_, .i32⟩
  | 114 => ⟨S128x384, .i32⟩
  | 115 => ⟨S128x384, .i32⟩
  | 116 => ⟨S_, .i32⟩
  | 117 => ⟨S128x384, .i32⟩
  | 118 => ⟨S128x384, .i1⟩
  | 119 => ⟨S_, .i32⟩
  | 120 => ⟨S_, .i32⟩
  | 121 => ⟨S128x384, .i32⟩
  | 122 => ⟨S128x384, .i32⟩
  | 123 => ⟨S128x384, .i32⟩
  | 124 => ⟨S128x384, .i32⟩
  | 125 => ⟨S_, .i32⟩
  | 126 => ⟨S128x384, .i32⟩
  | 127 => ⟨S128x384, .i32⟩
  | _ => ⟨S4x4096x128, .bf16⟩

abbrev hbmTy0_1 (i : Nat) : BufTy := match i % 128 with
  | 0 => ⟨S128x384, .f32⟩
  | 1 => ⟨S_, .f32⟩
  | 2 => ⟨S128x384, .f32⟩
  | 3 => ⟨S128x384, .f32⟩
  | 4 => ⟨S128x384, .f32⟩
  | 5 => ⟨S_, .f32⟩
  | 6 => ⟨S128x384, .f32⟩
  | 7 => ⟨S128x384, .f32⟩
  | 8 => ⟨S_, .f32⟩
  | 9 => ⟨S128x384, .f32⟩
  | 10 => ⟨S128x384, .f32⟩
  | 11 => ⟨S128x384, .i32⟩
  | 12 => ⟨S_, .i32⟩
  | 13 => ⟨S128x384, .i32⟩
  | 14 => ⟨S128x384, .i32⟩
  | 15 => ⟨S_, .i32⟩
  | 16 => ⟨S128x384, .i32⟩
  | 17 => ⟨S128x384, .i32⟩
  | 18 => ⟨S_, .i32⟩
  | 19 => ⟨S128x384, .i32⟩
  | 20 => ⟨S128x384, .i1⟩
  | 21 => ⟨S128x384, .i32⟩
  | 22 => ⟨S128x384, .i32⟩
  | 23 => ⟨S128x384, .i32⟩
  | 24 => ⟨S128x384, .i32⟩
  | 25 => ⟨S_, .i32⟩
  | 26 => ⟨S128x384, .i32⟩
  | 27 => ⟨S128x384, .i1⟩
  | 28 => ⟨S1x128x384, .i1⟩
  | 29 => ⟨S_, .i32⟩
  | 30 => ⟨S128x384, .i32⟩
  | 31 => ⟨S128x384, .i1⟩
  | 32 => ⟨S_, .i32⟩
  | 33 => ⟨S128x384, .i32⟩
  | 34 => ⟨S128x384, .i32⟩
  | 35 => ⟨S128x384, .i32⟩
  | 36 => ⟨S128x384x1, .i32⟩
  | 37 => ⟨S128x384x8, .f32⟩
  | 38 => ⟨S8x128x384, .f32⟩
  | 39 => ⟨S_, .f32⟩
  | 40 => ⟨S_, .f32⟩
  | 41 => ⟨S8x128x384, .i1⟩
  | 42 => ⟨S8x128x384, .f32⟩
  | 43 => ⟨S8x128x384, .f32⟩
  | 44 => ⟨S_, .f32⟩
  | 45 => ⟨S8x128x128, .f32⟩
  | 46 => ⟨S8x128x256, .f32⟩
  | 47 => ⟨S8x128x384, .f32⟩
  | 48 => ⟨S8x128x256, .f32⟩
  | 49 => ⟨S8x128x384, .f32⟩
  | 50 => ⟨S8x1x128x384, .f32⟩
  | 51 => ⟨S8x1x128x384, .f32⟩
  | 52 => ⟨S8x1x128x384, .f32⟩
  | 53 => ⟨S8x3x128x384, .f32⟩
  | 54 => ⟨S4x2x3x128x384, .f32⟩
  | 55 => ⟨S4x3x2x128x384, .f32⟩
  | 56 => ⟨S4x3x256x384, .f32⟩
  | 57 => ⟨S4x3x384x256, .f32⟩
  | 58 => ⟨S4x4096x128, .f32⟩
  | 59 => ⟨S2x2x4096x2x1, .f32⟩
  | 60 => ⟨S2x2x4096x2x64, .f32⟩
  | 61 => ⟨S4x4096x128, .f32⟩
  | 62 => ⟨S4x4096x128, .bf16⟩
  | 63 => ⟨S2x4096x128, .bf16⟩
  | 64 => ⟨S2x4096x128, .bf16⟩
  | 65 => ⟨S4x3x384x256, .f32⟩
  | 66 => ⟨S4x8x256, .f32⟩
  | _ => ⟨S4x4096x128, .bf16⟩

abbrev hbmTy (i : Nat) : BufTy := match i / 128 with
  | 0 => hbmTy0_0 i
  | 1 => hbmTy0_1 i
  | _ => ⟨S4x4096x128, .bf16⟩

abbrev bufTy : (tb : Table) → Fin (tcTables nBuf tb) → BufTy
  | .hbm, ⟨i, _⟩ => hbmTy i
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x3x384x256, .f32⟩
  | .local _ .vmem, ⟨7, _⟩ => ⟨S1x3x384x256, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x3x384x256, .f32⟩
  | .local _ .vmem, ⟨21, _⟩ => ⟨S1x3x384x256, .f32⟩
  | .local _ .vmem, ⟨22, _⟩ => ⟨S1x8x256, .f32⟩
  | .local _ .vmem, ⟨23, _⟩ => ⟨S1x8x256, .f32⟩
  | .local _ .vmem, ⟨24, _⟩ => ⟨S1x4096x128, .f32⟩
  | .local _ .vmem, ⟨25, _⟩ => ⟨S1x4096x128, .f32⟩
  | .local _ .smem, ⟨0, _⟩ => ⟨S8, .f32⟩
  | _, _ => ⟨S4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_15 : Ref sig .tc := ⟨.hbm, 113, rfl⟩
abbrev main_v85 : Ref sig .tc := ⟨.hbm, 114, rfl⟩
abbrev main_v86 : Ref sig .tc := ⟨.hbm, 115, rfl⟩
abbrev main_c_16 : Ref sig .tc := ⟨.hbm, 116, rfl⟩
abbrev main_v87 : Ref sig .tc := ⟨.hbm, 117, rfl⟩
abbrev main_v88 : Ref sig .tc := ⟨.hbm, 118, rfl⟩
abbrev main_c_17 : Ref sig .tc := ⟨.hbm, 119, rfl⟩
abbrev main_c_18 : Ref sig .tc := ⟨.hbm, 120, rfl⟩
abbrev main_call3_v0 : Ref sig .tc := ⟨.hbm, 121, rfl⟩
abbrev main_call3_v1 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_23 : Ref sig .tc := ⟨.hbm, 140, rfl⟩
abbrev main_v102 : Ref sig .tc := ⟨.hbm, 141, rfl⟩
abbrev main_v103 : Ref sig .tc := ⟨.hbm, 142, rfl⟩
abbrev main_c_24 : Ref sig .tc := ⟨.hbm, 143, rfl⟩
abbrev main_v104 : Ref sig .tc := ⟨.hbm, 144, rfl⟩
abbrev main_v105 : Ref sig .tc := ⟨.hbm, 145, rfl⟩
abbrev main_c_25 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_c_26 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_27 : Ref sig .tc := ⟨.hbm, 157, rfl⟩
abbrev main_v115 : Ref sig .tc := ⟨.hbm, 158, rfl⟩
abbrev main_v116 : Ref sig .tc := ⟨.hbm, 159, rfl⟩
abbrev main_c_28 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_29 : Ref sig .tc := ⟨.hbm, 167, rfl⟩
abbrev main_call5_v0 : Ref sig .tc := ⟨.hbm, 168, rfl⟩
abbrev main_call5_v1 : Ref sig .tc := ⟨.hbm, 169, rfl⟩
abbrev main_call5_v2 : Ref sig .tc := ⟨.hbm, 170, rfl⟩
abbrev main_v123 : Ref sig .tc := ⟨.hbm, 171, rfl⟩
abbrev main_cst_30 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141_0 : Ref sig .tc := ⟨.hbm, 190, rfl⟩
abbrev main_v141_1 : Ref sig .tc := ⟨.hbm, 191, rfl⟩
abbrev main_v141_2 : Ref sig .tc := ⟨.hbm, 192, rfl⟩
abbrev main_v141_3 : Ref sig .tc := ⟨.hbm, 193, rfl⟩
abbrev main_v141_4 : Ref sig .tc := ⟨.hbm, 194, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_16 : BitVec 32 := 0#32
  let c2_i32_17 : BitVec 32 := 2#32
  let v35 : BitVec 32 := Scalar.addi c0_i32_16 c2_i32_17
  let c1_i32_18 : BitVec 32 := 1#32
  ⟨c0_i32_16, v35, c1_i32_18⟩
def k0_off1 (i : grid0.Coords) (k0_t1 : Fin k0_t1_loop.trips) (c0_i32_32 : BitVec 32) : Fin 1 → Nat :=
  let c2_i32_46 : BitVec 32 := 2#32
  let arg0 : BitVec 32 := BitVec.ofNat 32 (i 0).val
  let c1_i32_45 : BitVec 32 := 1#32
  let v71 : BitVec 32 := Scalar.muli arg0 c1_i32_45
  let c0_i32_16 : BitVec 32 := 0#32
  let c1_i32_18 : BitVec 32 := 1#32
  let arg16 : BitVec 32 := Scf.iv c0_i32_16 c1_i32_18 k0_t1
  let c16_i32 : BitVec 32 := 16#32
  let v42 : BitVec 32 := Scalar.muli arg16 c16_i32
  let v43 : BitVec 32 := Scalar.addi v42 c0_i32_32
  let c0_i32_33 : BitVec 32 := 0#32
  let v45 : BitVec 1 := Scalar.cmpi .sgt v43 c0_i32_33
  let v46 : BitVec 32 := Scalar.extui v45
  let c0_i32_34 : BitVec 32 := 0#32
  let v47 : BitVec 1 := Scalar.cmpi .slt v43 c0_i32_34
  let v48 : BitVec 32 := Scalar.extui v47
  let v49 : BitVec 32 := Scalar.subi v46 v48
  let c32_i32 : BitVec 32 := 32#32
  let c0_i32_35 : BitVec 32 := 0#32
  let v50 : BitVec 1 := Scalar.cmpi .sgt c32_i32 c0_i32_35
  let v51 : BitVec 32 := Scalar.extui v50
  let c0_i32_36 : BitVec 32 := 0#32
  let v52 : BitVec 1 := Scalar.cmpi .slt c32_i32 c0_i32_36
  let v53 : BitVec 32 := Scalar.extui v52
  let v54 : BitVec 32 := Scalar.subi v51 v53
  let v55 : BitVec 1 := Scalar.cmpi .ne v49 v54
  let v56 : BitVec 32 := Scalar.remsi v43 c32_i32
  let c0_i32_37 : BitVec 32 := 0#32
  let v57 : BitVec 1 := Scalar.cmpi .ne v56 c0_i32_37
  let v58 : BitVec 1 := Scalar.andi v55 v57
  let v44 : BitVec 32 := Scalar.divsi v43 c32_i32
  let c1_i32_38 : BitVec 32 := 1#32
  let v59 : BitVec 32 := Scalar.subi v44 c1_i32_38
  let v60 : BitVec 32 := Scalar.select v58 v59 v44
  let v72 : BitVec 32 := Scalar.addi v71 v60
  let v73 : BitVec 32 := Scalar.muli c2_i32_46 v72
  let v74 : Index := Scalar.indexCast v73
  ![v74.toNat]
def k0_off2 (i : grid0.Coords) (k0_t1 : Fin k0_t1_loop.trips) (c0_i32_32 : BitVec 32) : Fin 1 → Nat :=
  let c2_i32_47 : BitVec 32 := 2#32
  let arg0 : BitVec 32 := BitVec.ofNat 32 (i 0).val
  let c1_i32_45 : BitVec 32 := 1#32
  let v71 : BitVec 32 := Scalar.muli arg0 c1_i32_45
  let c0_i32_16 : BitVec 32 := 0#32
  let c1_i32_18 : BitVec 32 := 1#32
  let arg16 : BitVec 32 := Scf.iv c0_i32_16 c1_i32_18 k0_t1
  let c16_i32 : BitVec 32 := 16#32
  let v42 : BitVec 32 := Scalar.muli arg16 c16_i32
  let v43 : BitVec 32 := Scalar.addi v42 c0_i32_32
  let c0_i32_33 : BitVec 32 := 0#32
  let v45 : BitVec 1 := Scalar.cmpi .sgt v43 c0_i32_33
  let v46 : BitVec 32 := Scalar.extui v45
  let c0_i32_34 : BitVec 32 := 0#32
  let v47 : BitVec 1 := Scalar.cmpi .slt v43 c0_i32_34
  let v48 : BitVec 32 := Scalar.extui v47
  let v49 : BitVec 32 := Scalar.subi v46 v48
  let c32_i32 : BitVec 32 := 32#32
  let c0_i32_35 : BitVec 32 := 0#32
  let v50 : BitVec 1 := Scalar.cmpi .sgt c32_i32 c0_i32_35
  let v51 : BitVec 32 := Scalar.extui v50
  let c0_i32_36 : BitVec 32 := 0#32
  let v52 : BitVec 1 := Scalar.cmpi .slt c32_i32 c0_i32_36
  let v53 : BitVec 32 := Scalar.extui v52
  let v54 : BitVec 32 := Scalar.subi v51 v53
  let v55 : BitVec 1 := Scalar.cmpi .ne v49 v54
  let v56 : BitVec 32 := Scalar.remsi v43 c32_i32
  let c0_i32_37 : BitVec 32 := 0#32
  let v57 : BitVec 1 := Scalar.cmpi .ne v56 c0_i32_37
  let v58 : BitVec 1 := Scalar.andi v55 v57
  let v44 : BitVec 32 := Scalar.divsi v43 c32_i32
  let c1_i32_38 : BitVec 32 := 1#32
  let v59 : BitVec 32 := Scalar.subi v44 c1_i32_38
  let v60 : BitVec 32 := Scalar.select v58 v59 v44
  let v72 : BitVec 32 := Scalar.addi v71 v60
  let v76 : BitVec 32 := Scalar.muli c2_i32_47 v72
  let c1_i32_48 : BitVec 32 := 1#32
  let v77 : BitVec 32 := Scalar.addi v76 c1_i32_48
  let v78 : Index := Scalar.indexCast v77
  ![v78.toNat]
def k0_mult1 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32 : BitVec 32 := 16#32
  let v42 : BitVec 32 := Scalar.muli arg16 c16_i32
  let c0_i32_32 : BitVec 32 := 0#32
  let v43 : BitVec 32 := Scalar.addi v42 c0_i32_32
  let c32_i32_39 : BitVec 32 := 32#32
  let c0_i32_40 : BitVec 32 := 0#32
  let v61 : BitVec 1 := Scalar.cmpi .eq c32_i32_39 c0_i32_40
  let c1_i32_41 : BitVec 32 := 1#32
  let v62 : BitVec 32 := Scalar.select v61 c1_i32_41 c32_i32_39
  let v63 : BitVec 32 := Scalar.remsi v43 v62
  let c0_i32_43 : BitVec 32 := 0#32
  let v65 : BitVec 1 := Scalar.cmpi .slt v63 c0_i32_43
  let c0_i32_44 : BitVec 32 := 0#32
  let v66 : BitVec 1 := Scalar.cmpi .slt v62 c0_i32_44
  let v67 : BitVec 1 := Scalar.xori v65 v66
  let c0_i32_42 : BitVec 32 := 0#32
  let v64 : BitVec 1 := Scalar.cmpi .ne v63 c0_i32_42
  let v68 : BitVec 1 := Scalar.andi v67 v64
  let v69 : BitVec 32 := Scalar.addi v63 v62
  let v70 : BitVec 32 := Scalar.select v68 v69 v63
  let c128_i32_49 : BitVec 32 := 128#32
  let v83 : BitVec 32 := Scalar.muli v70 c128_i32_49
  v83
def k0_off3 (k0_t1 : Fin k0_t1_loop.trips) (c0_i32_32 : BitVec 32) : Fin 3 → Nat :=
  let c0_i32_16 : BitVec 32 := 0#32
  let c1_i32_18 : BitVec 32 := 1#32
  let arg16 : BitVec 32 := Scf.iv c0_i32_16 c1_i32_18 k0_t1
  let c16_i32 : BitVec 32 := 16#32
  let v42 : BitVec 32 := Scalar.muli arg16 c16_i32
  let v43 : BitVec 32 := Scalar.addi v42 c0_i32_32
  let c0_i32_33 : BitVec 32 := 0#32
  let v45 : BitVec 1 := Scalar.cmpi .sgt v43 c0_i32_33
  let v46 : BitVec 32 := Scalar.extui v45
  let c0_i32_34 : BitVec 32 := 0#32
  let v47 : BitVec 1 := Scalar.cmpi .slt v43 c0_i32_34
  let v48 : BitVec 32 := Scalar.extui v47
  let v49 : BitVec 32 := Scalar.subi v46 v48
  let c32_i32 : BitVec 32 := 32#32
  let c0_i32_35 : BitVec 32 := 0#32
  let v50 : BitVec 1 := Scalar.cmpi .sgt c32_i32 c0_i32_35
  let v51 : BitVec 32 := Scalar.extui v50
  let c0_i32_36 : BitVec 32 := 0#32
  let v52 : BitVec 1 := Scalar.cmpi .slt c32_i32 c0_i32_36
  let v53 : BitVec 32 := Scalar.extui v52
  let v54 : BitVec 32 := Scalar.subi v51 v53
  let v55 : BitVec 1 := Scalar.cmpi .ne v49 v54
  let v56 : BitVec 32 := Scalar.remsi v43 c32_i32
  let c0_i32_37 : BitVec 32 := 0#32
  let v57 : BitVec 1 := Scalar.cmpi .ne v56 c0_i32_37
  let v58 : BitVec 1 := Scalar.andi v55 v57
  let v44 : BitVec 32 := Scalar.divsi v43 c32_i32
  let c1_i32_38 : BitVec 32 := 1#32
  let v59 : BitVec 32 := Scalar.subi v44 c1_i32_38
  let v60 : BitVec 32 := Scalar.select v58 v59 v44
  let v85 : Index := Scalar.indexCast v60
  let c32_i32_39 : BitVec 32 := 32#32
  let c0_i32_40 : BitVec 32 := 0#32
  let v61 : BitVec 1 := Scalar.cmpi .eq c32_i32_39 c0_i32_40
  let c1_i32_41 : BitVec 32 := 1#32
  let v62 : BitVec 32 := Scalar.select v61 c1_i32_41 c32_i32_39
  let v63 : BitVec 32 := Scalar.remsi v43 v62
  let c0_i32_43 : BitVec 32 := 0#32
  let v65 : BitVec 1 := Scalar.cmpi .slt v63 c0_i32_43
  let c0_i32_44 : BitVec 32 := 0#32
  let v66 : BitVec 1 := Scalar.cmpi .slt v62 c0_i32_44
  let v67 : BitVec 1 := Scalar.xori v65 v66
  let c0_i32_42 : BitVec 32 := 0#32
  let v64 : BitVec 1 := Scalar.cmpi .ne v63 c0_i32_42
  let v68 : BitVec 1 := Scalar.andi v67 v64
  let v69 : BitVec 32 := Scalar.addi v63 v62
  let v70 : BitVec 32 := Scalar.select v68 v69 v63
  let c128_i32_49 : BitVec 32 := 128#32
  let v83 : BitVec 32 := Scalar.muli v70 c128_i32_49
  let v84 : BitVec 32 := v83
  let v86 : Index := Scalar.indexCast v84
  let c0_50 : Index := 0#32
  ![v85.toNat, v86.toNat, 0]
def k0_mult2 (k0_t1 : Fin k0_t1_loop.trips) : BitVec 32 :=
  let c3712_i32 : BitVec 32 := 3712#32
  let c0_i32_54 : BitVec 32 := 0#32
  let c0_i32_16 : BitVec 32 := 0#32
  let c1_i32_18 : BitVec 32 := 1#32
  let arg16 : BitVec 32 := Scf.iv c0_i32_16 c1_i32_18 k0_t1
  let c16_i32 : BitVec 32 := 16#32
  let v42 : BitVec 32 := Scalar.muli arg16 c16_i32
  let c0_i32_32 : BitVec 32 := 0#32
  let v43 : BitVec 32 := Scalar.addi v42 c0_i32_32
  let c32_i32_39 : BitVec 32 := 32#32
  let c0_i32_40 : BitVec 32 := 0#32
  let v61 : BitVec 1 := Scalar.cmpi .eq c32_i32_39 c0_i32_40
  let c1_i32_41 : BitVec 32 := 1#32
  let v62 : BitVec 32 := Scalar.select v61 c1_i32_41 c32_i32_39
  let v63 : BitVec 32 := Scalar.remsi v43 v62
  let c0_i32_43 : BitVec 32 := 0#32
  let v65 : BitVec 1 := Scalar.cmpi .slt v63 c0_i32_43
  let c0_i32_44 : BitVec 32 := 0#32
  let v66 : BitVec 1 := Scalar.cmpi .slt v62 c0_i32_44
  let v67 : BitVec 1 := Scalar.xori v65 v66
  let c0_i32_42 : BitVec 32 := 0#32
  let v64 : BitVec 1 := Scalar.cmpi .ne v63 c0_i32_42
  let v68 : BitVec 1 := Scalar.andi v67 v64
  let v69 : BitVec 32 := Scalar.addi v63 v62
  let v70 : BitVec 32 := Scalar.select v68 v69 v63
  let c128_i32_52 : BitVec 32 := 128#32
  let v93 : BitVec 32 := Scalar.muli v70 c128_i32_52
  let c128_i32_53 : BitVec 32 := 128#32
  let v94 : BitVec 32 := Scalar.subi v93 c128_i32_53
  let v95 : BitVec 32 := Scalar.maxsi c0_i32_54 v94
  let v96 : BitVec 32 := Scalar.minsi c3712_i32 v95
  v96
def k0_off4 (k0_t1 : Fin k0_t1_loop.trips) (c0_i32_32 : BitVec 32) : Fin 3 → Nat :=
  let c0_i32_16 : BitVec 32 := 0#32
  let c1_i32_18 : BitVec 32 := 1#32
  let arg16 : BitVec 32 := Scf.iv c0_i32_16 c1_i32_18 k0_t1
  let c16_i32 : BitVec 32 := 16#32
  let v42 : BitVec 32 := Scalar.muli arg16 c16_i32
  let v43 : BitVec 32 := Scalar.addi v42 c0_i32_32
  let c0_i32_33 : BitVec 32 := 0#32
  let v45 : BitVec 1 := Scalar.cmpi .sgt v43 c0_i32_33
  let v46 : BitVec 32 := Scalar.extui v45
  let c0_i32_34 : BitVec 32 := 0#32
  let v47 : BitVec 1 := Scalar.cmpi .slt v43 c0_i32_34
  let v48 : BitVec 32 := Scalar.extui v47
  let v49 : BitVec 32 := Scalar.subi v46 v48
  let c32_i32 : BitVec 32 := 32#32
  let c0_i32_35 : BitVec 32 := 0#32
  let v50 : BitVec 1 := Scalar.cmpi .sgt c32_i32 c0_i32_35
  let v51 : BitVec 32 := Scalar.extui v50
  let c0_i32_36 : BitVec 32 := 0#32
  let v52 : BitVec 1 := Scalar.cmpi .slt c32_i32 c0_i32_36
  let v53 : BitVec 32 := Scalar.extui v52
  let v54 : BitVec 32 := Scalar.subi v51 v53
  let v55 : BitVec 1 := Scalar.cmpi .ne v49 v54
  let v56 : BitVec 32 := Scalar.remsi v43 c32_i32
  let c0_i32_37 : BitVec 32 := 0#32
  let v57 : BitVec 1 := Scalar.cmpi .ne v56 c0_i32_37
  let v58 : BitVec 1 := Scalar.andi v55 v57
  let v44 : BitVec 32 := Scalar.divsi v43 c32_i32
  let c1_i32_38 : BitVec 32 := 1#32
  let v59 : BitVec 32 := Scalar.subi v44 c1_i32_38
  let v60 : BitVec 32 := Scalar.select v58 v59 v44
  let v102 : Index := Scalar.indexCast v60
  let c3712_i32 : BitVec 32 := 3712#32
  let c0_i32_54 : BitVec 32 := 0#32
  let c32_i32_39 : BitVec 32 := 32#32
  let c0_i32_40 : BitVec 32 := 0#32
  let v61 : BitVec 1 := Scalar.cmpi .eq c32_i32_39 c0_i32_40
  let c1_i32_41 : BitVec 32 := 1#32
  let v62 : BitVec 32 := Scalar.select v61 c1_i32_41 c32_i32_39
  let v63 : BitVec 32 := Scalar.remsi v43 v62
  let c0_i32_43 : BitVec 32 := 0#32
  let v65 : BitVec 1 := Scalar.cmpi .slt v63 c0_i32_43
  let c0_i32_44 : BitVec 32 := 0#32
  let v66 : BitVec 1 := Scalar.cmpi .slt v62 c0_i32_44
  let v67 : BitVec 1 := Scalar.xori v65 v66
  let c0_i32_42 : BitVec 32 := 0#32
  let v64 : BitVec 1 := Scalar.cmpi .ne v63 c0_i32_42
  let v68 : BitVec 1 := Scalar.andi v67 v64
  let v69 : BitVec 32 := Scalar.addi v63 v62
  let v70 : BitVec 32 := Scalar.select v68 v69 v63
  let c128_i32_52 : BitVec 32 := 128#32
  let v93 : BitVec 32 := Scalar.muli v70 c128_i32_52
  let c128_i32_53 : BitVec 32 := 128#32
  let v94 : BitVec 32 := Scalar.subi v93 c128_i32_53
  let v95 : BitVec 32 := Scalar.maxsi c0_i32_54 v94
  let v96 : BitVec 32 := Scalar.minsi c3712_i32 v95
  let v97 : BitVec 32 := v96
  let v103 : Index := Scalar.indexCast v97
  let c0_59 : Index := 0#32
  ![v102.toNat, v103.toNat, 0]
def k0_off5 (k0_t1 : Fin k0_t1_loop.trips) (c0_i32_32 : BitVec 32) : Fin 4 → Nat :=
  let c0_112 : Index := 0#32
  let c0_i32_16 : BitVec 32 := 0#32
  let c1_i32_18 : BitVec 32 := 1#32
  let arg16 : BitVec 32 := Scf.iv c0_i32_16 c1_i32_18 k0_t1
  let c16_i32 : BitVec 32 := 16#32
  let v42 : BitVec 32 := Scalar.muli arg16 c16_i32
  let v43 : BitVec 32 := Scalar.addi v42 c0_i32_32
  let c32_i32_39 : BitVec 32 := 32#32
  let c0_i32_40 : BitVec 32 := 0#32
  let v61 : BitVec 1 := Scalar.cmpi .eq c32_i32_39 c0_i32_40
  let c1_i32_41 : BitVec 32 := 1#32
  let v62 : BitVec 32 := Scalar.select v61 c1_i32_41 c32_i32_39
  let v63 : BitVec 32 := Scalar.remsi v43 v62
  let c0_i32_43 : BitVec 32 := 0#32
  let v65 : BitVec 1 := Scalar.cmpi .slt v63 c0_i32_43
  let c0_i32_44 : BitVec 32 := 0#32
  let v66 : BitVec 1 := Scalar.cmpi .slt v62 c0_i32_44
  let v67 : BitVec 1 := Scalar.xori v65 v66
  let c0_i32_42 : BitVec 32 := 0#32
  let v64 : BitVec 1 := Scalar.cmpi .ne v63 c0_i32_42
  let v68 : BitVec 1 := Scalar.andi v67 v64
  let v69 : BitVec 32 := Scalar.addi v63 v62
  let v70 : BitVec 32 := Scalar.select v68 v69 v63
  let c0_i32_55 : BitVec 32 := 0#32
  let v98 : BitVec 1 := Scalar.cmpi .eq v70 c0_i32_55
  let c1_i32_58 : BitVec 32 := 1#32
  let c31_i32 : BitVec 32 := 31#32
  let v99 : BitVec 1 := Scalar.cmpi .eq v70 c31_i32
  let c2_i32_56 : BitVec 32 := 2#32
  let c0_i32_57 : BitVec 32 := 0#32
  let v100 : BitVec 32 := Scalar.select v99 c2_i32_56 c0_i32_57
  let v101 : BitVec 32 := Scalar.select v98 c1_i32_58 v100
  let v266 : Index := Scalar.indexCast v101
  let c0_113 : Index := 0#32
  let c0_114 : Index := 0#32
  ![0, v266.toNat, 0, 0]
def k0_off6 (k0_t1 : Fin k0_t1_loop.trips) (c0_i32_32 : BitVec 32) : Fin 3 → Nat :=
  let c0_i32_16 : BitVec 32 := 0#32
  let c1_i32_18 : BitVec 32 := 1#32
  let arg16 : BitVec 32 := Scf.iv c0_i32_16 c1_i32_18 k0_t1
  let c16_i32 : BitVec 32 := 16#32
  let v42 : BitVec 32 := Scalar.muli arg16 c16_i32
  let v43 : BitVec 32 := Scalar.addi v42 c0_i32_32
  let c0_i32_33 : BitVec 32 := 0#32
  let v45 : BitVec 1 := Scalar.cmpi .sgt v43 c0_i32_33
  let v46 : BitVec 32 := Scalar.extui v45
  let c0_i32_34 : BitVec 32 := 0#32
  let v47 : BitVec 1 := Scalar.cmpi .slt v43 c0_i32_34
  let v48 : BitVec 32 := Scalar.extui v47
  let v49 : BitVec 32 := Scalar.subi v46 v48
  let c32_i32 : BitVec 32 := 32#32
  let c0_i32_35 : BitVec 32 := 0#32
  let v50 : BitVec 1 := Scalar.cmpi .sgt c32_i32 c0_i32_35
  let v51 : BitVec 32 := Scalar.extui v50
  let c0_i32_36 : BitVec 32 := 0#32
  let v52 : BitVec 1 := Scalar.cmpi .slt c32_i32 c0_i32_36
  let v53 : BitVec 32 := Scalar.extui v52
  let v54 : BitVec 32 := Scalar.subi v51 v53
  let v55 : BitVec 1 := Scalar.cmpi .ne v49 v54
  let v56 : BitVec 32 := Scalar.remsi v43 c32_i32
  let c0_i32_37 : BitVec 32 := 0#32
  let v57 : BitVec 1 := Scalar.cmpi .ne v56 c0_i32_37
  let v58 : BitVec 1 := Scalar.andi v55 v57
  let v44 : BitVec 32 := Scalar.divsi v43 c32_i32
  let c1_i32_38 : BitVec 32 := 1#32
  let v59 : BitVec 32 := Scalar.subi v44 c1_i32_38
  let v60 : BitVec 32 := Scalar.select v58 v59 v44
  let v319 : Index := Scalar.indexCast v60
  let c0_130 : Index := 0#32
  let c0_131 : Index := 0#32
  ![v319.toNat, 0, 0]
def k0_mult3 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_134 : BitVec 32 := 16#32
  let v330 : BitVec 32 := Scalar.muli arg16 c16_i32_134
  let c1_i32_135 : BitVec 32 := 1#32
  let v331 : BitVec 32 := Scalar.addi v330 c1_i32_135
  let c32_i32_143 : BitVec 32 := 32#32
  let c0_i32_144 : BitVec 32 := 0#32
  let v349 : BitVec 1 := Scalar.cmpi .eq c32_i32_143 c0_i32_144
  let c1_i32_145 : BitVec 32 := 1#32
  let v350 : BitVec 32 := Scalar.select v349 c1_i32_145 c32_i32_143
  let v351 : BitVec 32 := Scalar.remsi v331 v350
  let c0_i32_147 : BitVec 32 := 0#32
  let v353 : BitVec 1 := Scalar.cmpi .slt v351 c0_i32_147
  let c0_i32_148 : BitVec 32 := 0#32
  let v354 : BitVec 1 := Scalar.cmpi .slt v350 c0_i32_148
  let v355 : BitVec 1 := Scalar.xori v353 v354
  let c0_i32_146 : BitVec 32 := 0#32
  let v352 : BitVec 1 := Scalar.cmpi .ne v351 c0_i32_146
  let v356 : BitVec 1 := Scalar.andi v355 v352
  let v357 : BitVec 32 := Scalar.addi v351 v350
  let v358 : BitVec 32 := Scalar.select v356 v357 v351
  let c128_i32_153 : BitVec 32 := 128#32
  let v371 : BitVec 32 := Scalar.muli v358 c128_i32_153
  v371
def k0_mult4 (k0_t1 : Fin k0_t1_loop.trips) : BitVec 32 :=
  let c3712_i32_159 : BitVec 32 := 3712#32
  let c0_i32_158 : BitVec 32 := 0#32
  let c0_i32_16 : BitVec 32 := 0#32
  let c1_i32_18 : BitVec 32 := 1#32
  let arg16 : BitVec 32 := Scf.iv c0_i32_16 c1_i32_18 k0_t1
  let c16_i32_134 : BitVec 32 := 16#32
  let v330 : BitVec 32 := Scalar.muli arg16 c16_i32_134
  let c1_i32_135 : BitVec 32 := 1#32
  let v331 : BitVec 32 := Scalar.addi v330 c1_i32_135
  let c32_i32_143 : BitVec 32 := 32#32
  let c0_i32_144 : BitVec 32 := 0#32
  let v349 : BitVec 1 := Scalar.cmpi .eq c32_i32_143 c0_i32_144
  let c1_i32_145 : BitVec 32 := 1#32
  let v350 : BitVec 32 := Scalar.select v349 c1_i32_145 c32_i32_143
  let v351 : BitVec 32 := Scalar.remsi v331 v350
  let c0_i32_147 : BitVec 32 := 0#32
  let v353 : BitVec 1 := Scalar.cmpi .slt v351 c0_i32_147
  let c0_i32_148 : BitVec 32 := 0#32
  let v354 : BitVec 1 := Scalar.cmpi .slt v350 c0_i32_148
  let v355 : BitVec 1 := Scalar.xori v353 v354
  let c0_i32_146 : BitVec 32 := 0#32
  let v352 : BitVec 1 := Scalar.cmpi .ne v351 c0_i32_146
  let v356 : BitVec 1 := Scalar.andi v355 v352
  let v357 : BitVec 32 := Scalar.addi v351 v350
  let v358 : BitVec 32 := Scalar.select v356 v357 v351
  let c128_i32_156 : BitVec 32 := 128#32
  let v381 : BitVec 32 := Scalar.muli v358 c128_i32_156
  let c128_i32_157 : BitVec 32 := 128#32
  let v382 : BitVec 32 := Scalar.subi v381 c128_i32_157
  let v383 : BitVec 32 := Scalar.maxsi c0_i32_158 v382
  let v384 : BitVec 32 := Scalar.minsi c3712_i32_159 v383
  v384
def k0_mult5 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_240 : BitVec 32 := 16#32
  let v618 : BitVec 32 := Scalar.muli arg16 c16_i32_240
  let c2_i32_241 : BitVec 32 := 2#32
  let v619 : BitVec 32 := Scalar.addi v618 c2_i32_241
  let c32_i32_249 : BitVec 32 := 32#32
  let c0_i32_250 : BitVec 32 := 0#32
  let v637 : BitVec 1 := Scalar.cmpi .eq c32_i32_249 c0_i32_250
  let c1_i32_251 : BitVec 32 := 1#32
  let v638 : BitVec 32 := Scalar.select v637 c1_i32_251 c32_i32_249
  let v639 : BitVec 32 := Scalar.remsi v619 v638
  let c0_i32_253 : BitVec 32 := 0#32
  let v641 : BitVec 1 := Scalar.cmpi .slt v639 c0_i32_253
  let c0_i32_254 : BitVec 32 := 0#32
  let v642 : BitVec 1 := Scalar.cmpi .slt v638 c0_i32_254
  let v643 : BitVec 1 := Scalar.xori v641 v642
  let c0_i32_252 : BitVec 32 := 0#32
  let v640 : BitVec 1 := Scalar.cmpi .ne v639 c0_i32_252
  let v644 : BitVec 1 := Scalar.andi v643 v640
  let v645 : BitVec 32 := Scalar.addi v639 v638
  let v646 : BitVec 32 := Scalar.select v644 v645 v639
  let c128_i32_259 : BitVec 32 := 128#32
  let v659 : BitVec 32 := Scalar.muli v646 c128_i32_259
  v659
def k0_mult6 (k0_t1 : Fin k0_t1_loop.trips) : BitVec 32 :=
  let c3712_i32_265 : BitVec 32 := 3712#32
  let c0_i32_264 : BitVec 32 := 0#32
  let c0_i32_16 : BitVec 32 := 0#32
  let c1_i32_18 : BitVec 32 := 1#32
  let arg16 : BitVec 32 := Scf.iv c0_i32_16 c1_i32_18 k0_t1
  let c16_i32_240 : BitVec 32 := 16#32
  let v618 : BitVec 32 := Scalar.muli arg16 c16_i32_240
  let c2_i32_241 : BitVec 32 := 2#32
  let v619 : BitVec 32 := Scalar.addi v618 c2_i32_241
  let c32_i32_249 : BitVec 32 := 32#32
  let c0_i32_250 : BitVec 32 := 0#32
  let v637 : BitVec 1 := Scalar.cmpi .eq c32_i32_249 c0_i32_250
  let c1_i32_251 : BitVec 32 := 1#32
  let v638 : BitVec 32 := Scalar.select v637 c1_i32_251 c32_i32_249
  let v639 : BitVec 32 := Scalar.remsi v619 v638
  let c0_i32_253 : BitVec 32 := 0#32
  let v641 : BitVec 1 := Scalar.cmpi .slt v639 c0_i32_253
  let c0_i32_254 : BitVec 32 := 0#32
  let v642 : BitVec 1 := Scalar.cmpi .slt v638 c0_i32_254
  let v643 : BitVec 1 := Scalar.xori v641 v642
  let c0_i32_252 : BitVec 32 := 0#32
  let v640 : BitVec 1 := Scalar.cmpi .ne v639 c0_i32_252
  let v644 : BitVec 1 := Scalar.andi v643 v640
  let v645 : BitVec 32 := Scalar.addi v639 v638
  let v646 : BitVec 32 := Scalar.select v644 v645 v639
  let c128_i32_262 : BitVec 32 := 128#32
  let v669 : BitVec 32 := Scalar.muli v646 c128_i32_262
  let c128_i32_263 : BitVec 32 := 128#32
  let v670 : BitVec 32 := Scalar.subi v669 c128_i32_263
  let v671 : BitVec 32 := Scalar.maxsi c0_i32_264 v670
  let v672 : BitVec 32 := Scalar.minsi c3712_i32_265 v671
  v672
def k0_mult7 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_346 : BitVec 32 := 16#32
  let v906 : BitVec 32 := Scalar.muli arg16 c16_i32_346
  let c3_i32 : BitVec 32 := 3#32
  let v907 : BitVec 32 := Scalar.addi v906 c3_i32
  let c32_i32_354 : BitVec 32 := 32#32
  let c0_i32_355 : BitVec 32 := 0#32
  let v925 : BitVec 1 := Scalar.cmpi .eq c32_i32_354 c0_i32_355
  let c1_i32_356 : BitVec 32 := 1#32
  let v926 : BitVec 32 := Scalar.select v925 c1_i32_356 c32_i32_354
  let v927 : BitVec 32 := Scalar.remsi v907 v926
  let c0_i32_358 : BitVec 32 := 0#32
  let v929 : BitVec 1 := Scalar.cmpi .slt v927 c0_i32_358
  let c0_i32_359 : BitVec 32 := 0#32
  let v930 : BitVec 1 := Scalar.cmpi .slt v926 c0_i32_359
  let v931 : BitVec 1 := Scalar.xori v929 v930
  let c0_i32_357 : BitVec 32 := 0#32
  let v928 : BitVec 1 := Scalar.cmpi .ne v927 c0_i32_357
  let v932 : BitVec 1 := Scalar.andi v931 v928
  let v933 : BitVec 32 := Scalar.addi v927 v926
  let v934 : BitVec 32 := Scalar.select v932 v933 v927
  let c128_i32_364 : BitVec 32 := 128#32
  let v947 : BitVec 32 := Scalar.muli v934 c128_i32_364
  v947
def k0_mult8 (k0_t1 : Fin k0_t1_loop.trips) : BitVec 32 :=
  let c3712_i32_370 : BitVec 32 := 3712#32
  let c0_i32_369 : BitVec 32 := 0#32
  let c0_i32_16 : BitVec 32 := 0#32
  let c1_i32_18 : BitVec 32 := 1#32
  let arg16 : BitVec 32 := Scf.iv c0_i32_16 c1_i32_18 k0_t1
  let c16_i32_346 : BitVec 32 := 16#32
  let v906 : BitVec 32 := Scalar.muli arg16 c16_i32_346
  let c3_i32 : BitVec 32 := 3#32
  let v907 : BitVec 32 := Scalar.addi v906 c3_i32
  let c32_i32_354 : BitVec 32 := 32#32
  let c0_i32_355 : BitVec 32 := 0#32
  let v925 : BitVec 1 := Scalar.cmpi .eq c32_i32_354 c0_i32_355
  let c1_i32_356 : BitVec 32 := 1#32
  let v926 : BitVec 32 := Scalar.select v925 c1_i32_356 c32_i32_354
  let v927 : BitVec 32 := Scalar.remsi v907 v926
  let c0_i32_358 : BitVec 32 := 0#32
  let v929 : BitVec 1 := Scalar.cmpi .slt v927 c0_i32_358
  let c0_i32_359 : BitVec 32 := 0#32
  let v930 : BitVec 1 := Scalar.cmpi .slt v926 c0_i32_359
  let v931 : BitVec 1 := Scalar.xori v929 v930
  let c0_i32_357 : BitVec 32 := 0#32
  let v928 : BitVec 1 := Scalar.cmpi .ne v927 c0_i32_357
  let v932 : BitVec 1 := Scalar.andi v931 v928
  let v933 : BitVec 32 := Scalar.addi v927 v926
  let v934 : BitVec 32 := Scalar.select v932 v933 v927
  let c128_i32_367 : BitVec 32 := 128#32
  let v957 : BitVec 32 := Scalar.muli v934 c128_i32_367
  let c128_i32_368 : BitVec 32 := 128#32
  let v958 : BitVec 32 := Scalar.subi v957 c128_i32_368
  let v959 : BitVec 32 := Scalar.maxsi c0_i32_369 v958
  let v960 : BitVec 32 := Scalar.minsi c3712_i32_370 v959
  v960
def k0_mult9 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_451 : BitVec 32 := 16#32
  let v1194 : BitVec 32 := Scalar.muli arg16 c16_i32_451
  let c4_i32 : BitVec 32 := 4#32
  let v1195 : BitVec 32 := Scalar.addi v1194 c4_i32
  let c32_i32_459 : BitVec 32 := 32#32
  let c0_i32_460 : BitVec 32 := 0#32
  let v1213 : BitVec 1 := Scalar.cmpi .eq c32_i32_459 c0_i32_460
  let c1_i32_461 : BitVec 32 := 1#32
  let v1214 : BitVec 32 := Scalar.select v1213 c1_i32_461 c32_i32_459
  let v1215 : BitVec 32 := Scalar.remsi v1195 v1214
  let c0_i32_463 : BitVec 32 := 0#32
  let v1217 : BitVec 1 := Scalar.cmpi .slt v1215 c0_i32_463
  let c0_i32_464 : BitVec 32 := 0#32
  let v1218 : BitVec 1 := Scalar.cmpi .slt v1214 c0_i32_464
  let v1219 : BitVec 1 := Scalar.xori v1217 v1218
  let c0_i32_462 : BitVec 32 := 0#32
  let v1216 : BitVec 1 := Scalar.cmpi .ne v1215 c0_i32_462
  let v1220 : BitVec 1 := Scalar.andi v1219 v1216
  let v1221 : BitVec 32 := Scalar.addi v1215 v1214
  let v1222 : BitVec 32 := Scalar.select v1220 v1221 v1215
  let c128_i32_469 : BitVec 32 := 128#32
  let v1235 : BitVec 32 := Scalar.muli v1222 c128_i32_469
  v1235
def k0_mult10 (k0_t1 : Fin k0_t1_loop.trips) : BitVec 32 :=
  let c3712_i32_475 : BitVec 32 := 3712#32
  let c0_i32_474 : BitVec 32 := 0#32
  let c0_i32_16 : BitVec 32 := 0#32
  let c1_i32_18 : BitVec 32 := 1#32
  let arg16 : BitVec 32 := Scf.iv c0_i32_16 c1_i32_18 k0_t1
  let c16_i32_451 : BitVec 32 := 16#32
  let v1194 : BitVec 32 := Scalar.muli arg16 c16_i32_451
  let c4_i32 : BitVec 32 := 4#32
  let v1195 : BitVec 32 := Scalar.addi v1194 c4_i32
  let c32_i32_459 : BitVec 32 := 32#32
  let c0_i32_460 : BitVec 32 := 0#32
  let v1213 : BitVec 1 := Scalar.cmpi .eq c32_i32_459 c0_i32_460
  let c1_i32_461 : BitVec 32 := 1#32
  let v1214 : BitVec 32 := Scalar.select v1213 c1_i32_461 c32_i32_459
  let v1215 : BitVec 32 := Scalar.remsi v1195 v1214
  let c0_i32_463 : BitVec 32 := 0#32
  let v1217 : BitVec 1 := Scalar.cmpi .slt v1215 c0_i32_463
  let c0_i32_464 : BitVec 32 := 0#32
  let v1218 : BitVec 1 := Scalar.cmpi .slt v1214 c0_i32_464
  let v1219 : BitVec 1 := Scalar.xori v1217 v1218
  let c0_i32_462 : BitVec 32 := 0#32
  let v1216 : BitVec 1 := Scalar.cmpi .ne v1215 c0_i32_462
  let v1220 : BitVec 1 := Scalar.andi v1219 v1216
  let v1221 : BitVec 32 := Scalar.addi v1215 v1214
  let v1222 : BitVec 32 := Scalar.select v1220 v1221 v1215
  let c128_i32_472 : BitVec 32 := 128#32
  let v1245 : BitVec 32 := Scalar.muli v1222 c128_i32_472
  let c128_i32_473 : BitVec 32 := 128#32
  let v1246 : BitVec 32 := Scalar.subi v1245 c128_i32_473
  let v1247 : BitVec 32 := Scalar.maxsi c0_i32_474 v1246
  let v1248 : BitVec 32 := Scalar.minsi c3712_i32_475 v1247
  v1248
def k0_mult11 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_556 : BitVec 32 := 16#32
  let v1482 : BitVec 32 := Scalar.muli arg16 c16_i32_556
  let c5_i32 : BitVec 32 := 5#32
  let v1483 : BitVec 32 := Scalar.addi v1482 c5_i32
  let c32_i32_564 : BitVec 32 := 32#32
  let c0_i32_565 : BitVec 32 := 0#32
  let v1501 : BitVec 1 := Scalar.cmpi .eq c32_i32_564 c0_i32_565
  let c1_i32_566 : BitVec 32 := 1#32
  let v1502 : BitVec 32 := Scalar.select v1501 c1_i32_566 c32_i32_564
  let v1503 : BitVec 32 := Scalar.remsi v1483 v1502
  let c0_i32_568 : BitVec 32 := 0#32
  let v1505 : BitVec 1 := Scalar.cmpi .slt v1503 c0_i32_568
  let c0_i32_569 : BitVec 32 := 0#32
  let v1506 : BitVec 1 := Scalar.cmpi .slt v1502 c0_i32_569
  let v1507 : BitVec 1 := Scalar.xori v1505 v1506
  let c0_i32_567 : BitVec 32 := 0#32
  let v1504 : BitVec 1 := Scalar.cmpi .ne v1503 c0_i32_567
  let v1508 : BitVec 1 := Scalar.andi v1507 v1504
  let v1509 : BitVec 32 := Scalar.addi v1503 v1502
  let v1510 : BitVec 32 := Scalar.select v1508 v1509 v1503
  let c128_i32_574 : BitVec 32 := 128#32
  let v1523 : BitVec 32 := Scalar.muli v1510 c128_i32_574
  v1523
def k0_mult12 (k0_t1 : Fin k0_t1_loop.trips) : BitVec 32 :=
  let c3712_i32_580 : BitVec 32 := 3712#32
  let c0_i32_579 : BitVec 32 := 0#32
  let c0_i32_16 : BitVec 32 := 0#32
  let c1_i32_18 : BitVec 32 := 1#32
  let arg16 : BitVec 32 := Scf.iv c0_i32_16 c1_i32_18 k0_t1
  let c16_i32_556 : BitVec 32 := 16#32
  let v1482 : BitVec 32 := Scalar.muli arg16 c16_i32_556
  let c5_i32 : BitVec 32 := 5#32
  let v1483 : BitVec 32 := Scalar.addi v1482 c5_i32
  let c32_i32_564 : BitVec 32 := 32#32
  let c0_i32_565 : BitVec 32 := 0#32
  let v1501 : BitVec 1 := Scalar.cmpi .eq c32_i32_564 c0_i32_565
  let c1_i32_566 : BitVec 32 := 1#32
  let v1502 : BitVec 32 := Scalar.select v1501 c1_i32_566 c32_i32_564
  let v1503 : BitVec 32 := Scalar.remsi v1483 v1502
  let c0_i32_568 : BitVec 32 := 0#32
  let v1505 : BitVec 1 := Scalar.cmpi .slt v1503 c0_i32_568
  let c0_i32_569 : BitVec 32 := 0#32
  let v1506 : BitVec 1 := Scalar.cmpi .slt v1502 c0_i32_569
  let v1507 : BitVec 1 := Scalar.xori v1505 v1506
  let c0_i32_567 : BitVec 32 := 0#32
  let v1504 : BitVec 1 := Scalar.cmpi .ne v1503 c0_i32_567
  let v1508 : BitVec 1 := Scalar.andi v1507 v1504
  let v1509 : BitVec 32 := Scalar.addi v1503 v1502
  let v1510 : BitVec 32 := Scalar.select v1508 v1509 v1503
  let c128_i32_577 : BitVec 32 := 128#32
  let v1533 : BitVec 32 := Scalar.muli v1510 c128_i32_577
  let c128_i32_578 : BitVec 32 := 128#32
  let v1534 : BitVec 32 := Scalar.subi v1533 c128_i32_578
  let v1535 : BitVec 32 := Scalar.maxsi c0_i32_579 v1534
  let v1536 : BitVec 32 := Scalar.minsi c3712_i32_580 v1535
  v1536
def k0_mult13 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_661 : BitVec 32 := 16#32
  let v1770 : BitVec 32 := Scalar.muli arg16 c16_i32_661
  let c6_i32 : BitVec 32 := 6#32
  let v1771 : BitVec 32 := Scalar.addi v1770 c6_i32
  let c32_i32_669 : BitVec 32 := 32#32
  let c0_i32_670 : BitVec 32 := 0#32
  let v1789 : BitVec 1 := Scalar.cmpi .eq c32_i32_669 c0_i32_670
  let c1_i32_671 : BitVec 32 := 1#32
  let v1790 : BitVec 32 := Scalar.select v1789 c1_i32_671 c32_i32_669
  let v1791 : BitVec 32 := Scalar.remsi v1771 v1790
  let c0_i32_673 : BitVec 32 := 0#32
  let v1793 : BitVec 1 := Scalar.cmpi .slt v1791 c0_i32_673
  let c0_i32_674 : BitVec 32 := 0#32
  let v1794 : BitVec 1 := Scalar.cmpi .slt v1790 c0_i32_674
  let v1795 : BitVec 1 := Scalar.xori v1793 v1794
  let c0_i32_672 : BitVec 32 := 0#32
  let v1792 : BitVec 1 := Scalar.cmpi .ne v1791 c0_i32_672
  let v1796 : BitVec 1 := Scalar.andi v1795 v1792
  let v1797 : BitVec 32 := Scalar.addi v1791 v1790
  let v1798 : BitVec 32 := Scalar.select v1796 v1797 v1791
  let c128_i32_679 : BitVec 32 := 128#32
  let v1811 : BitVec 32 := Scalar.muli v1798 c128_i32_679
  v1811
def k0_mult14 (k0_t1 : Fin k0_t1_loop.trips) : BitVec 32 :=
  let c3712_i32_685 : BitVec 32 := 3712#32
  let c0_i32_684 : BitVec 32 := 0#32
  let c0_i32_16 : BitVec 32 := 0#32
  let c1_i32_18 : BitVec 32 := 1#32
  let arg16 : BitVec 32 := Scf.iv c0_i32_16 c1_i32_18 k0_t1
  let c16_i32_661 : BitVec 32 := 16#32
  let v1770 : BitVec 32 := Scalar.muli arg16 c16_i32_661
  let c6_i32 : BitVec 32 := 6#32
  let v1771 : BitVec 32 := Scalar.addi v1770 c6_i32
  let c32_i32_669 : BitVec 32 := 32#32
  let c0_i32_670 : BitVec 32 := 0#32
  let v1789 : BitVec 1 := Scalar.cmpi .eq c32_i32_669 c0_i32_670
  let c1_i32_671 : BitVec 32 := 1#32
  let v1790 : BitVec 32 := Scalar.select v1789 c1_i32_671 c32_i32_669
  let v1791 : BitVec 32 := Scalar.remsi v1771 v1790
  let c0_i32_673 : BitVec 32 := 0#32
  let v1793 : BitVec 1 := Scalar.cmpi .slt v1791 c0_i32_673
  let c0_i32_674 : BitVec 32 := 0#32
  let v1794 : BitVec 1 := Scalar.cmpi .slt v1790 c0_i32_674
  let v1795 : BitVec 1 := Scalar.xori v1793 v1794
  let c0_i32_672 : BitVec 32 := 0#32
  let v1792 : BitVec 1 := Scalar.cmpi .ne v1791 c0_i32_672
  let v1796 : BitVec 1 := Scalar.andi v1795 v1792
  let v1797 : BitVec 32 := Scalar.addi v1791 v1790
  let v1798 : BitVec 32 := Scalar.select v1796 v1797 v1791
  let c128_i32_682 : BitVec 32 := 128#32
  let v1821 : BitVec 32 := Scalar.muli v1798 c128_i32_682
  let c128_i32_683 : BitVec 32 := 128#32
  let v1822 : BitVec 32 := Scalar.subi v1821 c128_i32_683
  let v1823 : BitVec 32 := Scalar.maxsi c0_i32_684 v1822
  let v1824 : BitVec 32 := Scalar.minsi c3712_i32_685 v1823
  v1824
def k0_mult15 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_766 : BitVec 32 := 16#32
  let v2058 : BitVec 32 := Scalar.muli arg16 c16_i32_766
  let c7_i32 : BitVec 32 := 7#32
  let v2059 : BitVec 32 := Scalar.addi v2058 c7_i32
  let c32_i32_774 : BitVec 32 := 32#32
  let c0_i32_775 : BitVec 32 := 0#32
  let v2077 : BitVec 1 := Scalar.cmpi .eq c32_i32_774 c0_i32_775
  let c1_i32_776 : BitVec 32 := 1#32
  let v2078 : BitVec 32 := Scalar.select v2077 c1_i32_776 c32_i32_774
  let v2079 : BitVec 32 := Scalar.remsi v2059 v2078
  let c0_i32_778 : BitVec 32 := 0#32
  let v2081 : BitVec 1 := Scalar.cmpi .slt v2079 c0_i32_778
  let c0_i32_779 : BitVec 32 := 0#32
  let v2082 : BitVec 1 := Scalar.cmpi .slt v2078 c0_i32_779
  let v2083 : BitVec 1 := Scalar.xori v2081 v2082
  let c0_i32_777 : BitVec 32 := 0#32
  let v2080 : BitVec 1 := Scalar.cmpi .ne v2079 c0_i32_777
  let v2084 : BitVec 1 := Scalar.andi v2083 v2080
  let v2085 : BitVec 32 := Scalar.addi v2079 v2078
  let v2086 : BitVec 32 := Scalar.select v2084 v2085 v2079
  let c128_i32_784 : BitVec 32 := 128#32
  let v2099 : BitVec 32 := Scalar.muli v2086 c128_i32_784
  v2099
def k0_mult16 (k0_t1 : Fin k0_t1_loop.trips) : BitVec 32 :=
  let c3712_i32_790 : BitVec 32 := 3712#32
  let c0_i32_789 : BitVec 32 := 0#32
  let c0_i32_16 : BitVec 32 := 0#32
  let c1_i32_18 : BitVec 32 := 1#32
  let arg16 : BitVec 32 := Scf.iv c0_i32_16 c1_i32_18 k0_t1
  let c16_i32_766 : BitVec 32 := 16#32
  let v2058 : BitVec 32 := Scalar.muli arg16 c16_i32_766
  let c7_i32 : BitVec 32 := 7#32
  let v2059 : BitVec 32 := Scalar.addi v2058 c7_i32
  let c32_i32_774 : BitVec 32 := 32#32
  let c0_i32_775 : BitVec 32 := 0#32
  let v2077 : BitVec 1 := Scalar.cmpi .eq c32_i32_774 c0_i32_775
  let c1_i32_776 : BitVec 32 := 1#32
  let v2078 : BitVec 32 := Scalar.select v2077 c1_i32_776 c32_i32_774
  let v2079 : BitVec 32 := Scalar.remsi v2059 v2078
  let c0_i32_778 : BitVec 32 := 0#32
  let v2081 : BitVec 1 := Scalar.cmpi .slt v2079 c0_i32_778
  let c0_i32_779 : BitVec 32 := 0#32
  let v2082 : BitVec 1 := Scalar.cmpi .slt v2078 c0_i32_779
  let v2083 : BitVec 1 := Scalar.xori v2081 v2082
  let c0_i32_777 : BitVec 32 := 0#32
  let v2080 : BitVec 1 := Scalar.cmpi .ne v2079 c0_i32_777
  let v2084 : BitVec 1 := Scalar.andi v2083 v2080
  let v2085 : BitVec 32 := Scalar.addi v2079 v2078
  let v2086 : BitVec 32 := Scalar.select v2084 v2085 v2079
  let c128_i32_787 : BitVec 32 := 128#32
  let v2109 : BitVec 32 := Scalar.muli v2086 c128_i32_787
  let c128_i32_788 : BitVec 32 := 128#32
  let v2110 : BitVec 32 := Scalar.subi v2109 c128_i32_788
  let v2111 : BitVec 32 := Scalar.maxsi c0_i32_789 v2110
  let v2112 : BitVec 32 := Scalar.minsi c3712_i32_790 v2111
  v2112
def k0_mult17 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_871 : BitVec 32 := 16#32
  let v2346 : BitVec 32 := Scalar.muli arg16 c16_i32_871
  let c8_i32 : BitVec 32 := 8#32
  let v2347 : BitVec 32 := Scalar.addi v2346 c8_i32
  let c32_i32_879 : BitVec 32 := 32#32
  let c0_i32_880 : BitVec 32 := 0#32
  let v2365 : BitVec 1 := Scalar.cmpi .eq c32_i32_879 c0_i32_880
  let c1_i32_881 : BitVec 32 := 1#32
  let v2366 : BitVec 32 := Scalar.select v2365 c1_i32_881 c32_i32_879
  let v2367 : BitVec 32 := Scalar.remsi v2347 v2366
  let c0_i32_883 : BitVec 32 := 0#32
  let v2369 : BitVec 1 := Scalar.cmpi .slt v2367 c0_i32_883
  let c0_i32_884 : BitVec 32 := 0#32
  let v2370 : BitVec 1 := Scalar.cmpi .slt v2366 c0_i32_884
  let v2371 : BitVec 1 := Scalar.xori v2369 v2370
  let c0_i32_882 : BitVec 32 := 0#32
  let v2368 : BitVec 1 := Scalar.cmpi .ne v2367 c0_i32_882
  let v2372 : BitVec 1 := Scalar.andi v2371 v2368
  let v2373 : BitVec 32 := Scalar.addi v2367 v2366
  let v2374 : BitVec 32 := Scalar.select v2372 v2373 v2367
  let c128_i32_889 : BitVec 32 := 128#32
  let v2387 : BitVec 32 := Scalar.muli v2374 c128_i32_889
  v2387
def k0_mult18 (k0_t1 : Fin k0_t1_loop.trips) : BitVec 32 :=
  let c3712_i32_895 : BitVec 32 := 3712#32
  let c0_i32_894 : BitVec 32 := 0#32
  let c0_i32_16 : BitVec 32 := 0#32
  let c1_i32_18 : BitVec 32 := 1#32
  let arg16 : BitVec 32 := Scf.iv c0_i32_16 c1_i32_18 k0_t1
  let c16_i32_871 : BitVec 32 := 16#32
  let v2346 : BitVec 32 := Scalar.muli arg16 c16_i32_871
  let c8_i32 : BitVec 32 := 8#32
  let v2347 : BitVec 32 := Scalar.addi v2346 c8_i32
  let c32_i32_879 : BitVec 32 := 32#32
  let c0_i32_880 : BitVec 32 := 0#32
  let v2365 : BitVec 1 := Scalar.cmpi .eq c32_i32_879 c0_i32_880
  let c1_i32_881 : BitVec 32 := 1#32
  let v2366 : BitVec 32 := Scalar.select v2365 c1_i32_881 c32_i32_879
  let v2367 : BitVec 32 := Scalar.remsi v2347 v2366
  let c0_i32_883 : BitVec 32 := 0#32
  let v2369 : BitVec 1 := Scalar.cmpi .slt v2367 c0_i32_883
  let c0_i32_884 : BitVec 32 := 0#32
  let v2370 : BitVec 1 := Scalar.cmpi .slt v2366 c0_i32_884
  let v2371 : BitVec 1 := Scalar.xori v2369 v2370
  let c0_i32_882 : BitVec 32 := 0#32
  let v2368 : BitVec 1 := Scalar.cmpi .ne v2367 c0_i32_882
  let v2372 : BitVec 1 := Scalar.andi v2371 v2368
  let v2373 : BitVec 32 := Scalar.addi v2367 v2366
  let v2374 : BitVec 32 := Scalar.select v2372 v2373 v2367
  let c128_i32_892 : BitVec 32 := 128#32
  let v2397 : BitVec 32 := Scalar.muli v2374 c128_i32_892
  let c128_i32_893 : BitVec 32 := 128#32
  let v2398 : BitVec 32 := Scalar.subi v2397 c128_i32_893
  let v2399 : BitVec 32 := Scalar.maxsi c0_i32_894 v2398
  let v2400 : BitVec 32 := Scalar.minsi c3712_i32_895 v2399
  v2400
def k0_mult19 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_976 : BitVec 32 := 16#32
  let v2634 : BitVec 32 := Scalar.muli arg16 c16_i32_976
  let c9_i32 : BitVec 32 := 9#32
  let v2635 : BitVec 32 := Scalar.addi v2634 c9_i32
  let c32_i32_984 : BitVec 32 := 32#32
  let c0_i32_985 : BitVec 32 := 0#32
  let v2653 : BitVec 1 := Scalar.cmpi .eq c32_i32_984 c0_i32_985
  let c1_i32_986 : BitVec 32 := 1#32
  let v2654 : BitVec 32 := Scalar.select v2653 c1_i32_986 c32_i32_984
  let v2655 : BitVec 32 := Scalar.remsi v2635 v2654
  let c0_i32_988 : BitVec 32 := 0#32
  let v2657 : BitVec 1 := Scalar.cmpi .slt v2655 c0_i32_988
  let c0_i32_989 : BitVec 32 := 0#32
  let v2658 : BitVec 1 := Scalar.cmpi .slt v2654 c0_i32_989
  let v2659 : BitVec 1 := Scalar.xori v2657 v2658
  let c0_i32_987 : BitVec 32 := 0#32
  let v2656 : BitVec 1 := Scalar.cmpi .ne v2655 c0_i32_987
  let v2660 : BitVec 1 := Scalar.andi v2659 v2656
  let v2661 : BitVec 32 := Scalar.addi v2655 v2654
  let v2662 : BitVec 32 := Scalar.select v2660 v2661 v2655
  let c128_i32_994 : BitVec 32 := 128#32
  let v2675 : BitVec 32 := Scalar.muli v2662 c128_i32_994
  v2675
def k0_mult20 (k0_t1 : Fin k0_t1_loop.trips) : BitVec 32 :=
  let c3712_i32_1000 : BitVec 32 := 3712#32
  let c0_i32_999 : BitVec 32 := 0#32
  let c0_i32_16 : BitVec 32 := 0#32
  let c1_i32_18 : BitVec 32 := 1#32
  let arg16 : BitVec 32 := Scf.iv c0_i32_16 c1_i32_18 k0_t1
  let c16_i32_976 : BitVec 32 := 16#32
  let v2634 : BitVec 32 := Scalar.muli arg16 c16_i32_976
  let c9_i32 : BitVec 32 := 9#32
  let v2635 : BitVec 32 := Scalar.addi v2634 c9_i32
  let c32_i32_984 : BitVec 32 := 32#32
  let c0_i32_985 : BitVec 32 := 0#32
  let v2653 : BitVec 1 := Scalar.cmpi .eq c32_i32_984 c0_i32_985
  let c1_i32_986 : BitVec 32 := 1#32
  let v2654 : BitVec 32 := Scalar.select v2653 c1_i32_986 c32_i32_984
  let v2655 : BitVec 32 := Scalar.remsi v2635 v2654
  let c0_i32_988 : BitVec 32 := 0#32
  let v2657 : BitVec 1 := Scalar.cmpi .slt v2655 c0_i32_988
  let c0_i32_989 : BitVec 32 := 0#32
  let v2658 : BitVec 1 := Scalar.cmpi .slt v2654 c0_i32_989
  let v2659 : BitVec 1 := Scalar.xori v2657 v2658
  let c0_i32_987 : BitVec 32 := 0#32
  let v2656 : BitVec 1 := Scalar.cmpi .ne v2655 c0_i32_987
  let v2660 : BitVec 1 := Scalar.andi v2659 v2656
  let v2661 : BitVec 32 := Scalar.addi v2655 v2654
  let v2662 : BitVec 32 := Scalar.select v2660 v2661 v2655
  let c128_i32_997 : BitVec 32 := 128#32
  let v2685 : BitVec 32 := Scalar.muli v2662 c128_i32_997
  let c128_i32_998 : BitVec 32 := 128#32
  let v2686 : BitVec 32 := Scalar.subi v2685 c128_i32_998
  let v2687 : BitVec 32 := Scalar.maxsi c0_i32_999 v2686
  let v2688 : BitVec 32 := Scalar.minsi c3712_i32_1000 v2687
  v2688
def k0_mult21 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_1081 : BitVec 32 := 16#32
  let v2922 : BitVec 32 := Scalar.muli arg16 c16_i32_1081
  let c10_i32 : BitVec 32 := 10#32
  let v2923 : BitVec 32 := Scalar.addi v2922 c10_i32
  let c32_i32_1089 : BitVec 32 := 32#32
  let c0_i32_1090 : BitVec 32 := 0#32
  let v2941 : BitVec 1 := Scalar.cmpi .eq c32_i32_1089 c0_i32_1090
  let c1_i32_1091 : BitVec 32 := 1#32
  let v2942 : BitVec 32 := Scalar.select v2941 c1_i32_1091 c32_i32_1089
  let v2943 : BitVec 32 := Scalar.remsi v2923 v2942
  let c0_i32_1093 : BitVec 32 := 0#32
  let v2945 : BitVec 1 := Scalar.cmpi .slt v2943 c0_i32_1093
  let c0_i32_1094 : BitVec 32 := 0#32
  let v2946 : BitVec 1 := Scalar.cmpi .slt v2942 c0_i32_1094
  let v2947 : BitVec 1 := Scalar.xori v2945 v2946
  let c0_i32_1092 : BitVec 32 := 0#32
  let v2944 : BitVec 1 := Scalar.cmpi .ne v2943 c0_i32_1092
  let v2948 : BitVec 1 := Scalar.andi v2947 v2944
  let v2949 : BitVec 32 := Scalar.addi v2943 v2942
  let v2950 : BitVec 32 := Scalar.select v2948 v2949 v2943
  let c128_i32_1099 : BitVec 32 := 128#32
  let v2963 : BitVec 32 := Scalar.muli v2950 c128_i32_1099
  v2963
def k0_mult22 (k0_t1 : Fin k0_t1_loop.trips) : BitVec 32 :=
  let c3712_i32_1105 : BitVec 32 := 3712#32
  let c0_i32_1104 : BitVec 32 := 0#32
  let c0_i32_16 : BitVec 32 := 0#32
  let c1_i32_18 : BitVec 32 := 1#32
  let arg16 : BitVec 32 := Scf.iv c0_i32_16 c1_i32_18 k0_t1
  let c16_i32_1081 : BitVec 32 := 16#32
  let v2922 : BitVec 32 := Scalar.muli arg16 c16_i32_1081
  let c10_i32 : BitVec 32 := 10#32
  let v2923 : BitVec 32 := Scalar.addi v2922 c10_i32
  let c32_i32_1089 : BitVec 32 := 32#32
  let c0_i32_1090 : BitVec 32 := 0#32
  let v2941 : BitVec 1 := Scalar.cmpi .eq c32_i32_1089 c0_i32_1090
  let c1_i32_1091 : BitVec 32 := 1#32
  let v2942 : BitVec 32 := Scalar.select v2941 c1_i32_1091 c32_i32_1089
  let v2943 : BitVec 32 := Scalar.remsi v2923 v2942
  let c0_i32_1093 : BitVec 32 := 0#32
  let v2945 : BitVec 1 := Scalar.cmpi .slt v2943 c0_i32_1093
  let c0_i32_1094 : BitVec 32 := 0#32
  let v2946 : BitVec 1 := Scalar.cmpi .slt v2942 c0_i32_1094
  let v2947 : BitVec 1 := Scalar.xori v2945 v2946
  let c0_i32_1092 : BitVec 32 := 0#32
  let v2944 : BitVec 1 := Scalar.cmpi .ne v2943 c0_i32_1092
  let v2948 : BitVec 1 := Scalar.andi v2947 v2944
  let v2949 : BitVec 32 := Scalar.addi v2943 v2942
  let v2950 : BitVec 32 := Scalar.select v2948 v2949 v2943
  let c128_i32_1102 : BitVec 32 := 128#32
  let v2973 : BitVec 32 := Scalar.muli v2950 c128_i32_1102
  let c128_i32_1103 : BitVec 32 := 128#32
  let v2974 : BitVec 32 := Scalar.subi v2973 c128_i32_1103
  let v2975 : BitVec 32 := Scalar.maxsi c0_i32_1104 v2974
  let v2976 : BitVec 32 := Scalar.minsi c3712_i32_1105 v2975
  v2976
def k0_mult23 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_1186 : BitVec 32 := 16#32
  let v3210 : BitVec 32 := Scalar.muli arg16 c16_i32_1186
  let c11_i32 : BitVec 32 := 11#32
  let v3211 : BitVec 32 := Scalar.addi v3210 c11_i32
  let c32_i32_1194 : BitVec 32 := 32#32
  let c0_i32_1195 : BitVec 32 := 0#32
  let v3229 : BitVec 1 := Scalar.cmpi .eq c32_i32_1194 c0_i32_1195
  let c1_i32_1196 : BitVec 32 := 1#32
  let v3230 : BitVec 32 := Scalar.select v3229 c1_i32_1196 c32_i32_1194
  let v3231 : BitVec 32 := Scalar.remsi v3211 v3230
  let c0_i32_1198 : BitVec 32 := 0#32
  let v3233 : BitVec 1 := Scalar.cmpi .slt v3231 c0_i32_1198
  let c0_i32_1199 : BitVec 32 := 0#32
  let v3234 : BitVec 1 := Scalar.cmpi .slt v3230 c0_i32_1199
  let v3235 : BitVec 1 := Scalar.xori v3233 v3234
  let c0_i32_1197 : BitVec 32 := 0#32
  let v3232 : BitVec 1 := Scalar.cmpi .ne v3231 c0_i32_1197
  let v3236 : BitVec 1 := Scalar.andi v3235 v3232
  let v3237 : BitVec 32 := Scalar.addi v3231 v3230
  let v3238 : BitVec 32 := Scalar.select v3236 v3237 v3231
  let c128_i32_1204 : BitVec 32 := 128#32
  let v3251 : BitVec 32 := Scalar.muli v3238 c128_i32_1204
  v3251
def k0_mult24 (k0_t1 : Fin k0_t1_loop.trips) : BitVec 32 :=
  let c3712_i32_1210 : BitVec 32 := 3712#32
  let c0_i32_1209 : BitVec 32 := 0#32
  let c0_i32_16 : BitVec 32 := 0#32
  let c1_i32_18 : BitVec 32 := 1#32
  let arg16 : BitVec 32 := Scf.iv c0_i32_16 c1_i32_18 k0_t1
  let c16_i32_1186 : BitVec 32 := 16#32
  let v3210 : BitVec 32 := Scalar.muli arg16 c16_i32_1186
  let c11_i32 : BitVec 32 := 11#32
  let v3211 : BitVec 32 := Scalar.addi v3210 c11_i32
  let c32_i32_1194 : BitVec 32 := 32#32
  let c0_i32_1195 : BitVec 32 := 0#32
  let v3229 : BitVec 1 := Scalar.cmpi .eq c32_i32_1194 c0_i32_1195
  let c1_i32_1196 : BitVec 32 := 1#32
  let v3230 : BitVec 32 := Scalar.select v3229 c1_i32_1196 c32_i32_1194
  let v3231 : BitVec 32 := Scalar.remsi v3211 v3230
  let c0_i32_1198 : BitVec 32 := 0#32
  let v3233 : BitVec 1 := Scalar.cmpi .slt v3231 c0_i32_1198
  let c0_i32_1199 : BitVec 32 := 0#32
  let v3234 : BitVec 1 := Scalar.cmpi .slt v3230 c0_i32_1199
  let v3235 : BitVec 1 := Scalar.xori v3233 v3234
  let c0_i32_1197 : BitVec 32 := 0#32
  let v3232 : BitVec 1 := Scalar.cmpi .ne v3231 c0_i32_1197
  let v3236 : BitVec 1 := Scalar.andi v3235 v3232
  let v3237 : BitVec 32 := Scalar.addi v3231 v3230
  let v3238 : BitVec 32 := Scalar.select v3236 v3237 v3231
  let c128_i32_1207 : BitVec 32 := 128#32
  let v3261 : BitVec 32 := Scalar.muli v3238 c128_i32_1207
  let c128_i32_1208 : BitVec 32 := 128#32
  let v3262 : BitVec 32 := Scalar.subi v3261 c128_i32_1208
  let v3263 : BitVec 32 := Scalar.maxsi c0_i32_1209 v3262
  let v3264 : BitVec 32 := Scalar.minsi c3712_i32_1210 v3263
  v3264
def k0_mult25 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_1291 : BitVec 32 := 16#32
  let v3498 : BitVec 32 := Scalar.muli arg16 c16_i32_1291
  let c12_i32 : BitVec 32 := 12#32
  let v3499 : BitVec 32 := Scalar.addi v3498 c12_i32
  let c32_i32_1299 : BitVec 32 := 32#32
  let c0_i32_1300 : BitVec 32 := 0#32
  let v3517 : BitVec 1 := Scalar.cmpi .eq c32_i32_1299 c0_i32_1300
  let c1_i32_1301 : BitVec 32 := 1#32
  let v3518 : BitVec 32 := Scalar.select v3517 c1_i32_1301 c32_i32_1299
  let v3519 : BitVec 32 := Scalar.remsi v3499 v3518
  let c0_i32_1303 : BitVec 32 := 0#32
  let v3521 : BitVec 1 := Scalar.cmpi .slt v3519 c0_i32_1303
  let c0_i32_1304 : BitVec 32 := 0#32
  let v3522 : BitVec 1 := Scalar.cmpi .slt v3518 c0_i32_1304
  let v3523 : BitVec 1 := Scalar.xori v3521 v3522
  let c0_i32_1302 : BitVec 32 := 0#32
  let v3520 : BitVec 1 := Scalar.cmpi .ne v3519 c0_i32_1302
  let v3524 : BitVec 1 := Scalar.andi v3523 v3520
  let v3525 : BitVec 32 := Scalar.addi v3519 v3518
  let v3526 : BitVec 32 := Scalar.select v3524 v3525 v3519
  let c128_i32_1309 : BitVec 32 := 128#32
  let v3539 : BitVec 32 := Scalar.muli v3526 c128_i32_1309
  v3539
def k0_mult26 (k0_t1 : Fin k0_t1_loop.trips) : BitVec 32 :=
  let c3712_i32_1315 : BitVec 32 := 3712#32
  let c0_i32_1314 : BitVec 32 := 0#32
  let c0_i32_16 : BitVec 32 := 0#32
  let c1_i32_18 : BitVec 32 := 1#32
  let arg16 : BitVec 32 := Scf.iv c0_i32_16 c1_i32_18 k0_t1
  let c16_i32_1291 : BitVec 32 := 16#32
  let v3498 : BitVec 32 := Scalar.muli arg16 c16_i32_1291
  let c12_i32 : BitVec 32 := 12#32
  let v3499 : BitVec 32 := Scalar.addi v3498 c12_i32
  let c32_i32_1299 : BitVec 32 := 32#32
  let c0_i32_1300 : BitVec 32 := 0#32
  let v3517 : BitVec 1 := Scalar.cmpi .eq c32_i32_1299 c0_i32_1300
  let c1_i32_1301 : BitVec 32 := 1#32
  let v3518 : BitVec 32 := Scalar.select v3517 c1_i32_1301 c32_i32_1299
  let v3519 : BitVec 32 := Scalar.remsi v3499 v3518
  let c0_i32_1303 : BitVec 32 := 0#32
  let v3521 : BitVec 1 := Scalar.cmpi .slt v3519 c0_i32_1303
  let c0_i32_1304 : BitVec 32 := 0#32
  let v3522 : BitVec 1 := Scalar.cmpi .slt v3518 c0_i32_1304
  let v3523 : BitVec 1 := Scalar.xori v3521 v3522
  let c0_i32_1302 : BitVec 32 := 0#32
  let v3520 : BitVec 1 := Scalar.cmpi .ne v3519 c0_i32_1302
  let v3524 : BitVec 1 := Scalar.andi v3523 v3520
  let v3525 : BitVec 32 := Scalar.addi v3519 v3518
  let v3526 : BitVec 32 := Scalar.select v3524 v3525 v3519
  let c128_i32_1312 : BitVec 32 := 128#32
  let v3549 : BitVec 32 := Scalar.muli v3526 c128_i32_1312
  let c128_i32_1313 : BitVec 32 := 128#32
  let v3550 : BitVec 32 := Scalar.subi v3549 c128_i32_1313
  let v3551 : BitVec 32 := Scalar.maxsi c0_i32_1314 v3550
  let v3552 : BitVec 32 := Scalar.minsi c3712_i32_1315 v3551
  v3552
def k0_mult27 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_1396 : BitVec 32 := 16#32
  let v3786 : BitVec 32 := Scalar.muli arg16 c16_i32_1396
  let c13_i32 : BitVec 32 := 13#32
  let v3787 : BitVec 32 := Scalar.addi v3786 c13_i32
  let c32_i32_1404 : BitVec 32 := 32#32
  let c0_i32_1405 : BitVec 32 := 0#32
  let v3805 : BitVec 1 := Scalar.cmpi .eq c32_i32_1404 c0_i32_1405
  let c1_i32_1406 : BitVec 32 := 1#32
  let v3806 : BitVec 32 := Scalar.select v3805 c1_i32_1406 c32_i32_1404
  let v3807 : BitVec 32 := Scalar.remsi v3787 v3806
  let c0_i32_1408 : BitVec 32 := 0#32
  let v3809 : BitVec 1 := Scalar.cmpi .slt v3807 c0_i32_1408
  let c0_i32_1409 : BitVec 32 := 0#32
  let v3810 : BitVec 1 := Scalar.cmpi .slt v3806 c0_i32_1409
  let v3811 : BitVec 1 := Scalar.xori v3809 v3810
  let c0_i32_1407 : BitVec 32 := 0#32
  let v3808 : BitVec 1 := Scalar.cmpi .ne v3807 c0_i32_1407
  let v3812 : BitVec 1 := Scalar.andi v3811 v3808
  let v3813 : BitVec 32 := Scalar.addi v3807 v3806
  let v3814 : BitVec 32 := Scalar.select v3812 v3813 v3807
  let c128_i32_1414 : BitVec 32 := 128#32
  let v3827 : BitVec 32 := Scalar.muli v3814 c128_i32_1414
  v3827
def k0_mult28 (k0_t1 : Fin k0_t1_loop.trips) : BitVec 32 :=
  let c3712_i32_1420 : BitVec 32 := 3712#32
  let c0_i32_1419 : BitVec 32 := 0#32
  let c0_i32_16 : BitVec 32 := 0#32
  let c1_i32_18 : BitVec 32 := 1#32
  let arg16 : BitVec 32 := Scf.iv c0_i32_16 c1_i32_18 k0_t1
  let c16_i32_1396 : BitVec 32 := 16#32
  let v3786 : BitVec 32 := Scalar.muli arg16 c16_i32_1396
  let c13_i32 : BitVec 32 := 13#32
  let v3787 : BitVec 32 := Scalar.addi v3786 c13_i32
  let c32_i32_1404 : BitVec 32 := 32#32
  let c0_i32_1405 : BitVec 32 := 0#32
  let v3805 : BitVec 1 := Scalar.cmpi .eq c32_i32_1404 c0_i32_1405
  let c1_i32_1406 : BitVec 32 := 1#32
  let v3806 : BitVec 32 := Scalar.select v3805 c1_i32_1406 c32_i32_1404
  let v3807 : BitVec 32 := Scalar.remsi v3787 v3806
  let c0_i32_1408 : BitVec 32 := 0#32
  let v3809 : BitVec 1 := Scalar.cmpi .slt v3807 c0_i32_1408
  let c0_i32_1409 : BitVec 32 := 0#32
  let v3810 : BitVec 1 := Scalar.cmpi .slt v3806 c0_i32_1409
  let v3811 : BitVec 1 := Scalar.xori v3809 v3810
  let c0_i32_1407 : BitVec 32 := 0#32
  let v3808 : BitVec 1 := Scalar.cmpi .ne v3807 c0_i32_1407
  let v3812 : BitVec 1 := Scalar.andi v3811 v3808
  let v3813 : BitVec 32 := Scalar.addi v3807 v3806
  let v3814 : BitVec 32 := Scalar.select v3812 v3813 v3807
  let c128_i32_1417 : BitVec 32 := 128#32
  let v3837 : BitVec 32 := Scalar.muli v3814 c128_i32_1417
  let c128_i32_1418 : BitVec 32 := 128#32
  let v3838 : BitVec 32 := Scalar.subi v3837 c128_i32_1418
  let v3839 : BitVec 32 := Scalar.maxsi c0_i32_1419 v3838
  let v3840 : BitVec 32 := Scalar.minsi c3712_i32_1420 v3839
  v3840
def k0_mult29 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_1501 : BitVec 32 := 16#32
  let v4074 : BitVec 32 := Scalar.muli arg16 c16_i32_1501
  let c14_i32 : BitVec 32 := 14#32
  let v4075 : BitVec 32 := Scalar.addi v4074 c14_i32
  let c32_i32_1509 : BitVec 32 := 32#32
  let c0_i32_1510 : BitVec 32 := 0#32
  let v4093 : BitVec 1 := Scalar.cmpi .eq c32_i32_1509 c0_i32_1510
  let c1_i32_1511 : BitVec 32 := 1#32
  let v4094 : BitVec 32 := Scalar.select v4093 c1_i32_1511 c32_i32_1509
  let v4095 : BitVec 32 := Scalar.remsi v4075 v4094
  let c0_i32_1513 : BitVec 32 := 0#32
  let v4097 : BitVec 1 := Scalar.cmpi .slt v4095 c0_i32_1513
  let c0_i32_1514 : BitVec 32 := 0#32
  let v4098 : BitVec 1 := Scalar.cmpi .slt v4094 c0_i32_1514
  let v4099 : BitVec 1 := Scalar.xori v4097 v4098
  let c0_i32_1512 : BitVec 32 := 0#32
  let v4096 : BitVec 1 := Scalar.cmpi .ne v4095 c0_i32_1512
  let v4100 : BitVec 1 := Scalar.andi v4099 v4096
  let v4101 : BitVec 32 := Scalar.addi v4095 v4094
  let v4102 : BitVec 32 := Scalar.select v4100 v4101 v4095
  let c128_i32_1519 : BitVec 32 := 128#32
  let v4115 : BitVec 32 := Scalar.muli v4102 c128_i32_1519
  v4115
def k0_mult30 (k0_t1 : Fin k0_t1_loop.trips) : BitVec 32 :=
  let c3712_i32_1525 : BitVec 32 := 3712#32
  let c0_i32_1524 : BitVec 32 := 0#32
  let c0_i32_16 : BitVec 32 := 0#32
  let c1_i32_18 : BitVec 32 := 1#32
  let arg16 : BitVec 32 := Scf.iv c0_i32_16 c1_i32_18 k0_t1
  let c16_i32_1501 : BitVec 32 := 16#32
  let v4074 : BitVec 32 := Scalar.muli arg16 c16_i32_1501
  let c14_i32 : BitVec 32 := 14#32
  let v4075 : BitVec 32 := Scalar.addi v4074 c14_i32
  let c32_i32_1509 : BitVec 32 := 32#32
  let c0_i32_1510 : BitVec 32 := 0#32
  let v4093 : BitVec 1 := Scalar.cmpi .eq c32_i32_1509 c0_i32_1510
  let c1_i32_1511 : BitVec 32 := 1#32
  let v4094 : BitVec 32 := Scalar.select v4093 c1_i32_1511 c32_i32_1509
  let v4095 : BitVec 32 := Scalar.remsi v4075 v4094
  let c0_i32_1513 : BitVec 32 := 0#32
  let v4097 : BitVec 1 := Scalar.cmpi .slt v4095 c0_i32_1513
  let c0_i32_1514 : BitVec 32 := 0#32
  let v4098 : BitVec 1 := Scalar.cmpi .slt v4094 c0_i32_1514
  let v4099 : BitVec 1 := Scalar.xori v4097 v4098
  let c0_i32_1512 : BitVec 32 := 0#32
  let v4096 : BitVec 1 := Scalar.cmpi .ne v4095 c0_i32_1512
  let v4100 : BitVec 1 := Scalar.andi v4099 v4096
  let v4101 : BitVec 32 := Scalar.addi v4095 v4094
  let v4102 : BitVec 32 := Scalar.select v4100 v4101 v4095
  let c128_i32_1522 : BitVec 32 := 128#32
  let v4125 : BitVec 32 := Scalar.muli v4102 c128_i32_1522
  let c128_i32_1523 : BitVec 32 := 128#32
  let v4126 : BitVec 32 := Scalar.subi v4125 c128_i32_1523
  let v4127 : BitVec 32 := Scalar.maxsi c0_i32_1524 v4126
  let v4128 : BitVec 32 := Scalar.minsi c3712_i32_1525 v4127
  v4128
def k0_mult31 (k0_t1 : Fin k0_t1_loop.trips) : BitVec 32 :=
  let c0_i32_16 : BitVec 32 := 0#32
  let c1_i32_18 : BitVec 32 := 1#32
  let arg16 : BitVec 32 := Scf.iv c0_i32_16 c1_i32_18 k0_t1
  let c16_i32_1606 : BitVec 32 := 16#32
  let v4362 : BitVec 32 := Scalar.muli arg16 c16_i32_1606
  let c15_i32 : BitVec 32 := 15#32
  let v4363 : BitVec 32 := Scalar.addi v4362 c15_i32
  let c32_i32_1614 : BitVec 32 := 32#32
  let c0_i32_1615 : BitVec 32 := 0#32
  let v4381 : BitVec 1 := Scalar.cmpi .eq c32_i32_1614 c0_i32_1615
  let c1_i32_1616 : BitVec 32 := 1#32
  let v4382 : BitVec 32 := Scalar.select v4381 c1_i32_1616 c32_i32_1614
  let v4383 : BitVec 32 := Scalar.remsi v4363 v4382
  let c0_i32_1618 : BitVec 32 := 0#32
  let v4385 : BitVec 1 := Scalar.cmpi .slt v4383 c0_i32_1618
  let c0_i32_1619 : BitVec 32 := 0#32
  let v4386 : BitVec 1 := Scalar.cmpi .slt v4382 c0_i32_1619
  let v4387 : BitVec 1 := Scalar.xori v4385 v4386
  let c0_i32_1617 : BitVec 32 := 0#32
  let v4384 : BitVec 1 := Scalar.cmpi .ne v4383 c0_i32_1617
  let v4388 : BitVec 1 := Scalar.andi v4387 v4384
  let v4389 : BitVec 32 := Scalar.addi v4383 v4382
  let v4390 : BitVec 32 := Scalar.select v4388 v4389 v4383
  let c128_i32_1624 : BitVec 32 := 128#32
  let v4403 : BitVec 32 := Scalar.muli v4390 c128_i32_1624
  v4403
def k0_mult32 (k0_t1 : Fin k0_t1_loop.trips) : BitVec 32 :=
  let c3712_i32_1630 : BitVec 32 := 3712#32
  let c0_i32_1629 : BitVec 32 := 0#32
  let c0_i32_16 : BitVec 32 := 0#32
  let c1_i32_18 : BitVec 32 := 1#32
  let arg16 : BitVec 32 := Scf.iv c0_i32_16 c1_i32_18 k0_t1
  let c16_i32_1606 : BitVec 32 := 16#32
  let v4362 : BitVec 32 := Scalar.muli arg16 c16_i32_1606
  let c15_i32 : BitVec 32 := 15#32
  let v4363 : BitVec 32 := Scalar.addi v4362 c15_i32
  let c32_i32_1614 : BitVec 32 := 32#32
  let c0_i32_1615 : BitVec 32 := 0#32
  let v4381 : BitVec 1 := Scalar.cmpi .eq c32_i32_1614 c0_i32_1615
  let c1_i32_1616 : BitVec 32 := 1#32
  let v4382 : BitVec 32 := Scalar.select v4381 c1_i32_1616 c32_i32_1614
  let v4383 : BitVec 32 := Scalar.remsi v4363 v4382
  let c0_i32_1618 : BitVec 32 := 0#32
  let v4385 : BitVec 1 := Scalar.cmpi .slt v4383 c0_i32_1618
  let c0_i32_1619 : BitVec 32 := 0#32
  let v4386 : BitVec 1 := Scalar.cmpi .slt v4382 c0_i32_1619
  let v4387 : BitVec 1 := Scalar.xori v4385 v4386
  let c0_i32_1617 : BitVec 32 := 0#32
  let v4384 : BitVec 1 := Scalar.cmpi .ne v4383 c0_i32_1617
  let v4388 : BitVec 1 := Scalar.andi v4387 v4384
  let v4389 : BitVec 32 := Scalar.addi v4383 v4382
  let v4390 : BitVec 32 := Scalar.select v4388 v4389 v4383
  let c128_i32_1627 : BitVec 32 := 128#32
  let v4413 : BitVec 32 := Scalar.muli v4390 c128_i32_1627
  let c128_i32_1628 : BitVec 32 := 128#32
  let v4414 : BitVec 32 := Scalar.subi v4413 c128_i32_1628
  let v4415 : BitVec 32 := Scalar.maxsi c0_i32_1629 v4414
  let v4416 : BitVec 32 := Scalar.minsi c3712_i32_1630 v4415
  v4416
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 4 → Nat :=
  let arg0 : BitVec 32 := BitVec.ofNat 32 (i 0).val
  let c1_i32 : BitVec 32 := 1#32
  let v0 : BitVec 32 := Scalar.muli arg0 c1_i32
  let c1_i32_0 : BitVec 32 := 1#32
  let v1 : BitVec 32 := Scalar.divsi v0 c1_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32_0 c0_i32_2
  let v8 : BitVec 32 := Scalar.extui v7
  let c0_i32_3 : BitVec 32 := 0#32
  let v9 : BitVec 1 := Scalar.cmpi .slt c1_i32_0 c0_i32_3
  let v10 : BitVec 32 := Scalar.extui v9
  let v11 : BitVec 32 := Scalar.subi v8 v10
  let v12 : BitVec 1 := Scalar.cmpi .ne v6 v11
  let v13 : BitVec 32 := Scalar.remsi v0 c1_i32_0
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let c0_i32_7 : BitVec 32 := 0#32
  let c0_i32_8 : BitVec 32 := 0#32
  let c0_i32_9 : BitVec 32 := 0#32
  ![v17.toNat, c0_i32_6.toNat, c0_i32_7.toNat, c0_i32_8.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 4 → Nat :=
  let arg0 : BitVec 32 := BitVec.ofNat 32 (i 0).val
  let c1_i32 : BitVec 32 := 1#32
  let v0 : BitVec 32 := Scalar.muli arg0 c1_i32
  let c1_i32_0 : BitVec 32 := 1#32
  let v1 : BitVec 32 := Scalar.divsi v0 c1_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32_0 c0_i32_2
  let v8 : BitVec 32 := Scalar.extui v7
  let c0_i32_3 : BitVec 32 := 0#32
  let v9 : BitVec 1 := Scalar.cmpi .slt c1_i32_0 c0_i32_3
  let v10 : BitVec 32 := Scalar.extui v9
  let v11 : BitVec 32 := Scalar.subi v8 v10
  let v12 : BitVec 1 := Scalar.cmpi .ne v6 v11
  let v13 : BitVec 32 := Scalar.remsi v0 c1_i32_0
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let c0_i32_7 : BitVec 32 := 0#32
  let c0_i32_8 : BitVec 32 := 0#32
  let c0_i32_9 : BitVec 32 := 0#32
  ![v17.toNat, c0_i32_6.toNat, c0_i32_7.toNat, c0_i32_8.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x384x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x4096x128 : Shape := ⟨3, ![4, 4096, 128]⟩
abbrev S2x4096x128 : Shape := ⟨3, ![2, 4096, 128]⟩
abbrev S32x8 : Shape := ⟨2, ![32, 8]⟩
abbrev S8 : Shape := ⟨1, ![8]⟩
abbrev S2x2x4096x2x64 : Shape := ⟨5, ![2, 2, 4096, 2, 64]⟩
abbrev S2x4096x2x64 : Shape := ⟨4, ![2, 4096, 2, 64]⟩
abbrev S2x2x4096x2x4096 : Shape := ⟨5, ![2, 2, 4096, 2, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4096x4096x1 : Shape := ⟨3, ![4096, 4096, 1]⟩
abbrev S4096x4096x8 : Shape := ⟨3, ![4096, 4096, 8]⟩
abbrev S4096x4096x2x2x2 : Shape := ⟨5, ![4096, 4096, 2, 2, 2]⟩
abbrev S1x1x4096x1x4096 : Shape := ⟨5, ![1, 1, 4096, 1, 4096]⟩
abbrev S2x2x4096x2 : Shape := ⟨4, ![2, 2, 4096, 2]⟩
abbrev S2x2x4096x2x1 : Shape := ⟨5, ![2, 2, 4096, 2, 1]⟩
abbrev S2x2x1x2 : Shape := ⟨4, ![2, 2, 1, 2]⟩
abbrev S2x2x64x2x4096 : Shape := ⟨5, ![2, 2, 64, 2, 4096]⟩
abbrev S2x2x2x4096x4096 : Shape := ⟨5, ![2, 2, 2, 4096, 4096]⟩
abbrev S2x2x64x4096 : Shape := ⟨4, ![2, 2, 64, 4096]⟩
abbrev S2x2x2x4096x64 : Shape := ⟨5, ![2, 2, 2, 4096, 64]⟩
abbrev S2x2x4096x64 : Shape := ⟨4, ![2, 2, 4096, 64]⟩

abbrev nBuf : Space → Nat
  | .hbm => 175
  | .vmem => 0
  | .smem => 0
  | _ => 0

abbrev hbmTy0_0 (i : Nat) : BufTy := match i % 128 with
  | 0 => ⟨S4x4096x128, .bf16⟩
  | 1 => ⟨S2x4096x128, .bf16⟩
  | 2 => ⟨S2x4096x128, .bf16⟩
  | 3 => ⟨S32x8, .f32⟩
  | 4 => ⟨S8, .f32⟩
  | 5 => ⟨S4x4096x128, .bf16⟩
  | 6 => ⟨S4x4096x128, .f32⟩
  | 7 => ⟨S2x4096x128, .f32⟩
  | 8 => ⟨S2x4096x128, .f32⟩
  | 9 => ⟨S2x2x4096x2x64, .f32⟩
  | 10 => ⟨S2x4096x2x64, .f32⟩
  | 11 => ⟨S2x4096x2x64, .f32⟩
  | 12 => ⟨S2x2x4096x2x4096, .f32⟩
  | 13 => ⟨S2x2x4096x2x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i32⟩
  | 21 => ⟨S_, .i32⟩
  | 22 => ⟨S4096x4096, .i32⟩
  | 23 => ⟨S4096x4096, .i1⟩
  | 24 => ⟨S_, .i32⟩
  | 25 => ⟨S_, .i32⟩
  | 26 => ⟨S4096x4096, .i32⟩
  | 27 => ⟨S4096x4096, .i32⟩
  | 28 => ⟨S4096x4096, .i32⟩
  | 29 => ⟨S4096x4096, .i32⟩
  | 30 => ⟨S_, .i32⟩
  | 31 => ⟨S4096x4096, .i32⟩
  | 32 => ⟨S4096x4096, .i32⟩
  | 33 => ⟨S4096x4096, .f32⟩
  | 34 => ⟨S_, .f32⟩
  | 35 => ⟨S4096x4096, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x4096, .i32⟩
  | 45 => ⟨S_, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S_, .i32⟩
  | 52 => ⟨S4096x4096, .i32⟩
  | 53 => ⟨S4096x4096, .i1⟩
  | 54 => ⟨S4096x4096, .i32⟩
  | 55 => ⟨S4096x4096, .i32⟩
  | 56 => ⟨S4096x4096, .i32⟩
  | 57 => ⟨S_, .i32⟩
  | 58 => ⟨S4096x4096, .i32⟩
  | 59 => ⟨S4096x4096, .i1⟩
  | 60 => ⟨S_, .i32⟩
  | 61 => ⟨S4096x4096, .i32⟩
  | 62 => ⟨S4096x4096, .i32⟩
  | 63 => ⟨S4096x4096, .i32⟩
  | 64 => ⟨S4096x4096x1, .i32⟩
  | 65 => ⟨S4096x4096x8, .f32⟩
  | 66 => ⟨S4096x4096x2x2x2, .f32⟩
  | 67 => ⟨S2x2x4096x2x4096, .f32⟩
  | 68 => ⟨S4096x4096, .i32⟩
  | 69 => ⟨S_, .i32⟩
  | 70 => ⟨S4096x4096, .i32⟩
  | 71 => ⟨S4096x4096, .i1⟩
  | 72 => ⟨S1x1x4096x1x4096, .i1⟩
  | 73 => ⟨S2x2x4096x2x4096, .f32⟩
  | 74 => ⟨S_, .f32⟩
  | 75 => ⟨S_, .f32⟩
  | 76 => ⟨S2x2x4096x2x4096, .i1⟩
  | 77 => ⟨S2x2x4096x2x4096, .f32⟩
  | 78 => ⟨S2x2x4096x2x4096, .f32⟩
  | 79 => ⟨S_, .f32⟩
  | 80 => ⟨S2x2x4096x2x4096, .f32⟩
  | 81 => ⟨S_, .f32⟩
  | 82 => ⟨S2x2x4096x2, .f32⟩
  | 83 => ⟨S2x2x4096x2x1, .f32⟩
  | 84 => ⟨S2x2x4096x2x4096, .f32⟩
  | 85 => ⟨S2x2x4096x2x4096, .i1⟩
  | 86 => ⟨S2x2x4096x2x4096, .f32⟩
  | 87 => ⟨S_, .f32⟩
  | 88 => ⟨S2x2x4096x2, .f32⟩
  | 89 => ⟨S2x2x1x2, .f32⟩
  | 90 => ⟨S2x2x4096x2, .f32⟩
  | 91 => ⟨S2x2x4096x2, .f32⟩
  | 92 => ⟨S2x2x4096x2, .f32⟩
  | 93 => ⟨S2x2x4096x2, .i1⟩
  | 94 => ⟨S2x2x4096x2, .f32⟩
  | 95 => ⟨S2x2x4096x2, .i1⟩
  | 96 => ⟨S_, .f32⟩
  | 97 => ⟨S2x2x4096x2, .f32⟩
  | 98 => ⟨S_, .f32⟩
  | 99 => ⟨S2x2x4096x2, .f32⟩
  | 100 => ⟨S_, .f32⟩
  | 101 => ⟨S2x2x4096x2, .f32⟩
  | 102 => ⟨S2x2x4096x2, .f32⟩
  | 103 => ⟨S2x2x4096x2, .f32⟩
  | 104 => ⟨S2x2x4096x2x1, .f32⟩
  | 105 => ⟨S2x2x4096x2x4096, .f32⟩
  | 106 => ⟨S2x2x4096x2x4096, .f32⟩
  | 107 => ⟨S2x2x4096x2x4096, .f32⟩
  | 108 => ⟨S_, .f32⟩
  | 109 => ⟨S2x2x4096x2, .f32⟩
  | 110 => ⟨S2x2x4096x2, .f32⟩
  | 111 => ⟨S2x2x4096x2, .f32⟩
  | 112 => ⟨S2x2x4096x2, .f32⟩
  | 113 => ⟨S2x2x4096x2, .f32⟩
  | 114 => ⟨S2x2x64x2x4096, .f32⟩
  | 115 => ⟨S2x2x4096x2x64, .f32⟩
  | 116 => ⟨S2x2x4096x2x1, .f32⟩
  | 117 => ⟨S2x2x4096x2x64, .f32⟩
  | 118 => ⟨S2x2x4096x2x64, .f32⟩
  | 119 => ⟨S2x2x4096x2x1, .f32⟩
  | 120 => ⟨S_, .f32⟩
  | 121 => ⟨S2x2x4096x2x1, .f32⟩
  | 122 => ⟨S2x2x4096x2x1, .f32⟩
  | 123 => ⟨S2x2x4096x2, .f32⟩
  | 124 => ⟨S2x2x4096x2, .f32⟩
  | 125 => ⟨S4x4096x128, .f32⟩
  | 126 => ⟨S4x4096x128, .f32⟩
  | 127 => ⟨S2x2x4096x2x64, .f32⟩
  | _ => ⟨S4x4096x128, .bf16⟩

abbrev hbmTy0_1 (i : Nat) : BufTy := match i % 128 with
  | 0 => ⟨S2x2x4096x2x64, .f32⟩
  | 1 => ⟨S2x2x4096x2x64, .f32⟩
  | 2 => ⟨S2x2x4096x2x64, .f32⟩
  | 3 => ⟨S_, .f32⟩
  | 4 => ⟨S2x2x4096x2, .f32⟩
  | 5 => ⟨S2x2x4096x2x1, .f32⟩
  | 6 => ⟨S2x2x4096x2x1, .f32⟩
  | 7 => ⟨S2x2x4096x2x64, .f32⟩
  | 8 => ⟨S2x2x4096x2x64, .f32⟩
  | 9 => ⟨S_, .f32⟩
  | 10 => ⟨S2x2x4096x2, .f32⟩
  | 11 => ⟨S2x2x64x2x4096, .f32⟩
  | 12 => ⟨S2x2x2x4096x4096, .f32⟩
  | 13 => ⟨S2x2x4096x2x4096, .f32⟩
  | 14 => ⟨S2x2x64x4096, .f32⟩
  | 15 => ⟨S2x4096x2x64, .f32⟩
  | 16 => ⟨S2x2x4096x2, .f32⟩
  | 17 => ⟨S2x2x4096x2, .f32⟩
  | 18 => ⟨S2x2x4096x2x4096, .f32⟩
  | 19 => ⟨S2x2x4096x2x4096, .f32⟩
  | 20 => ⟨S2x2x4096x2x4096, .f32⟩
  | 21 => ⟨S2x2x4096x2x4096, .f32⟩
  | 22 => ⟨S_, .f32⟩
  | 23 => ⟨S2x2x4096x2, .f32⟩
  | 24 => ⟨S2x2x4096x2x1, .f32⟩
  | 25 => ⟨S_, .f32⟩
  | 26 => ⟨S2x2x4096x2, .f32⟩
  | 27 => ⟨S2x2x4096x2, .f32⟩
  | 28 => ⟨S2x2x4096x2, .f32⟩
  | 29 => ⟨S2x2x4096x2, .f32⟩
  | 30 => ⟨S2x2x4096x2x4096, .f32⟩
  | 31 => ⟨S2x2x4096x2x4096, .f32⟩
  | 32 => ⟨S2x2x4096x2x4096, .f32⟩
  | 33 => ⟨S_, .f32⟩
  | 34 => ⟨S2x2x4096x2x4096, .f32⟩
  | 35 => ⟨S2x2x4096x2x4096, .f32⟩
  | 36 => ⟨S2x2x4096x2x4096, .f32⟩
  | 37 => ⟨S2x2x2x4096x64, .f32⟩
  | 38 => ⟨S2x2x4096x2x64, .f32⟩
  | 39 => ⟨S2x2x4096x64, .f32⟩
  | 40 => ⟨S2x4096x2x64, .f32⟩
  | 41 => ⟨S2x4096x128, .f32⟩
  | 42 => ⟨S2x4096x128, .f32⟩
  | 43 => ⟨S4x4096x128, .f32⟩
  | 44 => ⟨S4x4096x128, .bf16⟩
  | 45 => ⟨S2x4096x128, .bf16⟩
  | 46 => ⟨S2x4096x128, .bf16⟩
  | _ => ⟨S4x4096x128, .bf16⟩

abbrev hbmTy (i : Nat) : BufTy := match i / 128 with
  | 0 => hbmTy0_0 i
  | 1 => hbmTy0_1 i
  | _ => ⟨S4x4096x128, .bf16⟩

abbrev bufTy : (tb : Table) → Fin (tcTables nBuf tb) → BufTy
  | .hbm, ⟨i, _⟩ => hbmTy i
  | _, _ => ⟨S4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_call2_v0 : Ref sig .tc := ⟨.hbm, 75, rfl⟩
abbrev main_v53_1 : Ref sig .tc := ⟨.hbm, 76, rfl⟩
abbrev main_call2_v2 : Ref sig .tc := ⟨.hbm, 77, rfl⟩
abbrev main_v53_0 : Ref sig .tc := ⟨.hbm, 78, rfl⟩
abbrev main_call2_cst : Ref sig .tc := ⟨.hbm, 79, rfl⟩
abbrev main_v53_2 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_21 : Ref sig .tc := ⟨.hbm, 150, rfl⟩
abbrev main_v114 : Ref sig .tc := ⟨.hbm, 151, rfl⟩
abbrev main_v115 : Ref sig .tc := ⟨.hbm, 152, rfl⟩
abbrev main_cst_22 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_call3_cst : Ref sig .tc := ⟨.hbm, 161, rfl⟩
abbrev main_call3_v0 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩

abbrev nD : Nat := 1
abbrev τ : Topo := Topo.v7x

variable {F : FTy → Type} [FloatOps F]
-- ==== Kernel2.lean ====
abbrev S4096x1024 : Shape := ⟨2, ![4096, 1024]⟩
abbrev S4x4096x704 : Shape := ⟨3, ![4, 4096, 704]⟩
abbrev S2x4x1024x704 : Shape := ⟨4, ![2, 4, 1024, 704]⟩
abbrev S4x704x1024 : Shape := ⟨3, ![4, 704, 1024]⟩
abbrev S2048x1024 : Shape := ⟨2, ![2048, 1024]⟩
abbrev S1x2048x704 : Shape := ⟨3, ![1, 2048, 704]⟩
abbrev S2x1x1024x704 : Shape := ⟨4, ![2, 1, 1024, 704]⟩
abbrev S1x704x1024 : Shape := ⟨3, ![1, 704, 1024]⟩
abbrev S1024x704 : Shape := ⟨2, ![1024, 704]⟩
abbrev S704x1024 : Shape := ⟨2, ![704, 1024]⟩
abbrev S2048x704 : Shape := ⟨2, ![2048, 704]⟩
abbrev S1x1x1024x704 : Shape := ⟨4, ![1, 1, 1024, 704]⟩

abbrev nBuf : Space → Nat
  | .hbm => 7
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4x4096x704, .bf16⟩
  | .hbm, ⟨3, _⟩ => ⟨S4x4096x704, .bf16⟩
  | .hbm, ⟨4, _⟩ => ⟨S4096x1024, .bf16⟩
  | .hbm, ⟨5, _⟩ => ⟨S2x4x1024x704, .bf16⟩
  | .hbm, ⟨6, _⟩ => ⟨S4x704x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S2048x1024, .bf16⟩
  | .local _ .vmem, ⟨9, _⟩ => ⟨S2048x1024, .bf16⟩
  | .local _ .vmem, ⟨10, _⟩ => ⟨S2x1x1024x704, .bf16⟩
  | .local _ .vmem, ⟨11, _⟩ => ⟨S2x1x1024x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1024x704, .f32⟩
  | .local _ .vmem, ⟨15, _⟩ => ⟨S1024x704, .f32⟩
  | .local _ .vmem, ⟨16, _⟩ => ⟨S704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_27 : BitVec 32 := 0#32
  let v31 : BitVec 1 := Scalar.cmpi .ne v30 c0_i32_27
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4096x1024 : Shape := ⟨2, ![4096, 1024]⟩
abbrev S4x4096x704 : Shape := ⟨3, ![4, 4096, 704]⟩
abbrev S8x4096x704 : Shape := ⟨3, ![8, 4096, 704]⟩
abbrev S4096x8x704 : Shape := ⟨3, ![4096, 8, 704]⟩
abbrev S4096x5632 : Shape := ⟨2, ![4096, 5632]⟩
abbrev S_ : Shape := ⟨0, ![]⟩
abbrev S1024x5632 : Shape := ⟨2, ![1024, 5632]⟩
abbrev S2816x1024 : Shape := ⟨2, ![2816, 1024]⟩
abbrev S4096x4x704 : Shape := ⟨3, ![4096, 4, 704]⟩
abbrev S4096x2816 : Shape := ⟨2, ![4096, 2816]⟩
abbrev S1024x2816 : Shape := ⟨2, ![1024, 2816]⟩
abbrev S5632x1024 : Shape := ⟨2, ![5632, 1024]⟩
abbrev S1024x2x4x704 : Shape := ⟨4, ![1024, 2, 4, 704]⟩
abbrev S2x4x1024x704 : Shape := ⟨4, ![2, 4, 1024, 704]⟩
abbrev S4x704x1024 : Shape := ⟨3, ![4, 704, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4x4096x704, .bf16⟩
  | .hbm, ⟨3, _⟩ => ⟨S4x4096x704, .bf16⟩
  | .hbm, ⟨4, _⟩ => ⟨S4096x1024, .bf16⟩
  | .hbm, ⟨5, _⟩ => ⟨S8x4096x704, .bf16⟩
  | .hbm, ⟨6, _⟩ => ⟨S4096x8x704, .bf16⟩
  | .hbm, ⟨7, _⟩ => ⟨S4096x5632, .bf16⟩
  | .hbm, ⟨8, _⟩ => ⟨S_, .f32⟩
  | .hbm, ⟨9, _⟩ => ⟨S1024x5632, .f32⟩
  | .hbm, ⟨10, _⟩ => ⟨S_, .f32⟩
  | .hbm, ⟨11, _⟩ => ⟨S2816x1024, .f32⟩
  | .hbm, ⟨12, _⟩ => ⟨S4096x1024, .f32⟩
  | .hbm, ⟨13, _⟩ => ⟨S4096x5632, .f32⟩
  | .hbm, ⟨14, _⟩ => ⟨S4096x4x704, .bf16⟩
  | .hbm, ⟨15, _⟩ => ⟨S4096x2816, .bf16⟩
  | .hbm, ⟨16, _⟩ => ⟨S4096x2816, .f32⟩
  | .hbm, ⟨17, _⟩ => ⟨S4096x1024, .f32⟩
  | .hbm, ⟨18, _⟩ => ⟨S4096x5632, .f32⟩
  | .hbm, ⟨19, _⟩ => ⟨S4096x1024, .f32⟩
  | .hbm, ⟨20, _⟩ => ⟨S1024x2816, .f32⟩
  | .hbm, ⟨21, _⟩ => ⟨S2816x1024, .f32⟩
  | .hbm, ⟨22, _⟩ => ⟨S5632x1024, .f32⟩
  | .hbm, ⟨23, _⟩ => ⟨S1024x5632, .f32⟩
  | .hbm, ⟨24, _⟩ => ⟨S1024x2x4x704, .f32⟩
  | .hbm, ⟨25, _⟩ => ⟨S2x4x1024x704, .f32⟩
  | .hbm, ⟨26, _⟩ => ⟨S2x4x1024x704, .bf16⟩
  | .hbm, ⟨27, _⟩ => ⟨S4x704x1024, .f32⟩
  | .hbm, ⟨28, _⟩ => ⟨S4x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S8x2x1024x704 : Shape := ⟨4, ![8, 2, 1024, 704]⟩
abbrev S8x1024x1024 : Shape := ⟨3, ![8, 1024, 1024]⟩
abbrev S4x4096x704 : Shape := ⟨3, ![4, 4096, 704]⟩
abbrev S1024x1024 : Shape := ⟨2, ![1024, 1024]⟩
abbrev S1x1x1024x704 : Shape := ⟨4, ![1, 1, 1024, 704]⟩
abbrev S2x352x1024 : Shape := ⟨3, ![2, 352, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S512x1024 : Shape := ⟨2, ![512, 1024]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 9
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x2x1024x704, .bf16⟩
  | .hbm, ⟨3, _⟩ => ⟨S8x1024x1024, .bf16⟩
  | .hbm, ⟨4, _⟩ => ⟨S4096x1024, .f32⟩
  | .hbm, ⟨5, _⟩ => ⟨S4096x1024, .bf16⟩
  | .hbm, ⟨6, _⟩ => ⟨S4x4096x704, .bf16⟩
  | .hbm, ⟨7, _⟩ => ⟨S4x4096x704, .bf16⟩
  | .hbm, ⟨8, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S2x352x1024, .bf16⟩
  | .local _ .vmem, ⟨8, _⟩ => ⟨S2x352x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .bf16⟩
  | .local _ .vmem, ⟨20, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v73 : BitVec 1 := Scalar.cmpi .eq arg1 c3_i32
  let v74 : BitVec 32 := Scalar.extui v73
  let c0_i32_59 : BitVec 32 := 0#32
  let v75 : BitVec 1 := Scalar.cmpi .ne v74 c0_i32_59
  v75

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c1_i32 : BitVec 32 := 1#32
  let c0_i32 : BitVec 32 := 0#32
  let c0_i32_0 : BitVec 32 := 0#32
  let c0_i32_1 : BitVec 32 := 0#32
  ![v0.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4096x1024 : Shape := ⟨2, ![4096, 1024]⟩
abbrev S1x1024 : Shape := ⟨2, ![1, 1024]⟩
abbrev S8x2x1024x704 : Shape := ⟨4, ![8, 2, 1024, 704]⟩
abbrev S8x1024x1024 : Shape := ⟨3, ![8, 1024, 1024]⟩
abbrev S8x1x1024x704 : Shape := ⟨4, ![8, 1, 1024, 704]⟩
abbrev S8x1024x704 : Shape := ⟨3, ![8, 1024, 704]⟩
abbrev S1024x8x704 : Shape := ⟨3, ![1024, 8, 704]⟩
abbrev S1024x5632 : Shape := ⟨2, ![1024, 5632]⟩
abbrev S8x352x1024 : Shape := ⟨3, ![8, 352, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x2x1024x704, .bf16⟩
  | .hbm, ⟨3, _⟩ => ⟨S8x1024x1024, .bf16⟩
  | .hbm, ⟨4, _⟩ => ⟨S8x1x1024x704, .bf16⟩
  | .hbm, ⟨5, _⟩ => ⟨S8x1024x704, .bf16⟩
  | .hbm, ⟨6, _⟩ => ⟨S1024x8x704, .bf16⟩
  | .hbm, ⟨7, _⟩ => ⟨S1024x5632, .bf16⟩
  | .hbm, ⟨8, _⟩ => ⟨S1024x5632, .f32⟩
  | .hbm, ⟨9, _⟩ => ⟨S8x352x1024, .bf16⟩
  | .hbm, ⟨10, _⟩ => ⟨S2816x1024, .bf16⟩
  | .hbm, ⟨11, _⟩ => ⟨S2816x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x4x704, .f32⟩
  | .hbm, ⟨49, _⟩ => ⟨S4x4096x704, .f32⟩
  | .hbm, ⟨50, _⟩ => ⟨S4x4096x704, .bf16⟩
  | .hbm, ⟨51, _⟩ => ⟨S4096x4x704, .f32⟩
  | .hbm, ⟨52, _⟩ => ⟨S4x4096x704, .f32⟩
  | .hbm, ⟨53, _⟩ => ⟨S4x4096x704, .bf16⟩
  | .hbm, ⟨54, _⟩ => ⟨S4096x4x704, .f32⟩
  | .hbm, ⟨55, _⟩ => ⟨S4x4096x704, .f32⟩
  | .hbm, ⟨56, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S8x2x1024x704 : Shape := ⟨4, ![8, 2, 1024, 704]⟩
abbrev S8x1024x1024 : Shape := ⟨3, ![8, 1024, 1024]⟩
abbrev S8x1x1024x704 : Shape := ⟨4, ![8, 1, 1024, 704]⟩
abbrev S8x1024x704 : Shape := ⟨3, ![8, 1024, 704]⟩
abbrev S1024x8x704 : Shape := ⟨3, ![1024, 8, 704]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S512x1024 : Shape := ⟨2, ![512, 1024]⟩
abbrev S1x512x704 : Shape := ⟨3, ![1, 512, 704]⟩
abbrev S1x1x1024x704 : Shape := ⟨4, ![1, 1, 1024, 704]⟩
abbrev S2x352x1024 : Shape := ⟨3, ![2, 352, 1024]⟩
abbrev S704x1024 : Shape := ⟨2, ![704, 1024]⟩
abbrev S256x1024 : Shape := ⟨2, ![256, 1024]⟩
abbrev S256x704 : Shape := ⟨2, ![256, 704]⟩
abbrev S1x256x704 : Shape := ⟨3, ![1, 256, 704]⟩
abbrev S1024x704 : Shape := ⟨2, ![1024, 704]⟩
abbrev S512 : Shape := ⟨1, ![512]⟩
abbrev S512x1 : Shape := ⟨2, ![512, 1]⟩

abbrev nBuf : Space → Nat
  | .hbm => 41
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S8x2x1024x704, .bf16⟩
  | .hbm, ⟨4, _⟩ => ⟨S8x1024x1024, .bf16⟩
  | .hbm, ⟨5, _⟩ => ⟨S8x1x1024x704, .bf16⟩
  | .hbm, ⟨6, _⟩ => ⟨S8x1024x704, .bf16⟩
  | .hbm, ⟨7, _⟩ => ⟨S1024x8x704, .bf16⟩
  | .hbm, ⟨8, _⟩ => ⟨S1024x5632, .bf16⟩
  | .hbm, ⟨9, _⟩ => ⟨S1024x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x4x704, .f32⟩
  | .hbm, ⟨31, _⟩ => ⟨S4x4096x704, .f32⟩
  | .hbm, ⟨32, _⟩ => ⟨S4x4096x704, .bf16⟩
  | .hbm, ⟨33, _⟩ => ⟨S4096x4x704, .f32⟩
  | .hbm, ⟨34, _⟩ => ⟨S4x4096x704, .f32⟩
  | .hbm, ⟨35, _⟩ => ⟨S4x4096x704, .bf16⟩
  | .hbm, ⟨36, _⟩ => ⟨S4096x1024, .f32⟩
  | .hbm, ⟨37, _⟩ => ⟨S4096x1024, .bf16⟩
  | .hbm, ⟨38, _⟩ => ⟨S4x4096x704, .bf16⟩
  | .hbm, ⟨39, _⟩ => ⟨S4x4096x704, .bf16⟩
  | .hbm, ⟨40, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x1x1024x704, .bf16⟩
  | .local _ .vmem, ⟨10, _⟩ => ⟨S1x1x1024x704, .bf16⟩
  | .local _ .vmem, ⟨11, _⟩ => ⟨S1x1x1024x704, .bf16⟩
  | .local _ .vmem, ⟨12, _⟩ => ⟨S1x1x1024x704, .bf16⟩
  | .local _ .vmem, ⟨13, _⟩ => ⟨S2x352x1024, .bf16⟩
  | .local _ .vmem, ⟨14, _⟩ => ⟨S2x352x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x1024, .f32⟩
  | .local _ .vmem, ⟨24, _⟩ => ⟨S512x1024, .bf16⟩
  | .local _ .vmem, ⟨25, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v28_3 : Ref sig .tc := ⟨.hbm, 39, rfl⟩
abbrev main_v28_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v95 : BitVec 1 := Scalar.cmpi .eq arg1 c3_i32
  let v96 : BitVec 32 := Scalar.extui v95
  let c0_i32_69 : BitVec 32 := 0#32
  let v97 : BitVec 1 := Scalar.cmpi .ne v96 c0_i32_69
  v97

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_86 : BitVec 32 := 0#32
  let v129 : BitVec 1 := Scalar.cmpi .eq arg0 c0_i32_86
  let v130 : BitVec 32 := Scalar.extui v129
  let c0_i32_87 : BitVec 32 := 0#32
  let v131 : BitVec 1 := Scalar.cmpi .ne v130 c0_i32_87
  v131

def k0_cond4 (i : grid0.Coords) : BitVec 1 :=
  let arg0 : BitVec 32 := BitVec.ofNat 32 (i 0).val
  let c0_i32_88 : BitVec 32 := 0#32
  let v132 : BitVec 1 := Scalar.cmpi .sgt arg0 c0_i32_88
  let v133 : BitVec 32 := Scalar.extui v132
  let c0_i32_89 : BitVec 32 := 0#32
  let v134 : BitVec 1 := Scalar.cmpi .ne v133 c0_i32_89
  v134

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c1_i32 : BitVec 32 := 1#32
  let c0_i32 : BitVec 32 := 0#32
  let c0_i32_0 : BitVec 32 := 0#32
  let c0_i32_1 : BitVec 32 := 0#32
  ![v0.toNat, c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference4Ideal.lean ====
abbrev S4096x1024 : Shape := ⟨2, ![4096, 1024]⟩
abbrev S1x1024 : Shape := ⟨2, ![1, 1024]⟩
abbrev S8x2x1024x704 : Shape := ⟨4, ![8, 2, 1024, 704]⟩
abbrev S8x1024x1024 : Shape := ⟨3, ![8, 1024, 1024]⟩
abbrev S8x1x1024x704 : Shape := ⟨4, ![8, 1, 1024, 704]⟩
abbrev S8x1024x704 : Shape := ⟨3, ![8, 1024, 704]⟩
abbrev S1024x8x704 : Shape := ⟨3, ![1024, 8, 704]⟩
abbrev S1024x5632 : Shape := ⟨2, ![1024, 5632]⟩
abbrev S8x352x1024 : Shape := ⟨3, ![8, 352, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S8x2x1024x704, .bf16⟩
  | .hbm, ⟨4, _⟩ => ⟨S8x1024x1024, .bf16⟩
  | .hbm, ⟨5, _⟩ => ⟨S8x1x1024x704, .bf16⟩
  | .hbm, ⟨6, _⟩ => ⟨S8x1024x704, .bf16⟩
  | .hbm, ⟨7, _⟩ => ⟨S1024x8x704, .bf16⟩
  | .hbm, ⟨8, _⟩ => ⟨S1024x5632, .bf16⟩
  | .hbm, ⟨9, _⟩ => ⟨S1024x5632, .f32⟩
  | .hbm, ⟨10, _⟩ => ⟨S8x352x1024, .bf16⟩
  | .hbm, ⟨11, _⟩ => ⟨S2816x1024, .bf16⟩
  | .hbm, ⟨12, _⟩ => ⟨S2816x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x5632, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .bf16⟩
  | .hbm, ⟨97, _⟩ => ⟨S4096x4x704, .f32⟩
  | .hbm, ⟨98, _⟩ => ⟨S4x4096x704, .f32⟩
  | .hbm, ⟨99, _⟩ => ⟨S4x4096x704, .bf16⟩
  | .hbm, ⟨100, _⟩ => ⟨S4096x4x704, .f32⟩
  | .hbm, ⟨101, _⟩ => ⟨S4x4096x704, .f32⟩
  | .hbm, ⟨102, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v28_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v28_1 : Ref sig .tc := ⟨.hbm, 48, rfl⟩
abbrev main_v28_0 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== Proof.Block.lean ====
module

public import proofs.«01_k».proof.Proof.Gen.KernelIdeal.Frame
public import proofs.«01_k».proof.Proof.Gen.KernelIdeal.Loops

/-! The loop body of the attention gradient, read as sixteen runs of ONE block program.

One trip of the kernel's loop handles sixteen blocks of 128 query rows. The printed text repeats the
same operations for each of them; here the block is written once, over the block's number `r` in the
trip, with its arithmetic as named functions, and the printed trip is shown to be its sixteen runs. -/

@[expose] public section

noncomputable section

namespace Cert.KernelIdeal.Band

open Idealize.ShloMosaic Idealize.SL.Sem
open Cert.KernelIdeal.Gen

variable {F : FTy → Type} [FloatOps F]

/-! ## The masks -/

/-- The lanes of the first head of a packed pair. -/
def laneLo : IVec S128x128 1 :=
  cmpi .slt (iota .tc S128x128 32 [1] iota_S128x128_d1_w32) (broadcast S128x128 64#32)

/-- The first 128 columns of a row of 256. -/
def colLo : IVec S1x256 1 :=
  cmpi .slt (iota .tc S1x256 32 [1] iota_S1x256_d1_w32) (broadcast S1x256 128#32)

/-- The divisor 64 as the printed floor remainder chooses it. -/
def div64 : BitVec 32 := Scalar.select (Scalar.cmpi .eq 64#32 0#32) 1#32 64#32

/-- The floor remainder by 64, lane by lane. -/
def mod64 (x : IVec S128x128 32) : IVec S128x128 32 :=
  have r : IVec S128x128 32 := remsi x (broadcast S128x128 div64)
  have s : IVec S128x128 1 :=
    xori (cmpi .slt r (broadcast S128x128 0#32))
      (broadcastTo S128x128 (broadcast S128x128 (Scalar.cmpi .slt div64 0#32)) broadcasts_S128x128_S128x128)
  select (andi s (cmpi .ne r (broadcast S128x128 0#32))) (addi r (broadcast S128x128 div64)) r

/-- Row and lane have the same remainder by 64. -/
def diag64 : IVec S128x128 1 :=
  cmpi .eq (mod64 (iota .tc S128x128 32 [1] iota_S128x128_d1_w32))
    (mod64 (iota .tc S128x128 32 [0] iota_S128x128_d0_w32))

/-- The diagonal entries of the upper 64 rows. -/
def diagTop : IVec S128x128 1 :=
  andi diag64 (cmpi .slt (iota .tc S128x128 32 [0] iota_S128x128_d0_w32) (broadcast S128x128 64#32))

/-- The diagonal entries of the lower 64 rows. -/
def diagBot : IVec S128x128 1 :=
  andi diag64 (cmpi .sge (iota .tc S128x128 32 [0] iota_S128x128_d0_w32) (broadcast S128x128 64#32))

/-- The first 64 lanes of an 8-row strip. -/
def stripLo : IVec S8x128 1 :=
  cmpi .slt (iota .tc S8x128 32 [1] iota_S8x128_d1_w32) (broadcast S8x128 64#32)

/-! ## The arithmetic of one block -/

/-- A tile of zeros. -/
def zeros : FVec F S128x128 .f32 := broadcast S128x128 (Scalar.ofBits .f32 0x00000000#32)

/-- A bf16 tile of zeros. -/
def zerosB : FVec F S128x128 .bf16 := broadcast S128x128 (Scalar.ofBits .bf16 0x0000#16)

/-- The column sums of a masked tile, as one row repeated over a strip. -/
def colSum (mask : IVec S128x128 1) (x : FVec F S128x128 .f32) : FVec F S8x128 .f32 :=
  broadcastTo S8x128
    (shapeCast S1x128
      (shapeCast S1x128
        (multiReduction .add [0] S128 (select mask x zeros) 0x00000000#32 reduces_S128x128_S128 (.inl rfl) rfl)
        shapeCasts_S128_S1x128)
      shapeCasts_S1x128_S1x128)
    broadcasts_S1x128_S8x128

/-- From a tile that is constant over each head's lanes, the row of both heads' values by query row. -/
def rowVec (x : FVec F S128x128 .f32) : FVec F S1x256 .f32 :=
  have top : FVec F S8x128 .f32 := colSum diagTop x
  have bot : FVec F S8x128 .f32 := colSum diagBot x
  extractStridedSlice S1x256 ![0, 0]
    (concatenate S8x256 1
      [⟨S8x128, select stripLo top (dynamicRotate 1 64#32 none bot rotates_S8x128_d1)⟩,
       ⟨S8x128, select stripLo (dynamicRotate 1 64#32 none top rotates_S8x128_d1) bot⟩]
      concatenates_S8x128_S8x128_S8x256_d1)
    slices_S8x256_o0_0_S1x256

/-- Row sums of a tile, as a tile constant along each row. -/
def rowSum (x : FVec F S128x128 .f32) : FVec F S128x128 .f32 :=
  broadcastTo S128x128
    (shapeCast S128x1
      (shapeCast S128x1
        (multiReduction .add [1] S128 x 0x00000000#32 reduces_S128x128_S128_2 (.inl rfl) rfl)
        shapeCasts_S128_S128x1)
      shapeCasts_S128x1_S128x1)
    broadcasts_S128x1_S128x128

/-- Each head's row sums, over that head's lanes. -/
def halfSum (x : FVec F S128x128 .f32) : FVec F S128x128 .f32 :=
  select laneLo (rowSum (select laneLo x zeros)) (rowSum (select laneLo zeros x))

/-- The two heads of a packed pair one above the other, each zero outside its own lanes. -/
def stack (x : FVec F S128x128 .bf16) : FVec F S256x128 .bf16 :=
  concatenate S256x128 0 [⟨S128x128, select laneLo x zerosB⟩, ⟨S128x128, select laneLo zerosB x⟩]
    concatenates_S128x128_S128x128_S256x128_d0

/-- A loaded tile of queries without its leading axis. -/
def tileB (x : Vec F S1x128x128 .bf16) : FVec F S128x128 .bf16 :=
  shapeCast S128x128 x shapeCasts_S1x128x128_S128x128

/-- A loaded f32 tile without its leading axis. -/
def tileF (x : Vec F S1x128x128 .f32) : FVec F S128x128 .f32 :=
  shapeCast S128x128 x shapeCasts_S1x128x128_S128x128

/-- A loaded key window without its leading axis. -/
def winB (x : Vec F S1x384x128 .bf16) : FVec F S384x128 .bf16 :=
  shapeCast S384x128 x shapeCasts_S1x384x128_S384x128

/-- The probabilities of a block, keys by rows, both heads' queries by columns. -/
def probs (q : Vec F S1x128x128 .bf16) (k : Vec F S1x384x128 .bf16) (lse : Vec F S1x128x128 .f32)
    (bias : Vec F S1x1x384x256 .f32) : FVec F S384x256 .f32 :=
  exp (subf
    (addf (matmul dot_S384x128_S256x128_S384x256_1_1_0_0_n_n none (winB k) (stack (tileB q))
        (constant S384x256 .f32 0x00000000#32))
      (shapeCast S384x256 bias shapeCasts_S1x1x384x256_S384x256))
    (broadcastTo S384x256 (rowVec (tileF lse)) broadcasts_S1x256_S384x256))

/-- The row of each query's sum of output times its gradient. -/
def delta (dO : Vec F S1x128x128 .bf16) (o : Vec F S1x128x128 .f32) : FVec F S1x256 .f32 :=
  rowVec (halfSum (mulf (extf .f32 (tileB dO) bitsLt_bf16_f32) (tileF o)))

/-- The gradient of the scores of a block. -/
def dscores (q : Vec F S1x128x128 .bf16) (k v : Vec F S1x384x128 .bf16) (dO : Vec F S1x128x128 .bf16)
    (lse o : Vec F S1x128x128 .f32) (bias : Vec F S1x1x384x256 .f32) : FVec F S384x256 .f32 :=
  mulf (probs q k lse bias)
    (subf
      (matmul dot_S384x128_S256x128_S384x256_1_1_0_0_n_n none (winB v) (stack (tileB dO))
        (constant S384x256 .f32 0x00000000#32))
      (broadcastTo S384x256 (delta dO o) broadcasts_S1x256_S384x256))

/-- The block's query gradient. -/
def dqTile (ds : FVec F S384x256 .f32) (k : Vec F S1x384x128 .bf16) : Vec F S1x128x128 .bf16 :=
  have d : FVec F S256x128 .f32 :=
    matmul dot_S384x256_S384x128_S256x128_0_0_1_1_n_n none (truncf .bf16 ds bitsLt_bf16_f32) (winB k)
      (constant S256x128 .f32 0x00000000#32)
  shapeCast S1x128x128
    (truncf .bf16
      (select laneLo (extractStridedSlice S128x128 ![0, 0] d slices_S256x128_o0_0_S128x128)
        (extractStridedSlice S128x128 ![128, 0] d slices_S256x128_o128_0_S128x128))
      bitsLt_bf16_f32)
    shapeCasts_S128x128_S1x128x128

/-- A key window's accumulator `a` with the block's contribution added: `w` (keys by queries) times
    the stacked queries or output gradients `x`. -/
def accWin (a : Vec F S1x384x128 .f32) (w : FVec F S384x256 .f32) (x : Vec F S1x128x128 .bf16) :
    Vec F S1x384x128 .f32 :=
  shapeCast S1x384x128
    (addf (shapeCast S384x128 a shapeCasts_S1x384x128_S384x128)
      (matmul dot_S384x256_S256x128_S384x128_1_0_0_1_n_n none (truncf .bf16 w bitsLt_bf16_f32)
        (stack (tileB x)) (constant S384x128 .f32 0x00000000#32)))
    shapeCasts_S384x128_S1x384x128

/-- The bias gradient's accumulator with the block's score gradient added. -/
def accBias (a : Vec F S1x1x384x256 .f32) (ds : FVec F S384x256 .f32) : Vec F S1x1x384x256 .f32 :=
  shapeCast S1x1x384x256 (addf (shapeCast S384x256 a shapeCasts_S1x1x384x256_S384x256) ds)
    shapeCasts_S384x256_S1x1x384x256

/-- The sink gradient's row with the block's contribution taken off. -/
def accSink (a : Vec F S1x1x256 .f32) (s0 s1 : Elt F .f32) (lse : Vec F S1x128x128 .f32)
    (dl : FVec F S1x256 .f32) : Vec F S1x1x256 .f32 :=
  shapeCast S1x1x256
    (subf (shapeCast S1x256 a shapeCasts_S1x1x256_S1x256)
      (mulf (exp (subf (select colLo (broadcast S1x256 s0) (broadcast S1x256 s1)) (rowVec (tileF lse)))) dl))
    shapeCasts_S1x256_S1x1x256

/-! ## The block's program -/

section Prog
variable (i : grid0.Coords) (arg1 : Memref sig .tc .smem S8 .f32) (arg2 : Memref sig .tc .vmem S1x4096x128 .bf16) (arg3 : Memref sig .tc .vmem S1x4096x128 .bf16) (arg4 : Memref sig .tc .vmem S1x4096x128 .bf16) (arg5 : Memref sig .tc .vmem S1x3x384x256 .f32) (arg6 : Memref sig .tc .vmem S1x4096x128 .f32) (arg7 : Memref sig .tc .vmem S1x4096x128 .f32) (arg8 : Memref sig .tc .vmem S1x4096x128 .bf16) (arg9 : Memref sig .tc .vmem S1x4096x128 .bf16) (harg9 : arg9.IsWhole) (arg12 : Memref sig .tc .vmem S1x3x384x256 .f32) (arg13 : Memref sig .tc .vmem S1x8x256 .f32) (arg14 : Memref sig .tc .vmem S1x4096x128 .f32) (arg15 : Memref sig .tc .vmem S1x4096x128 .f32) (k0_t1 : Fin k0_t1_loop.trips)

/-- One block of a trip: its loads, the arithmetic above, and its stores. -/
def blk (r : Fin 16) : Prog (TpuEff nD τ sig (Elt F) Λ₀ .tc) PUnit := do
  let s0 : Elt F .f32 ← smemLoad arg1 (Rect.unit (s := S8) (k0_off1 i k0_t1 (BitVec.ofNat 32 r)) S1.size (k0_off1_inb i k0_t1 r)) numel1_S1 rfl
  let s1 : Elt F .f32 ← smemLoad arg1 (Rect.unit (s := S8) (k0_off2 i k0_t1 (BitVec.ofNat 32 r)) S1.size (k0_off2_inb i k0_t1 r)) numel1_S1 rfl
  let q : Vec F S1x128x128 .bf16 ← Prog.lift (.load arg2 (Rect.unit (s := S1x4096x128) (k0_off3 k0_t1 (BitVec.ofNat 32 r)) S1x128x128.size (k0_off3_inb k0_t1 r)).toLoadRect (View.loadsAt_vmem h_S1x128x128))
  let k : Vec F S1x384x128 .bf16 ← Prog.lift (.load arg3 (Rect.unit (s := S1x4096x128) (k0_off4 k0_t1 (BitVec.ofNat 32 r)) S1x384x128.size (k0_off4_inb k0_t1 r)).toLoadRect (View.loadsAt_vmem h_S1x384x128))
  let v : Vec F S1x384x128 .bf16 ← Prog.lift (.load arg4 (Rect.unit (s := S1x4096x128) (k0_off4 k0_t1 (BitVec.ofNat 32 r)) S1x384x128.size (k0_off4_inb k0_t1 r)).toLoadRect (View.loadsAt_vmem h_S1x384x128))
  let dO : Vec F S1x128x128 .bf16 ← Prog.lift (.load arg8 (Rect.unit (s := S1x4096x128) (k0_off3 k0_t1 (BitVec.ofNat 32 r)) S1x128x128.size (k0_off3_inb k0_t1 r)).toLoadRect (View.loadsAt_vmem h_S1x128x128))
  let lse : Vec F S1x128x128 .f32 ← Prog.lift (.load arg7 (Rect.unit (s := S1x4096x128) (k0_off3 k0_t1 (BitVec.ofNat 32 r)) S1x128x128.size (k0_off3_inb k0_t1 r)).toLoadRect (View.loadsAt_vmem h_S1x128x128))
  let o : Vec F S1x128x128 .f32 ← Prog.lift (.load arg6 (Rect.unit (s := S1x4096x128) (k0_off3 k0_t1 (BitVec.ofNat 32 r)) S1x128x128.size (k0_off3_inb k0_t1 r)).toLoadRect (View.loadsAt_vmem h_S1x128x128))
  let b : Vec F S1x1x384x256 .f32 ← Prog.lift (.load arg5 (Rect.unit (s := S1x3x384x256) (k0_off5 k0_t1 (BitVec.ofNat 32 r)) S1x1x384x256.size (k0_off5_inb k0_t1 r)).toLoadRect (View.loadsAt_vmem h_S1x1x384x256))
  let e : Vec F S1x1x384x256 .f32 ← Prog.lift (.load arg12 (Rect.unit (s := S1x3x384x256) (k0_off5 k0_t1 (BitVec.ofNat 32 r)) S1x1x384x256.size (k0_off5_inb k0_t1 r)).toLoadRect (View.loadsAt_vmem h_S1x1x384x256))
  let _ : Vec F S1x1x384x256 .f32 ← Prog.lift (.load arg12 (Rect.unit (s := S1x3x384x256) (k0_off5 k0_t1 (BitVec.ofNat 32 r)) S1x1x384x256.size (k0_off5_inb k0_t1 r)).toLoadRect (View.loadsAt_vmem h_S1x1x384x256))
  Prog.lift (.store arg12 (Rect.unit (s := S1x3x384x256) (k0_off5 k0_t1 (BitVec.ofNat 32 r)) S1x1x384x256.size (k0_off5_inb k0_t1 r)) (accBias e (dscores q k v dO lse o b)) Finset.univ (View.stores_vmem_bits_univ h_S1x1x384x256 rfl) (.inl rfl))
  let ak : Vec F S1x384x128 .f32 ← Prog.lift (.load arg14 (Rect.unit (s := S1x4096x128) (k0_off4 k0_t1 (BitVec.ofNat 32 r)) S1x384x128.size (k0_off4_inb k0_t1 r)).toLoadRect (View.loadsAt_vmem h_S1x384x128))
  let _ : Vec F S1x384x128 .f32 ← Prog.lift (.load arg14 (Rect.unit (s := S1x4096x128) (k0_off4 k0_t1 (BitVec.ofNat 32 r)) S1x384x128.size (k0_off4_inb k0_t1 r)).toLoadRect (View.loadsAt_vmem h_S1x384x128))
  Prog.lift (.store arg14 (Rect.unit (s := S1x4096x128) (k0_off4 k0_t1 (BitVec.ofNat 32 r)) S1x384x128.size (k0_off4_inb k0_t1 r)) (accWin ak (dscores q k v dO lse o b) q) Finset.univ (View.stores_vmem_bits_univ h_S1x384x128 rfl) (.inl rfl))
  let av : Vec F S1x384x128 .f32 ← Prog.lift (.load arg15 (Rect.unit (s := S1x4096x128) (k0_off4 k0_t1 (BitVec.ofNat 32 r)) S1x384x128.size (k0_off4_inb k0_t1 r)).toLoadRect (View.loadsAt_vmem h_S1x384x128))
  let _ : Vec F S1x384x128 .f32 ← Prog.lift (.load arg15 (Rect.unit (s := S1x4096x128) (k0_off4 k0_t1 (BitVec.ofNat 32 r)) S1x384x128.size (k0_off4_inb k0_t1 r)).toLoadRect (View.loadsAt_vmem h_S1x384x128))
  Prog.lift (.store arg15 (Rect.unit (s := S1x4096x128) (k0_off4 k0_t1 (BitVec.ofNat 32 r)) S1x384x128.size (k0_off4_inb k0_t1 r)) (accWin av (probs q k lse b) dO) Finset.univ (View.stores_vmem_bits_univ h_S1x384x128 rfl) (.inl rfl))
  let _ : Vec F S1x128x128 .bf16 ← Prog.lift (.load arg9 (Rect.unit (s := S1x4096x128) (k0_off3 k0_t1 (BitVec.ofNat 32 r)) S1x128x128.size (k0_off3_inb k0_t1 r)).toLoadRect (View.loadsAt_vmem h_S1x128x128))
  Prog.lift (.store arg9 (Rect.unit (s := S1x4096x128) (k0_off3 k0_t1 (BitVec.ofNat 32 r)) S1x128x128.size (k0_off3_inb k0_t1 r)) (dqTile (dscores q k v dO lse o b) k) Finset.univ (View.stores_vmem h_S1x128x128 (harg9.storeExact_slice rfl _ (k0_off3_packedbf16 k0_t1 r)) (fun _ => rfl)) (.inl rfl))
  let t : Vec F S1x1x256 .f32 ← Prog.lift (.load arg13 (Rect.unit (s := S1x8x256) (k0_off6 k0_t1 (BitVec.ofNat 32 r)) S1x1x256.size (k0_off6_inb k0_t1 r)).toLoadRect (View.loadsAt_vmem h_S1x1x256))
  let _ : Vec F S1x1x256 .f32 ← Prog.lift (.load arg13 (Rect.unit (s := S1x8x256) (k0_off6 k0_t1 (BitVec.ofNat 32 r)) S1x1x256.size (k0_off6_inb k0_t1 r)).toLoadRect (View.loadsAt_vmem h_S1x1x256))
  Prog.lift (.store arg13 (Rect.unit (s := S1x8x256) (k0_off6 k0_t1 (BitVec.ofNat 32 r)) S1x1x256.size (k0_off6_inb k0_t1 r)) (accSink t s0 s1 lse (delta dO o)) Finset.univ (View.stores_vmem_bits_univ h_S1x1x256 rfl) (.inl rfl))
  pure ⟨⟩

/-- The blocks of a list, one after the other. -/
def blks : List (Fin 16) → Prog (TpuEff nD τ sig (Elt F) Λ₀ .tc) PUnit
  | [] => pure ⟨⟩
  | r :: rs => do
    blk i arg1 arg2 arg3 arg4 arg5 arg6 arg7 arg8 arg9 harg9 arg12 arg13 arg14 arg15 k0_t1 r
    blks rs

end Prog

/-- The printed trip IS its sixteen blocks. -/
theorem trip_eq (i : grid0.Coords) (arg1 : Memref sig .tc .smem S8 .f32) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x3x384x256 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x3x384x256 .f32) (harg12 : arg12.IsWhole) (arg13 : Memref sig .tc .vmem S1x8x256 .f32) (harg13 : arg13.IsWhole) (arg14 : Memref sig .tc .vmem S1x4096x128 .f32) (harg14 : arg14.IsWhole) (arg15 : Memref sig .tc .vmem S1x4096x128 .f32) (harg15 : arg15.IsWhole) (arg0 : BitVec 32) (k0_t1 : Fin k0_t1_loop.trips) :
    Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 laneLo colLo k0_t1 ()
      = blks i arg1 arg2 arg3 arg4 arg5 arg6 arg7 arg8 arg9 harg9 arg12 arg13 arg14 arg15 k0_t1 [0, 1, 2, 3, 4, 5, 6, 7, 8, 9, 10, 11, 12, 13, 14, 15] := by
  rfl

end Cert.KernelIdeal.Band
-- ==== Proof.Step.lean ====
module

public import proofs.«01_k».proof.Proof.Block
public import Idealize.ShloMosaic.Lib.VecWindow
public import Idealize.ShloMosaic.Lib.Claim

/-! The run of one block and of one trip of the attention gradient's loop.

A block reads its window of each input and leaves the query gradient's tile put in place and its
contribution added to the key and value accumulators; a trip does so for its sixteen blocks in order.
The bias and sink gradients are left at contents that nothing here describes. -/

@[expose] public section

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (UR sig nD τ) ℕ

/-- The block arrays that a grid point's body reads (the sinks apart). -/
structure Ins (F : FTy → Type) where
  /-- The packed queries. -/
  q : Vec F S1x4096x128 .bf16
  /-- The key head, once per lane half. -/
  k : Vec F S1x4096x128 .bf16
  /-- The value head, once per lane half. -/
  v : Vec F S1x4096x128 .bf16
  /-- The three variants of the transposed bias. -/
  b : Vec F S1x3x384x256 .f32
  /-- The attention's output. -/
  o : Vec F S1x4096x128 .f32
  /-- The log of the softmax's denominator, over each head's lanes. -/
  lse : Vec F S1x4096x128 .f32
  /-- The gradient of the output. -/
  dO : Vec F S1x4096x128 .bf16

section Blocks
variable (x : Ins F) (t : Fin k0_t1_loop.trips) (r : Fin 16)

/-- The block's query rows of a packed array. -/
abbrev rows {e : EltTy} (a : Vec F S1x4096x128 e) : Vec F S1x128x128 e :=
  window a (k0_off3 t (BitVec.ofNat 32 r)) S1x128x128.size (k0_off3_inb t r)

/-- The block's key window of a packed array. -/
abbrev keys {e : EltTy} (a : Vec F S1x4096x128 e) : Vec F S1x384x128 e :=
  window a (k0_off4 t (BitVec.ofNat 32 r)) S1x384x128.size (k0_off4_inb t r)

/-- The block's variant of the bias. -/
abbrev biasOf (a : Vec F S1x3x384x256 .f32) : Vec F S1x1x384x256 .f32 :=
  window a (k0_off5 t (BitVec.ofNat 32 r)) S1x1x384x256.size (k0_off5_inb t r)

/-- The block's probabilities. -/
def blkP : FVec F S384x256 .f32 := probs (rows t r x.q) (keys t r x.k) (rows t r x.lse) (biasOf t r x.b)

/-- The block's score gradient. -/
def blkD : FVec F S384x256 .f32 :=
  dscores (rows t r x.q) (keys t r x.k) (keys t r x.v) (rows t r x.dO) (rows t r x.lse) (rows t r x.o) (biasOf t r x.b)

/-- The query gradient with the block's tile put in place. -/
def stepQ (d : Vec F S1x4096x128 .bf16) : Vec F S1x4096x128 .bf16 :=
  put d (k0_off3 t (BitVec.ofNat 32 r)) S1x128x128.size (dqTile (blkD x t r) (keys t r x.k))

/-- The key accumulator with the block's contribution added in its window. -/
def stepK (a : Vec F S1x4096x128 .f32) : Vec F S1x4096x128 .f32 :=
  put a (k0_off4 t (BitVec.ofNat 32 r)) S1x384x128.size (accWin (keys t r a) (blkD x t r) (rows t r x.q))

/-- The value accumulator with the block's contribution added in its window. -/
def stepV (a : Vec F S1x4096x128 .f32) : Vec F S1x4096x128 .f32 :=
  put a (k0_off4 t (BitVec.ofNat 32 r)) S1x384x128.size (accWin (keys t r a) (blkP x t r) (rows t r x.dO))

end Blocks

section Triples
variable (c : Dev nD) (arg1 : Memref sig .tc .smem S8 .f32) (arg2 : Memref sig .tc .vmem S1x4096x128 .bf16) (arg3 : Memref sig .tc .vmem S1x4096x128 .bf16) (arg4 : Memref sig .tc .vmem S1x4096x128 .bf16) (arg5 : Memref sig .tc .vmem S1x3x384x256 .f32) (arg6 : Memref sig .tc .vmem S1x4096x128 .f32) (arg7 : Memref sig .tc .vmem S1x4096x128 .f32) (arg8 : Memref sig .tc .vmem S1x4096x128 .bf16) (arg9 : Memref sig .tc .vmem S1x4096x128 .bf16) (harg9 : arg9.IsWhole) (arg12 : Memref sig .tc .vmem S1x3x384x256 .f32) (arg13 : Memref sig .tc .vmem S1x8x256 .f32) (arg14 : Memref sig .tc .vmem S1x4096x128 .f32) (arg15 : Memref sig .tc .vmem S1x4096x128 .f32)

/-- What a trip holds: the inputs at their contents, the query gradient and the two accumulators at
    named contents, the bias and sink gradients at some contents. -/
def Held (x1 : Vec F S8 .f32) (x : Ins F) (d : Vec F S1x4096x128 .bf16) (ak av : Vec F S1x4096x128 .f32) : sProp 𝕄 :=
  iprop(owns (c : Thread nD τ) arg1 fullShare x1
    ∗ owns (c : Thread nD τ) arg2 fullShare x.q ∗ owns (c : Thread nD τ) arg3 fullShare x.k
    ∗ owns (c : Thread nD τ) arg4 fullShare x.v ∗ owns (c : Thread nD τ) arg5 fullShare x.b
    ∗ owns (c : Thread nD τ) arg6 fullShare x.o ∗ owns (c : Thread nD τ) arg7 fullShare x.lse
    ∗ owns (c : Thread nD τ) arg8 fullShare x.dO
    ∗ owns (c : Thread nD τ) arg9 fullShare d
    ∗ (∃ e, owns (c : Thread nD τ) arg12 fullShare e)
    ∗ (∃ e, owns (c : Thread nD τ) arg13 fullShare e)
    ∗ owns (c : Thread nD τ) arg14 fullShare ak
    ∗ owns (c : Thread nD τ) arg15 fullShare av)

/-- The run of one block. -/
theorem run_blk (i : grid0.Coords) (t : Fin k0_t1_loop.trips) (r : Fin 16)
    (x1 : Vec F S8 .f32) (x : Ins F) (d : Vec F S1x4096x128 .bf16) (ak av : Vec F S1x4096x128 .f32)
    (K : PUnit → sProp 𝕄) :
    iprop(Held c arg1 arg2 arg3 arg4 arg5 arg6 arg7 arg8 arg9 arg12 arg13 arg14 arg15 x1 x d ak av
        ∗ (Held c arg1 arg2 arg3 arg4 arg5 arg6 arg7 arg8 arg9 arg12 arg13 arg14 arg15 x1 x (stepQ x t r d) (stepK x t r ak) (stepV x t r av) -∗ K ⟨⟩))
      ⊢ wp frame (wpE (defs₀ (F := F)) Variants.none c none) Set.univ (blk (F := F) i arg1 arg2 arg3 arg4 arg5 arg6 arg7 arg8 arg9 harg9 arg12 arg13 arg14 arg15 t r) K := by
  unfold Held
  unfold owns
  iintro ⟨⟨⟨%f1, %h1, H1⟩, ⟨%f2, %h2, H2⟩, ⟨%f3, %h3, H3⟩, ⟨%f4, %h4, H4⟩, ⟨%f5, %h5, H5⟩, ⟨%f6, %h6, H6⟩,
    ⟨%f7, %h7, H7⟩, ⟨%f8, %h8, H8⟩, ⟨%f9, %h9, H9⟩, ⟨%e12, %f12, -, H12⟩, ⟨%e13, %f13, -, H13⟩,
    ⟨%f14, %h14, H14⟩, ⟨%f15, %h15, H15⟩⟩, Hk⟩
  unfold blk
  sl_exec
  sl_step
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists f8; isplitr; · ipureintro; exact h8
                  iexact H8
  isplitl [H9]
  · iexists _; isplitr
    swap; · iexact H9
    ipureintro
    rw [View.read_writes_cons_put arg9.view f9 (k0_off3_inb t r) _ [] rfl, View.writes_nil, h9]
    obtain ⟨q, k, v, b, o, lse, dO⟩ := x
    dsimp only at h2 h3 h4 h5 h6 h7 h8
    subst h2 h3 h4 h5 h6 h7 h8
    rfl
  isplitl [H12]
  · iexists _, _; isplitr
    swap; · iexact H12
    ipureintro; rfl
  isplitl [H13]
  · iexists _, _; isplitr
    swap; · iexact H13
    ipureintro; rfl
  isplitl [H14]
  · iexists _; isplitr
    swap; · iexact H14
    ipureintro
    rw [View.read_writes_cons_put arg14.view f14 (k0_off4_inb t r) _ [] rfl, View.writes_nil, h14]
    obtain ⟨q, k, v, b, o, lse, dO⟩ := x
    dsimp only at h2 h3 h4 h5 h6 h7 h8
    subst h2 h3 h4 h5 h6 h7 h8 h14
    rfl
  iexists _; isplitr
  swap; · iexact H15
  ipureintro
  rw [View.read_writes_cons_put arg15.view f15 (k0_off4_inb t r) _ [] rfl, View.writes_nil, h15]
  obtain ⟨q, k, v, b, o, lse, dO⟩ := x
  dsimp only at h2 h3 h4 h5 h6 h7 h8
  subst h2 h3 h4 h5 h6 h7 h8 h15
  rfl

/-- The run of a list of blocks: each leaves the state its step makes of it. -/
theorem run_blks (i : grid0.Coords) (t : Fin k0_t1_loop.trips) (x1 : Vec F S8 .f32) (x : Ins F) (l : List (Fin 16)) :
    ∀ (d : Vec F S1x4096x128 .bf16) (ak av : Vec F S1x4096x128 .f32) (K : PUnit → sProp 𝕄),
    iprop(Held c arg1 arg2 arg3 arg4 arg5 arg6 arg7 arg8 arg9 arg12 arg13 arg14 arg15 x1 x d ak av
        ∗ (Held c arg1 arg2 arg3 arg4 arg5 arg6 arg7 arg8 arg9 arg12 arg13 arg14 arg15 x1 x (l.foldl (fun d r => stepQ x t r d) d) (l.foldl (fun a r => stepK x t r a) ak)
            (l.foldl (fun a r => stepV x t r a) av) -∗ K ⟨⟩))
      ⊢ wp frame (wpE (defs₀ (F := F)) Variants.none c none) Set.univ (blks (F := F) i arg1 arg2 arg3 arg4 arg5 arg6 arg7 arg8 arg9 harg9 arg12 arg13 arg14 arg15 t l) K := by
  induction l with
  | nil =>
    intro d ak av K
    iintro ⟨H, Hk⟩
    unfold blks
    sl_step
    iapply Hk
    iexact H
  | cons r rs ih =>
    intro d ak av K
    iintro ⟨H, Hk⟩
    unfold blks
    rw [wp_bind]
    iapply (run_blk c arg1 arg2 arg3 arg4 arg5 arg6 arg7 arg8 arg9 harg9 arg12 arg13 arg14 arg15 i t r x1 x d ak av _)
    isplitl [H]; · iexact H
    iintro H
    iapply (ih _ _ _ K)
    isplitl [H]; · iexact H
    iexact Hk

end Triples

/-! ## The whole loop -/

/-- All sixteen blocks of a trip, in order. -/
abbrev allBlks : List (Fin 16) := [0, 1, 2, 3, 4, 5, 6, 7, 8, 9, 10, 11, 12, 13, 14, 15]

/-- A state after the first `n` trips of a loop whose step per block is `f`. -/
def trips {α : Type} (f : Fin k0_t1_loop.trips → Fin 16 → α → α) (a : α) : ℕ → α
  | 0 => a
  | n + 1 => if h : n < k0_t1_loop.trips then allBlks.foldl (fun a r => f ⟨n, h⟩ r a) (trips f a n) else trips f a n

/-- A trip applies its sixteen steps. -/
theorem trips_succ {α : Type} (f : Fin k0_t1_loop.trips → Fin 16 → α → α) (a : α) (k : Fin k0_t1_loop.trips) :
    trips f a (k.val + 1) = allBlks.foldl (fun a r => f k r a) (trips f a k.val) := by
  rw [trips, dif_pos k.isLt]

section Loop
variable (c : Dev nD) (arg1 : Memref sig .tc .smem S8 .f32) (arg2 : Memref sig .tc .vmem S1x4096x128 .bf16) (arg3 : Memref sig .tc .vmem S1x4096x128 .bf16) (arg4 : Memref sig .tc .vmem S1x4096x128 .bf16) (arg5 : Memref sig .tc .vmem S1x3x384x256 .f32) (arg6 : Memref sig .tc .vmem S1x4096x128 .f32) (arg7 : Memref sig .tc .vmem S1x4096x128 .f32) (arg8 : Memref sig .tc .vmem S1x4096x128 .bf16) (arg9 : Memref sig .tc .vmem S1x4096x128 .bf16) (harg9 : arg9.IsWhole) (arg12 : Memref sig .tc .vmem S1x3x384x256 .f32) (arg13 : Memref sig .tc .vmem S1x8x256 .f32) (arg14 : Memref sig .tc .vmem S1x4096x128 .f32) (arg15 : Memref sig .tc .vmem S1x4096x128 .f32)

set_option maxRecDepth 65536 in
/-- The run of the loop over its trips, each its sixteen blocks. -/
theorem run_loop (i : grid0.Coords) (x1 : Vec F S8 .f32) (x : Ins F) (d : Vec F S1x4096x128 .bf16)
    (ak av : Vec F S1x4096x128 .f32) (K : PUnit → sProp 𝕄) :
    iprop(Held c arg1 arg2 arg3 arg4 arg5 arg6 arg7 arg8 arg9 arg12 arg13 arg14 arg15 x1 x d ak av
        ∗ (Held c arg1 arg2 arg3 arg4 arg5 arg6 arg7 arg8 arg9 arg12 arg13 arg14 arg15 x1 x (trips (stepQ x) d k0_t1_loop.trips) (trips (stepK x) ak k0_t1_loop.trips)
            (trips (stepV x) av k0_t1_loop.trips) -∗ K ⟨⟩))
      ⊢ wp frame (wpE (defs₀ (F := F)) Variants.none c none) Set.univ
          (Scf.Loop.for k0_t1_loop k0_t1_ok PUnit.unit (fun t _ => blks (F := F) i arg1 arg2 arg3 arg4 arg5 arg6 arg7 arg8 arg9 harg9 arg12 arg13 arg14 arg15 t allBlks)) K := by
  have step : ∀ (k : Fin k0_t1_loop.trips) (acc : PUnit),
      Held c arg1 arg2 arg3 arg4 arg5 arg6 arg7 arg8 arg9 arg12 arg13 arg14 arg15 x1 x (trips (stepQ x) d k.val) (trips (stepK x) ak k.val) (trips (stepV x) av k.val)
      ⊢ wp frame (wpE (defs₀ (F := F)) Variants.none c none) Set.univ (blks (F := F) i arg1 arg2 arg3 arg4 arg5 arg6 arg7 arg8 arg9 harg9 arg12 arg13 arg14 arg15 k allBlks)
          (fun _ => Held c arg1 arg2 arg3 arg4 arg5 arg6 arg7 arg8 arg9 arg12 arg13 arg14 arg15 x1 x (trips (stepQ x) d (k.val + 1)) (trips (stepK x) ak (k.val + 1))
            (trips (stepV x) av (k.val + 1))) := by
    intro k _
    rw [trips_succ, trips_succ, trips_succ]
    iintro H
    iapply (run_blks c arg1 arg2 arg3 arg4 arg5 arg6 arg7 arg8 arg9 harg9 arg12 arg13 arg14 arg15 i k x1 x allBlks _ _ _ _)
    isplitl [H]; · iexact H
    iintro H; iexact H
  have whole := Scf.wp_for frame (wpE (defs₀ (F := F)) Variants.none c none) Set.univ k0_t1_loop.lb k0_t1_loop.ub
    k0_t1_loop.st k0_t1_ok PUnit.unit (fun t _ => blks (F := F) i arg1 arg2 arg3 arg4 arg5 arg6 arg7 arg8 arg9 harg9 arg12 arg13 arg14 arg15 t allBlks)
    (fun n _ => Held c arg1 arg2 arg3 arg4 arg5 arg6 arg7 arg8 arg9 arg12 arg13 arg14 arg15 x1 x (trips (stepQ x) d n) (trips (stepK x) ak n) (trips (stepV x) av n)) step (Q := K)
  iintro ⟨H, Hk⟩
  iapply whole
  isplitl [H]; · iexact H
  iintro %acc H
  iapply Hk; iexact H

end Loop

end Cert.KernelIdeal.Band
-- ==== Proof.Body.lean ====
module
/-
  One grid point of the launch: the clearing of the accumulators at the first point of a key/value head, the loop
  over the 32 blocks, and the two stores that round the accumulators into the results.
-/

public import proofs.«01_k».proof.Proof.Step
public import proofs.«01_k».proof.Proof.Gen.KernelIdeal.Skeleton

@[expose] public section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
variable {F : FTy → Type} [FloatOps F]

local notation "𝕄" => MT nD τ sig Unit (Elt F) ℕ (UR sig nD τ) ℕ

/-- Whether a grid point is the first of its key/value head, as the kernel computes it. -/
def freshBit (i : grid0.Coords) : BitVec 1 :=
  let v10 := Scalar.remsi (BitVec.ofNat 32 (i 0).val) (Scalar.select (Scalar.cmpi .eq 2#32 0#32) 1#32 2#32)
  let v9 : BitVec 32 := Scalar.select (Scalar.cmpi .eq 2#32 0#32) 1#32 2#32
  Scalar.cmpi .ne (Scalar.extui (Scalar.cmpi .eq
    (Scalar.select (Scalar.andi (Scalar.xori (Scalar.cmpi .slt v10 0#32) (Scalar.cmpi .slt v9 0#32))
      (Scalar.cmpi .ne v10 0#32)) (Scalar.addi v10 v9) v10) 0#32) : BitVec 32) 0#32

/-- Whether a grid point starts a bias head (every one does), as the kernel computes it. -/
def biasBit (i : grid0.Coords) : BitVec 1 :=
  let v9 : BitVec 32 := Scalar.select (Scalar.cmpi .eq 1#32 0#32) 1#32 1#32
  let v10 := Scalar.remsi (Scalar.muli (BitVec.ofNat 32 (i 0).val) 1#32) v9
  Scalar.cmpi .ne (Scalar.extui (Scalar.cmpi .eq
    (Scalar.select (Scalar.andi (Scalar.xori (Scalar.cmpi .slt v10 0#32) (Scalar.cmpi .slt v9 0#32))
      (Scalar.cmpi .ne v10 0#32)) (Scalar.addi v10 v9) v10) 0#32) : BitVec 32) 0#32

/-- The even grid points are the first of their key/value head. -/
theorem freshBit_eq : ∀ i : grid0.Coords, freshBit i = if (i 0).val % 2 = 0 then 1#1 else 0#1 := by decide +kernel

/-- Every grid point starts a bias head. -/
theorem biasBit_eq : ∀ i : grid0.Coords, biasBit i = 1#1 := by decide +kernel

/-- An accumulator as the loop of a grid point finds it. -/
noncomputable def accIn (i : grid0.Coords) (z a : Vec F S1x4096x128 .f32) : Vec F S1x4096x128 .f32 :=
  if freshBit i = 1#1 then z else a

section Tail
variable (i : grid0.Coords) (arg1 : Memref sig .tc .smem S8 .f32) (arg2 : Memref sig .tc .vmem S1x4096x128 .bf16) (arg3 : Memref sig .tc .vmem S1x4096x128 .bf16) (arg4 : Memref sig .tc .vmem S1x4096x128 .bf16) (arg5 : Memref sig .tc .vmem S1x3x384x256 .f32) (arg6 : Memref sig .tc .vmem S1x4096x128 .f32) (arg7 : Memref sig .tc .vmem S1x4096x128 .f32) (arg8 : Memref sig .tc .vmem S1x4096x128 .bf16) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x3x384x256 .f32) (arg13 : Memref sig .tc .vmem S1x8x256 .f32) (arg14 : Memref sig .tc .vmem S1x4096x128 .f32) (arg15 : Memref sig .tc .vmem S1x4096x128 .f32)

/-- The loop of a grid point and what follows it. -/
noncomputable def tail : Prog (TpuEff nD τ sig (Elt F) Λ₀ .tc) PUnit := do
  Scf.Loop.for k0_t1_loop k0_t1_ok PUnit.unit (fun t _ => blks (F := F) i arg1 arg2 arg3 arg4 arg5 arg6 arg7 arg8 arg9 harg9 arg12 arg13 arg14 arg15 t allBlks)
  let v36 : Vec F S1x4096x128 .f32 ← Prog.lift (.load arg14 (Rect.unit (s := S1x4096x128) ![0, 0, 0] S1x4096x128.size inb_S1x4096x128_S1x4096x128_0_0_0).toLoadRect (View.loadsAt_vmem h_S1x4096x128))
  let v38 : Vec F S1x4096x128 .bf16 ← Prog.lift (.load arg10 (Rect.unit (s := S1x4096x128) ![0, 0, 0] S1x4096x128.size inb_S1x4096x128_S1x4096x128_0_0_0).toLoadRect (View.loadsAt_vmem h_S1x4096x128))
  Prog.lift (.store arg10 (Rect.unit (s := S1x4096x128) ![0, 0, 0] S1x4096x128.size inb_S1x4096x128_S1x4096x128_0_0_0) (k0_pay3 v36) Finset.univ (View.stores_vmem h_S1x4096x128 (harg10.storeExact_slice rfl _ packedbf16_S1x4096x128_S1x4096x128_0_0_0) (fun _ => rfl)) (.inl rfl))
  let v39 : Vec F S1x4096x128 .f32 ← Prog.lift (.load arg15 (Rect.unit (s := S1x4096x128) ![0, 0, 0] S1x4096x128.size inb_S1x4096x128_S1x4096x128_0_0_0).toLoadRect (View.loadsAt_vmem h_S1x4096x128))
  let v41 : Vec F S1x4096x128 .bf16 ← Prog.lift (.load arg11 (Rect.unit (s := S1x4096x128) ![0, 0, 0] S1x4096x128.size inb_S1x4096x128_S1x4096x128_0_0_0).toLoadRect (View.loadsAt_vmem h_S1x4096x128))
  Prog.lift (.store arg11 (Rect.unit (s := S1x4096x128) ![0, 0, 0] S1x4096x128.size inb_S1x4096x128_S1x4096x128_0_0_0) (k0_pay4 v39) Finset.univ (View.stores_vmem h_S1x4096x128 (harg11.storeExact_slice rfl _ packedbf16_S1x4096x128_S1x4096x128_0_0_0) (fun _ => rfl)) (.inl rfl))
  pure ⟨⟩

variable (c : Dev nD)

/-- The run of the loop and of the two stores after it. -/
theorem run_tail (x1 : Vec F S8 .f32) (x : Ins F) (d : Vec F S1x4096x128 .bf16)
    (ak av : Vec F S1x4096x128 .f32) (K : PUnit → sProp 𝕄) :
    iprop(Held c arg1 arg2 arg3 arg4 arg5 arg6 arg7 arg8 arg9 arg12 arg13 arg14 arg15 x1 x d ak av
        ∗ (∃ e, owns (c : Thread nD τ) arg10 fullShare e)
        ∗ (∃ e, owns (c : Thread nD τ) arg11 fullShare e)
        ∗ (Held c arg1 arg2 arg3 arg4 arg5 arg6 arg7 arg8 arg9 arg12 arg13 arg14 arg15 x1 x (trips (stepQ x) d k0_t1_loop.trips)
              (trips (stepK x) ak k0_t1_loop.trips)
              (trips (stepV x) av k0_t1_loop.trips)
            ∗ owns (c : Thread nD τ) arg10 fullShare (k0_pay3 (trips (stepK x) ak k0_t1_loop.trips))
            ∗ owns (c : Thread nD τ) arg11 fullShare (k0_pay4 (trips (stepV x) av k0_t1_loop.trips)) -∗ K ⟨⟩))
      ⊢ wp frame (wpE (defs₀ (F := F)) Variants.none c none) Set.univ (tail (F := F) i arg1 arg2 arg3 arg4 arg5 arg6 arg7 arg8 arg9 harg9 arg10 harg10 arg11 harg11 arg12 arg13 arg14 arg15) K := by
  iintro ⟨H, E10, E11, Hk⟩
  unfold tail
  rw [wp_bind]
  iapply (run_loop c arg1 arg2 arg3 arg4 arg5 arg6 arg7 arg8 arg9 harg9 arg12 arg13 arg14 arg15 i x1 x d ak av _)
  isplitl [H]; · iexact H
  generalize trips (stepQ x) d k0_t1_loop.trips = d'
  generalize trips (stepK x) ak k0_t1_loop.trips = ak'
  generalize trips (stepV x) av k0_t1_loop.trips = av'
  unfold Held
  unfold owns
  iintro ⟨⟨%f1, %h1, H1⟩, ⟨%f2, %h2, H2⟩, ⟨%f3, %h3, H3⟩, ⟨%f4, %h4, H4⟩, ⟨%f5, %h5, H5⟩, ⟨%f6, %h6, H6⟩,
    ⟨%f7, %h7, H7⟩, ⟨%f8, %h8, H8⟩, ⟨%f9, %h9, H9⟩, ⟨%e12, %f12, -, H12⟩, ⟨%e13, %f13, -, H13⟩,
    ⟨%f14, %h14, H14⟩, ⟨%f15, %h15, H15⟩⟩
  icases E10 with ⟨%e10, %f10, -, H10⟩
  icases E11 with ⟨%e11, %f11, -, H11⟩
  sl_exec
  sl_step
  iapply Hk
  isplitl [H1 H2 H3 H4 H5 H6 H7 H8 H9 H12 H13 H14 H15]
  · isplitl [H1]; · iexists f1; isplitr; · ipureintro; exact h1
                    iexact H1
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]; · iexists f7; isplitr; · ipureintro; exact h7
                    iexact H7
    isplitl [H8]; · iexists f8; isplitr; · ipureintro; exact h8
                    iexact H8
    isplitl [H9]; · iexists f9; isplitr; · ipureintro; exact h9
                    iexact H9
    isplitl [H12]; · iexists _, f12; isplitr; · ipureintro; rfl
                     iexact H12
    isplitl [H13]; · iexists _, f13; isplitr; · ipureintro; rfl
                     iexact H13
    isplitl [H14]; · iexists f14; isplitr; · ipureintro; exact h14
                     iexact H14
    iexists f15; isplitr; · ipureintro; exact h15
    iexact H15
  isplitl [H10]
  · iexists _; isplitr
    swap; · iexact H10
    ipureintro
    rw [View.read_writes_full, View.readAt_full, h14]
  iexists _; isplitr
  swap; · iexact H11
  ipureintro
  rw [View.read_writes_full, View.readAt_full, h15]

end Tail

section Body
variable (c : Dev nD) (arg1 : Memref sig .tc .smem S8 .f32) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x3x384x256 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x3x384x256 .f32) (harg12 : arg12.IsWhole) (arg13 : Memref sig .tc .vmem S1x8x256 .f32) (harg13 : arg13.IsWhole) (arg14 : Memref sig .tc .vmem S1x4096x128 .f32) (harg14 : arg14.IsWhole) (arg15 : Memref sig .tc .vmem S1x4096x128 .f32) (harg15 : arg15.IsWhole)

set_option maxRecDepth 65536 in
/-- The run of one grid point. -/
theorem run_body (i : grid0.Coords) (x1 : Vec F S8 .f32) (x : Ins F) (d : Vec F S1x4096x128 .bf16)
    (ak av : Vec F S1x4096x128 .f32) (K : PUnit → sProp 𝕄) :
    iprop(Held c arg1 arg2 arg3 arg4 arg5 arg6 arg7 arg8 arg9 arg12 arg13 arg14 arg15 x1 x d ak av
        ∗ (∃ e, owns (c : Thread nD τ) arg10 fullShare e)
        ∗ (∃ e, owns (c : Thread nD τ) arg11 fullShare e)
        ∗ (Held c arg1 arg2 arg3 arg4 arg5 arg6 arg7 arg8 arg9 arg12 arg13 arg14 arg15 x1 x (trips (stepQ x) d k0_t1_loop.trips)
              (trips (stepK x) (accIn i k0_pay457 ak) k0_t1_loop.trips)
              (trips (stepV x) (accIn i k0_pay458 av) k0_t1_loop.trips)
            ∗ owns (c : Thread nD τ) arg10 fullShare
                (k0_pay3 (trips (stepK x) (accIn i k0_pay457 ak) k0_t1_loop.trips))
            ∗ owns (c : Thread nD τ) arg11 fullShare
                (k0_pay4 (trips (stepV x) (accIn i k0_pay458 av) k0_t1_loop.trips)) -∗ K ⟨⟩))
      ⊢ wp frame (wpE (defs₀ (F := F)) Variants.none c none) Set.univ (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have hl : k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) k0_pay454 k0_pay455
      = fun t _ => blks (F := F) i arg1 arg2 arg3 arg4 arg5 arg6 arg7 arg8 arg9 harg9 arg12 arg13 arg14 arg15 t allBlks := by
    funext t u
    exact trip_eq (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 _ t
  have hb := biasBit_eq i
  rw [cc0_attn_bwd_eq_skeleton]
  unfold cc0_attn_bwd_skel
  rw [k0_part109_eq_skeleton]
  unfold k0_part109_skel
  unfold Held
  unfold owns
  iintro ⟨⟨⟨%f1, %h1, H1⟩, ⟨%f2, %h2, H2⟩, ⟨%f3, %h3, H3⟩, ⟨%f4, %h4, H4⟩, ⟨%f5, %h5, H5⟩, ⟨%f6, %h6, H6⟩,
    ⟨%f7, %h7, H7⟩, ⟨%f8, %h8, H8⟩, ⟨%f9, %h9, H9⟩, ⟨%e12, %f12, -, H12⟩, ⟨%e13, %f13, -, H13⟩,
    ⟨%f14, %h14, H14⟩, ⟨%f15, %h15, H15⟩⟩, ⟨%e10, %f10, -, H10⟩, ⟨%e11, %f11, -, H11⟩, Hk⟩
  by_cases hc : freshBit i = 1#1
  · sl_exec (disch := (first | sl_exact hc | sl_exact hb))
    rw [hl]
    iapply (run_tail (F := F) i arg1 arg2 arg3 arg4 arg5 arg6 arg7 arg8 arg9 harg9 arg10 harg10 arg11 harg11 arg12 arg13 arg14 arg15 c x1 x d (accIn i k0_pay457 ak) (accIn i k0_pay458 av) K)
    isplitl [H1 H2 H3 H4 H5 H6 H7 H8 H9 H12 H13 H14 H15]
    · unfold Held owns
      isplitl [H1]; · iexists f1; isplitr; · ipureintro; exact h1
                      iexact H1
      isplitl [H2]; · iexists f2; isplitr; · ipureintro; exact h2
                      iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      isplitl [H7]; · iexists f7; isplitr; · ipureintro; exact h7
                      iexact H7
      isplitl [H8]; · iexists f8; isplitr; · ipureintro; exact h8
                      iexact H8
      isplitl [H9]; · iexists f9; isplitr; · ipureintro; exact h9
                      iexact H9
      isplitl [H12]; · iexists _, _; isplitr
                       swap; · iexact H12
                       ipureintro; rfl
      isplitl [H13]; · iexists _, _; isplitr
                       swap; · iexact H13
                       ipureintro; rfl
      isplitl [H14]; · iexists _; isplitr
                       swap; · iexact H14
                       ipureintro; exact (View.read_writes_full _ _ _ _ _).trans (if_pos hc).symm
      iexists _; isplitr
      swap; · iexact H15
      ipureintro; exact (View.read_writes_full _ _ _ _ _).trans (if_pos hc).symm
    isplitl [H10]; · unfold owns; iexists _, f10; isplitr; · ipureintro; rfl
                     iexact H10
    isplitl [H11]; · unfold owns; iexists _, f11; isplitr; · ipureintro; rfl
                     iexact H11
    unfold Held owns
    iexact Hk
  · sl_exec (disch := (first | sl_exact hc | sl_exact hb))
    rw [hl]
    iapply (run_tail (F := F) i arg1 arg2 arg3 arg4 arg5 arg6 arg7 arg8 arg9 harg9 arg10 harg10 arg11 harg11 arg12 arg13 arg14 arg15 c x1 x d (accIn i k0_pay457 ak) (accIn i k0_pay458 av) K)
    isplitl [H1 H2 H3 H4 H5 H6 H7 H8 H9 H12 H13 H14 H15]
    · unfold Held owns
      isplitl [H1]; · iexists f1; isplitr; · ipureintro; exact h1
                      iexact H1
      isplitl [H2]; · iexists f2; isplitr; · ipureintro; exact h2
                      iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      isplitl [H7]; · iexists f7; isplitr; · ipureintro; exact h7
                      iexact H7
      isplitl [H8]; · iexists f8; isplitr; · ipureintro; exact h8
                      iexact H8
      isplitl [H9]; · iexists f9; isplitr; · ipureintro; exact h9
                      iexact H9
      isplitl [H12]; · iexists _, _; isplitr
                       swap; · iexact H12
                       ipureintro; rfl
      isplitl [H13]; · iexists _, _; isplitr
                       swap; · iexact H13
                       ipureintro; rfl
      isplitl [H14]; · iexists _; isplitr
                       swap; · iexact H14
                       ipureintro; rw [accIn, if_neg hc]; exact h14
      iexists _; isplitr
      swap; · iexact H15
      ipureintro; rw [accIn, if_neg hc]; exact h15
    isplitl [H10]; · unfold owns; iexists _, f10; isplitr; · ipureintro; rfl
                     iexact H10
    isplitl [H11]; · unfold owns; iexists _, f11; isplitr; · ipureintro; rfl
                     iexact H11
    unfold Held owns
    iexact Hk

end Body

end Cert.KernelIdeal.Band
-- ==== Proof.Cover.lean ====
module
/-
  The query gradient after a grid point's loop: every row belongs to exactly one block, so the tiles put in place leave
  nothing of what the buffer held before.
-/

public import proofs.«01_k».proof.Proof.Body
public import Idealize.ShloMosaic.Lib.Pointwise.Index

@[expose] public section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

/-- The offsets of a block's rows. -/
theorem off3_eq : ∀ (t : Fin k0_t1_loop.trips) (r : Fin 16) (a : Fin 3),
    k0_off3 t (BitVec.ofNat 32 r) a = (![0, 128 * (16 * t.val + r.val), 0] : Fin 3 → ℕ) a := by decide +kernel

/-- The loop makes two trips. -/
theorem trips_eq_two : k0_t1_loop.trips = 2 := by decide +kernel

/-- The trip a block belongs to. -/
def tripOf (b : Fin 32) : Fin k0_t1_loop.trips := ⟨b.val / 16, by rw [trips_eq_two]; omega⟩
/-- Its number in the trip. -/
def restOf (b : Fin 32) : Fin 16 := ⟨b.val % 16, by omega⟩

/-- The block of a row. -/
def blockOf (l : Fin 4096) : Fin 32 := ⟨l.val / 128, by omega⟩
/-- A row's place in its block. -/
def placeOf (l : Fin 4096) : Fin 128 := ⟨l.val % 128, by omega⟩

/-- The query gradient at an entry: its block's tile at the row's place. -/
noncomputable def dqAt (x : Ins F) (y : S1x4096x128.Idx) : Elt F .bf16 :=
  dqTile (blkD x (tripOf (blockOf (y 1))) (restOf (blockOf (y 1)))) (keys (tripOf (blockOf (y 1))) (restOf (blockOf (y 1))) x.k)
    (ix3 (n0 := 1) (n1 := 128) (n2 := 128) 0 (placeOf (y 1)) (y 2))

/-- One block's step, at an entry. -/
theorem stepQ_apply (x : Ins F) (t : Fin k0_t1_loop.trips) (r : Fin 16) (d : Vec F S1x4096x128 .bf16) (y : S1x4096x128.Idx) :
    stepQ x t r d y = if (y 1).val / 128 = 16 * t.val + r.val then dqAt x y else d y := by
  have h0 := off3_eq t r 0
  have h1 := off3_eq t r 1
  have h2 := off3_eq t r 2
  simp only [Matrix.cons_val_zero, Matrix.cons_val_one, Matrix.cons_val] at h0 h1 h2
  have y0 := (y 0).isLt
  have y1 := (y 1).isLt
  have y2 := (y 2).isLt
  change (y 0).val < 1 at y0
  change (y 1).val < 4096 at y1
  change (y 2).val < 128 at y2
  have ht : t.val < 2 := trips_eq_two ▸ t.isLt
  unfold stepQ put
  by_cases hb : (y 1).val / 128 = 16 * t.val + r.val
  · rw [if_pos hb, dif_pos (by
      intro a
      match a with
      | 0 => rw [h0]; change _ ∧ (y 0).val < 0 + 1; omega
      | 1 => rw [h1]; change _ ∧ (y 1).val < _ + 128; omega
      | 2 => rw [h2]; change _ ∧ (y 2).val < 0 + 128; omega)]
    have et : tripOf (blockOf (y 1)) = t := Fin.ext (by change (y 1).val / 128 / 16 = t.val; omega)
    have er : restOf (blockOf (y 1)) = r := Fin.ext (by change (y 1).val / 128 % 16 = r.val; omega)
    unfold dqAt
    rw [et, er]
    congr 1
    funext a
    apply Fin.ext
    match a with
    | 0 => change (y 0).val - k0_off3 t (BitVec.ofNat 32 r) 0 = 0; omega
    | 1 => change (y 1).val - k0_off3 t (BitVec.ofNat 32 r) 1 = (y 1).val % 128; rw [h1]; omega
    | 2 => change (y 2).val - k0_off3 t (BitVec.ofNat 32 r) 2 = (y 2).val; rw [h2]; omega
  · rw [if_neg hb, dif_neg (by
      intro h
      have := h 1
      rw [h1] at this
      change _ ∧ (y 1).val < _ + 128 at this
      omega)]

/-- A fold of steps, each replacing what is observed or leaving it. -/
theorem foldl_observe {α β : Type} (f : Fin 16 → α → α) (obs : α → β) (p : Fin 16 → Prop) [DecidablePred p] (g : β)
    (h : ∀ r a, obs (f r a) = if p r then g else obs a) (l : List (Fin 16)) :
    ∀ a, obs (l.foldl (fun a r => f r a) a) = if ∃ r ∈ l, p r then g else obs a := by
  induction l with
  | nil => intro a; simp
  | cons r rs ih =>
    intro a
    rw [List.foldl_cons, ih, h]
    by_cases h1 : ∃ r ∈ rs, p r
    · rw [if_pos h1, if_pos (by obtain ⟨s, hs, hp⟩ := h1; exact ⟨s, List.mem_cons_of_mem _ hs, hp⟩)]
    · rw [if_neg h1]
      by_cases h2 : p r
      · rw [if_pos h2, if_pos ⟨r, List.mem_cons_self, h2⟩]
      · rw [if_neg h2, if_neg (by
          rintro ⟨s, hs, hp⟩
          rcases List.mem_cons.mp hs with rfl | hs
          · exact h2 hp
          · exact h1 ⟨s, hs, hp⟩)]

/-- Every block number of a trip is in the list. -/
theorem mem_allBlks : ∀ r : Fin 16, r ∈ allBlks := by decide

/-- The query gradient after the loop. -/
theorem trips_stepQ (x : Ins F) (d : Vec F S1x4096x128 .bf16) : trips (stepQ x) d k0_t1_loop.trips = dqAt x := by
  funext y
  have y1 := (y 1).isLt
  change (y 1).val < 4096 at y1
  have go : ∀ n, n ≤ k0_t1_loop.trips → trips (stepQ x) d n y = if (y 1).val / 128 < 16 * n then dqAt x y else d y := by
    intro n
    induction n with
    | zero => intro _; rw [trips, if_neg (by omega)]
    | succ n ih =>
      intro hn
      rw [trips, dif_pos (by omega), foldl_observe (fun r a => stepQ x ⟨n, by omega⟩ r a) (fun a => a y)
        (fun r => (y 1).val / 128 = 16 * n + r.val) (dqAt x y) (fun r a => stepQ_apply x ⟨n, by omega⟩ r a y), ih (by omega)]
      by_cases h : (y 1).val / 128 < 16 * n
      · rw [if_pos h, if_pos (show (y 1).val / 128 < 16 * (n + 1) by omega), ite_self]
      · rw [if_neg h]
        by_cases h' : (y 1).val / 128 < 16 * (n + 1)
        · rw [if_pos h', if_pos ⟨⟨(y 1).val / 128 - 16 * n, by omega⟩, mem_allBlks _, by
            change (y 1).val / 128 = 16 * n + ((y 1).val / 128 - 16 * n); omega⟩]
        · rw [if_neg h', if_neg (by
            rintro ⟨r, -, hr⟩
            have := r.isLt
            omega)]
  rw [go _ le_rfl, if_pos (by rw [trips_eq_two]; omega)]

end Cert.KernelIdeal.Band
-- ==== Proof.Run.lean ====
module
/-
  The launch: the proof data of its pipeline over the four grid points, the body's obligation, the run of the program and
  its frame. The two accumulators live in scratch memory across the two points of a key/value head; the gradients of the
  bias and of the sink are not described (nothing returned reads them).
-/

public import proofs.«01_k».proof.Proof.Cover
public import proofs.«01_k».proof.Proof.Gen.KernelIdeal.Points

@[expose] public section

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The arrays a grid point's loop reads: its blocks of the launch's operands. -/
def ins (c : Dev nD) (t : Fin cfg0.N) : Ins F where
  q := iblk m c 1 t
  k := iblk m c 2 t
  v := iblk m c 3 t
  b := iblk m c 4 t
  o := iblk m c 5 t
  lse := iblk m c 6 t
  dO := iblk m c 7 t

/-- The grid point before. -/
def prev (t : Fin cfg0.N) : Fin cfg0.N := ⟨t.val - 1, by have := t.isLt; omega⟩

/-- The key accumulator after the first point of a head. -/
def halfK (c : Dev nD) (t : Fin cfg0.N) : Vec F S1x4096x128 .f32 := trips (stepK (ins m c t)) k0_pay457 k0_t1_loop.trips
/-- The value accumulator after the first point of a head. -/
def halfV (c : Dev nD) (t : Fin cfg0.N) : Vec F S1x4096x128 .f32 := trips (stepV (ins m c t)) k0_pay458 k0_t1_loop.trips

/-- The key accumulator after a point. -/
def accK (c : Dev nD) (t : Fin cfg0.N) : Vec F S1x4096x128 .f32 :=
  trips (stepK (ins m c t)) (if t.val % 2 = 0 then k0_pay457 else halfK m c (prev t)) k0_t1_loop.trips
/-- The value accumulator after a point. -/
def accV (c : Dev nD) (t : Fin cfg0.N) : Vec F S1x4096x128 .f32 :=
  trips (stepV (ins m c t)) (if t.val % 2 = 0 then k0_pay458 else halfV m c (prev t)) k0_t1_loop.trips

/-- What the scratch memory holds between points: after the first point of a head, its accumulators. -/
def Carry (c : Dev nD) (n : ℕ) : sProp 𝕄 :=
  iprop(∃ ak av, ⌜∀ s : Fin cfg0.N, s.val + 1 = n → s.val % 2 = 0 → ak = halfK m c s ∧ av = halfV m c s⌝
    ∗ owns (c : Thread nD τ) (Memref.whole cc0_scratch0) fullShare ak
    ∗ owns (c : Thread nD τ) (Memref.whole cc0_scratch1) fullShare av)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt (ins m c t)
    | ⟨9, _⟩ => k0_pay3 (accK m c t)
    | ⟨10, _⟩ => k0_pay4 (accV m c t)
    | ⟨11, _⟩ => k0_pay1
    | ⟨12, _⟩ => k0_pay456
  Φ t := iprop(Carry m c t.val ∗ ∃ r, prngReg c r)
  q _ := fullShare
  owed _ := 0

/-- The windows nothing is said of: the gradients of the bias and of the sink. -/
def fgt (w : Fin cfg0.W) : Bool := decide (11 ≤ w.val)

/-- The proof data's arrays are the contents at the region's entry. -/
theorem A_eq (c : Dev nD) (w : Fin cfg0.W) : (dats m 0 c).A w = V m c (Pipeline.arrRef spec0 w) := by
  dsimp only [dats]

/-! What the body leaves and finds, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqAt (ins m c t) := by dsimp only [dats]
theorem after0_9 (c : Dev nD) (t : Fin cfg0.N) : (dats m 0 c).after 9 t = k0_pay3 (accK m c t) := by dsimp only [dats]
theorem after0_10 (c : Dev nD) (t : Fin cfg0.N) : (dats m 0 c).after 10 t = k0_pay4 (accV m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The invariant between points, spelt out. -/
theorem Φ_eq (c : Dev nD) (t : Fin (cfg0.N + 1)) : (dats m 0 c).Φ t = iprop(Carry m c t.val ∗ ∃ r, prngReg c r) := by
  dsimp only [dats]

/-- The even points are the first of their head. -/
theorem fresh_at : ∀ t : Fin cfg0.N, freshBit (grid0.coords t) = if t.val % 2 = 0 then 1#1 else 0#1 := by decide +kernel

/-- The run of one grid point, from what its accumulators are found as. -/
theorem run_point (c : Dev nD) (arg1 : Memref sig .tc .smem S8 .f32) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x3x384x256 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S1x3x384x256 .f32) (harg12 : arg12.IsWhole) (arg13 : Memref sig .tc .vmem S1x8x256 .f32) (harg13 : arg13.IsWhole) (arg14 : Memref sig .tc .vmem S1x4096x128 .f32) (harg14 : arg14.IsWhole) (arg15 : Memref sig .tc .vmem S1x4096x128 .f32) (harg15 : arg15.IsWhole) (i : grid0.Coords) (x1 : Vec F S8 .f32) (x : Ins F) (d : Vec F S1x4096x128 .bf16)
    (ak av ak' av' : Vec F S1x4096x128 .f32) (hk : accIn i k0_pay457 ak = ak') (hv : accIn i k0_pay458 av = av')
    (K : PUnit → sProp 𝕄) :
    iprop(Held c arg1 arg2 arg3 arg4 arg5 arg6 arg7 arg8 arg9 arg12 arg13 arg14 arg15 x1 x d ak av
        ∗ (∃ e, owns (c : Thread nD τ) arg10 fullShare e)
        ∗ (∃ e, owns (c : Thread nD τ) arg11 fullShare e)
        ∗ (Held c arg1 arg2 arg3 arg4 arg5 arg6 arg7 arg8 arg9 arg12 arg13 arg14 arg15 x1 x (dqAt x) (trips (stepK x) ak' k0_t1_loop.trips) (trips (stepV x) av' k0_t1_loop.trips)
            ∗ owns (c : Thread nD τ) arg10 fullShare (k0_pay3 (trips (stepK x) ak' k0_t1_loop.trips))
            ∗ owns (c : Thread nD τ) arg11 fullShare (k0_pay4 (trips (stepV x) av' k0_t1_loop.trips)) -∗ K ⟨⟩))
      ⊢ wp frame (wpE (defs₀ (F := F)) Variants.none c none) Set.univ (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  subst hk hv
  rw [← trips_stepQ x d]
  exact run_body c arg1 harg1 arg2 harg2 arg3 harg3 arg4 harg4 arg5 harg5 arg6 harg6 arg7 harg7 arg8 harg8 arg9 harg9 arg10 harg10 arg11 harg11 arg12 harg12 arg13 harg13 arg14 harg14 arg15 harg15 i x1 x d ak av K

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ X, owns (c : Thread nD τ) (st0_12 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ (∃ X, owns (c : Thread nD τ) (st0_12 t) fullShare X))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, Φ_eq, Φ_eq, after0_0, after0_1, after0_2, after0_3, after0_4, after0_5, after0_6, after0_7, after0_8, after0_9, after0_10]
  unfold Carry
  iintro ⟨⟨⟨%ak, %av, %hcar, H14, H15⟩, Hr⟩, Ho, ⟨%d0, H0⟩, ⟨%d1, H1⟩, ⟨%d2, H2⟩, ⟨%d3, H3⟩, ⟨%d4, H4⟩, ⟨%d5, H5⟩,
    ⟨%d6, H6⟩, ⟨%d7, H7⟩, ⟨%d8, H8⟩, ⟨%d9, H9⟩, ⟨%d10, H10⟩, H11, H12⟩
  have hk : accIn (grid0.coords t) k0_pay457 ak = if t.val % 2 = 0 then k0_pay457 else halfK m c (prev t) := by
    unfold accIn
    rw [fresh_at]
    by_cases h : t.val % 2 = 0
    · rw [if_pos h, if_pos h, if_pos rfl]
    · rw [if_neg h, if_neg h, if_neg (by decide)]
      exact (hcar (prev t) (by change t.val - 1 + 1 = t.val; omega) (by change (t.val - 1) % 2 = 0; omega)).1
  have hv : accIn (grid0.coords t) k0_pay458 av = if t.val % 2 = 0 then k0_pay458 else halfV m c (prev t) := by
    unfold accIn
    rw [fresh_at]
    by_cases h : t.val % 2 = 0
    · rw [if_pos h, if_pos h, if_pos rfl]
    · rw [if_neg h, if_neg h, if_neg (by decide)]
      exact (hcar (prev t) (by change t.val - 1 + 1 = t.val; omega) (by change (t.val - 1) % 2 = 0; omega)).2
  iapply (run_point c _ _ _ _ _ _ _ _ _ _ _ _ _ _ _ _ _ _ _ _ _ _ _ _ _ _ _ _ _ _ (grid0.coords t) (iblk m c 0 t) (ins m c t) _ ak av _ _ hk hv _)
  unfold Held
  isplitl [H0 H1 H2 H3 H4 H5 H6 H7 H8 H11 H12 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H14]; · iexact H14
    iexact H15
  isplitl [H9]; · iexists _; iexact H9
  isplitl [H10]; · iexists _; iexact H10
  iintro ⟨⟨H0, H1, H2, H3, H4, H5, H6, H7, H8, H11, H12, H14, H15⟩, H9, H10⟩
  isplitl [H14 H15 Hr]
  · isplitl [H14 H15]
    · iexists _, _
      isplitr
      swap
      · isplitl [H14]; · iexact H14
        iexact H15
      ipureintro
      intro s hs he
      have hst : s = t := Fin.ext (by change s.val + 1 = t.val + 1 at hs; omega)
      subst hst
      unfold halfK halfV
      rw [if_pos he, if_pos he]
      exact ⟨rfl, rfl⟩
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

/-- The scratch memory at the launch's start may hold anything. -/
theorem enter (c : Dev nD) : (Pipeline.ΦA spec0 c : sProp 𝕄) ⊢ (dats m 0 c).Φ 0 := by
  rw [Φ_eq]
  unfold Pipeline.ΦA Carry
  rw [scopedRest0_eq]
  iintro ⟨⟨⟨%f, Hf⟩, ⟨%g, Hg⟩⟩, Hr⟩
  isplitl [Hf Hg]
  · iexists f, g
    isplitr
    · ipureintro
      intro s hs
      exact absurd hs (by change ¬ s.val + 1 = 0; omega)
    rw [owns_whole, owns_whole]
    isplitl [Hf]; · iexact Hf
    iexact Hg
  iexact Hr

/-- And it is given back at the end. -/
theorem leave (c : Dev nD) : (dats m 0 c).Φ (Fin.last cfg0.N) ⊢ (Pipeline.ΦA spec0 c : sProp 𝕄) := by
  rw [Φ_eq]
  unfold Pipeline.ΦA Carry
  rw [scopedRest0_eq]
  simp only [owns_whole]
  iintro ⟨⟨%f, %g, -, Hf, Hg⟩, Hr⟩
  isplitl [Hf Hg]
  · isplitl [Hf]; · iexists f; iexact Hf
    iexists g; iexact Hg
  iexact Hr

set_option maxHeartbeats 1000000 in
set_option backward.isDefEq.respectTransparency.types false in
/-- The run of the program: it ends, the described windows' arrays hold what the proof data says, and every counter is zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hin := enter m) (hout := leave m)

/-- An operand's array ends as the region found it. -/
theorem arr_in {r : PUnit × MemSt nD τ sig (Elt F)}
    (h : Pipeline.RDat.FramePost cfg0 (fun c => (dats m 0 c).toRForget fgt) (V m) r) (c : Dev nD) (w : Fin cfg0.W)
    (hw : (cfg0.win w).isOut = false) :
    r.2.mem ((cfg0.spec w).arr.view.loc (c.tc : Thread nD τ)) = V m c (Pipeline.arrRef spec0 w) := by
  have h1 := h.arr_in c w hw
  rw [Dat.toRForget_A, A_eq] at h1
  exact h1

/-- The frame at any float values. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(arr_in m h.1 c 1 rfl).trans (V_main_arg0 m c),
     (arr_in m h.1 c 2 rfl).trans (V_main_arg1 m c),
     (arr_in m h.1 c 3 rfl).trans (V_main_arg2 m c),
     ((h.1 c).2 main_arg3 (Pipeline.mem_restRefs_of main_arg3 (by decide) (by decide))).trans (V_main_arg3 m c),
     (arr_in m h.1 c 0 rfl).trans (V_main_arg4 m c),
     (arr_in m h.1 c 7 rfl).trans (V_main_arg5 m c)⟩, h.2⟩) (run_main m ρ)

end Cert.KernelIdeal.Band

end
-- ==== Proof.BandHost.lean ====
module

public import proofs.«01_k».proof.Proof.Run
public import proofs.«01_k».proof.Proof.Gen.ReferenceIdeal.Read
public import Idealize.ShloMosaic.Lib.StableHlo.Run

/-!
# What the host computes before the attention's backward call

The output and the log of the denominator as the forward pass has them, and the bias by its three variants.
-/

@[expose] public section

noncomputable section

namespace Cert.KernelIdeal.Band

open Idealize.ShloMosaic Idealize.ShloMosaic.TcCoe
open Idealize.SL.Sem
open Cert.KernelIdeal Cert.KernelIdeal.Gen

/-! ## The bias -/

/-- The bucket of a distance, entry by entry. -/
def bucket (s : Shape) (x : IVec s 32) : IVec s 32 :=
  have n : IVec s 32 := absi x
  have f : FVec Ideal s .f32 := sitofp .f32 (maxsi n (fun _ => 1#32))
  have g : FVec Ideal s .f32 := mulf (Host.divf (Host.log (Host.divf f (fun _ => FloatOps.ofBits .f32 0x41000000#32)))
    (fun _ => FloatOps.ofBits .f32 0x409B43D5#32)) (fun _ => FloatOps.ofBits .f32 0x41000000#32)
  have large : IVec s 32 := minsi (addi (fun _ => 8#32) (fptosi 32 g)) (fun _ => 15#32)
  have k : IVec s 32 := addi (select (cmpi .sgt x (fun _ => 0#32)) (fun _ => 16#32) (fun _ => 0#32))
    (select (cmpi .slt n (fun _ => 8#32)) n large)
  select (cmpi .slt k (fun _ => 0#32)) (addi k (fun _ => 32#32)) k

/-- The bucket of one distance. -/
def bk (v : BitVec 32) : BitVec 32 := bucket S_ (fun _ => v) (fun a => a.elim0)

theorem bucket_apply (s : Shape) (x : IVec s 32) (i : s.Idx) : bucket s x i = bk (x i) := rfl

/-- A window's key less its block's query, the window's middle third being the block itself. -/
def relW : IVec S128x384 32 :=
  subi (broadcastInDim S128x384 ![0, 1] bcast_S1x384_S128x384_0_1
      (subi (broadcastInDim S1x384 ![1] bcast_S384_S1x384_1 (iotaInDim S384 32 0))
        (broadcastInDim S1x384 ![] bcast_S_S1x384 (constantI S_ 32 128#32))))
    (broadcastInDim S128x384 ![0, 1] bcast_S128x1_S128x384_0_1
      (broadcastInDim S128x1 ![0] bcast_S128_S128x1_0 (iotaInDim S128 32 0)))

/-- The table's entries for a block, minus infinity outside the band. -/
def baseW (x3 : Vec Ideal S32x8 .f32) : Vec Ideal S8x128x384 .f32 :=
  select (broadcastInDim S8x128x384 ![0, 1, 2] bcast_S1x128x384_S8x128x384_0_1_2
      (broadcastInDim S1x128x384 ![1, 2] bcast_S128x384_S1x128x384_1_2
        (cmpi .sle (absi relW) (broadcastInDim S128x384 ![] bcast_S_S128x384 (constantI S_ 32 128#32)))))
    (transpose S8x128x384 [2, 0, 1]
      (Host.gather gather_S32x8_S128x384x1_S128x384x8_2_0_n_n_0_2_18 x3
        (broadcastInDim S128x384x1 ![0, 1] bcast_S128x384_S128x384x1_0_1
          (bucket S128x384 (muli relW (broadcastInDim S128x384 ![] bcast_S_S128x384 (constantI S_ 32 1#32))))))
      transposes_S128x384x8_S8x128x384_2_0_1)
    (broadcastInDim S8x128x384 ![] bcast_S_S8x128x384 (constant (F := Ideal) S_ .f32 0xFF800000#32))

/-- A fill of minus infinity. -/
def fillW : Vec Ideal S8x128x128 .f32 := broadcastInDim S8x128x128 ![] bcast_S_S8x128x128 (constant (F := Ideal) S_ .f32 0xFF800000#32)

/-- The three variants, one after the other. -/
def variants (x3 : Vec Ideal S32x8 .f32) : Vec Ideal S8x3x128x384 .f32 :=
  concatenate S8x3x128x384 1
    [⟨S8x1x128x384, broadcastInDim S8x1x128x384 ![0, 2, 3] bcast_S8x128x384_S8x1x128x384_0_2_3 (baseW x3)⟩,
     ⟨S8x1x128x384, broadcastInDim S8x1x128x384 ![0, 2, 3] bcast_S8x128x384_S8x1x128x384_0_2_3
        (concatenate S8x128x384 2 [⟨S8x128x256, extractStridedSlice S8x128x256 ![0, 0, 128] (baseW x3) slices_S8x128x384_S8x128x256_0_0_128⟩,
          ⟨S8x128x128, fillW⟩] concatenates_S8x128x256_S8x128x128_S8x128x384_d2)⟩,
     ⟨S8x1x128x384, broadcastInDim S8x1x128x384 ![0, 2, 3] bcast_S8x128x384_S8x1x128x384_0_2_3
        (concatenate S8x128x384 2 [⟨S8x128x128, fillW⟩,
          ⟨S8x128x256, extractStridedSlice S8x128x256 ![0, 0, 0] (baseW x3) slices_S8x128x384_S8x128x256_0_0_0⟩]
          concatenates_S8x128x128_S8x128x256_S8x128x384_d2)⟩]
    concatenates_S8x1x128x384_S8x1x128x384_S8x1x128x384_S8x3x128x384_d1

/-- Equal pieces make equal variants. -/
theorem variants_congr {a a' b b' e e' : Vec Ideal S8x1x128x384 .f32} (ha : a = a') (hb : b = b') (he : e = e') :
    concatenate S8x3x128x384 1 [⟨S8x1x128x384, a⟩, ⟨S8x1x128x384, b⟩, ⟨S8x1x128x384, e⟩]
        concatenates_S8x1x128x384_S8x1x128x384_S8x1x128x384_S8x3x128x384_d1
      = concatenate S8x3x128x384 1 [⟨S8x1x128x384, a'⟩, ⟨S8x1x128x384, b'⟩, ⟨S8x1x128x384, e'⟩]
        concatenates_S8x1x128x384_S8x1x128x384_S8x1x128x384_S8x3x128x384_d1 := by
  subst ha hb he
  rfl

/-- The bias as the call takes it: keys by rows, both heads' queries by columns. -/
def biasT (x3 : Vec Ideal S32x8 .f32) : Vec Ideal S4x3x384x256 .f32 :=
  transpose S4x3x384x256 [0, 1, 3, 2]
    (shapeCast S4x3x256x384
      (transpose S4x3x2x128x384 [0, 2, 1, 3, 4]
        (shapeCast S4x2x3x128x384 (variants x3) shapeCasts_S8x3x128x384_S4x2x3x128x384)
        transposes_S4x2x3x128x384_S4x3x2x128x384_0_2_1_3_4)
      shapeCasts_S4x3x2x128x384_S4x3x256x384)
    transposes_S4x3x256x384_S4x3x384x256_0_1_3_2

/-! ## What the call finds -/

theorem pick_zero (a b c : Ref sig .tc) : (![a, b, c] : Fin 3 → Ref sig .tc) 0 = a := rfl
theorem pick_one (a b c : Ref sig .tc) : (![a, b, c] : Fin 3 → Ref sig .tc) 1 = b := rfl
theorem pick_two (a b c : Ref sig .tc) : (![a, b, c] : Fin 3 → Ref sig .tc) 2 = c := rfl

variable (m : (ℓ : Loc nD τ sig) → Buf (Elt Ideal) ℓ) (c : Dev nD)

set_option maxRecDepth 65536 in
set_option maxHeartbeats 40000000 in
/-- The output. -/
theorem V_out : (V m c main_v137 : Vec Ideal S4x4096x128 .f32)
    = Cert.ReferenceIdeal.Read.val_main_v91 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after (List.flatten [hostOps0, hostOps0_1, hostOps0_2, hostOps0_3, hostOps0_4, hostOps0_5, hostOps0_6, hostOps0_7,
    hostOps0_8, hostOps0_9, hostOps0_10, hostOps0_11, hostOps0_12]) _ (Proc.devRef .tc main_v137) = _
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp
  rfl

set_option maxRecDepth 65536 in
set_option maxHeartbeats 40000000 in
/-- The log of the denominator, over each head's lanes. -/
theorem V_lse : (V m c main_v140 : Vec Ideal S4x4096x128 .f32)
    = shapeCast S4x4096x128 (broadcastInDim S2x2x4096x2x64 ![0, 1, 2, 3, 4] bcast_S2x2x4096x2x1_S2x2x4096x2x64_0_1_2_3_4
      (broadcastInDim S2x2x4096x2x1 ![0, 1, 2, 3] bcast_S2x2x4096x2_S2x2x4096x2x1_0_1_2_3
        (Cert.ReferenceIdeal.Read.val_main_v90 (F := Ideal) (m ((c : Thread nD τ).loc main_arg0)) (m ((c : Thread nD τ).loc main_arg1))
          (m ((c : Thread nD τ).loc main_arg3)) (m ((c : Thread nD τ).loc main_arg4)))))
      shapeCasts_S2x2x4096x2x64_S4x4096x128 := by
  show StableHlo.after (List.flatten [hostOps0, hostOps0_1, hostOps0_2, hostOps0_3, hostOps0_4, hostOps0_5, hostOps0_6, hostOps0_7,
    hostOps0_8, hostOps0_9, hostOps0_10, hostOps0_11, hostOps0_12]) _ (Proc.devRef .tc main_v140) = _
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp
  rfl

set_option maxRecDepth 65536 in
set_option maxHeartbeats 40000000 in
/-- The bias. -/
theorem V_bias : (V m c main_v136 : Vec Ideal S4x3x384x256 .f32)
    = biasT (m ((c : Thread nD τ).loc main_arg3)) := by
  show StableHlo.after (List.flatten [hostOps0, hostOps0_1, hostOps0_2, hostOps0_3, hostOps0_4, hostOps0_5, hostOps0_6, hostOps0_7,
    hostOps0_8, hostOps0_9, hostOps0_10, hostOps0_11, hostOps0_12]) _ (Proc.devRef .tc main_v136) = _
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results_simp
  dsimp only [pick_zero, pick_one, pick_two]
  refine congrArg (fun v : Vec Ideal S8x3x128x384 .f32 => transpose S4x3x384x256 [0, 1, 3, 2]
    (shapeCast S4x3x256x384
      (transpose S4x3x2x128x384 [0, 2, 1, 3, 4] (shapeCast S4x2x3x128x384 v shapeCasts_S8x3x128x384_S4x2x3x128x384)
        transposes_S4x2x3x128x384_S4x3x2x128x384_0_2_1_3_4)
      shapeCasts_S4x3x2x128x384_S4x3x256x384)
    transposes_S4x3x256x384_S4x3x384x256_0_1_3_2) (variants_congr ?_ ?_ ?_)
  · after_results_simp
    rfl
  · after_results_simp
    rfl
  · after_results_simp
    rfl

end Cert.KernelIdeal.Band
-- ==== Proof.BandSpec.lean ====
module

public import proofs.«01_k».proof.Proof.Cover
public import Idealize.ShloMosaic.Lib.Pipeline.Value
public import Idealize.ShloMosaic.Lib.KernelVsHost
public import Idealize.ShloMosaic.Lib.Pointwise

/-!
# What a block of the attention's backward computes

The named pieces of a block, element by element, at the extended reals: a packed pair's two heads side by side in the
lanes, and above each other in the columns.
-/

@[expose] public section

noncomputable section

namespace Cert.KernelIdeal.Band

open Idealize.ShloMosaic Idealize.SL.Sem
open Cert.KernelIdeal Cert.KernelIdeal.Gen

/-- Head `h`'s lane `e`. -/
def lane (h : Fin 2) (e : Fin 64) : Fin 128 := ⟨64 * h.val + e.val, by omega⟩
/-- Head `h`'s column of query row `r`. -/
def col (h : Fin 2) (r : Fin 128) : Fin 256 := ⟨128 * h.val + r.val, by omega⟩
/-- The head of a lane. -/
def headOf (y : Fin 128) : Fin 2 := ⟨y.val / 64, by omega⟩

section Masks

/-- The first head's lanes. -/
theorem laneLo_apply (r e : Fin 128) : laneLo (ix2 r e) = if e.val < 64 then 1#1 else 0#1 := by
  have h : ∀ e : Fin 128, IntOp.cmpi .slt (BitVec.ofNat 32 e.val) 64#32 = if e.val < 64 then 1#1 else 0#1 := by decide
  refine Eq.trans ?_ (h e)
  show IntOp.cmpi .slt (iota _ _ _ _ _ _) _ = _
  rw [iota_single_apply]
  rfl

/-- The first 64 lanes of a strip. -/
theorem stripLo_apply (s : Fin 8) (e : Fin 128) : stripLo (ix2 s e) = if e.val < 64 then 1#1 else 0#1 := by
  have h : ∀ e : Fin 128, IntOp.cmpi .slt (BitVec.ofNat 32 e.val) 64#32 = if e.val < 64 then 1#1 else 0#1 := by decide
  refine Eq.trans ?_ (h e)
  show IntOp.cmpi .slt (iota _ _ _ _ _ _) _ = _
  rw [iota_single_apply]
  rfl

/-- The remainder by 64. -/
def rem64 (x : BitVec 32) : BitVec 32 :=
  Scalar.select (IntOp.andi (IntOp.xori (IntOp.cmpi .slt (IntOp.remsi .vector x div64) 0#32) (Scalar.cmpi .slt div64 0#32))
    (IntOp.cmpi .ne (IntOp.remsi .vector x div64) 0#32)) (IntOp.addi (IntOp.remsi .vector x div64) div64) (IntOp.remsi .vector x div64)

theorem rem64_eq : ∀ e : Fin 128, rem64 (BitVec.ofNat 32 e.val) = BitVec.ofNat 32 (e.val % 64) := by decide +kernel

theorem modLane (r e : Fin 128) : mod64 (iota .tc S128x128 32 [1] iota_S128x128_d1_w32) (ix2 r e) = BitVec.ofNat 32 (e.val % 64) := by
  refine Eq.trans (show _ = rem64 (iota _ _ _ _ _ _) from rfl) ?_
  rw [iota_single_apply]
  exact rem64_eq e
theorem modRow (r e : Fin 128) : mod64 (iota .tc S128x128 32 [0] iota_S128x128_d0_w32) (ix2 r e) = BitVec.ofNat 32 (r.val % 64) := by
  refine Eq.trans (show _ = rem64 (iota _ _ _ _ _ _) from rfl) ?_
  rw [iota_single_apply]
  exact rem64_eq r

/-- Lane and row agree. -/
theorem diag64_apply (r e : Fin 128) : diag64 (ix2 r e) = if e.val % 64 = r.val % 64 then 1#1 else 0#1 := by
  unfold diag64
  show IntOp.cmpi .eq (mod64 _ _) (mod64 _ _) = _
  rw [modLane, modRow]
  have h : ∀ a b : Fin 64, IntOp.cmpi .eq (BitVec.ofNat 32 a.val) (BitVec.ofNat 32 b.val) = if a.val = b.val then 1#1 else 0#1 := by
    decide +kernel
  exact h ⟨e.val % 64, by omega⟩ ⟨r.val % 64, by omega⟩

/-- The diagonals of the upper and of the lower rows. -/
theorem diagTop_apply (r e : Fin 128) : diagTop (ix2 r e) = if e.val % 64 = r.val then 1#1 else 0#1 := by
  unfold diagTop
  show IntOp.andi (diag64 _) (IntOp.cmpi .slt (iota _ _ _ _ _ _) _) = _
  rw [iota_single_apply, diag64_apply]
  have h : ∀ r : Fin 128, IntOp.cmpi .slt (BitVec.ofNat 32 r.val) 64#32 = if r.val < 64 then 1#1 else 0#1 := by decide
  refine (congrArg (IntOp.andi _) (h r)).trans ?_
  split <;> split <;> split <;> first | rfl | omega
theorem diagBot_apply (r e : Fin 128) : diagBot (ix2 r e) = if e.val % 64 + 64 = r.val then 1#1 else 0#1 := by
  unfold diagBot
  show IntOp.andi (diag64 _) (IntOp.cmpi .sge (iota _ _ _ _ _ _) _) = _
  rw [iota_single_apply, diag64_apply]
  have h : ∀ r : Fin 128, IntOp.cmpi .sge (BitVec.ofNat 32 r.val) 64#32 = if r.val < 64 then 0#1 else 1#1 := by decide
  refine (congrArg (IntOp.andi _) (h r)).trans ?_
  split <;> split <;> split <;> first | rfl | omega

end Masks

section Tiles

theorem select_one {α : Type} (a b : α) : Scalar.select 1#1 a b = a := rfl
theorem select_zero {α : Type} (a b : α) : Scalar.select 0#1 a b = b := rfl
theorem f0 : (Scalar.ofBits .f32 0x00000000#32 : Ideal .f32) = 0 := by simp only [pointwise]
theorem f0b : (Scalar.ofBits .bf16 0x0000#16 : Ideal .bf16) = 0 := by simp only [pointwise]

/-- A masked column sum. -/
theorem colSum_apply (k : IVec S128x128 1) (x : FVec Ideal S128x128 .f32) (s : Fin 8) (y : Fin 128) :
    colSum k x (ix2 s y) = ∑ r : Fin 128, if k (ix2 r y) = 1#1 then x (ix2 r y) else 0 := by
  unfold colSum zeros
  simp only [pointwise]
  rfl

/-- The column sum over a diagonal is its one entry. -/
theorem colSum_top (x : FVec Ideal S128x128 .f32) (s : Fin 8) (y q : Fin 128) (hq : y.val % 64 = q.val) :
    colSum diagTop x (ix2 s y) = x (ix2 q y) := by
  rw [colSum_apply, Finset.sum_eq_single q]
  · rw [diagTop_apply, if_pos hq, if_pos rfl]
  · intro r _ hr
    have n : ¬ y.val % 64 = r.val := fun h => hr (Fin.ext (h.symm.trans hq))
    rw [diagTop_apply, if_neg n, if_neg (by decide)]
  · intro h
    exact absurd (Finset.mem_univ q) h
theorem colSum_bot (x : FVec Ideal S128x128 .f32) (s : Fin 8) (y q : Fin 128) (hq : y.val % 64 + 64 = q.val) :
    colSum diagBot x (ix2 s y) = x (ix2 q y) := by
  rw [colSum_apply, Finset.sum_eq_single q]
  · rw [diagBot_apply, if_pos hq, if_pos rfl]
  · intro r _ hr
    have n : ¬ y.val % 64 + 64 = r.val := fun h => hr (Fin.ext (h.symm.trans hq))
    rw [diagBot_apply, if_neg n, if_neg (by decide)]
  · intro h
    exact absurd (Finset.mem_univ q) h

/-- A sum over a pair's lanes of what vanishes outside one head's. -/
theorem sum_lanes (h : Fin 2) (f : Fin 128 → EReal) :
    (∑ y : Fin 128, if y.val / 64 = h.val then f y else 0) = ∑ e : Fin 64, f (lane h e) := by
  rw [← Finset.sum_filter]
  refine (Finset.sum_bij (fun e _ => lane h e) (fun e _ => ?_) (fun a _ b _ e => ?_) (fun y hy => ?_) (fun e _ => rfl)).symm
  · exact Finset.mem_filter.mpr ⟨Finset.mem_univ _, by show (64 * h.val + e.val) / 64 = h.val; omega⟩
  · have := congrArg Fin.val e
    exact Fin.ext (by have : 64 * h.val + a.val = 64 * h.val + b.val := this; omega)
  · have hy := (Finset.mem_filter.mp hy).2
    exact ⟨⟨y.val % 64, by omega⟩, Finset.mem_univ _, Fin.ext (by show 64 * h.val + y.val % 64 = y.val; omega)⟩

/-- A sum over the columns of what is one head's. -/
theorem sum_cols (h₀ : Fin 2) (f : Fin 256 → EReal) (g : Fin 128 → EReal)
    (e : ∀ h r, f (col h r) = if h = h₀ then g r else 0) : (∑ c : Fin 256, f c) = ∑ r : Fin 128, g r := by
  let E : Fin 2 × Fin 128 ≃ Fin 256 :=
    ⟨fun p => col p.1 p.2, fun c => (⟨c.val / 128, by omega⟩, ⟨c.val % 128, by omega⟩),
      fun p => Prod.ext (Fin.ext (by show (128 * p.1.val + p.2.val) / 128 = p.1.val; omega))
        (Fin.ext (by show (128 * p.1.val + p.2.val) % 128 = p.2.val; omega)),
      fun c => Fin.ext (by show 128 * (c.val / 128) + c.val % 128 = c.val; omega)⟩
  rw [← E.sum_comp, Fintype.sum_prod_type]
  show ∑ h, ∑ r, f (col h r) = _
  simp only [e]
  rw [Finset.sum_eq_single h₀]
  · simp only [if_pos]
  · intro h _ n
    simp only [if_neg n, Finset.sum_const_zero]
  · exact fun n => absurd (Finset.mem_univ _) n

/-- A row sum. -/
theorem rowSum_apply (x : FVec Ideal S128x128 .f32) (r y : Fin 128) : rowSum x (ix2 r y) = ∑ k : Fin 128, x (ix2 r k) := by
  unfold rowSum
  simp only [pointwise]
  rfl

/-- A half sum, in each of its head's lanes. -/
theorem halfSum_apply (x : FVec Ideal S128x128 .f32) (r : Fin 128) (h : Fin 2) (y : Fin 128) (hy : y.val / 64 = h.val) :
    halfSum x (ix2 r y) = ∑ e : Fin 64, x (ix2 r (lane h e)) := by
  rw [← sum_lanes h fun y => x (ix2 r y)]
  unfold halfSum
  show Scalar.select (laneLo (ix2 r y)) (rowSum _ (ix2 r y)) (rowSum _ (ix2 r y)) = _
  rw [laneLo_apply, rowSum_apply, rowSum_apply]
  by_cases c : y.val < 64
  · rw [if_pos c, select_one]
    refine Finset.sum_congr rfl fun k _ => ?_
    show Scalar.select (laneLo (ix2 r k)) (x (ix2 r k)) _ = _
    rw [laneLo_apply]
    by_cases d : k.val < 64
    · rw [if_pos d, select_one, if_pos (by omega)]
    · rw [if_neg d, select_zero, if_neg (by omega)]
      exact f0
  · rw [if_neg c, select_zero]
    refine Finset.sum_congr rfl fun k _ => ?_
    show Scalar.select (laneLo (ix2 r k)) _ (x (ix2 r k)) = _
    rw [laneLo_apply]
    by_cases d : k.val < 64
    · rw [if_pos d, select_one, if_neg (by omega)]
      exact f0
    · rw [if_neg d, select_zero, if_pos (by omega)]

/-- The row of both heads' values. -/
theorem rowVec_apply (x : FVec Ideal S128x128 .f32) (h : Fin 2) (r : Fin 128) :
    rowVec x (ix2 0 (col h r)) = x (ix2 r (lane h ⟨r.val % 64, by omega⟩)) := by
  unfold rowVec
  rw [extractStridedSlice_apply _ _ _ _ (ix2 (0 : Fin 8) (col h r)) (fun a => by
    match a with
    | ⟨0, _⟩ => rfl
    | ⟨1, _⟩ => exact (Nat.zero_add _).symm)]
  match h with
  | 0 =>
    rw [concatenate_pair_apply_left (t := S8x256) (s₁ := S8x128) (s₂ := S8x128) 1 _ _ _ _ rfl (ix2 (0 : Fin 8) r) (fun b => by
      match b with
      | ⟨0, _⟩ => rfl
      | ⟨1, _⟩ => show r.val = 128 * 0 + r.val; omega)]
    show Scalar.select (stripLo (ix2 0 r)) (colSum diagTop x (ix2 0 r)) _ = _
    rw [stripLo_apply]
    by_cases c : r.val < 64
    · rw [if_pos c, select_one, colSum_top x 0 r r (by omega)]
      exact congrArg (fun y => x (ix2 r y)) (Fin.ext (by show r.val = 64 * 0 + r.val % 64; omega))
    · rw [if_neg c, select_zero, dynamicRotate_apply 1 _ _ _ _ (ix2 (0 : Fin 8) ⟨r.val - 64, by omega⟩) (fun b => by
        match b with
        | ⟨0, _⟩ => rfl
        | ⟨1, _⟩ => show r.val - 64 = (r.val + 128 - 64 % 128) % 128; omega),
        colSum_bot x 0 _ r (by show (r.val - 64) % 64 + 64 = r.val; omega)]
      exact congrArg (fun y => x (ix2 r y)) (Fin.ext (by show r.val - 64 = 64 * 0 + r.val % 64; omega))
  | 1 =>
    rw [concatenate_pair_apply_right (t := S8x256) (s₁ := S8x128) (s₂ := S8x128) 1 _ _ _ _ rfl rfl (ix2 (0 : Fin 8) r) (fun b hb => by
      match b with
      | ⟨0, _⟩ => rfl
      | ⟨1, _⟩ => exact absurd rfl hb) (by show r.val + 128 = 128 * 1 + r.val; omega)]
    show Scalar.select (stripLo (ix2 0 r)) _ (colSum diagBot x (ix2 0 r)) = _
    rw [stripLo_apply]
    by_cases c : r.val < 64
    · rw [if_pos c, select_one, dynamicRotate_apply 1 _ _ _ _ (ix2 (0 : Fin 8) ⟨r.val + 64, by omega⟩) (fun b => by
        match b with
        | ⟨0, _⟩ => rfl
        | ⟨1, _⟩ => show r.val + 64 = (r.val + 128 - 64 % 128) % 128; omega),
        colSum_top x 0 _ r (by show (r.val + 64) % 64 = r.val; omega)]
      exact congrArg (fun y => x (ix2 r y)) (Fin.ext (by show r.val + 64 = 64 * 1 + r.val % 64; omega))
    · rw [if_neg c, select_zero, colSum_bot x 0 r r (by omega)]
      exact congrArg (fun y => x (ix2 r y)) (Fin.ext (by show r.val = 64 * 1 + r.val % 64; omega))

/-- The stacked heads. -/
theorem stack_apply (x : FVec Ideal S128x128 .bf16) (h : Fin 2) (r y : Fin 128) :
    stack x (ix2 (col h r) y) = if y.val / 64 = h.val then x (ix2 r y) else 0 := by
  unfold stack
  match h with
  | 0 =>
    rw [concatenate_pair_apply_left (t := S256x128) (s₁ := S128x128) (s₂ := S128x128) 0 _ _ _ _ rfl (ix2 r y) (fun b => by
      match b with
      | ⟨0, _⟩ => show r.val = 128 * 0 + r.val; omega
      | ⟨1, _⟩ => rfl)]
    show Scalar.select (laneLo (ix2 r y)) (x (ix2 r y)) _ = _
    rw [laneLo_apply]
    by_cases c : y.val < 64
    · rw [if_pos c, select_one, if_pos (by show y.val / 64 = 0; omega)]
    · rw [if_neg c, select_zero, if_neg (by show ¬ y.val / 64 = 0; omega)]
      exact f0b
  | 1 =>
    rw [concatenate_pair_apply_right (t := S256x128) (s₁ := S128x128) (s₂ := S128x128) 0 _ _ _ _ rfl rfl (ix2 r y) (fun b hb => by
      match b with
      | ⟨0, _⟩ => exact absurd rfl hb
      | ⟨1, _⟩ => rfl) (by show r.val + 128 = 128 * 1 + r.val; omega)]
    show Scalar.select (laneLo (ix2 r y)) _ (x (ix2 r y)) = _
    rw [laneLo_apply]
    by_cases c : y.val < 64
    · rw [if_pos c, select_one, if_neg (by show ¬ y.val / 64 = 1; omega)]
      exact f0b
    · rw [if_neg c, select_zero, if_pos (by show y.val / 64 = 1; omega)]

end Tiles

section Blocks

variable (q dO : Vec Ideal S1x128x128 .bf16) (k v : Vec Ideal S1x384x128 .bf16) (lse o : Vec Ideal S1x128x128 .f32)
  (bias : Vec Ideal S1x1x384x256 .f32)

/-- The product of a window's key and a query of one head. -/
theorem dot_apply (w : Fin 384) (h : Fin 2) (r : Fin 128) :
    matmul dot_S384x128_S256x128_S384x256_1_1_0_0_n_n none (winB k) (stack (tileB q))
      (constant (F := Ideal) S384x256 .f32 0x00000000#32) (ix2 w (col h r))
    = ∑ e : Fin 64, k (ix3 0 w (lane h e)) * q (ix3 0 r (lane h e)) := by
  rw [← sum_lanes h fun y => k (ix3 0 w y) * q (ix3 0 r y)]
  unfold winB tileB
  simp only [pointwise, stack_apply]
  rw [zero_add]
  refine Finset.sum_congr rfl fun y _ => ?_
  by_cases c : y.val / 64 = h.val
  · rw [if_pos c, if_pos c]
  · rw [if_neg c, if_neg c, mul_zero]

/-- The lse row. -/
theorem lse_apply (h : Fin 2) (r : Fin 128) :
    rowVec (tileF lse) (ix2 0 (col h r)) = lse (ix3 0 r (lane h ⟨r.val % 64, by omega⟩)) := by
  rw [rowVec_apply]
  unfold tileF
  simp only [pointwise]

/-- A probability. -/
def pr (w : Fin 384) (h : Fin 2) (r : Fin 128) : EReal :=
  Ideal.exp (((∑ e : Fin 64, k (ix3 0 w (lane h e)) * q (ix3 0 r (lane h e))) + bias (ix4 0 0 w (col h r)))
    - lse (ix3 0 r (lane h ⟨r.val % 64, by omega⟩)))

theorem probs_apply (w : Fin 384) (h : Fin 2) (r : Fin 128) :
    probs q k lse bias (ix2 w (col h r)) = pr q k lse bias w h r := by
  unfold probs pr
  rw [← dot_apply, ← lse_apply lse]
  simp only [pointwise]
  rfl

/-- A query's sum of output times gradient. -/
def dl (h : Fin 2) (r : Fin 128) : EReal := ∑ e : Fin 64, dO (ix3 0 r (lane h e)) * o (ix3 0 r (lane h e))

theorem delta_apply (h : Fin 2) (r : Fin 128) : delta dO o (ix2 0 (col h r)) = dl dO o h r := by
  unfold delta dl
  rw [rowVec_apply, halfSum_apply _ _ h _ (by show (64 * h.val + r.val % 64) / 64 = h.val; omega)]
  refine Finset.sum_congr rfl fun e _ => ?_
  unfold tileB tileF
  simp only [pointwise]

/-- A score's gradient. -/
def dsc (w : Fin 384) (h : Fin 2) (r : Fin 128) : EReal :=
  pr q k lse bias w h r * ((∑ e : Fin 64, v (ix3 0 w (lane h e)) * dO (ix3 0 r (lane h e))) - dl dO o h r)

theorem dscores_apply (w : Fin 384) (h : Fin 2) (r : Fin 128) :
    dscores q k v dO lse o bias (ix2 w (col h r)) = dsc q dO k v lse o bias w h r := by
  unfold dscores dsc
  rw [← probs_apply, ← dot_apply, ← delta_apply]
  simp only [pointwise]
  rfl

/-- A query's gradient. -/
theorem dqTile_apply (ds : FVec Ideal S384x256 .f32) (r y : Fin 128) :
    dqTile ds k (ix3 0 r y) = ∑ w : Fin 384, ds (ix2 w (col (headOf y) r)) * k (ix3 0 w y) := by
  unfold dqTile winB
  simp only [pointwise]
  rw [zero_add, zero_add, laneLo_apply]
  by_cases c : y.val < 64
  · rw [if_pos c, select_one]
    refine Finset.sum_congr rfl fun w _ => ?_
    refine congrArg₂ _ (congrArg (fun c => ds (ix2 w c)) (Fin.ext ?_)) (congrArg (fun y => k (ix3 0 w y)) (Fin.ext ?_))
    · show 0 + r.val = 128 * (y.val / 64) + r.val; omega
    · show 0 + y.val = y.val; omega
  · rw [if_neg c, select_zero]
    refine Finset.sum_congr rfl fun w _ => ?_
    refine congrArg₂ _ (congrArg (fun c => ds (ix2 w c)) (Fin.ext ?_)) (congrArg (fun y => k (ix3 0 w y)) (Fin.ext ?_))
    · show 128 + r.val = 128 * (y.val / 64) + r.val; omega
    · show 0 + y.val = y.val; omega

/-- A window's accumulator with one block added. -/
theorem accWin_apply (a : Vec Ideal S1x384x128 .f32) (ds : FVec Ideal S384x256 .f32) (w : Fin 384) (y : Fin 128) :
    accWin a ds q (ix3 0 w y) = a (ix3 0 w y) + ∑ r : Fin 128, ds (ix2 w (col (headOf y) r)) * q (ix3 0 r y) := by
  unfold accWin
  simp only [pointwise]
  rw [zero_add, sum_cols (headOf y) (fun c => ds (ix2 w c) * stack (tileB q) (ix2 c y))
    (fun r => ds (ix2 w (col (headOf y) r)) * q (ix3 0 r y)) (fun h r => ?_)]
  rw [stack_apply]
  by_cases c : h = headOf y
  · subst c
    rw [if_pos (show y.val / 64 = (headOf y).val from rfl), if_pos rfl]
    refine congrArg _ ?_
    unfold tileB
    simp only [pointwise]
  · rw [if_neg c, if_neg (fun e => c (Fin.ext e.symm)), mul_zero]

end Blocks

end Cert.KernelIdeal.Band
-- ==== Proof.BandSum.lean ====
module

public import proofs.«01_k».proof.Proof.BandSpec

/-!
# The attention's backward, over the whole sequence

A block's window of 384 keys becomes the whole row of 4096 keys: outside the window the bias is read as minus
infinity, so a probability there is zero. The sums over blocks and their rows become sums over the 4096 queries.
-/

@[expose] public section

noncomputable section

namespace Cert.KernelIdeal.Band

open Idealize.ShloMosaic Idealize.SL.Sem
open Cert.KernelIdeal Cert.KernelIdeal.Gen
open Idealize.ShloMosaic.VecWindow (window put)

/-- The first key of a block's window. -/
def win (b : Fin 32) : ℕ := min (128 * b.val - 128) 3712
/-- The variant of the bias a block reads. -/
def kind (b : Fin 32) : Fin 3 := if b.val = 0 then 1 else if b.val = 31 then 2 else 0

theorem win_le (b : Fin 32) : win b ≤ 3712 := Nat.min_le_right _ _

/-- The block of a trip and its number there. -/
def blkNo (t : Fin k0_t1_loop.trips) (r : Fin 16) : Fin 32 :=
  ⟨16 * t.val + r.val, by have : t.val < 2 := trips_eq_two ▸ t.isLt; omega⟩

theorem off4_eq : ∀ (t : Fin k0_t1_loop.trips) (r : Fin 16) (a : Fin 3),
    k0_off4 t (BitVec.ofNat 32 r) a = (![0, win (blkNo t r), 0] : Fin 3 → ℕ) a := by decide +kernel

theorem off5_eq : ∀ (t : Fin k0_t1_loop.trips) (r : Fin 16) (a : Fin 4),
    k0_off5 t (BitVec.ofNat 32 r) a = (![0, (kind (blkNo t r)).val, 0, 0] : Fin 4 → ℕ) a := by decide +kernel

/-- A block's query row, in the sequence. -/
def rowOf (b : Fin 32) (r : Fin 128) : Fin 4096 := ⟨128 * b.val + r.val, by omega⟩
/-- A window's key, in the sequence. -/
def keyOf (b : Fin 32) (w : Fin 384) : Fin 4096 := ⟨win b + w.val, by have := win_le b; omega⟩

theorem blockOf_row (b : Fin 32) (r : Fin 128) : blockOf (rowOf b r) = b :=
  Fin.ext (by show (128 * b.val + r.val) / 128 = b.val; omega)
theorem placeOf_row (b : Fin 32) (r : Fin 128) : placeOf (rowOf b r) = r :=
  Fin.ext (by show (128 * b.val + r.val) % 128 = r.val; omega)
theorem rowOf_place (l : Fin 4096) : rowOf (blockOf l) (placeOf l) = l :=
  Fin.ext (by show 128 * (l.val / 128) + l.val % 128 = l.val; omega)

section Reads
variable {e : EltTy} (t : Fin k0_t1_loop.trips) (r : Fin 16)

theorem rows_apply (a : Vec Ideal S1x4096x128 e) (i y : Fin 128) : rows t r a (ix3 0 i y) = a (ix3 0 (rowOf (blkNo t r) i) y) := by
  refine congrArg a (funext fun d => Fin.ext ?_)
  have h0 := off3_eq t r 0
  have h1 := off3_eq t r 1
  have h2 := off3_eq t r 2
  simp only [Matrix.cons_val_zero, Matrix.cons_val_one, Matrix.cons_val] at h0 h1 h2
  match d with
  | 0 => show k0_off3 t (BitVec.ofNat 32 r) 0 + 1 * 0 = 0; omega
  | 1 => show k0_off3 t (BitVec.ofNat 32 r) 1 + 1 * i.val = 128 * (16 * t.val + r.val) + i.val; omega
  | 2 => show k0_off3 t (BitVec.ofNat 32 r) 2 + 1 * y.val = y.val; omega

theorem keys_apply (a : Vec Ideal S1x4096x128 e) (w : Fin 384) (y : Fin 128) : keys t r a (ix3 0 w y) = a (ix3 0 (keyOf (blkNo t r) w) y) := by
  refine congrArg a (funext fun d => Fin.ext ?_)
  have h0 := off4_eq t r 0
  have h1 := off4_eq t r 1
  have h2 := off4_eq t r 2
  simp only [Matrix.cons_val_zero, Matrix.cons_val_one, Matrix.cons_val] at h0 h1 h2
  match d with
  | 0 => show k0_off4 t (BitVec.ofNat 32 r) 0 + 1 * 0 = 0; omega
  | 1 => show k0_off4 t (BitVec.ofNat 32 r) 1 + 1 * w.val = win (blkNo t r) + w.val; omega
  | 2 => show k0_off4 t (BitVec.ofNat 32 r) 2 + 1 * y.val = y.val; omega

theorem biasOf_apply (a : Vec Ideal S1x3x384x256 .f32) (w : Fin 384) (c : Fin 256) :
    biasOf t r a (ix4 0 0 w c) = a (ix4 0 (kind (blkNo t r)) w c) := by
  refine congrArg a (funext fun d => Fin.ext ?_)
  have h0 := off5_eq t r 0
  have h1 := off5_eq t r 1
  have h2 := off5_eq t r 2
  have h3 := off5_eq t r 3
  simp only [Matrix.cons_val_zero, Matrix.cons_val_one, Matrix.cons_val] at h0 h1 h2 h3
  match d with
  | 0 => show k0_off5 t (BitVec.ofNat 32 r) 0 + 1 * 0 = 0; omega
  | 1 => show k0_off5 t (BitVec.ofNat 32 r) 1 + 1 * 0 = (kind (blkNo t r)).val; omega
  | 2 => show k0_off5 t (BitVec.ofNat 32 r) 2 + 1 * w.val = w.val; omega
  | 3 => show k0_off5 t (BitVec.ofNat 32 r) 3 + 1 * c.val = c.val; omega
end Reads

variable (x : Ins Ideal)

/-- A key lies in the window of a query's block. -/
abbrev Seen (l m : Fin 4096) : Prop := win (blockOf l) ≤ m.val ∧ m.val < win (blockOf l) + 384

/-- The bias of query `l` and key `m`: minus infinity outside the window of the query's block. -/
def bi (l m : Fin 4096) (h : Fin 2) : EReal :=
  if c : Seen l m then x.b (ix4 0 (kind (blockOf l)) ⟨m.val - win (blockOf l), by omega⟩ (col h (placeOf l))) else ⊥

/-- A probability. -/
def pw (l m : Fin 4096) (h : Fin 2) : EReal :=
  Ideal.exp (((∑ e : Fin 64, x.k (ix3 0 m (lane h e)) * x.q (ix3 0 l (lane h e))) + bi x l m h)
    - x.lse (ix3 0 l (lane h ⟨(placeOf l).val % 64, by omega⟩)))

/-- A query's sum of output times gradient. -/
def dw (l : Fin 4096) (h : Fin 2) : EReal := ∑ e : Fin 64, x.dO (ix3 0 l (lane h e)) * x.o (ix3 0 l (lane h e))

/-- A score's gradient. -/
def sw (l m : Fin 4096) (h : Fin 2) : EReal :=
  pw x l m h * ((∑ e : Fin 64, x.v (ix3 0 m (lane h e)) * x.dO (ix3 0 l (lane h e))) - dw x l h)

/-- Outside the window a probability is zero. -/
theorem pw_zero {l m : Fin 4096} (n : ¬ Seen l m) (h : Fin 2) : pw x l m h = 0 := by
  unfold pw bi
  rw [dif_neg n, EReal.add_bot, EReal.bot_sub]
  exact Ideal.exp_bot
theorem sw_zero {l m : Fin 4096} (n : ¬ Seen l m) (h : Fin 2) : sw x l m h = 0 := by
  unfold sw
  rw [pw_zero x n, zero_mul]

section Blocks
variable (t : Fin k0_t1_loop.trips) (r : Fin 16)

theorem seen_key (b : Fin 32) (i : Fin 128) (w : Fin 384) : Seen (rowOf b i) (keyOf b w) := by
  unfold Seen
  rw [blockOf_row]
  show win b ≤ win b + w.val ∧ win b + w.val < win b + 384
  omega

theorem bi_block (b : Fin 32) (w : Fin 384) (h : Fin 2) (i : Fin 128) :
    bi x (rowOf b i) (keyOf b w) h = x.b (ix4 0 (kind b) w (col h i)) := by
  unfold bi
  rw [dif_pos (seen_key b i w)]
  have e : ∀ (b' : Fin 32) (i' : Fin 128) (hb : b' = b) (hi : i' = i) (w' : Fin 384), w'.val = win b + w.val - win b' →
      x.b (ix4 0 (kind b') w' (col h i')) = x.b (ix4 0 (kind b) w (col h i)) := by
    rintro b' i' rfl rfl w' hw
    exact congrArg (fun w => x.b (ix4 0 _ w _)) (Fin.ext (by omega))
  exact e _ _ (blockOf_row b i) (placeOf_row b i) _ rfl

theorem blkP_apply (w : Fin 384) (h : Fin 2) (i : Fin 128) :
    blkP x t r (ix2 w (col h i)) = pw x (rowOf (blkNo t r) i) (keyOf (blkNo t r) w) h := by
  unfold blkP
  rw [probs_apply]
  unfold pr pw
  rw [bi_block, biasOf_apply, rows_apply]
  simp only [placeOf_row]
  refine congrArg Ideal.exp (congrArg (· - _) (congrArg (· + _) (Finset.sum_congr rfl fun e _ => ?_)))
  rw [rows_apply, keys_apply]

theorem blkD_apply (w : Fin 384) (h : Fin 2) (i : Fin 128) :
    blkD x t r (ix2 w (col h i)) = sw x (rowOf (blkNo t r) i) (keyOf (blkNo t r) w) h := by
  unfold blkD
  rw [dscores_apply]
  unfold dsc sw
  refine congrArg₂ _ ?_ (congrArg₂ _ (Finset.sum_congr rfl fun e _ => ?_) (Finset.sum_congr rfl fun e _ => ?_))
  · rw [← blkP_apply]
    unfold blkP
    rw [probs_apply]
  · rw [rows_apply, keys_apply]
  · rw [rows_apply, rows_apply]

end Blocks

/-- A sum over a window's keys of what vanishes outside it. -/
theorem sum_keys (b : Fin 32) (f : Fin 4096 → EReal) (z : ∀ m, ¬ (win b ≤ m.val ∧ m.val < win b + 384) → f m = 0) :
    (∑ w : Fin 384, f (keyOf b w)) = ∑ m : Fin 4096, f m := by
  refine Fintype.sum_of_injective (keyOf b) (fun a c e => ?_) _ _ (fun m hm => z m fun h => hm ⟨⟨m.val - win b, by omega⟩, ?_⟩) fun _ => rfl
  · have : win b + a.val = win b + c.val := congrArg Fin.val e
    exact Fin.ext (by omega)
  · exact Fin.ext (by show win b + (m.val - win b) = m.val; omega)

theorem blkNo_of (b : Fin 32) : blkNo (tripOf b) (restOf b) = b :=
  Fin.ext (by show 16 * (b.val / 16) + b.val % 16 = b.val; omega)

/-- The query gradient. -/
theorem dqAt_apply (l : Fin 4096) (y : Fin 128) :
    dqAt x (ix3 0 l y) = ∑ m : Fin 4096, sw x l m (headOf y) * x.k (ix3 0 m y) := by
  unfold dqAt
  show dqTile (blkD x (tripOf (blockOf l)) (restOf (blockOf l))) (keys (tripOf (blockOf l)) (restOf (blockOf l)) x.k) (ix3 0 (placeOf l) y) = _
  rw [dqTile_apply, ← sum_keys (blockOf l) _ fun m n => by rw [sw_zero x n, zero_mul]]
  refine Finset.sum_congr rfl fun w _ => ?_
  rw [blkD_apply, keys_apply, blkNo_of, rowOf_place]

/-- What a block adds to a window's accumulator. -/
def add (g : Fin 4096 → Fin 4096 → Fin 2 → EReal) (a : Vec Ideal S1x4096x128 .bf16) (b : Fin 32) (m : Fin 4096) (y : Fin 128) : EReal :=
  ∑ i : Fin 128, g (rowOf b i) m (headOf y) * a (ix3 0 (rowOf b i) y)

/-- A window put back with the block's contribution. -/
theorem put_apply (t : Fin k0_t1_loop.trips) (r : Fin 16) (a : Vec Ideal S1x4096x128 .f32) (d : FVec Ideal S384x256 .f32)
    (g : Fin 4096 → Fin 4096 → Fin 2 → EReal) (z : ∀ l m, ¬ Seen l m → ∀ h, g l m h = 0)
    (hd : ∀ w h i, d (ix2 w (col h i)) = g (rowOf (blkNo t r) i) (keyOf (blkNo t r) w) h)
    (u : Vec Ideal S1x4096x128 .bf16) (m : Fin 4096) (y : Fin 128) :
    put a (k0_off4 t (BitVec.ofNat 32 r)) S1x384x128.size (accWin (keys t r a) d (rows t r u)) (ix3 0 m y)
      = a (ix3 0 m y) + add g u (blkNo t r) m y := by
  have h0 := off4_eq t r 0
  have h1 := off4_eq t r 1
  have h2 := off4_eq t r 2
  simp only [Matrix.cons_val_zero, Matrix.cons_val_one, Matrix.cons_val] at h0 h1 h2
  unfold put
  by_cases c : win (blkNo t r) ≤ m.val ∧ m.val < win (blkNo t r) + 384
  · rw [dif_pos (by
      intro a
      match a with
      | 0 => rw [h0]; show 0 ≤ 0 ∧ 0 < 0 + 1; omega
      | 1 => rw [h1]; exact c
      | 2 => rw [h2]; show 0 ≤ y.val ∧ y.val < 0 + 128; omega)]
    have hk : keyOf (blkNo t r) ⟨m.val - win (blkNo t r), by omega⟩ = m :=
      Fin.ext (by show win (blkNo t r) + (m.val - win (blkNo t r)) = m.val; omega)
    refine Eq.trans (congrArg (accWin (keys t r a) d (rows t r u))
      (show _ = ix3 0 (⟨m.val - win (blkNo t r), by omega⟩ : Fin 384) y from funext fun a => Fin.ext ?_)) ?_
    · match a with
      | 0 => show 0 - k0_off4 t (BitVec.ofNat 32 r) 0 = 0; omega
      | 1 => show m.val - k0_off4 t (BitVec.ofNat 32 r) 1 = _; rw [h1]; rfl
      | 2 => show y.val - k0_off4 t (BitVec.ofNat 32 r) 2 = y.val; rw [h2]; omega
    · rw [accWin_apply, keys_apply, hk]
      refine congrArg _ (Finset.sum_congr rfl fun i _ => ?_)
      rw [hd, hk, rows_apply]
  · rw [dif_neg (by
      intro h
      have := h 1
      rw [h1] at this
      exact c this)]
    have e : add g u (blkNo t r) m y = 0 := by
      refine Finset.sum_eq_zero fun i _ => ?_
      rw [z _ _ (fun s => c (by unfold Seen at s; rwa [blockOf_row] at s)), zero_mul]
    rw [e, add_zero]

/-- A fold of additions, observed at an entry. -/
theorem foldl_add {α : Type} (f : Fin 16 → α → α) (obs : α → EReal) (c : Fin 16 → EReal) (h : ∀ r a, obs (f r a) = obs a + c r)
    (l : List (Fin 16)) : ∀ a, obs (l.foldl (fun a r => f r a) a) = obs a + (l.map c).sum := by
  induction l with
  | nil => intro a; simp
  | cons r rs ih => intro a; rw [List.foldl_cons, ih, h, List.map_cons, List.sum_cons, add_assoc]

/-- A loop of additions, observed at an entry. -/
theorem trips_add {α : Type} (f : Fin k0_t1_loop.trips → Fin 16 → α → α) (obs : α → EReal) (c : Fin 32 → EReal)
    (h : ∀ t r a, obs (f t r a) = obs a + c (blkNo t r)) (a : α) :
    obs (trips f a k0_t1_loop.trips) = obs a + ∑ b : Fin 32, c b := by
  have two : ∀ n, n = 2 → obs (trips f a n) = obs a + ∑ b : Fin 32, c b := by
    rintro n rfl
    rw [trips, dif_pos (by rw [trips_eq_two]; omega), foldl_add (fun r a => f _ r a) obs _ (fun r a => h _ r a),
      trips, dif_pos (by rw [trips_eq_two]; omega), foldl_add (fun r a => f _ r a) obs _ (fun r a => h _ r a), trips, add_assoc]
    refine congrArg _ ?_
    rw [Fin.sum_univ_add (a := 16) (b := 16) (f := c)]
    refine congrArg₂ _ ?_ ?_
    · rw [← List.sum_ofFn]
      exact congrArg List.sum rfl
    · rw [← List.sum_ofFn]
      exact congrArg List.sum rfl
  exact two _ trips_eq_two

/-- A sum over blocks and their rows is one over the sequence. -/
theorem sum_rows (f : Fin 4096 → EReal) : (∑ b : Fin 32, ∑ i : Fin 128, f (rowOf b i)) = ∑ l : Fin 4096, f l := by
  let E : Fin 32 × Fin 128 ≃ Fin 4096 :=
    ⟨fun p => rowOf p.1 p.2, fun l => (blockOf l, placeOf l), fun p => Prod.ext (blockOf_row _ _) (placeOf_row _ _), rowOf_place⟩
  rw [← E.sum_comp, Fintype.sum_prod_type]
  rfl

/-- The key accumulator after the loop. -/
theorem trips_stepK (a : Vec Ideal S1x4096x128 .f32) (m : Fin 4096) (y : Fin 128) :
    trips (stepK x) a k0_t1_loop.trips (ix3 0 m y) = a (ix3 0 m y) + ∑ l : Fin 4096, sw x l m (headOf y) * x.q (ix3 0 l y) := by
  rw [← sum_rows]
  exact trips_add (stepK x) (fun a => a (ix3 0 m y)) (fun b => add (sw x) x.q b m y)
    (fun t r a => put_apply t r a _ (sw x) (fun l m n h => sw_zero x n h) (blkD_apply x t r) x.q m y) a

/-- The value accumulator after the loop. -/
theorem trips_stepV (a : Vec Ideal S1x4096x128 .f32) (m : Fin 4096) (y : Fin 128) :
    trips (stepV x) a k0_t1_loop.trips (ix3 0 m y) = a (ix3 0 m y) + ∑ l : Fin 4096, pw x l m (headOf y) * x.dO (ix3 0 l y) := by
  rw [← sum_rows]
  exact trips_add (stepV x) (fun a => a (ix3 0 m y)) (fun b => add (pw x) x.dO b m y)
    (fun t r a => put_apply t r a _ (pw x) (fun l m n h => pw_zero x n h) (blkP_apply x t r) x.dO m y) a

end Cert.KernelIdeal.Band
-- ==== Proof.BandBias.lean ====
module

public import proofs.«01_k».proof.Proof.BandHost
public import proofs.«01_k».proof.Proof.BandSum
public import Idealize.ShloMosaic.Lib.ValueIdxCore

/-!
# The bias, entry by entry

Each of the three variants gives a query and a key of its block's window the table's entry for their distance when they
are at most 128 apart, and minus infinity otherwise.
-/

@[expose] public section

noncomputable section

namespace Cert.KernelIdeal.Band

open Idealize.ShloMosaic Idealize.SL.Sem
open Cert.KernelIdeal Cert.KernelIdeal.Gen

/-- The row of the table a start index names. -/
def tblRow (v : BitVec 32) : Fin 32 := ⟨min v.toInt.toNat 31, by omega⟩

/-- The table's entry for a key `b` and a query `a`. -/
def tbl (x3 : Vec Ideal S32x8 .f32) (v : BitVec 32) (g : Fin 8) : EReal := x3 (ix2 (tblRow (bk v)) g)

/-- Dimension numbers of a lookup of rows. -/
abbrev rowsDims (R C : ℕ) (wf : GatherDims.WF ⟨2, ![32, 8]⟩ ⟨3, ![R, C, 1]⟩ ⟨3, ![R, C, 8]⟩ [2] [0] [] [0] [] 2 ![1, 8]) :
    GatherDims ⟨2, ![32, 8]⟩ ⟨3, ![R, C, 1]⟩ ⟨3, ![R, C, 8]⟩ where
  offsetDims := [2]
  collapsedSliceDims := [0]
  operandBatchingDims := []
  startIndicesBatchingDims := []
  startIndexMap := [0]
  indexVectorDim := 2
  sliceSizes := ![1, 8]
  wf := wf

/-- A lookup of rows, at an entry. -/
theorem gather_rows (R C : ℕ) (wf : GatherDims.WF ⟨2, ![32, 8]⟩ ⟨3, ![R, C, 1]⟩ ⟨3, ![R, C, 8]⟩ [2] [0] [] [0] [] 2 ![1, 8])
    (x : (⟨2, ![32, 8]⟩ : Shape).Idx → EReal) (idx : IVec ⟨3, ![R, C, 1]⟩ 32) (a : Fin R) (b : Fin C) (g : Fin 8) :
    Host.gather (rowsDims R C wf) x idx (ix3 a b g) = x (ix2 (tblRow (idx (ix3 a b 0))) g) := by
  unfold Host.gather
  congr 1
  funext d
  refine Fin.ext ?_
  show (rowsDims R C wf).start (ix3 a b g) idx d + (rowsDims R C wf).batchCoord (ix3 a b g) d + (rowsDims R C wf).offCoord (ix3 a b g) d = _
  rw [GatherDims.batchCoord_eq_zero _ _ _ List.not_mem_nil]
  match d with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims R C wf).startIndexMap from List.mem_singleton.mpr rfl)]
    have hsi : (rowsDims R C wf).siIdx (ix3 a b g) ⟨List.idxOf (0 : Fin 2) (rowsDims R C wf).startIndexMap,
        List.idxOf_lt_length_iff.2 (List.mem_singleton.mpr rfl)⟩ = ix3 a b 0 := by
      funext e; refine Fin.ext ?_
      match e with
      | ⟨0, _⟩ => rfl
      | ⟨1, _⟩ => rfl
      | ⟨2, _⟩ => rfl
    rw [hsi]
    rfl
  | 1 =>
    have h0 : (rowsDims R C wf).start (ix3 a b g) idx 1 = 0 := by
      unfold GatherDims.start
      rw [dif_neg (show ¬ (1 : Fin 2) ∈ (rowsDims R C wf).startIndexMap from fun h => absurd (List.mem_singleton.mp h) (by decide))]
    rw [h0]
    exact (Nat.zero_add _).trans rfl

theorem relW_apply (r : Fin 128) (w : Fin 384) : relW (ix2 r w) = BitVec.ofNat 32 w.val - 128#32 - BitVec.ofNat 32 r.val := by
  rfl

theorem bits_neg_inf : Ideal.ofBits .f32 0xFF800000#32 = ⊥ := by simp [Ideal.ofBits, Ideal.ieee]

theorem fillW_apply (i : S8x128x128.Idx) : fillW i = ⊥ := bits_neg_inf

theorem baseW_apply (x3 : Vec Ideal S32x8 .f32) (g : Fin 8) (r : Fin 128) (w : Fin 384) :
    baseW x3 (ix3 g r w) = if IntOp.cmpi .sle (IntOp.absi (relW (ix2 r w))) 128#32 = 1#1 then tbl x3 (relW (ix2 r w)) g else ⊥ := by
  have e1 : ∀ v : BitVec 32, IntOp.muli v 1#32 = v := fun v => BitVec.mul_one v
  have a : baseW x3 (ix3 g r w) = Scalar.select (IntOp.cmpi .sle (IntOp.absi (relW (ix2 r w))) 128#32)
      (Host.gather gather_S32x8_S128x384x1_S128x384x8_2_0_n_n_0_2_18 x3
        (broadcastInDim S128x384x1 ![0, 1] bcast_S128x384_S128x384x1_0_1
          (bucket S128x384 (muli relW (broadcastInDim S128x384 ![] bcast_S_S128x384 (constantI S_ 32 1#32))))) (ix3 r w g))
      (Ideal.ofBits .f32 0xFF800000#32) := by
    refine congrArg₂ (fun p q => Scalar.select p q _) rfl ?_
    exact transpose_apply _ _ _ _ (ix3 r w g) (fun b => by
      match b with
      | ⟨0, _⟩ => rfl
      | ⟨1, _⟩ => rfl
      | ⟨2, _⟩ => rfl)
  have b : Host.gather gather_S32x8_S128x384x1_S128x384x8_2_0_n_n_0_2_18 x3
        (broadcastInDim S128x384x1 ![0, 1] bcast_S128x384_S128x384x1_0_1
          (bucket S128x384 (muli relW (broadcastInDim S128x384 ![] bcast_S_S128x384 (constantI S_ 32 1#32))))) (ix3 r w g)
      = tbl x3 (relW (ix2 r w)) g := by
    refine (gather_rows 128 384 gather_S32x8_S128x384x1_S128x384x8_2_0_n_n_0_2_18_wf x3 _ r w g).trans ?_
    unfold tbl
    refine congrArg (fun v => x3 (ix2 (tblRow v) g)) ?_
    rw [broadcastInDim_apply _ _ _ _ (ix2 r w) (fun a => by
      match a with
      | ⟨0, _⟩ => rfl
      | ⟨1, _⟩ => rfl), bucket_apply]
    exact congrArg bk (e1 _)
  rw [a, b, bits_neg_inf]
  rfl

/-- An entry of one of three pieces. -/
theorem piece (u : Fin 3 → Vec Ideal S8x128x384 .f32) (g : Fin 8) (r : Fin 128) (w : Fin 384) (s : Fin 3) :
    concatenate S8x3x128x384 1
      [⟨S8x1x128x384, broadcastInDim S8x1x128x384 ![0, 2, 3] bcast_S8x128x384_S8x1x128x384_0_2_3 (u 0)⟩,
        ⟨S8x1x128x384, broadcastInDim S8x1x128x384 ![0, 2, 3] bcast_S8x128x384_S8x1x128x384_0_2_3 (u 1)⟩,
        ⟨S8x1x128x384, broadcastInDim S8x1x128x384 ![0, 2, 3] bcast_S8x128x384_S8x1x128x384_0_2_3 (u 2)⟩]
      concatenates_S8x1x128x384_S8x1x128x384_S8x1x128x384_S8x3x128x384_d1 (ix4 g s r w) = u s (ix3 g r w) := by
  refine (concatenate_apply_piece (t := S8x3x128x384) 1 _ _ (ix4 g s r w) s.val ?_ S8x1x128x384
      (broadcastInDim S8x1x128x384 ![0, 2, 3] bcast_S8x128x384_S8x1x128x384_0_2_3 (u s)) ?_ rfl s.val ?_ (ix4 g 0 r w) ?_ rfl).trans ?_
  · exact s.isLt
  · match s with
    | 0 => rfl
    | 1 => rfl
    | 2 => rfl
  · match s with
    | 0 => rfl
    | 1 => rfl
    | 2 => rfl
  · intro b hb
    match b with
    | ⟨0, _⟩ => rfl
    | ⟨1, _⟩ => exact absurd rfl hb
    | ⟨2, _⟩ => rfl
    | ⟨3, _⟩ => rfl
  exact broadcastInDim_apply _ _ _ _ (ix3 g r w) (fun a => by
    match a with
    | ⟨0, _⟩ => rfl
    | ⟨1, _⟩ => rfl
    | ⟨2, _⟩ => rfl)

/-- The first variant, for a block at the sequence's start. -/
def firstW (x3 : Vec Ideal S32x8 .f32) : Vec Ideal S8x128x384 .f32 :=
  concatenate S8x128x384 2 [⟨S8x128x256, extractStridedSlice S8x128x256 ![0, 0, 128] (baseW x3) slices_S8x128x384_S8x128x256_0_0_128⟩,
    ⟨S8x128x128, fillW⟩] concatenates_S8x128x256_S8x128x128_S8x128x384_d2

/-- The last variant, for a block at its end. -/
def lastW (x3 : Vec Ideal S32x8 .f32) : Vec Ideal S8x128x384 .f32 :=
  concatenate S8x128x384 2 [⟨S8x128x128, fillW⟩,
    ⟨S8x128x256, extractStridedSlice S8x128x256 ![0, 0, 0] (baseW x3) slices_S8x128x384_S8x128x256_0_0_0⟩]
    concatenates_S8x128x128_S8x128x256_S8x128x384_d2

theorem variants_zero (x3 : Vec Ideal S32x8 .f32) (g : Fin 8) (r : Fin 128) (w : Fin 384) :
    variants x3 (ix4 g 0 r w) = baseW x3 (ix3 g r w) :=
  piece ![baseW x3, firstW x3, lastW x3] g r w 0

theorem variants_one (x3 : Vec Ideal S32x8 .f32) (g : Fin 8) (r : Fin 128) (w : Fin 384) :
    variants x3 (ix4 g 1 r w) = if h : w.val < 256 then baseW x3 (ix3 g r ⟨w.val + 128, by omega⟩) else ⊥ := by
  rw [show variants x3 (ix4 g 1 r w) = firstW x3 (ix3 g r w) from piece ![baseW x3, firstW x3, lastW x3] g r w 1]
  unfold firstW
  by_cases h : w.val < 256
  · rw [dif_pos h, concatenate_pair_apply_left (t := S8x128x384) (s₁ := S8x128x256) (s₂ := S8x128x128) 2 _ _ _ _ rfl
      (ix3 g r (⟨w.val, h⟩ : Fin 256)) (fun b => by
      match b with
      | ⟨0, _⟩ => rfl
      | ⟨1, _⟩ => rfl
      | ⟨2, _⟩ => rfl)]
    exact extractStridedSlice_apply _ _ _ _ (ix3 g r ⟨w.val + 128, by omega⟩) (fun a => by
      match a with
      | ⟨0, _⟩ => exact (Nat.zero_add _).symm
      | ⟨1, _⟩ => exact (Nat.zero_add _).symm
      | ⟨2, _⟩ => exact Nat.add_comm _ _)
  · rw [dif_neg h, concatenate_pair_apply_right (t := S8x128x384) (s₁ := S8x128x256) (s₂ := S8x128x128) 2 _ _ _ _ rfl rfl
      (ix3 g r (⟨w.val - 256, by omega⟩ : Fin 128)) (fun b hb => by
      match b with
      | ⟨0, _⟩ => rfl
      | ⟨1, _⟩ => rfl
      | ⟨2, _⟩ => exact absurd rfl hb) (by show w.val - 256 + 256 = w.val; omega)]
    exact fillW_apply _

theorem variants_two (x3 : Vec Ideal S32x8 .f32) (g : Fin 8) (r : Fin 128) (w : Fin 384) :
    variants x3 (ix4 g 2 r w) = if h : w.val < 128 then ⊥ else baseW x3 (ix3 g r ⟨w.val - 128, by omega⟩) := by
  rw [show variants x3 (ix4 g 2 r w) = lastW x3 (ix3 g r w) from piece ![baseW x3, firstW x3, lastW x3] g r w 2]
  unfold lastW
  by_cases h : w.val < 128
  · rw [dif_pos h, concatenate_pair_apply_left (t := S8x128x384) (s₁ := S8x128x128) (s₂ := S8x128x256) 2 _ _ _ _ rfl
      (ix3 g r (⟨w.val, h⟩ : Fin 128)) (fun b => by
      match b with
      | ⟨0, _⟩ => rfl
      | ⟨1, _⟩ => rfl
      | ⟨2, _⟩ => rfl)]
    exact fillW_apply _
  · rw [dif_neg h, concatenate_pair_apply_right (t := S8x128x384) (s₁ := S8x128x128) (s₂ := S8x128x256) 2 _ _ _ _ rfl rfl
      (ix3 g r (⟨w.val - 128, by omega⟩ : Fin 256)) (fun b hb => by
      match b with
      | ⟨0, _⟩ => rfl
      | ⟨1, _⟩ => rfl
      | ⟨2, _⟩ => exact absurd rfl hb) (by show w.val - 128 + 128 = w.val; omega)]
    exact extractStridedSlice_apply _ _ _ _ (ix3 g r ⟨w.val - 128, by omega⟩) (fun a => by
      match a with
      | ⟨0, _⟩ => exact (Nat.zero_add _).symm
      | ⟨1, _⟩ => exact (Nat.zero_add _).symm
      | ⟨2, _⟩ => exact (Nat.zero_add _).symm)

theorem biasT_apply (x3 : Vec Ideal S32x8 .f32) (n : Fin 4) (s : Fin 3) (w : Fin 384) (h : Fin 2) (r : Fin 128) :
    biasT x3 (ix4 n s w (col h r)) = variants x3 (ix4 ⟨2 * n.val + h.val, by omega⟩ s r w) := by
  unfold biasT
  have e1 : (128 * h.val + r.val) / 128 = h.val := by omega
  rw [transpose_apply _ _ _ _ (ix4 n s (col h r) w) (fun b => by
      match b with
      | ⟨0, _⟩ => rfl
      | ⟨1, _⟩ => rfl
      | ⟨2, _⟩ => rfl
      | ⟨3, _⟩ => rfl),
    shapeCast_apply _ _ _ (ix5 n s h r w) (by
      rw [Shape.rowMajor_val_five, Shape.rowMajor_val_four]
      show (((n.val * 3 + s.val) * 2 + h.val) * 128 + r.val) * 384 + w.val = ((n.val * 3 + s.val) * 256 + (128 * h.val + r.val)) * 384 + w.val
      omega),
    transpose_apply _ _ _ _ (ix5 n h s r w) (fun b => by
      match b with
      | ⟨0, _⟩ => rfl
      | ⟨1, _⟩ => rfl
      | ⟨2, _⟩ => rfl
      | ⟨3, _⟩ => rfl
      | ⟨4, _⟩ => rfl)]
  exact shapeCast_apply _ _ _ (ix4 (⟨2 * n.val + h.val, by omega⟩ : Fin 8) s r w) (by
    rw [Shape.rowMajor_val_five, Shape.rowMajor_val_four]
    show (((2 * n.val + h.val) * 3 + s.val) * 128 + r.val) * 384 + w.val = (((n.val * 2 + h.val) * 3 + s.val) * 128 + r.val) * 384 + w.val
    omega)

/-- Query and key lie at most 128 apart. -/
def Near (l m : Fin 4096) : Prop := m.val ≤ l.val + 128 ∧ l.val ≤ m.val + 128

instance (l m : Fin 4096) : Decidable (Near l m) := inferInstanceAs (Decidable (_ ∧ _))

/-- How far the key lies behind the query, as a word. -/
def gap (l m : Fin 4096) : BitVec 32 := BitVec.ofNat 32 m.val - BitVec.ofNat 32 l.val

theorem near_iff (l m : Fin 4096) : IntOp.cmpi .sle (IntOp.absi (gap l m)) 128#32 = 1#1 ↔ Near l m := by
  have hl := l.isLt
  have hm := m.isLt
  have hg : (gap l m).toInt = (m.val : ℤ) - l.val := by
    unfold gap
    have e : ∀ n : Fin 4096, (BitVec.ofNat 32 n.val).toInt = n.val := by
      intro n
      have hn := n.isLt
      rw [BitVec.toInt_eq_toNat_bmod, BitVec.toNat_ofNat]
      simp only [Int.bmod_def]
      omega
    rw [BitVec.toInt_sub, e, e]
    simp only [Int.bmod_def]
    omega
  have ha : (IntOp.absi (gap l m)).toInt = |(m.val : ℤ) - l.val| := by
    unfold IntOp.absi
    rw [BitVec.msb_eq_toInt, hg]
    by_cases c : (m.val : ℤ) - l.val < 0
    · rw [if_pos (decide_eq_true c), BitVec.toInt_neg, hg, abs_of_neg c]
      simp only [Int.bmod_def]
      omega
    · rw [if_neg (by simpa using c), hg, abs_of_nonneg (by omega)]
  have hc : IntOp.cmpi .sle (IntOp.absi (gap l m)) 128#32 = 1#1 ↔ (IntOp.absi (gap l m)).toInt ≤ 128 := by
    show BitVec.ofBool (BitVec.sle _ _) = 1#1 ↔ _
    rw [show (1#1 : BitVec 1) = BitVec.ofBool true from rfl]
    rw [BitVec.ofBool_eq_iff_eq, BitVec.sle_iff_toInt_le]
    rfl
  rw [hc, ha, abs_le]
  unfold Near
  omega

/-- The bias of a query and a key, no window in sight. -/
def bias (x3 : Vec Ideal S32x8 .f32) (g : Fin 8) (l m : Fin 4096) : EReal :=
  if Near l m then tbl x3 (gap l m) g else ⊥

theorem baseW_gap (x3 : Vec Ideal S32x8 .f32) (g : Fin 8) (l m : Fin 4096) (r : Fin 128) (w : Fin 384)
    (h : m.val + 128 + r.val = w.val + l.val) : baseW x3 (ix3 g r w) = bias x3 g l m := by
  have hl := l.isLt
  have hm := m.isLt
  have e : relW (ix2 r w) = gap l m := by
    rw [relW_apply]
    unfold gap
    bv_omega
  rw [baseW_apply, e]
  unfold bias
  exact if_congr (near_iff l m) rfl rfl

/-- The bias a grid point's blocks hold, read at a query and a key. -/
theorem bi_eq (x : Ins Ideal) (x3 : Vec Ideal S32x8 .f32) (n : Fin 4)
    (hx : ∀ s w c, x.b (ix4 0 s w c) = biasT x3 (ix4 n s w c)) (l m : Fin 4096) (h : Fin 2) :
    bi x l m h = bias x3 ⟨2 * n.val + h.val, by omega⟩ l m := by
  have hl := l.isLt
  have hm := m.isLt
  have hb : (blockOf l).val = l.val / 128 := rfl
  have hp : (placeOf l).val = l.val % 128 := rfl
  unfold bi
  by_cases c : Seen l m
  · rw [dif_pos c, hx, biasT_apply]
    unfold Seen win at c
    by_cases z : (blockOf l).val = 0
    · have hw : win (blockOf l) = 0 := by unfold win; omega
      rw [show kind (blockOf l) = 1 from if_pos z, variants_one]
      by_cases w : m.val - win (blockOf l) < 256
      · rw [dif_pos w]
        exact baseW_gap x3 _ l m _ _ (by show m.val + 128 + (placeOf l).val = (m.val - win (blockOf l)) + 128 + l.val; omega)
      · rw [dif_neg w]
        exact (if_neg (by unfold Near; omega)).symm
    · by_cases y : (blockOf l).val = 31
      · have hw : win (blockOf l) = 3712 := by unfold win; omega
        rw [show kind (blockOf l) = 2 from (if_neg z).trans (if_pos y), variants_two]
        by_cases w : m.val - win (blockOf l) < 128
        · rw [dif_pos w]
          exact (if_neg (by unfold Near; omega)).symm
        · rw [dif_neg w]
          exact baseW_gap x3 _ l m _ _ (by show m.val + 128 + (placeOf l).val = (m.val - win (blockOf l)) - 128 + l.val; omega)
      · have hw : win (blockOf l) = 128 * (blockOf l).val - 128 := by unfold win; omega
        rw [show kind (blockOf l) = 0 from (if_neg z).trans (if_neg y), variants_zero]
        exact baseW_gap x3 _ l m _ _ (by show m.val + 128 + (placeOf l).val = (m.val - win (blockOf l)) + l.val; omega)
  · rw [dif_neg c]
    refine (if_neg ?_).symm
    unfold Seen win at c
    unfold Near
    omega

end Cert.KernelIdeal.Band
-- ==== Proof.BackwardReal.lean ====
module

public import Mathlib.Data.EReal.Operations
public import Idealize.ShloMosaic.PureOps.Ideal

/-!
# The real numbers among the extended reals

The extended reals that are numbers are closed under the operations of the backward pass; between numbers the two ways of
writing the gate's gradient agree, and so do the two ways of going back through a normalisation.
-/

@[expose] public section

noncomputable section

namespace Cert.Num

open Idealize.ShloMosaic

/-- An extended real that is a number. -/
def IsNum (v : EReal) : Prop := ∃ r : ℝ, v = (r : EReal)

/-- A number. -/
theorem of_real (r : ℝ) : IsNum (r : EReal) := ⟨r, rfl⟩
theorem zero : IsNum 0 := ⟨0, rfl⟩
theorem one : IsNum 1 := ⟨1, rfl⟩
/-- Sums of numbers. -/
theorem add {u v : EReal} (hu : IsNum u) (hv : IsNum v) : IsNum (u + v) := by
  obtain ⟨a, rfl⟩ := hu; obtain ⟨b, rfl⟩ := hv
  exact ⟨a + b, (EReal.coe_add a b).symm⟩
/-- Differences. -/
theorem sub {u v : EReal} (hu : IsNum u) (hv : IsNum v) : IsNum (u - v) := by
  obtain ⟨a, rfl⟩ := hu; obtain ⟨b, rfl⟩ := hv
  exact ⟨a - b, (EReal.coe_sub a b).symm⟩
/-- Products. -/
theorem mul {u v : EReal} (hu : IsNum u) (hv : IsNum v) : IsNum (u * v) := by
  obtain ⟨a, rfl⟩ := hu; obtain ⟨b, rfl⟩ := hv
  exact ⟨a * b, (EReal.coe_mul a b).symm⟩
/-- Finite sums. -/
theorem sum {ι : Type} (s : Finset ι) (f : ι → EReal) (h : ∀ i ∈ s, IsNum (f i)) : IsNum (∑ i ∈ s, f i) :=
  Finset.sum_induction f IsNum (fun _ _ => add) zero h

/-- The real sum's value is the sum of the values. -/
theorem coe_sum {ι : Type} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]

/-- A number whose absolute value lies below infinity. -/
theorem of_abs {v : EReal} (h : max v (-v) < ⊤) : IsNum v := by
  induction v using EReal.rec with
  | bot => exact absurd h (by simp)
  | coe r => exact ⟨r, rfl⟩
  | top => exact absurd h (by simp)

/-- The logistic function of a number. -/
theorem logistic (p : ℝ) : Ideal.div 1 (1 + Ideal.exp (0 - (p : EReal))) = ((1 / (1 + Real.exp (-p)) : ℝ) : EReal) := by
  have h : (1 : ℝ) + Real.exp (-p) ≠ 0 := (by positivity : (0 : ℝ) < 1 + Real.exp (-p)).ne'
  rw [show (0 : EReal) - (p : EReal) = ((-p : ℝ) : EReal) by rw [zero_sub, EReal.coe_neg], Ideal.exp_coe,
    show (1 : EReal) + ((Real.exp (-p) : ℝ) : EReal) = ((1 + Real.exp (-p) : ℝ) : EReal) by rw [EReal.coe_add]; rfl, Ideal.div_coe h, one_mul]

/-- Between numbers, the product rule's two terms are one product. -/
theorem gate_eq (d u p s : ℝ) : (d : EReal) * u * ((s : EReal) * (1 + p * (1 - (s : EReal))))
    = (d : EReal) * u * s + (p : EReal) * (d * u) * (s * (1 - (s : EReal))) := by
  rw [show (1 : EReal) = ((1 : ℝ) : EReal) from rfl]
  simp only [← EReal.coe_mul, ← EReal.coe_add, ← EReal.coe_sub]
  congr 1
  ring

/-- The f32 pattern `0x44800000` is 1024. -/
theorem bits_1024 : Ideal.ofBits .f32 0x44800000#32 = ((1024 : ℝ) : EReal) := by
  simp [Ideal.ofBits, Ideal.ieee, -EReal.coe_mul]; norm_num

/-- The f32 pattern `0xBF000000` is minus one half. -/
theorem bits_neg_half : Ideal.ofBits .f32 0xBF000000#32 = ((-(1 / 2) : ℝ) : EReal) := by
  simp [Ideal.ofBits, Ideal.ieee, -EReal.coe_mul, -EReal.coe_neg]; norm_num

/-- The f32 pattern `0x3F000000` is one half. -/
theorem bits_half : Ideal.ofBits .f32 0x3F000000#32 = ((1 / 2 : ℝ) : EReal) := by
  simp [Ideal.ofBits, Ideal.ieee, -EReal.coe_mul]; norm_num

/-- The f32 pattern `0x358637BD` is a positive number. -/
theorem bits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The reciprocal root of a mean square plus a positive number. -/
theorem inv_root {q : ℝ} (hq : 0 < q) : Ideal.rsqrt (q : EReal) = (((Real.sqrt q)⁻¹ : ℝ) : EReal) := by
  rw [Ideal.rsqrt_coe, if_neg (not_lt.mpr hq.le), if_neg hq.ne']

/-- A row that holds an infinity has an infinite mean square, and the reciprocal root is zero. -/
theorem root_zero (x : Fin 1024 → EReal) (k : Fin 1024) (hk : ¬ IsNum (x k)) {e : ℝ} :
    Ideal.div (∑ k, x k * x k) ((1024 : ℝ) : EReal) + (e : EReal) = ⊤ := by
  have sq : ∀ v : EReal, 0 ≤ v * v := by
    intro v
    induction v using EReal.rec with
    | bot => simp
    | coe r => rw [← EReal.coe_mul]; exact_mod_cast mul_self_nonneg r
    | top => simp
  have top : x k * x k = ⊤ := by
    generalize x k = v at hk ⊢
    induction v using EReal.rec with
    | bot => simp
    | coe r => exact absurd ⟨r, rfl⟩ hk
    | top => simp
  have h : (∑ k, x k * x k) = ⊤ := top_le_iff.mp (top ▸ Finset.single_le_sum (f := fun k => x k * x k) (fun i _ => sq (x i)) (Finset.mem_univ k))
  rw [h, Ideal.div_coe (by norm_num), EReal.top_mul_coe_of_pos (by norm_num), EReal.top_add_coe]

section Norm

variable (x h g : Fin 1024 → ℝ) (e : ℝ) (he : 0 < e)
include he

/-- The mean square plus a positive number. -/
theorem mean (hm : ℝ) (hh : hm = (∑ k, x k * x k) * (1 / 1024) + e) :
    Ideal.div (∑ k, (x k : EReal) * x k) ((1024 : ℝ) : EReal) + (e : EReal) = (hm : EReal) ∧ 0 < hm := by
  constructor
  · rw [Ideal.div_coe (by norm_num), hh]
    simp only [← EReal.coe_mul, ← coe_sum, ← EReal.coe_add]
  · have : 0 ≤ ∑ k, x k * x k := Finset.sum_nonneg fun k _ => mul_self_nonneg (x k)
    rw [hh]; positivity

/-- Back through a normalisation: the correction along the normalised row is the derivative of the reciprocal root. -/
theorem norm_eq (i : Fin 1024) (v : EReal)
    (hv : v = Ideal.rsqrt (Ideal.div (∑ k, (x k : EReal) * x k) ((1024 : ℝ) : EReal) + (e : EReal))) :
    v * ((h i : EReal) * g i - x i * v * Ideal.div (∑ k, (h k : EReal) * g k * (x k * v)) ((1024 : ℝ) : EReal))
    = ((h i : EReal) * g i) * v
      + x i * Ideal.div ((∑ k, (x k : EReal) * ((h k : EReal) * g k)) * (((-(1 / 2) : ℝ) : EReal)
        * Ideal.div v (Ideal.div (∑ k, (x k : EReal) * x k) ((1024 : ℝ) : EReal) + (e : EReal)))) ((1024 : ℝ) : EReal)
      + Ideal.div ((∑ k, (x k : EReal) * ((h k : EReal) * g k)) * (((-(1 / 2) : ℝ) : EReal)
        * Ideal.div v (Ideal.div (∑ k, (x k : EReal) * x k) ((1024 : ℝ) : EReal) + (e : EReal)))) ((1024 : ℝ) : EReal) * x i := by
  obtain ⟨hm, pos⟩ := mean x e he _ rfl
  rw [hm] at hv ⊢
  rw [inv_root pos] at hv
  generalize (∑ k, x k * x k) * (1 / 1024) + e = q at pos hv
  have hr : (Real.sqrt q)⁻¹ * (Real.sqrt q)⁻¹ = 1 / q := by rw [← mul_inv, Real.mul_self_sqrt pos.le, one_div]
  generalize (Real.sqrt q)⁻¹ = w at hv hr
  subst hv
  rw [Ideal.div_coe (y := 1024) (by norm_num), Ideal.div_coe (y := 1024) (by norm_num), Ideal.div_coe pos.ne']
  simp only [← EReal.coe_mul, ← coe_sum, ← EReal.coe_add, ← EReal.coe_sub]
  congr 1
  rw [← hr, show (∑ k, h k * g k * (x k * w)) = (∑ k, x k * (h k * g k)) * w by
    rw [Finset.sum_mul]; exact Finset.sum_congr rfl fun k _ => by ring]
  ring

end Norm

end Cert.Num
-- ==== Proof.BandRef.lean ====
module

public import proofs.«01_k».proof.Proof.BandBias
public import proofs.«01_k».proof.Proof.BackwardReal
public import proofs.«01_k».proof.Proof.Gen.ReferenceIdeal.Read

/-!
# The reference's scores

The reference's arrays, element by element, up to a query's scores and their maximum. A query belongs to a group `j` of two units,
a unit `p` of the group, a place `l` and one of the unit's two heads `h`.
-/

@[expose] public section

noncomputable section

namespace Cert.ReferenceIdeal.Band

open Idealize.ShloMosaic Idealize.ShloMosaic.TcCoe
open Cert.ReferenceIdeal Cert.ReferenceIdeal.Read
open Cert.KernelIdeal.Band (lane headOf bk tbl gap Near bias bucket bucket_apply near_iff gather_rows tblRow rowsDims)
open Cert.Num (IsNum)

/-- Two indices with the same coordinates. -/
theorem same {s : Shape} {i j : s.Idx} (h : ∀ a, (i a).val = (j a).val) : i = j := funext fun a => Fin.ext (h a)

/-- The unit of a group. -/
def unit (j p : Fin 2) : Fin 4 := ⟨2 * j.val + p.val, by omega⟩
/-- The head of a unit. -/
def head (j p h : Fin 2) : Fin 8 := ⟨2 * (unit j p).val + h.val, by unfold unit; dsimp only; omega⟩

variable (x0 x5 : Vec Ideal S4x4096x128 .bf16) (x1 x2 : Vec Ideal S2x4096x128 .bf16) (x3 : Vec Ideal S32x8 .f32) (x4 : Vec Ideal S8 .f32)
variable (j p h : Fin 2) (l m : Fin 4096) (e : Fin 64)

theorem q_at : val_main_v3 (F := Ideal) x0 (ix5 j p l h e) = x0 (ix3 (unit j p) l (lane h e)) := by
  rw [val_main_v3_apply]
  refine congrArg x0 (same fun a => ?_)
  match a with
  | ⟨0, _⟩ =>
    show ((((j.val * 2 + p.val) * 4096 + l.val) * 2 + h.val) * 64 + e.val) / 524288 = 2 * j.val + p.val
    omega
  | ⟨1, _⟩ =>
    show ((((j.val * 2 + p.val) * 4096 + l.val) * 2 + h.val) * 64 + e.val) / 128 % 4096 = l.val
    omega
  | ⟨2, _⟩ =>
    show ((((j.val * 2 + p.val) * 4096 + l.val) * 2 + h.val) * 64 + e.val) % 128 = 64 * h.val + e.val
    omega

theorem do_at : val_main_v93 (F := Ideal) x5 (ix5 j p l h e) = x5 (ix3 (unit j p) l (lane h e)) := q_at x5 j p h l e

theorem k_at : val_main_v4 (F := Ideal) x1 (ix4 j m h e) = x1 (ix3 j m (lane h e)) := by
  rw [val_main_v4_apply]
  refine congrArg x1 (same fun a => ?_)
  match a with
  | ⟨0, _⟩ =>
    show (((j.val * 4096 + m.val) * 2 + h.val) * 64 + e.val) / 524288 = j.val
    omega
  | ⟨1, _⟩ =>
    show (((j.val * 4096 + m.val) * 2 + h.val) * 64 + e.val) / 128 % 4096 = m.val
    omega
  | ⟨2, _⟩ =>
    show (((j.val * 4096 + m.val) * 2 + h.val) * 64 + e.val) % 128 = 64 * h.val + e.val
    omega

theorem v_at : val_main_v5 (F := Ideal) x2 (ix4 j m h e) = x2 (ix3 j m (lane h e)) := k_at x2 j h m e

/-- A score before the bias. -/
def dot : EReal := ∑ e : Fin 64, x1 (ix3 j m (lane h e)) * x0 (ix3 (unit j p) l (lane h e))

theorem dot_at : val_main_v7 (F := Ideal) x0 x1 (ix5 j p l h m) = dot x0 x1 j p h l m := by
  rw [val_main_v7_apply, val_main_v6_apply]
  exact Finset.sum_congr rfl fun k _ => congrArg₂ (· * ·) ((congrArg _ (eq_ix4 _)).trans (k_at x1 j h m k))
    ((congrArg _ (eq_ix5 _)).trans (q_at x0 j p h l k))

theorem gap_at : val_main_v14 (F := Ideal) (ix2 l m) = gap l m := rfl

theorem row_at : val_main_v44 (F := Ideal) (ix3 l m 0) = bk (gap l m) := by
  rw [val_main_v44_apply]
  exact (congrArg _ (eq_ix2 _)).trans (bucket_apply _ _ _)

theorem table_at : val_main_v47 (F := Ideal) x3 (ix5 j p l h m) = tbl x3 (gap l m) (head j p h) := by
  rw [val_main_v47_apply, val_main_v46_apply]
  refine (congrArg _ (same (j := ix3 l m (head j p h)) fun a => ?_)).trans
    ((gather_rows 4096 4096 gather_S32x8_S4096x4096x1_S4096x4096x8_2_0_n_n_0_2_18.wf x3 _ l m (head j p h)).trans ?_)
  · match a with
    | ⟨0, _⟩ =>
      show ((((l.val * 4096 + m.val) * 2 + j.val) * 2 + p.val) * 2 + h.val) / 32768 = l.val
      omega
    | ⟨1, _⟩ =>
      show ((((l.val * 4096 + m.val) * 2 + j.val) * 2 + p.val) * 2 + h.val) / 8 % 4096 = m.val
      omega
    | ⟨2, _⟩ =>
      show ((((l.val * 4096 + m.val) * 2 + j.val) * 2 + p.val) * 2 + h.val) % 8 = 2 * (2 * j.val + p.val) + h.val
      omega
  · exact congrArg (fun v => x3 (ix2 (tblRow v) (head j p h))) (row_at l m)

theorem mask_at : val_main_v53_1 (F := Ideal) (ix5 j p l h m) = IntOp.cmpi .sle (IntOp.absi (gap l m)) 128#32 := rfl

/-- A score with its bias: minus infinity off the band. -/
def score : EReal := if Near l m then dot x0 x1 j p h l m + tbl x3 (gap l m) (head j p h) else ⊥

theorem score_at : val_main_v53_0 (F := Ideal) x0 x1 x3 (ix5 j p l h m) = score x0 x1 x3 j p h l m := by
  rw [val_main_v53_0_apply, val_main_v52_apply, dot_at, table_at, mask_at]
  refine (if_congr (near_iff l m) rfl ?_)
  exact Cert.KernelIdeal.Band.bits_neg_inf

theorem foldl_max_ne_top {ι : Type} (f : ι → EReal) (hf : ∀ i, f i ≠ ⊤) (s : List ι) (z : EReal) (hz : z ≠ ⊤) :
    s.foldl (fun r i => max r (f i)) z ≠ ⊤ := by
  induction s generalizing z with
  | nil => exact hz
  | cons a s ih =>
    refine ih (max z (f a)) ?_
    rcases max_choice z (f a) with c | c
    · rw [c]; exact hz
    · rw [c]; exact hf a

theorem sink_at : val_main_v61 (F := Ideal) x4 (ix4 j p l h) = x4 (ix1 (head j p h)) := by
  rw [val_main_v61_apply, val_main_v60_apply]
  refine congrArg x4 (same fun a => ?_)
  match a with
  | ⟨0, _⟩ =>
    show (((j.val * 2 + p.val) * 1 + 0) * 2 + h.val) = 2 * (2 * j.val + p.val) + h.val
    omega

/-- A reference row's greatest score, the sink among them, is a number. -/
theorem max_num (n0 : ∀ i, IsNum (x0 i)) (n1 : ∀ i, IsNum (x1 i)) (n3 : ∀ i, IsNum (x3 i)) (n4 : ∀ i, IsNum (x4 i)) :
    IsNum (val_main_v62 (F := Ideal) x0 x1 x3 x4 (ix4 j p l h)) := by
  have t : val_main_v54 (F := Ideal) x0 x1 x3 (ix4 j p l h) ≠ ⊤ := by
    unfold val_main_v54
    rw [Host.reduce_eq_foldl]
    refine foldl_max_ne_top _ (fun i => ?_) _ _ ?_
    · refine ne_of_eq_of_ne ((congrArg _ (eq_ix5 i)).trans (score_at x0 x1 x3 (i 0) (i 1) (i 3) (i 2) (i 4))) ?_
      unfold score
      split_ifs
      · obtain ⟨r, hr⟩ := Cert.Num.add (Cert.Num.sum Finset.univ (fun e : Fin 64 => x1 (ix3 (i 0) (i 4) (lane (i 3) e))
          * x0 (ix3 (unit (i 0) (i 1)) (i 2) (lane (i 3) e))) fun e _ => Cert.Num.mul (n1 _) (n0 _))
          (n3 (ix2 (tblRow (bk (gap (i 2) (i 4)))) (head (i 0) (i 1) (i 3))))
        exact ne_of_eq_of_ne hr (EReal.coe_ne_top r)
      · exact bot_ne_top
    · exact ne_of_eq_of_ne Cert.KernelIdeal.Band.bits_neg_inf bot_ne_top
  obtain ⟨a, ha⟩ := n4 (ix1 (head j p h))
  rw [val_main_v62_apply, sink_at, ha]
  show IsNum (max _ _)
  rcases le_total (val_main_v54 (F := Ideal) x0 x1 x3 (ix4 j p l h)) (a : EReal) with c | c
  · rw [max_eq_right c]
    exact ⟨a, rfl⟩
  · rw [max_eq_left c]
    exact ⟨_, (EReal.coe_toReal t (ne_bot_of_le_ne_bot (EReal.coe_ne_bot a) c)).symm⟩

/-- The kernel's probability of a key, from the row's log of its sum. -/
def prob : EReal := Ideal.exp (dot x0 x1 j p h l m + bias x3 (head j p h) l m - val_main_v90 (F := Ideal) x0 x1 x3 x4 (ix4 j p l h))

theorem max_at : val_main_v73 (F := Ideal) x0 x1 x3 x4 (ix5 j p l h m) = val_main_v62 (F := Ideal) x0 x1 x3 x4 (ix4 j p l h) := by
  rw [val_main_v73_apply, val_main_v72_apply]
  exact congrArg _ (eq_ix4 _)

/-- A row's exponentials, their sum and the probabilities. -/
theorem exps (n0 : ∀ i, IsNum (x0 i)) (n1 : ∀ i, IsNum (x1 i)) (n3 : ∀ i, IsNum (x3 i)) (n4 : ∀ i, IsNum (x4 i)) :
    ∃ (ε : Fin 4096 → ℝ) (z D : ℝ), 0 < D ∧ D = ∑ m, ε m + z
      ∧ (∀ m, val_main_v75 (F := Ideal) x0 x1 x3 x4 (ix5 j p l h m) = (ε m : EReal))
      ∧ val_main_v79 (F := Ideal) x0 x1 x3 x4 (ix4 j p l h) = (z : EReal)
      ∧ val_main_v80 (F := Ideal) x0 x1 x3 x4 (ix4 j p l h) = (D : EReal)
      ∧ (∀ m, prob x0 x1 x3 x4 j p h l m = ((ε m * (1 / D) : ℝ) : EReal)) ∧ ∀ m, ¬ Near l m → ε m = 0 := by
  obtain ⟨μ, hμ⟩ := max_num x0 x1 x3 x4 j p h l n0 n1 n3 n4
  obtain ⟨a, ha⟩ := n4 (ix1 (head j p h))
  have hr : ∀ m, IsNum (dot x0 x1 j p h l m + tbl x3 (gap l m) (head j p h)) := fun m =>
    Cert.Num.add (Cert.Num.sum _ _ fun e _ => Cert.Num.mul (n1 _) (n0 _)) (n3 _)
  choose r hr using hr
  have hE : ∀ m, val_main_v75 (F := Ideal) x0 x1 x3 x4 (ix5 j p l h m) = ((if Near l m then Real.exp (r m - μ) else 0 : ℝ) : EReal) := by
    intro m
    rw [val_main_v75_apply, val_main_v74_apply, score_at, max_at, hμ]
    show Ideal.exp (score x0 x1 x3 j p h l m - (μ : EReal)) = _
    unfold score
    by_cases c : Near l m
    · rw [if_pos c, if_pos c, hr, ← EReal.coe_sub, Ideal.exp_coe]
    · rw [if_neg c, if_neg c, EReal.bot_sub, Ideal.exp_bot]
      rfl
  have hZ : val_main_v79 (F := Ideal) x0 x1 x3 x4 (ix4 j p l h) = ((Real.exp (a - μ) : ℝ) : EReal) := by
    rw [val_main_v79_apply, val_main_v78_apply, hμ]
    have e := sink_at x4 j p h l
    show Ideal.exp (val_main_v61 (F := Ideal) x4 (ix4 j p l h) - (μ : EReal)) = _
    rw [e, ha, ← EReal.coe_sub, Ideal.exp_coe]
  have hD : val_main_v80 (F := Ideal) x0 x1 x3 x4 (ix4 j p l h)
      = ((∑ m, (if Near l m then Real.exp (r m - μ) else 0) + Real.exp (a - μ) : ℝ) : EReal) := by
    rw [val_main_v80_apply, val_main_v76_apply, hZ, EReal.coe_add, Cert.Num.coe_sum]
    refine congrArg (· + ((Real.exp (a - μ) : ℝ) : EReal)) ?_
    refine (congrArg₂ (· + ·) Ideal.ofBits_zero_f32 (Finset.sum_congr rfl fun k _ => ?_)).trans (zero_add _)
    exact (congrArg _ (eq_ix5 _)).trans (hE k)
  have hp : 0 < ∑ m, (if Near l m then Real.exp (r m - μ) else 0) + Real.exp (a - μ) :=
    add_pos_of_nonneg_of_pos (Finset.sum_nonneg fun m _ => by split_ifs; exacts [(Real.exp_pos _).le, le_rfl]) (Real.exp_pos _)
  refine ⟨_, _, _, hp, rfl, hE, hZ, hD, fun m => ?_, fun m c => if_neg c⟩
  unfold prob bias
  by_cases c : Near l m
  · rw [if_pos c, if_pos c, hr, val_main_v90_apply, val_main_v89_apply, hμ, hD]
    have lg : ∀ u : EReal, FloatOps.hostUnary (F := Ideal) (φ := .f32) .log u = Ideal.log u := fun _ => rfl
    rw [lg]
    show Ideal.exp ((r m : EReal) - ((μ : EReal) + Ideal.log ((∑ m, (if Near l m then Real.exp (r m - μ) else 0) + Real.exp (a - μ) : ℝ) : EReal))) = _
    rw [Ideal.log_coe, if_neg (not_le.mpr hp), ← EReal.coe_add, ← EReal.coe_sub, Ideal.exp_coe, sub_add_eq_sub_sub, Real.exp_sub,
      Real.exp_log hp, div_eq_mul_one_div]
  · rw [if_neg c, if_neg c, EReal.add_bot, EReal.bot_sub, Ideal.exp_bot, zero_mul]
    rfl

end Cert.ReferenceIdeal.Band
-- ==== Proof.BandGrad.lean ====
module

public import proofs.«01_k».proof.Proof.BandRef

/-!
# The reference's score gradients

The transposed lines of the softmax, at one query: a score's gradient is its probability times what its value row adds beyond the
row's mean. The gradient of the maximum cancels.
-/

@[expose] public section

noncomputable section

namespace Cert.ReferenceIdeal.Band

open Idealize.ShloMosaic Idealize.ShloMosaic.TcCoe
open Cert.ReferenceIdeal Cert.ReferenceIdeal.Read
open Cert.KernelIdeal.Band (lane headOf bk tbl gap Near bias near_iff)
open Cert.Num (IsNum)

variable (x0 x5 : Vec Ideal S4x4096x128 .bf16) (x1 x2 : Vec Ideal S2x4096x128 .bf16) (x3 : Vec Ideal S32x8 .f32) (x4 : Vec Ideal S8 .f32)
variable (j p h : Fin 2) (l m : Fin 4096) (e : Fin 64)

theorem sum_at : val_main_v83 (F := Ideal) x0 x1 x3 x4 (ix5 j p l h 0) = val_main_v80 (F := Ideal) x0 x1 x3 x4 (ix4 j p l h) := by
  rw [val_main_v83_apply]
  exact congrArg _ (eq_ix4 _)

theorem sum_at_lane : val_main_v84 (F := Ideal) x0 x1 x3 x4 (ix5 j p l h e) = val_main_v80 (F := Ideal) x0 x1 x3 x4 (ix4 j p l h) := by
  rw [val_main_v84_apply]
  exact (congrArg _ (eq_ix5 _)).trans (sum_at x0 x1 x3 x4 j p h l)

theorem sum_at_lane' : val_main_v100 (F := Ideal) x0 x1 x3 x4 (ix5 j p l h e) = val_main_v80 (F := Ideal) x0 x1 x3 x4 (ix4 j p l h) :=
  sum_at_lane x0 x1 x3 x4 j p h l e

theorem flat_row (f : S2x2x4096x2.Idx → EReal) (g : S2x2x4096x2x1.Idx → S2x2x4096x2.Idx) (hg : g = idx_main_v98) :
    f (g (ix5 j p l h 0)) = f (ix4 j p l h) := by
  subst hg
  refine congrArg f (same fun a => ?_)
  match a with
  | ⟨0, _⟩ =>
    show ((((j.val * 2 + p.val) * 4096 + l.val) * 2 + h.val) * 1 + 0) / 16384 = j.val
    omega
  | ⟨1, _⟩ =>
    show ((((j.val * 2 + p.val) * 4096 + l.val) * 2 + h.val) * 1 + 0) / 8192 % 2 = p.val
    omega
  | ⟨2, _⟩ =>
    show ((((j.val * 2 + p.val) * 4096 + l.val) * 2 + h.val) * 1 + 0) / 2 % 4096 = l.val
    omega
  | ⟨3, _⟩ =>
    show ((((j.val * 2 + p.val) * 4096 + l.val) * 2 + h.val) * 1 + 0) % 2 = h.val
    omega

/-- A quotient by a nonzero number. -/
theorem quot (u : ℝ) {y : ℝ} (hy : y ≠ 0) : Ideal.div (u : EReal) (y : EReal) = ((u * (1 / y) : ℝ) : EReal) := by
  rw [Ideal.div_coe hy, ← EReal.coe_mul]

theorem zero_plus (u : EReal) : FloatOps.ofBits (F := Ideal) .f32 0x00000000#32 + u = u := by
  rw [show FloatOps.ofBits (F := Ideal) .f32 0x00000000#32 = 0 from Ideal.ofBits_zero_f32, zero_add]

/-- A mark that is zero or one. -/
theorem mark (b : BitVec 1) : FloatOps.uitofp (F := Ideal) .f32 b = 0 ∨ FloatOps.uitofp (F := Ideal) .f32 b = 1 := by
  have h : ∀ b : BitVec 1, b = 0#1 ∨ b = 1#1 := by decide
  rcases h b with rfl | rfl
  · left
    show (((0#1).toNat : ℝ) : EReal) = 0
    simp
  · right
    show (((1#1).toNat : ℝ) : EReal) = 1
    simp

/-- What is shared out among the greatest scores: nothing, when there is nothing to share. -/
theorem share (hz : val_main_v117 (F := Ideal) x0 x1 x2 x3 x4 x5 (ix4 j p l h) = 0) :
    val_main_v121 (F := Ideal) x0 x1 x2 x3 x4 x5 (ix5 j p l h m) = 0 := by
  have hb : ∀ k, val_main_v58 (F := Ideal) x0 x1 x3 (ix5 j p l h k) = 0 ∨ val_main_v58 (F := Ideal) x0 x1 x3 (ix5 j p l h k) = 1 :=
    fun k => mark _
  rw [val_main_v121_apply]
  show _ * _ = _
  rcases hb m with c | c
  · rw [c, mul_zero]
  · rw [c, mul_one, val_main_v120_apply]
    refine (congrArg _ (eq_ix4 _)).trans (?_ : val_main_v119 (F := Ideal) x0 x1 x2 x3 x4 x5 (ix4 j p l h) = 0)
    rw [val_main_v119_apply, val_main_v118_apply, hz]
    have hc : val_main_v59 (F := Ideal) x0 x1 x3 (ix4 j p l h) = ∑ k, val_main_v58 (F := Ideal) x0 x1 x3 (ix5 j p l h k) := by
      rw [val_main_v59_apply]
      exact (zero_plus _).trans (Finset.sum_congr rfl fun k _ => congrArg _ (eq_ix5 _))
    have hn : ∀ k, ∃ r : ℝ, 0 ≤ r ∧ val_main_v58 (F := Ideal) x0 x1 x3 (ix5 j p l h k) = (r : EReal) := fun k => by
      rcases hb k with d | d
      · exact ⟨0, le_rfl, d⟩
      · exact ⟨1, zero_le_one, d⟩
    choose r hr0 hr using hn
    have h1 : r m = 1 := by
      exact EReal.coe_injective ((hr m).symm.trans c)
    have hp : 0 < ∑ k, r k := lt_of_lt_of_le (by rw [h1]; exact zero_lt_one) (Finset.single_le_sum (fun k _ => hr0 k) (Finset.mem_univ m))
    rw [hc, Finset.sum_congr rfl fun k _ => hr k, ← Cert.Num.coe_sum]
    show Ideal.div (0 * _) _ = 0
    rw [zero_mul, Ideal.div_coe hp.ne', zero_mul]

/-- A query's gradients: of its scores, and what each key's value row receives. -/
theorem grads (n0 : ∀ i, IsNum (x0 i)) (n1 : ∀ i, IsNum (x1 i)) (n2 : ∀ i, IsNum (x2 i)) (n3 : ∀ i, IsNum (x3 i)) (n4 : ∀ i, IsNum (x4 i))
    (n5 : ∀ i, IsNum (x5 i)) :
    val_main_v123 (F := Ideal) x0 x1 x2 x3 x4 x5 (ix5 j p l h m)
        = prob x0 x1 x3 x4 j p h l m * ((∑ e : Fin 64, x2 (ix3 j m (lane h e)) * x5 (ix3 (unit j p) l (lane h e)))
          - ∑ e : Fin 64, x5 (ix3 (unit j p) l (lane h e)) * val_main_v85 (F := Ideal) x0 x1 x2 x3 x4 (ix5 j p l h e))
      ∧ ∀ e, val_main_v101 (F := Ideal) x0 x1 x3 x4 x5 (ix5 j p l h e) * val_main_v75 (F := Ideal) x0 x1 x3 x4 (ix5 j p l h m)
        = prob x0 x1 x3 x4 j p h l m * x5 (ix3 (unit j p) l (lane h e)) := by
  obtain ⟨ε, z, D, hD, hs, hE, hZ, hS, hP, hO⟩ := exps x0 x1 x3 x4 j p h l n0 n1 n3 n4
  have hV : ∀ m e, IsNum (x2 (ix3 j m (lane h e))) := fun m e => n2 _
  choose V hV using hV
  have hG : ∀ e, IsNum (x5 (ix3 (unit j p) l (lane h e))) := fun e => n5 _
  choose G hG using hG
  have hDD : D * D ≠ 0 := (mul_pos hD hD).ne'
  have one : FloatOps.ofBits (F := Ideal) .f32 0x3F800000#32 = ((1 : ℝ) : EReal) := Ideal.ofBits_one_f32
  have e82 : ∀ e, val_main_v82 (F := Ideal) x0 x1 x2 x3 x4 (ix5 j p l h e) = ((∑ k, V k e * ε k : ℝ) : EReal) := by
    intro e
    rw [val_main_v82_apply, val_main_v81_apply, Cert.Num.coe_sum]
    refine Finset.sum_congr rfl fun k _ => ?_
    rw [EReal.coe_mul, ← hV, ← hE]
    exact congrArg₂ (· * ·) ((congrArg _ (eq_ix4 _)).trans (v_at x2 j h k e)) (congrArg _ (eq_ix5 _))
  have e85 : ∀ e, val_main_v85 (F := Ideal) x0 x1 x2 x3 x4 (ix5 j p l h e) = (((∑ k, V k e * ε k) * (1 / D) : ℝ) : EReal) := by
    intro e
    rw [val_main_v85_apply, e82, sum_at_lane, hS]
    exact quot _ hD.ne'
  have e94 : ∀ e, val_main_v94 (F := Ideal) x0 x1 x3 x4 (ix5 j p l h e) = ((1 * (1 / (D * D)) : ℝ) : EReal) := by
    intro e
    rw [val_main_v94_apply]
    refine (congrArg _ (eq_ix5 _)).trans (?_ : val_main_v88 (F := Ideal) x0 x1 x3 x4 (ix5 j p l h 0) = _)
    rw [val_main_v88_apply, val_main_v86_apply, sum_at, hS, val_main_v87_apply]
    show Ideal.div (FloatOps.ofBits (F := Ideal) .f32 0x3F800000#32) ((D : EReal) * D) = _
    rw [one, ← EReal.coe_mul, quot _ hDD]
  have e97 : val_main_v97 (F := Ideal) x0 x1 x2 x3 x4 x5 (ix4 j p l h)
      = ((∑ e, G e * (1 * (1 / (D * D))) * (∑ k, V k e * ε k) : ℝ) : EReal) := by
    rw [val_main_v97_apply, Cert.Num.coe_sum]
    refine (zero_plus _).trans (Finset.sum_congr rfl fun e _ => ?_)
    refine (congrArg _ (eq_ix5 _)).trans (?_ : val_main_v96 (F := Ideal) x0 x1 x2 x3 x4 x5 (ix5 j p l h e) = _)
    rw [val_main_v96_apply, val_main_v95_apply, e82, e94, do_at, hG]
    show (_ * _) * _ = _
    rw [← EReal.coe_mul, ← EReal.coe_mul]
  have e102 : val_main_v102 (F := Ideal) x0 x1 x2 x3 x4 x5 (ix4 j p l h)
      = ((-(∑ e, G e * (1 * (1 / (D * D))) * (∑ k, V k e * ε k)) : ℝ) : EReal) := by
    rw [val_main_v102_apply]
    refine (zero_plus _).trans ((Fin.sum_univ_one _).trans ?_)
    refine (congrArg _ (eq_ix5 _)).trans (?_ : val_main_v99 (F := Ideal) x0 x1 x2 x3 x4 x5 (ix5 j p l h 0) = _)
    rw [val_main_v99_apply, val_main_v98_apply, EReal.coe_neg, ← e97]
    exact congrArg (fun u : EReal => -u) (flat_row j p h l (val_main_v97 (F := Ideal) x0 x1 x2 x3 x4 x5) _ rfl)
  have e101 : ∀ e, val_main_v101 (F := Ideal) x0 x1 x3 x4 x5 (ix5 j p l h e) = ((G e * (1 / D) : ℝ) : EReal) := by
    intro e
    rw [val_main_v101_apply, do_at, sum_at_lane', hG, hS]
    exact quot _ hD.ne'
  have e105 : ∀ m, val_main_v105 (F := Ideal) x0 x1 x2 x3 x4 x5 (ix5 j p l h m) = ((∑ e, G e * (1 / D) * V m e : ℝ) : EReal) := by
    intro m
    rw [val_main_v105_apply, val_main_v104_apply, Cert.Num.coe_sum]
    refine Finset.sum_congr rfl fun e _ => ?_
    rw [EReal.coe_mul, ← hV, ← e101]
    refine congrArg₂ (· * ·) ?_ ((congrArg _ (eq_ix4 _)).trans (v_at x2 j h m e))
    rw [val_main_v103_apply]
    exact congrArg _ (eq_ix5 _)
  have e112 : ∀ m, val_main_v112 (F := Ideal) x0 x1 x2 x3 x4 x5 (ix5 j p l h m)
      = ((((∑ e, G e * (1 / D) * V m e) + -(∑ e, G e * (1 * (1 / (D * D))) * (∑ k, V k e * ε k))) * ε m : ℝ) : EReal) := by
    intro m
    rw [val_main_v112_apply, val_main_v111_apply, e105, hE, val_main_v110_apply, EReal.coe_mul, EReal.coe_add, ← e102]
    exact congrArg (fun u => (_ + u) * _) (congrArg _ (eq_ix4 _))
  have e114 : val_main_v114 (F := Ideal) x0 x1 x2 x3 x4 x5 (ix4 j p l h)
      = ((∑ m, -(((∑ e, G e * (1 / D) * V m e) + -(∑ e, G e * (1 * (1 / (D * D))) * (∑ k, V k e * ε k))) * ε m) : ℝ) : EReal) := by
    rw [val_main_v114_apply, Cert.Num.coe_sum]
    refine (zero_plus _).trans (Finset.sum_congr rfl fun k _ => ?_)
    rw [EReal.coe_neg, ← e112]
    exact congrArg _ (eq_ix5 _)
  have e116 : val_main_v116 (F := Ideal) x0 x1 x2 x3 x4 x5 (ix4 j p l h) = val_main_v114 (F := Ideal) x0 x1 x2 x3 x4 x5 (ix4 j p l h) := by
    rw [val_main_v116_apply]
    refine (zero_plus _).trans ((Fin.sum_univ_one _).trans ?_)
    refine (congrArg _ (eq_ix5 _)).trans (?_ : val_main_v115 (F := Ideal) x0 x1 x2 x3 x4 x5 (ix5 j p l h 0) = _)
    rw [val_main_v115_apply]
    exact flat_row j p h l (val_main_v114 (F := Ideal) x0 x1 x2 x3 x4 x5) _ rfl
  have e117 : val_main_v117 (F := Ideal) x0 x1 x2 x3 x4 x5 (ix4 j p l h) = 0 := by
    rw [val_main_v117_apply, val_main_v109_apply, val_main_v108_apply, e102, hZ, e116, e114]
    show -(_ * _) + _ = (0 : EReal)
    rw [← EReal.coe_mul, ← EReal.coe_neg, ← EReal.coe_add, ← EReal.coe_zero]
    refine congrArg _ ?_
    have hz : z = D - ∑ m, ε m := by rw [hs]; ring
    have hx : ∑ m, (∑ e, G e * (1 / D) * V m e) * ε m = ∑ e, G e * (1 / D) * ∑ k, V k e * ε k := by
      simp only [Finset.sum_mul, Finset.mul_sum]
      rw [Finset.sum_comm]
      exact Finset.sum_congr rfl fun e _ => Finset.sum_congr rfl fun m _ => by ring
    have hy : ∑ e, G e * (1 * (1 / (D * D))) * (∑ k, V k e * ε k) = (1 / D) * ∑ e, G e * (1 / D) * ∑ k, V k e * ε k := by
      rw [Finset.mul_sum]
      exact Finset.sum_congr rfl fun e _ => by field_simp
    rw [Finset.sum_neg_distrib]
    simp only [add_mul]
    rw [Finset.sum_add_distrib, hx, ← Finset.mul_sum, hy, hz]
    field_simp
    ring
  refine ⟨?_, fun e => ?_⟩
  · have hv : val_main_v122 (F := Ideal) x0 x1 x2 x3 x4 x5 (ix5 j p l h m) = val_main_v112 (F := Ideal) x0 x1 x2 x3 x4 x5 (ix5 j p l h m) := by
      rw [val_main_v122_apply, share x0 x5 x1 x2 x3 x4 j p h l m e117]
      exact add_zero _
    have hk : prob x0 x1 x3 x4 j p h l m * ((∑ e : Fin 64, x2 (ix3 j m (lane h e)) * x5 (ix3 (unit j p) l (lane h e)))
          - ∑ e : Fin 64, x5 (ix3 (unit j p) l (lane h e)) * val_main_v85 (F := Ideal) x0 x1 x2 x3 x4 (ix5 j p l h e))
        = val_main_v112 (F := Ideal) x0 x1 x2 x3 x4 x5 (ix5 j p l h m) := by
      rw [hP, e112]
      simp only [hV, hG, e85, ← EReal.coe_mul, ← Cert.Num.coe_sum, ← EReal.coe_sub]
      refine congrArg _ ?_
      have ha : ∑ e, G e * (1 / D) * V m e = (∑ e, V m e * G e) * (1 / D) := by
        rw [Finset.sum_mul]
        exact Finset.sum_congr rfl fun e _ => by ring
      have hb : ∑ e, G e * (1 * (1 / (D * D))) * (∑ k, V k e * ε k) = (∑ e, G e * ((∑ k, V k e * ε k) * (1 / D))) * (1 / D) := by
        rw [Finset.sum_mul]
        exact Finset.sum_congr rfl fun e _ => by field_simp
      rw [ha, hb]
      ring
    rw [hk, val_main_v123_apply, mask_at, hv]
    show (if _ = 1#1 then _ else _) = _
    by_cases c : Near l m
    · exact if_pos ((near_iff l m).mpr c)
    · rw [if_neg (fun d => c ((near_iff l m).mp d)), e112, hO m c, mul_zero]
      exact Ideal.ofBits_zero_f32
  · rw [e101, hE, hP, hG, ← EReal.coe_mul, ← EReal.coe_mul]
    exact congrArg _ (by ring)

end Cert.ReferenceIdeal.Band
-- ==== Proof.BandOut.lean ====
module

public import proofs.«01_k».proof.Proof.BandGrad
public import Idealize.ShloMosaic.Lib.TwoAxisContraction

/-!
# The reference's three gradients

Each result of the reference, as sums over keys or over queries of the score gradients and the probabilities.
-/

@[expose] public section

noncomputable section

namespace Cert.ReferenceIdeal.Band

open Idealize.ShloMosaic Idealize.ShloMosaic.TcCoe
open Idealize.ShloMosaic.ValueIdx (contrEquiv2 contrEquiv2_symm_val0 contrEquiv2_symm_val1 sum_contr2)
open Cert.ReferenceIdeal Cert.ReferenceIdeal.Read
open Cert.KernelIdeal.Band (lane headOf)

variable (x0 x5 : Vec Ideal S4x4096x128 .bf16) (x1 x2 : Vec Ideal S2x4096x128 .bf16) (x3 : Vec Ideal S32x8 .f32) (x4 : Vec Ideal S8 .f32)
variable (j p h : Fin 2) (l m : Fin 4096) (e : Fin 64)

/-- A flat unit array read at a unit, a place and a lane. -/
theorem flat_unit (f : S2x2x4096x2x64.Idx → EReal) (g : S4x4096x128.Idx → S2x2x4096x2x64.Idx) (hg : g = idx_main_v131) :
    f (g (ix3 (unit j p) l (lane h e))) = f (ix5 j p l h e) := by
  subst hg
  refine congrArg f (same fun a => ?_)
  match a with
  | ⟨0, _⟩ =>
    show (((2 * j.val + p.val) * 4096 + l.val) * 128 + (64 * h.val + e.val)) / 1048576 = j.val
    omega
  | ⟨1, _⟩ =>
    show (((2 * j.val + p.val) * 4096 + l.val) * 128 + (64 * h.val + e.val)) / 524288 % 2 = p.val
    omega
  | ⟨2, _⟩ =>
    show (((2 * j.val + p.val) * 4096 + l.val) * 128 + (64 * h.val + e.val)) / 128 % 4096 = l.val
    omega
  | ⟨3, _⟩ =>
    show (((2 * j.val + p.val) * 4096 + l.val) * 128 + (64 * h.val + e.val)) / 64 % 2 = h.val
    omega
  | ⟨4, _⟩ =>
    show (((2 * j.val + p.val) * 4096 + l.val) * 128 + (64 * h.val + e.val)) % 64 = e.val
    omega

/-- A flat group array read at a group, a place and a lane. -/
theorem flat_group (f : S2x4096x2x64.Idx → EReal) (g : S2x4096x128.Idx → S2x4096x2x64.Idx) (hg : g = idx_main_v130) :
    f (g (ix3 j m (lane h e))) = f (ix4 j m h e) := by
  subst hg
  refine congrArg f (same fun a => ?_)
  match a with
  | ⟨0, _⟩ =>
    show ((j.val * 4096 + m.val) * 128 + (64 * h.val + e.val)) / 524288 = j.val
    omega
  | ⟨1, _⟩ =>
    show ((j.val * 4096 + m.val) * 128 + (64 * h.val + e.val)) / 128 % 4096 = m.val
    omega
  | ⟨2, _⟩ =>
    show ((j.val * 4096 + m.val) * 128 + (64 * h.val + e.val)) / 64 % 2 = h.val
    omega
  | ⟨3, _⟩ =>
    show ((j.val * 4096 + m.val) * 128 + (64 * h.val + e.val)) % 64 = e.val
    omega

theorem ds_at : val_main_v124 (F := Ideal) x0 x1 x2 x3 x4 x5 (ix5 j h m p l) = val_main_v123 (F := Ideal) x0 x1 x2 x3 x4 x5 (ix5 j p l h m) := by
  rw [val_main_v124_apply]
  exact congrArg _ (eq_ix5 _)

/-- The output at a unit, a place and a lane. -/
theorem out_at : val_main_v91 (F := Ideal) x0 x1 x2 x3 x4 (ix3 (unit j p) l (lane h e)) = val_main_v85 (F := Ideal) x0 x1 x2 x3 x4 (ix5 j p l h e) := by
  rw [val_main_v91_apply]
  exact flat_unit j p h l e (val_main_v85 (F := Ideal) x0 x1 x2 x3 x4) _ rfl

/-- The gradient of the queries. -/
theorem dq_at : val_main_v132 (F := Ideal) x0 x1 x2 x3 x4 x5 (ix3 (unit j p) l (lane h e))
    = ∑ m : Fin 4096, val_main_v123 (F := Ideal) x0 x1 x2 x3 x4 x5 (ix5 j p l h m) * x1 (ix3 j m (lane h e)) := by
  refine (?_ : _ = val_main_v131 (F := Ideal) x0 x1 x2 x3 x4 x5 (ix3 (unit j p) l (lane h e))).trans ?_
  · rfl
  rw [val_main_v131_apply, flat_unit j p h l e (val_main_v126 (F := Ideal) x0 x1 x2 x3 x4 x5) _ rfl, val_main_v126_apply, val_main_v125_apply]
  exact Finset.sum_congr rfl fun k _ => congrArg₂ (· * ·) ((congrArg _ (eq_ix5 _)).trans (ds_at x0 x5 x1 x2 x3 x4 j p h l k))
    ((congrArg _ (eq_ix4 _)).trans (k_at x1 j h k e))

/-- The gradient of the keys. -/
theorem dk_at : val_main_v133 (F := Ideal) x0 x1 x2 x3 x4 x5 (ix3 j m (lane h e))
    = ∑ p : Fin 2, ∑ l : Fin 4096, val_main_v123 (F := Ideal) x0 x1 x2 x3 x4 x5 (ix5 j p l h m) * x0 (ix3 (unit j p) l (lane h e)) := by
  refine (?_ : _ = val_main_v130 (F := Ideal) x0 x1 x2 x3 x4 x5 (ix3 j m (lane h e))).trans ?_
  · rfl
  rw [val_main_v130_apply, flat_group j h m e (val_main_v128 (F := Ideal) x0 x1 x2 x3 x4 x5) _ rfl, val_main_v128_apply]
  refine (congrArg _ (eq_ix4 _)).trans (?_ : val_main_v127 (F := Ideal) x0 x1 x2 x3 x4 x5 (ix4 j h m e) = _)
  unfold val_main_v127
  have hd : ∀ p l, val_main_v124 (F := Ideal) x0 x1 x2 x3 x4 x5 (ix5 j h m p l) * val_main_v3 (F := Ideal) x0 (ix5 j p l h e)
      = val_main_v123 (F := Ideal) x0 x1 x2 x3 x4 x5 (ix5 j p l h m) * x0 (ix3 (unit j p) l (lane h e)) := fun p l =>
    congrArg₂ (· * ·) (ds_at x0 x5 x1 x2 x3 x4 j p h l m) (q_at x0 j p h l e)
  simp only [← hd]
  generalize val_main_v124 (F := Ideal) x0 x1 x2 x3 x4 x5 = a
  generalize val_main_v3 (F := Ideal) x0 = b
  simp only [Host.dotGeneral]
  rw [Ideal.dotGeneral_apply, sum_contr2 dot_S2x2x4096x2x4096_S2x2x4096x2x64_S2x2x4096x64_34_12_2_4_01_03 2 4096 rfl rfl rfl]
  refine Finset.sum_congr rfl fun p _ => Finset.sum_congr rfl fun l _ => ?_
  have h0 := contrEquiv2_symm_val0 dot_S2x2x4096x2x4096_S2x2x4096x2x64_S2x2x4096x64_34_12_2_4_01_03 2 4096 rfl rfl rfl (p, l)
  have h1 := contrEquiv2_symm_val1 dot_S2x2x4096x2x4096_S2x2x4096x2x64_S2x2x4096x64_34_12_2_4_01_03 2 4096 rfl rfl rfl (p, l)
  generalize (contrEquiv2 dot_S2x2x4096x2x4096_S2x2x4096x2x64_S2x2x4096x64_34_12_2_4_01_03 2 4096 rfl rfl rfl).symm (p, l) = k at h0 h1 ⊢
  refine congrArg₂ (· * ·) (congrArg a (same fun x => ?_)) (congrArg b (same fun x => ?_))
  · match x with
    | ⟨0, _⟩ => rfl
    | ⟨1, _⟩ => rfl
    | ⟨2, _⟩ => rfl
    | ⟨3, _⟩ => exact (Eq.trans rfl h0)
    | ⟨4, _⟩ => exact (Eq.trans rfl h1)
  · match x with
    | ⟨0, _⟩ => rfl
    | ⟨1, _⟩ => exact (Eq.trans rfl h0)
    | ⟨2, _⟩ => exact (Eq.trans rfl h1)
    | ⟨3, _⟩ => rfl
    | ⟨4, _⟩ => rfl

theorem share_at : val_main_v103 (F := Ideal) x0 x1 x3 x4 x5 (ix5 j h e p l) = val_main_v101 (F := Ideal) x0 x1 x3 x4 x5 (ix5 j p l h e) := by
  rw [val_main_v103_apply]
  exact congrArg _ (eq_ix5 _)

/-- The gradient of the values. -/
theorem dv_at : val_main_v134 (F := Ideal) x0 x1 x3 x4 x5 (ix3 j m (lane h e))
    = ∑ p : Fin 2, ∑ l : Fin 4096, val_main_v101 (F := Ideal) x0 x1 x3 x4 x5 (ix5 j p l h e)
      * val_main_v75 (F := Ideal) x0 x1 x3 x4 (ix5 j p l h m) := by
  refine (?_ : _ = val_main_v129 (F := Ideal) x0 x1 x3 x4 x5 (ix3 j m (lane h e))).trans ?_
  · rfl
  rw [val_main_v129_apply, flat_group j h m e (val_main_v107 (F := Ideal) x0 x1 x3 x4 x5) _ rfl, val_main_v107_apply]
  refine (congrArg _ (eq_ix4 _)).trans (?_ : val_main_v106 (F := Ideal) x0 x1 x3 x4 x5 (ix4 j h e m) = _)
  unfold val_main_v106
  simp only [← share_at]
  generalize val_main_v103 (F := Ideal) x0 x1 x3 x4 x5 = a
  generalize val_main_v75 (F := Ideal) x0 x1 x3 x4 = b
  simp only [Host.dotGeneral]
  rw [Ideal.dotGeneral_apply, sum_contr2 dot_S2x2x64x2x4096_S2x2x4096x2x4096_S2x2x64x4096_34_12_2_4_01_03 2 4096 rfl rfl rfl]
  refine Finset.sum_congr rfl fun p _ => Finset.sum_congr rfl fun l _ => ?_
  have h0 := contrEquiv2_symm_val0 dot_S2x2x64x2x4096_S2x2x4096x2x4096_S2x2x64x4096_34_12_2_4_01_03 2 4096 rfl rfl rfl (p, l)
  have h1 := contrEquiv2_symm_val1 dot_S2x2x64x2x4096_S2x2x4096x2x4096_S2x2x64x4096_34_12_2_4_01_03 2 4096 rfl rfl rfl (p, l)
  generalize (contrEquiv2 dot_S2x2x64x2x4096_S2x2x4096x2x4096_S2x2x64x4096_34_12_2_4_01_03 2 4096 rfl rfl rfl).symm (p, l) = k at h0 h1 ⊢
  refine congrArg₂ (· * ·) (congrArg a (same fun x => ?_)) (congrArg b (same fun x => ?_))
  · match x with
    | ⟨0, _⟩ => rfl
    | ⟨1, _⟩ => rfl
    | ⟨2, _⟩ => rfl
    | ⟨3, _⟩ => exact (Eq.trans rfl h0)
    | ⟨4, _⟩ => exact (Eq.trans rfl h1)
  · match x with
    | ⟨0, _⟩ => rfl
    | ⟨1, _⟩ => exact (Eq.trans rfl h0)
    | ⟨2, _⟩ => exact (Eq.trans rfl h1)
    | ⟨3, _⟩ => rfl
    | ⟨4, _⟩ => rfl

end Cert.ReferenceIdeal.Band
-- ==== Proof.BandBlocks.lean ====
module

public import proofs.«01_k».proof.Proof.BandOut
public import Idealize.ShloMosaic.Lib.Pipeline.ValueKit.Geometry
public import Idealize.ShloMosaic.Lib.Pipeline.ValueKit.Tiles

/-!
# The blocks the attention call reads

Each is a unit's slab of the array it is cut from.
-/

@[expose] public section

noncomputable section

namespace Cert.KernelIdeal.Band

open Idealize.ShloMosaic Idealize.ShloMosaic.TcCoe Idealize.ShloMosaic.Tactic
open Idealize.SL.Sem
open Cert.KernelIdeal Cert.KernelIdeal.Gen
open Cert.ReferenceIdeal.Band (unit head prob dot same out_at dq_at dk_at dv_at grads)
open Cert.ReferenceIdeal.Read (val_main_v85 val_main_v90 val_main_v91 val_main_v123 val_main_v101 val_main_v75 val_main_v132 val_main_v133 val_main_v134)
open Cert.Num (IsNum)

section Blocks

variable (m : (ℓ : Loc nD τ sig) → Buf (Elt Ideal) ℓ)

/-- A point's block of queries. -/
theorem q_block (c : Dev nD) (t : Fin cfg0.N) (n : Fin 4) (hn : n.val = t.val) (l : Fin 4096) (y : Fin 128) :
    (iblk m c 1 t : Vec Ideal S1x4096x128 .bf16) (ix3 0 l y) = m ((c : Thread nD τ).loc main_arg0) (ix3 n l y) := by
  have hi : ∀ t : Fin 4, win0_1.index t 0 = t.val ∧ win0_1.index t 1 = 0 ∧ win0_1.index t 2 = 0 := by decide
  obtain ⟨i0, i1, i2⟩ := hi t
  unfold iblk
  rw [View.read_apply]
  rw [← V_main_arg0 m c]
  generalize V m c = f
  refine congrArg (f main_arg0) (funext fun x => ?_)
  apply Fin.ext
  match x with
  | ⟨0, _⟩ => show win0_1.index t 0 * 1 + 1 * 0 = n.val; rw [i0]; omega
  | ⟨1, _⟩ => show win0_1.index t 1 * 4096 + 1 * l.val = l.val; rw [i1]; omega
  | ⟨2, _⟩ => show win0_1.index t 2 * 128 + 1 * y.val = y.val; rw [i2]; omega

/-- A point's block of keys. -/
theorem k_block (c : Dev nD) (t : Fin cfg0.N) (n : Fin 2) (hn : n.val = t.val / 2) (l : Fin 4096) (y : Fin 128) :
    (iblk m c 2 t : Vec Ideal S1x4096x128 .bf16) (ix3 0 l y) = m ((c : Thread nD τ).loc main_arg1) (ix3 n l y) := by
  have hi : ∀ t : Fin 4, win0_2.index t 0 = t.val / 2 ∧ win0_2.index t 1 = 0 ∧ win0_2.index t 2 = 0 := by decide
  obtain ⟨i0, i1, i2⟩ := hi t
  unfold iblk
  rw [View.read_apply]
  rw [← V_main_arg1 m c]
  generalize V m c = f
  refine congrArg (f main_arg1) (funext fun x => ?_)
  apply Fin.ext
  match x with
  | ⟨0, _⟩ => show win0_2.index t 0 * 1 + 1 * 0 = n.val; rw [i0]; omega
  | ⟨1, _⟩ => show win0_2.index t 1 * 4096 + 1 * l.val = l.val; rw [i1]; omega
  | ⟨2, _⟩ => show win0_2.index t 2 * 128 + 1 * y.val = y.val; rw [i2]; omega

/-- A point's block of values. -/
theorem v_block (c : Dev nD) (t : Fin cfg0.N) (n : Fin 2) (hn : n.val = t.val / 2) (l : Fin 4096) (y : Fin 128) :
    (iblk m c 3 t : Vec Ideal S1x4096x128 .bf16) (ix3 0 l y) = m ((c : Thread nD τ).loc main_arg2) (ix3 n l y) := by
  have hi : ∀ t : Fin 4, win0_3.index t 0 = t.val / 2 ∧ win0_3.index t 1 = 0 ∧ win0_3.index t 2 = 0 := by decide
  obtain ⟨i0, i1, i2⟩ := hi t
  unfold iblk
  rw [View.read_apply]
  rw [← V_main_arg2 m c]
  generalize V m c = f
  refine congrArg (f main_arg2) (funext fun x => ?_)
  apply Fin.ext
  match x with
  | ⟨0, _⟩ => show win0_3.index t 0 * 1 + 1 * 0 = n.val; rw [i0]; omega
  | ⟨1, _⟩ => show win0_3.index t 1 * 4096 + 1 * l.val = l.val; rw [i1]; omega
  | ⟨2, _⟩ => show win0_3.index t 2 * 128 + 1 * y.val = y.val; rw [i2]; omega

/-- A point's block of the incoming gradient. -/
theorem do_block (c : Dev nD) (t : Fin cfg0.N) (n : Fin 4) (hn : n.val = t.val) (l : Fin 4096) (y : Fin 128) :
    (iblk m c 7 t : Vec Ideal S1x4096x128 .bf16) (ix3 0 l y) = m ((c : Thread nD τ).loc main_arg5) (ix3 n l y) := by
  have hi : ∀ t : Fin 4, win0_7.index t 0 = t.val ∧ win0_7.index t 1 = 0 ∧ win0_7.index t 2 = 0 := by decide
  obtain ⟨i0, i1, i2⟩ := hi t
  unfold iblk
  rw [View.read_apply]
  rw [← V_main_arg5 m c]
  generalize V m c = f
  refine congrArg (f main_arg5) (funext fun x => ?_)
  apply Fin.ext
  match x with
  | ⟨0, _⟩ => show win0_7.index t 0 * 1 + 1 * 0 = n.val; rw [i0]; omega
  | ⟨1, _⟩ => show win0_7.index t 1 * 4096 + 1 * l.val = l.val; rw [i1]; omega
  | ⟨2, _⟩ => show win0_7.index t 2 * 128 + 1 * y.val = y.val; rw [i2]; omega

/-- Where the block of biases is cut. -/
theorem b_read (f : Vec Ideal S4x3x384x256 .f32) (t : Fin cfg0.N) (n : Fin 4) (hn : n.val = t.val) (s : Fin 3) (w : Fin 384) (k : Fin 256) :
    (((cfg0.win 4).blk t).view.read (Elt Ideal) f : Vec Ideal S1x3x384x256 .f32) (ix4 0 s w k) = f (ix4 n s w k) := by
  have hi : ∀ t : Fin 4, win0_4.index t 0 = t.val ∧ win0_4.index t 1 = 0 ∧ win0_4.index t 2 = 0 ∧ win0_4.index t 3 = 0 := by decide
  obtain ⟨i0, i1, i2, i3⟩ := hi t
  rw [View.read_apply]
  refine congrArg f (funext fun x => Fin.ext ?_)
  match x with
  | ⟨0, _⟩ => show win0_4.index t 0 * 1 + 1 * 0 = n.val; rw [i0]; omega
  | ⟨1, _⟩ => show win0_4.index t 1 * 3 + 1 * s.val = s.val; rw [i1]; omega
  | ⟨2, _⟩ => show win0_4.index t 2 * 384 + 1 * w.val = w.val; rw [i2]; omega
  | ⟨3, _⟩ => show win0_4.index t 3 * 256 + 1 * k.val = k.val; rw [i3]; omega

/-- A point's block of biases. -/
theorem b_block (c : Dev nD) (t : Fin cfg0.N) (n : Fin 4) (hn : n.val = t.val) (s : Fin 3) (w : Fin 384) (k : Fin 256) :
    (iblk m c 4 t : Vec Ideal S1x3x384x256 .f32) (ix4 0 s w k) = (V m c main_v136 : Vec Ideal S4x3x384x256 .f32) (ix4 n s w k) :=
  b_read (V m c main_v136) t n hn s w k

/-- Where the block of outputs is cut. -/
theorem o_read (f : Vec Ideal S4x4096x128 .f32) (t : Fin cfg0.N) (n : Fin 4) (hn : n.val = t.val) (l : Fin 4096) (y : Fin 128) :
    (((cfg0.win 5).blk t).view.read (Elt Ideal) f : Vec Ideal S1x4096x128 .f32) (ix3 0 l y) = f (ix3 n l y) := by
  have hi : ∀ t : Fin 4, win0_5.index t 0 = t.val ∧ win0_5.index t 1 = 0 ∧ win0_5.index t 2 = 0 := by decide
  obtain ⟨i0, i1, i2⟩ := hi t
  rw [View.read_apply]
  refine congrArg f (funext fun x => Fin.ext ?_)
  match x with
  | ⟨0, _⟩ => show win0_5.index t 0 * 1 + 1 * 0 = n.val; rw [i0]; omega
  | ⟨1, _⟩ => show win0_5.index t 1 * 4096 + 1 * l.val = l.val; rw [i1]; omega
  | ⟨2, _⟩ => show win0_5.index t 2 * 128 + 1 * y.val = y.val; rw [i2]; omega

/-- A point's block of outputs. -/
theorem o_block (c : Dev nD) (t : Fin cfg0.N) (n : Fin 4) (hn : n.val = t.val) (l : Fin 4096) (y : Fin 128) :
    (iblk m c 5 t : Vec Ideal S1x4096x128 .f32) (ix3 0 l y) = (V m c main_v137 : Vec Ideal S4x4096x128 .f32) (ix3 n l y) :=
  o_read (V m c main_v137) t n hn l y

/-- Where the block of the logs is cut. -/
theorem lse_read (f : Vec Ideal S4x4096x128 .f32) (t : Fin cfg0.N) (n : Fin 4) (hn : n.val = t.val) (l : Fin 4096) (y : Fin 128) :
    (((cfg0.win 6).blk t).view.read (Elt Ideal) f : Vec Ideal S1x4096x128 .f32) (ix3 0 l y) = f (ix3 n l y) := by
  have hi : ∀ t : Fin 4, win0_6.index t 0 = t.val ∧ win0_6.index t 1 = 0 ∧ win0_6.index t 2 = 0 := by decide
  obtain ⟨i0, i1, i2⟩ := hi t
  rw [View.read_apply]
  refine congrArg f (funext fun x => Fin.ext ?_)
  match x with
  | ⟨0, _⟩ => show win0_6.index t 0 * 1 + 1 * 0 = n.val; rw [i0]; omega
  | ⟨1, _⟩ => show win0_6.index t 1 * 4096 + 1 * l.val = l.val; rw [i1]; omega
  | ⟨2, _⟩ => show win0_6.index t 2 * 128 + 1 * y.val = y.val; rw [i2]; omega

/-- A point's block of the logs of the rows' sums. -/
theorem lse_block (c : Dev nD) (t : Fin cfg0.N) (n : Fin 4) (hn : n.val = t.val) (l : Fin 4096) (y : Fin 128) :
    (iblk m c 6 t : Vec Ideal S1x4096x128 .f32) (ix3 0 l y) = (V m c main_v140 : Vec Ideal S4x4096x128 .f32) (ix3 n l y) :=
  lse_read (V m c main_v140) t n hn l y

end Blocks

end Cert.KernelIdeal.Band
-- ==== Proof.BandValue.lean ====
module

public import proofs.«01_k».proof.Proof.BandBlocks
public import Idealize.ShloMosaic.Lib.Pipeline.ValueKit.Geometry
public import Idealize.ShloMosaic.Lib.Pipeline.ValueKit.Tiles

/-!
# What the attention call leaves in its three gradients

Each result array is the reference's, for arguments that hold no infinity.
-/

@[expose] public section

noncomputable section

namespace Cert.KernelIdeal.Band

open Idealize.ShloMosaic Idealize.ShloMosaic.TcCoe Idealize.ShloMosaic.Tactic
open Idealize.SL.Sem
open Cert.KernelIdeal Cert.KernelIdeal.Gen
open Cert.ReferenceIdeal.Band (unit head prob dot same out_at dq_at dk_at dv_at grads)
open Cert.ReferenceIdeal.Read (val_main_v85 val_main_v90 val_main_v91 val_main_v123 val_main_v101 val_main_v75 val_main_v132 val_main_v133 val_main_v134)
open Cert.Num (IsNum)

/-- The biases the call reads, over the table. -/
theorem bias_at (m : (ℓ : Loc nD τ sig) → Buf (Elt Ideal) ℓ) (c : Dev nD) (T : Vec Ideal S32x8 .f32)
    (hT : m ((c : Thread nD τ).loc main_arg3) = T) (n : Fin 4) (s : Fin 3) (w : Fin 384) (k : Fin 256) :
    (V m c main_v136 : Vec Ideal S4x3x384x256 .f32) (ix4 n s w k) = biasT T (ix4 n s w k) :=
  (congrFun (V_bias m c) _).trans (by rw [hT])

section Point

variable (x : Ins Ideal) (j p : Fin 2)
variable (Q G : Vec Ideal S4x4096x128 .bf16) (K W : Vec Ideal S2x4096x128 .bf16) (T : Vec Ideal S32x8 .f32) (A : Vec Ideal S8 .f32)
variable (xq : ∀ l y, x.q (ix3 0 l y) = Q (ix3 (unit j p) l y)) (xk : ∀ s y, x.k (ix3 0 s y) = K (ix3 j s y))
  (xb : ∀ s w k, x.b (ix4 0 s w k) = biasT T (ix4 (unit j p) s w k))
  (xl : ∀ l h e, x.lse (ix3 0 l (lane h e)) = val_main_v90 (F := Ideal) Q K T A (ix4 j p l h))
include xq xk xb xl

/-- The weight a point computes is the softmax's. -/
theorem pw_of (h : Fin 2) (l s : Fin 4096) : pw x l s h = prob Q K T A j p h l s := by
  unfold pw prob dot
  rw [bi_eq x T (unit j p) xb l s h]
  exact congrArg Ideal.exp (congrArg₂ (· - ·) (congrArg₂ (· + ·) (Finset.sum_congr rfl fun e _ => congrArg₂ (· * ·) (xk s _) (xq l _)) rfl)
    (xl l h _))

variable (xv : ∀ s y, x.v (ix3 0 s y) = W (ix3 j s y)) (xd : ∀ l y, x.dO (ix3 0 l y) = G (ix3 (unit j p) l y))
  (xo : ∀ l h e, x.o (ix3 0 l (lane h e)) = val_main_v85 (F := Ideal) Q K W T A (ix5 j p l h e))
variable (n0 : ∀ i, IsNum (Q i)) (n1 : ∀ i, IsNum (K i)) (n2 : ∀ i, IsNum (W i)) (n3 : ∀ i, IsNum (T i)) (n4 : ∀ i, IsNum (A i))
    (n5 : ∀ i, IsNum (G i))
include xv xd xo n0 n1 n2 n3 n4 n5

/-- The score's gradient a point computes is the reference's. -/
theorem sw_of (h : Fin 2) (l s : Fin 4096) : sw x l s h = val_main_v123 (F := Ideal) Q K W T A G (ix5 j p l h s) := by
  rw [(grads Q G K W T A j p h l s n0 n1 n2 n3 n4 n5).1]
  unfold sw dw
  rw [pw_of x j p Q K T A xq xk xb xl]
  exact congrArg (prob Q K T A j p h l s * ·) (congrArg₂ (· - ·)
    (Finset.sum_congr rfl fun e _ => congrArg₂ (· * ·) (xv s _) (xd l _))
    (Finset.sum_congr rfl fun e _ => congrArg₂ (· * ·) (xd l _) (xo l h e)))

end Point

section Values

variable (m : (ℓ : Loc nD τ sig) → Buf (Elt Ideal) ℓ) (c : Dev nD)
variable (Q G : Vec Ideal S4x4096x128 .bf16) (K W : Vec Ideal S2x4096x128 .bf16) (T : Vec Ideal S32x8 .f32) (A : Vec Ideal S8 .f32)
variable (hQ : m ((c : Thread nD τ).loc main_arg0) = Q) (hK : m ((c : Thread nD τ).loc main_arg1) = K)
  (hW : m ((c : Thread nD τ).loc main_arg2) = W) (hT : m ((c : Thread nD τ).loc main_arg3) = T)
  (hA : m ((c : Thread nD τ).loc main_arg4) = A) (hG : m ((c : Thread nD τ).loc main_arg5) = G)
include hQ hK hW hT hA hG

/-- The log of a row's sum, at any lane of its head. -/
theorem lse_at (j p h : Fin 2) (l : Fin 4096) (e : Fin 64) : (V m c main_v140 : Vec Ideal S4x4096x128 .f32) (ix3 (unit j p) l (lane h e))
    = val_main_v90 (F := Ideal) Q K T A (ix4 j p l h) := by
  refine (congrFun (V_lse m c) _).trans ?_
  rw [hQ, hK, hT, hA]
  generalize val_main_v90 (F := Ideal) Q K T A = f
  rw [shapeCast_apply _ _ _ (ix5 j p l h e) (by
      rw [Shape.rowMajor_val_five, Shape.rowMajor_val_three]
      show (((j.val * 2 + p.val) * 4096 + l.val) * 2 + h.val) * 64 + e.val = ((2 * j.val + p.val) * 4096 + l.val) * 128 + (64 * h.val + e.val)
      omega),
    broadcastInDim_apply _ _ _ _ (ix5 j p l h 0) (fun a => by
      match a with
      | ⟨0, _⟩ => rfl
      | ⟨1, _⟩ => rfl
      | ⟨2, _⟩ => rfl
      | ⟨3, _⟩ => rfl
      | ⟨4, _⟩ => rfl)]
  exact broadcastInDim_apply _ _ _ _ (ix4 j p l h) (fun a => by
      match a with
      | ⟨0, _⟩ => rfl
      | ⟨1, _⟩ => rfl
      | ⟨2, _⟩ => rfl
      | ⟨3, _⟩ => rfl)

/-- The saved output, at a lane of a head. -/
theorem o_at (j p h : Fin 2) (l : Fin 4096) (e : Fin 64) : (V m c main_v137 : Vec Ideal S4x4096x128 .f32) (ix3 (unit j p) l (lane h e))
    = val_main_v85 (F := Ideal) Q K W T A (ix5 j p l h e) := by
  refine (congrFun (V_out m c) _).trans ?_
  rw [hQ, hK, hW, hT, hA]
  exact out_at Q K W T A j p h l e

variable (j p : Fin 2) (t : Fin cfg0.N) (ht : t.val = 2 * j.val + p.val)
include ht

/-- A point's queries are its unit's. -/
theorem q_eq (l : Fin 4096) (y : Fin 128) : (ins m c t).q (ix3 0 l y) = Q (ix3 (unit j p) l y) :=
  (q_block m c t _ ht.symm l y).trans (by rw [hQ])

/-- A point's keys are its group's. -/
theorem k_eq (s : Fin 4096) (y : Fin 128) : (ins m c t).k (ix3 0 s y) = K (ix3 j s y) :=
  (k_block m c t j (by omega) s y).trans (by rw [hK])

/-- A point's values are its group's. -/
theorem v_eq (s : Fin 4096) (y : Fin 128) : (ins m c t).v (ix3 0 s y) = W (ix3 j s y) :=
  (v_block m c t j (by omega) s y).trans (by rw [hW])

/-- A point's incoming gradient is its unit's. -/
theorem d_eq (l : Fin 4096) (y : Fin 128) : (ins m c t).dO (ix3 0 l y) = G (ix3 (unit j p) l y) :=
  (do_block m c t _ ht.symm l y).trans (by rw [hG])

/-- A point's biases are its unit's. -/
theorem b_eq (s : Fin 3) (w : Fin 384) (k : Fin 256) : (ins m c t).b (ix4 0 s w k) = biasT T (ix4 (unit j p) s w k) :=
  (b_block m c t _ ht.symm s w k).trans (bias_at m c T hT _ s w k)

/-- A point's logs are its unit's. -/
theorem l_eq (l : Fin 4096) (h : Fin 2) (e : Fin 64) : (ins m c t).lse (ix3 0 l (lane h e)) = val_main_v90 (F := Ideal) Q K T A (ix4 j p l h) :=
  (lse_block m c t _ ht.symm l _).trans (lse_at m c Q G K W T A hQ hK hW hT hA hG j p h l e)

/-- A point's saved output is its unit's. -/
theorem o_eq (l : Fin 4096) (h : Fin 2) (e : Fin 64) : (ins m c t).o (ix3 0 l (lane h e)) = val_main_v85 (F := Ideal) Q K W T A (ix5 j p l h e) :=
  (o_block m c t _ ht.symm l _).trans (o_at m c Q G K W T A hQ hK hW hT hA hG j p h l e)

/-- The weight a point computes is the softmax's. -/
theorem pw_eq (h : Fin 2) (l s : Fin 4096) : pw (ins m c t) l s h = prob Q K T A j p h l s :=
  pw_of (ins m c t) j p Q K T A (q_eq m c Q G K W T A hQ hK hW hT hA hG j p t ht) (k_eq m c Q G K W T A hQ hK hW hT hA hG j p t ht) (b_eq m c Q G K W T A hQ hK hW hT hA hG j p t ht) (l_eq m c Q G K W T A hQ hK hW hT hA hG j p t ht) h l s

variable (n0 : ∀ i, IsNum (Q i)) (n1 : ∀ i, IsNum (K i)) (n2 : ∀ i, IsNum (W i)) (n3 : ∀ i, IsNum (T i)) (n4 : ∀ i, IsNum (A i))
    (n5 : ∀ i, IsNum (G i))
include n0 n1 n2 n3 n4 n5

/-- The score's gradient a point computes is the reference's. -/
theorem sw_eq (h : Fin 2) (l s : Fin 4096) : sw (ins m c t) l s h = val_main_v123 (F := Ideal) Q K W T A G (ix5 j p l h s) :=
  sw_of (ins m c t) j p Q G K W T A (q_eq m c Q G K W T A hQ hK hW hT hA hG j p t ht) (k_eq m c Q G K W T A hQ hK hW hT hA hG j p t ht) (b_eq m c Q G K W T A hQ hK hW hT hA hG j p t ht) (l_eq m c Q G K W T A hQ hK hW hT hA hG j p t ht)
    (v_eq m c Q G K W T A hQ hK hW hT hA hG j p t ht) (d_eq m c Q G K W T A hQ hK hW hT hA hG j p t ht) (o_eq m c Q G K W T A hQ hK hW hT hA hG j p t ht) n0 n1 n2 n3 n4 n5 h l s

/-- A weighted incoming gradient is the reference's. -/
theorem pdo_eq (h : Fin 2) (l s : Fin 4096) (e : Fin 64) : pw (ins m c t) l s h * (ins m c t).dO (ix3 0 l (lane h e))
    = val_main_v101 (F := Ideal) Q K T A G (ix5 j p l h e) * val_main_v75 (F := Ideal) Q K T A (ix5 j p l h s) := by
  have hn : (unit j p).val = t.val := ht.symm
  rw [(grads Q G K W T A j p h l s n0 n1 n2 n3 n4 n5).2 e, pw_eq m c Q G K W T A hQ hK hW hT hA hG j p t ht]
  exact congrArg (_ * ·) ((do_block m c t _ hn l _).trans (by rw [hG]))

/-- A query's gradient. -/
theorem dq_point (h : Fin 2) (l : Fin 4096) (e : Fin 64) :
    dqAt (ins m c t) (ix3 0 l (lane h e)) = val_main_v132 (F := Ideal) Q K W T A G (ix3 (unit j p) l (lane h e)) := by
  have hj : j.val = t.val / 2 := by omega
  rw [dqAt_apply, dq_at]
  refine Finset.sum_congr rfl fun s _ => congrArg₂ (· * ·) ?_ ((k_block m c t j hj s _).trans (by rw [hK]))
  rw [show headOf (lane h e) = h from Fin.ext (by show (64 * h.val + e.val) / 64 = h.val; omega)]
  exact sw_eq m c Q G K W T A hQ hK hW hT hA hG j p t ht n0 n1 n2 n3 n4 n5 h l s

/-- A key's gradient from one unit's queries. -/
theorem dk_point (a : Vec Ideal S1x4096x128 .f32) (h : Fin 2) (s : Fin 4096) (e : Fin 64) :
    trips (stepK (ins m c t)) a k0_t1_loop.trips (ix3 0 s (lane h e)) = a (ix3 0 s (lane h e))
      + ∑ l : Fin 4096, val_main_v123 (F := Ideal) Q K W T A G (ix5 j p l h s) * Q (ix3 (unit j p) l (lane h e)) := by
  have hn : (unit j p).val = t.val := ht.symm
  rw [trips_stepK]
  refine congrArg (_ + ·) (Finset.sum_congr rfl fun l _ => congrArg₂ (· * ·) ?_ ((q_block m c t _ hn l _).trans (by rw [hQ])))
  rw [show headOf (lane h e) = h from Fin.ext (by show (64 * h.val + e.val) / 64 = h.val; omega)]
  exact sw_eq m c Q G K W T A hQ hK hW hT hA hG j p t ht n0 n1 n2 n3 n4 n5 h l s

/-- A value's gradient from one unit's queries. -/
theorem dv_point (a : Vec Ideal S1x4096x128 .f32) (h : Fin 2) (s : Fin 4096) (e : Fin 64) :
    trips (stepV (ins m c t)) a k0_t1_loop.trips (ix3 0 s (lane h e)) = a (ix3 0 s (lane h e))
      + ∑ l : Fin 4096, val_main_v101 (F := Ideal) Q K T A G (ix5 j p l h e) * val_main_v75 (F := Ideal) Q K T A (ix5 j p l h s) := by
  rw [trips_stepV]
  refine congrArg (_ + ·) (Finset.sum_congr rfl fun l _ => ?_)
  rw [show headOf (lane h e) = h from Fin.ext (by show (64 * h.val + e.val) / 64 = h.val; omega)]
  exact pdo_eq m c Q G K W T A hQ hK hW hT hA hG j p t ht n0 n1 n2 n3 n4 n5 h l s e

end Values

end Cert.KernelIdeal.Band
-- ==== Proof.BandFinal.lean ====
module

public import proofs.«01_k».proof.Proof.BandValue

/-!
# What the attention call leaves in its results

The queries', the keys' and the values' gradients, each the reference's.
-/

@[expose] public section

noncomputable section

namespace Cert.KernelIdeal.Band

open Idealize.ShloMosaic Idealize.ShloMosaic.TcCoe Idealize.ShloMosaic.Tactic
open Idealize.SL.Sem
open Cert.KernelIdeal Cert.KernelIdeal.Gen
open Cert.ReferenceIdeal.Band (unit dk_at dv_at)
open Cert.ReferenceIdeal.Read (val_main_v123 val_main_v101 val_main_v75 val_main_v132 val_main_v133 val_main_v134)
open Cert.Num (IsNum)

/-- A lane is a position in its head. -/
theorem lane_split (y : Fin 128) : y = lane (headOf y) ⟨y.val % 64, Nat.mod_lt _ (by decide)⟩ :=
  Fin.ext (by show y.val = 64 * (y.val / 64) + y.val % 64; omega)

/-- The accumulators start from zero. -/
theorem zeroK (i : S1x4096x128.Idx) : (k0_pay457 : FVec Ideal S1x4096x128 .f32) i = 0 := Ideal.ofBits_zero_f32
theorem zeroV (i : S1x4096x128.Idx) : (k0_pay458 : FVec Ideal S1x4096x128 .f32) i = 0 := Ideal.ofBits_zero_f32

section Arrays

variable (m : (ℓ : Loc nD τ sig) → Buf (Elt Ideal) ℓ) (c : Dev nD)
variable (Q G : Vec Ideal S4x4096x128 .bf16) (K W : Vec Ideal S2x4096x128 .bf16) (T : Vec Ideal S32x8 .f32) (A : Vec Ideal S8 .f32)
variable (hQ : m ((c : Thread nD τ).loc main_arg0) = Q) (hK : m ((c : Thread nD τ).loc main_arg1) = K)
  (hW : m ((c : Thread nD τ).loc main_arg2) = W) (hT : m ((c : Thread nD τ).loc main_arg3) = T)
  (hA : m ((c : Thread nD τ).loc main_arg4) = A) (hG : m ((c : Thread nD τ).loc main_arg5) = G)
variable (n0 : ∀ i, IsNum (Q i)) (n1 : ∀ i, IsNum (K i)) (n2 : ∀ i, IsNum (W i)) (n3 : ∀ i, IsNum (T i)) (n4 : ∀ i, IsNum (A i))
    (n5 : ∀ i, IsNum (G i))
include hQ hK hW hT hA hG n0 n1 n2 n3 n4 n5

/-- A key group's gradient after its second unit. -/
theorem dk_group (j : Fin 2) (t : Fin cfg0.N) (ht : t.val = 2 * j.val + 1) (s : Fin 4096) (y : Fin 128) :
    accK m c t (ix3 0 s y) = val_main_v133 (F := Ideal) Q K W T A G (ix3 j s y) := by
  obtain ⟨h, e, rfl⟩ : ∃ h e, y = lane h e := ⟨_, _, lane_split y⟩
  unfold accK
  rw [if_neg (by omega), dk_point m c Q G K W T A hQ hK hW hT hA hG j 1 t ht n0 n1 n2 n3 n4 n5]
  unfold halfK
  rw [dk_point m c Q G K W T A hQ hK hW hT hA hG j 0 (prev t) (by show t.val - 1 = 2 * j.val + 0; omega) n0 n1 n2 n3 n4 n5, zeroK, zero_add, dk_at, Fin.sum_univ_two]

/-- A value group's gradient after its second unit. -/
theorem dv_group (j : Fin 2) (t : Fin cfg0.N) (ht : t.val = 2 * j.val + 1) (s : Fin 4096) (y : Fin 128) :
    accV m c t (ix3 0 s y) = val_main_v134 (F := Ideal) Q K T A G (ix3 j s y) := by
  obtain ⟨h, e, rfl⟩ : ∃ h e, y = lane h e := ⟨_, _, lane_split y⟩
  unfold accV
  rw [if_neg (by omega), dv_point m c Q G K W T A hQ hK hW hT hA hG j 1 t ht n0 n1 n2 n3 n4 n5]
  unfold halfV
  rw [dv_point m c Q G K W T A hQ hK hW hT hA hG j 0 (prev t) (by show t.val - 1 = 2 * j.val + 0; omega) n0 n1 n2 n3 n4 n5, zeroV, zero_add, dv_at, Fin.sum_univ_two]

/-- A unit's queries' gradient. -/
theorem dq_unit (t : Fin cfg0.N) (i : Fin 4) (hi : i.val = t.val) (l : Fin 4096) (y : Fin 128) :
    dqAt (ins m c t) (ix3 0 l y) = val_main_v132 (F := Ideal) Q K W T A G (ix3 i l y) := by
  obtain ⟨h, e, rfl⟩ : ∃ h e, y = lane h e := ⟨_, _, lane_split y⟩
  have hN := i.isLt
  obtain ⟨j, p, rfl⟩ : ∃ j p, i = unit j p :=
    ⟨⟨i.val / 2, by omega⟩, ⟨i.val % 2, by omega⟩, Fin.ext (by show i.val = 2 * (i.val / 2) + i.val % 2; omega)⟩
  exact dq_point m c Q G K W T A hQ hK hW hT hA hG _ _ t (by rw [← hi]; rfl) n0 n1 n2 n3 n4 n5 h l e

/-- The result that holds the queries' gradient. -/
theorem final8 : (dats m 0 c).arrAt 8 cfg0.N = val_main_v132 (F := Ideal) Q K W T A G := by
  have hi : ∀ t : Fin 4, win0_8.index t 0 = t.val ∧ win0_8.index t 1 = 0 ∧ win0_8.index t 2 = 0 := by decide
  refine (dats m 0 c).arrAt_eq_of_covers 8 _ (by decide +kernel) fun t hf y => ?_
  obtain ⟨i0, i1, i2⟩ := hi t
  have y0 : (y 0).val < 1 := (y 0).isLt
  have e0 : (((cfg0.win 8).blk t).view.emb y 0 : ℕ) = t.val := by blk_simp [i0, i1, i2]
  have e1 : (((cfg0.win 8).blk t).view.emb y 1 : ℕ) = (y 1).val := by blk_simp [i0, i1, i2]
  have e2 : (((cfg0.win 8).blk t).view.emb y 2 : ℕ) = (y 2).val := by blk_simp [i0, i1, i2]
  have hy : (y : S1x4096x128.Idx) = ix3 0 (y 1) (y 2) :=
    (eq_ix3 (n0 := 1) (n1 := 4096) (n2 := 128) y).trans (by congr 1; exact Fin.ext (by show (y 0).val = 0; omega))
  blk_simp [i0, i1, i2]
  rw [after0_8]
  refine (congrArg _ hy).trans ((dq_unit m c Q G K W T A hQ hK hW hT hA hG n0 n1 n2 n3 n4 n5 t (((cfg0.win 8).blk t).view.emb y 0) e0 (y 1) (y 2)).trans ?_)
  refine congrArg _ (funext fun x => Fin.ext ?_)
  match x with
  | ⟨0, _⟩ => rfl
  | ⟨1, _⟩ => exact e1.symm
  | ⟨2, _⟩ => exact e2.symm

/-- The result that holds the keys' gradient. -/
theorem final9 : (dats m 0 c).arrAt 9 cfg0.N = val_main_v133 (F := Ideal) Q K W T A G := by
  have hi : ∀ t : Fin 4, win0_9.index t 0 = t.val / 2 ∧ win0_9.index t 1 = 0 ∧ win0_9.index t 2 = 0 := by decide
  refine (dats m 0 c).arrAt_eq_of_covers 9 _ (by decide +kernel) fun t hf y => ?_
  obtain ⟨i0, i1, i2⟩ := hi t
  have ht : t.val % 2 = 1 := (flush0_9 t).mp hf
  have y0 : (y 0).val < 1 := (y 0).isLt
  have e0 : (((cfg0.win 9).blk t).view.emb y 0 : ℕ) = t.val / 2 := by blk_simp [i0, i1, i2]
  have e1 : (((cfg0.win 9).blk t).view.emb y 1 : ℕ) = (y 1).val := by blk_simp [i0, i1, i2]
  have e2 : (((cfg0.win 9).blk t).view.emb y 2 : ℕ) = (y 2).val := by blk_simp [i0, i1, i2]
  have hy : (y : S1x4096x128.Idx) = ix3 0 (y 1) (y 2) :=
    (eq_ix3 (n0 := 1) (n1 := 4096) (n2 := 128) y).trans (by congr 1; exact Fin.ext (by show (y 0).val = 0; omega))
  blk_simp [i0, i1, i2]
  rw [after0_9]
  refine (congrArg _ hy).trans ((dk_group m c Q G K W T A hQ hK hW hT hA hG n0 n1 n2 n3 n4 n5 (((cfg0.win 9).blk t).view.emb y 0) t (by rw [e0]; omega) (y 1) (y 2)).trans ?_)
  refine congrArg _ (funext fun x => Fin.ext ?_)
  match x with
  | ⟨0, _⟩ => rfl
  | ⟨1, _⟩ => exact e1.symm
  | ⟨2, _⟩ => exact e2.symm

/-- The result that holds the values' gradient. -/
theorem final10 : (dats m 0 c).arrAt 10 cfg0.N = val_main_v134 (F := Ideal) Q K T A G := by
  have hi : ∀ t : Fin 4, win0_10.index t 0 = t.val / 2 ∧ win0_10.index t 1 = 0 ∧ win0_10.index t 2 = 0 := by decide
  refine (dats m 0 c).arrAt_eq_of_covers 10 _ (by decide +kernel) fun t hf y => ?_
  obtain ⟨i0, i1, i2⟩ := hi t
  have ht : t.val % 2 = 1 := (flush0_10 t).mp hf
  have y0 : (y 0).val < 1 := (y 0).isLt
  have e0 : (((cfg0.win 10).blk t).view.emb y 0 : ℕ) = t.val / 2 := by blk_simp [i0, i1, i2]
  have e1 : (((cfg0.win 10).blk t).view.emb y 1 : ℕ) = (y 1).val := by blk_simp [i0, i1, i2]
  have e2 : (((cfg0.win 10).blk t).view.emb y 2 : ℕ) = (y 2).val := by blk_simp [i0, i1, i2]
  have hy : (y : S1x4096x128.Idx) = ix3 0 (y 1) (y 2) :=
    (eq_ix3 (n0 := 1) (n1 := 4096) (n2 := 128) y).trans (by congr 1; exact Fin.ext (by show (y 0).val = 0; omega))
  blk_simp [i0, i1, i2]
  rw [after0_10]
  refine (congrArg _ hy).trans ((dv_group m c Q G K W T A hQ hK hW hT hA hG n0 n1 n2 n3 n4 n5 (((cfg0.win 10).blk t).view.emb y 0) t (by rw [e0]; omega) (y 1) (y 2)).trans ?_)
  refine congrArg _ (funext fun x => Fin.ext ?_)
  match x with
  | ⟨0, _⟩ => rfl
  | ⟨1, _⟩ => exact e1.symm
  | ⟨2, _⟩ => exact e2.symm

end Arrays

/-- After the call: where the arguments hold no infinity the results are the reference's, and the arguments are unchanged. -/
theorem value_run (m : (ℓ : Loc nD τ sig) → Buf (Elt Ideal) ℓ) (ρ : Dev nD → PrngReg)
    (n0 : ∀ (c : Dev nD) i, IsNum ((m ((c.tc : Thread nD τ).loc main_arg0) : Vec Ideal S4x4096x128 .bf16) i))
    (n1 : ∀ (c : Dev nD) i, IsNum ((m ((c.tc : Thread nD τ).loc main_arg1) : Vec Ideal S2x4096x128 .bf16) i))
    (n2 : ∀ (c : Dev nD) i, IsNum ((m ((c.tc : Thread nD τ).loc main_arg2) : Vec Ideal S2x4096x128 .bf16) i))
    (n3 : ∀ (c : Dev nD) i, IsNum ((m ((c.tc : Thread nD τ).loc main_arg3) : Vec Ideal S32x8 .f32) i))
    (n4 : ∀ (c : Dev nD) i, IsNum ((m ((c.tc : Thread nD τ).loc main_arg4) : Vec Ideal S8 .f32) i))
    (n5 : ∀ (c : Dev nD) i, IsNum ((m ((c.tc : Thread nD τ).loc main_arg5) : Vec Ideal S4x4096x128 .bf16) i)) :
    θ_run defs (onTc (τ := τ) (main (F := Ideal))) ⟨m, fun _ => 0, ρ⟩ (fun r => ∀ c : Dev nD,
      r.2.mem ((c.tc : Thread nD τ).loc main_v141_0) = val_main_v132 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v141_1) = val_main_v133 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v141_2) = val_main_v134 (F := Ideal) (m ((c.tc : Thread nD τ).loc main_arg0))
          (m ((c.tc : Thread nD τ).loc main_arg1)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((dats m 0 c).toRForget_arrAt_iff (by decide) _ _).mp ((h.1 c).1 8)).trans
        (final8 m c _ _ _ _ _ _ rfl rfl rfl rfl rfl rfl (n0 c) (n1 c) (n2 c) (n3 c) (n4 c) (n5 c)),
      (((dats m 0 c).toRForget_arrAt_iff (by decide) _ _).mp ((h.1 c).1 9)).trans
        (final9 m c _ _ _ _ _ _ rfl rfl rfl rfl rfl rfl (n0 c) (n1 c) (n2 c) (n3 c) (n4 c) (n5 c)),
      (((dats m 0 c).toRForget_arrAt_iff (by decide) _ _).mp ((h.1 c).1 10)).trans
        (final10 m c _ _ _ _ _ _ rfl rfl rfl rfl rfl rfl (n0 c) (n1 c) (n2 c) (n3 c) (n4 c) (n5 c)),
      (arr_in m h.1 c 1 rfl).trans (V_main_arg0 m c), (arr_in m h.1 c 2 rfl).trans (V_main_arg1 m c),
      (arr_in m h.1 c 3 rfl).trans (V_main_arg2 m c),
      ((h.1 c).2 main_arg3 (Pipeline.mem_restRefs_of main_arg3 (by decide) (by decide))).trans (V_main_arg3 m c),
      (arr_in m h.1 c 0 rfl).trans (V_main_arg4 m c), (arr_in m h.1 c 7 rfl).trans (V_main_arg5 m c)⟩) (run_main m ρ)

end Cert.KernelIdeal.Band
-- ==== Proof.BackwardFinite.lean ====
module

public import proofs.«01_k».proof.Proof.BackwardReal
public import proofs.«01_k».proof.Proof.Gen.Pre_finite
public import Idealize.ShloMosaic.Lib.Pointwise

/-!
# What the precondition says

Every entry of every argument but the rows is a real number.
-/

@[expose] public section

noncomputable section

namespace Cert.Pre_finite

open Idealize.ShloMosaic
open Cert.Num (IsNum)

/-- The two infinities the predicate compares with. -/
theorem bits_inf : Ideal.ofBits .f32 0x7F800000#32 = ⊤ := by simp [Ideal.ofBits, Ideal.ieee]
theorem bits_inf_bf16 : Ideal.ofBits .bf16 0x7F80#16 = ⊤ := by simp [Ideal.ofBits, Ideal.ieee]

/-- A comparison that says yes: the entry is a number. -/
theorem num_of {v b : EReal} (hb : b = ⊤) (e : Ideal.cmp .olt (max v (-v)) b = 1#1) : IsNum v := by
  subst hb
  exact Cert.Num.of_abs (by
    have h : BitVec.ofBool (decide (max v (-v) < ⊤)) = 1#1 := e
    by_contra n
    rw [decide_eq_false n] at h
    exact absurd h (by decide))

variable (O X : FVec Ideal S4096x1024 .f32) (G : FVec Ideal S1x1024 .f32) (A : FVec Ideal S8x2x1024x704 .bf16)
  (B : FVec Ideal S8x1024x1024 .bf16)

/-- The predicate all ones, argument by argument. -/
theorem first (e : (fn (F := Ideal) O X G A B).1 = fun _ => 1#1) (i : S4096x1024.Idx) : IsNum (O i) :=
  num_of bits_inf (congrFun e i)
theorem second (e : (fn (F := Ideal) O X G A B).2.1 = fun _ => 1#1) (i : S1x1024.Idx) : IsNum (G i) :=
  num_of bits_inf (congrFun e i)
theorem third (e : (fn (F := Ideal) O X G A B).2.2.1 = fun _ => 1#1) (i : S8x2x1024x704.Idx) : IsNum (A i) :=
  num_of bits_inf_bf16 (congrFun e i)
theorem fourth (e : (fn (F := Ideal) O X G A B).2.2.2 = fun _ => 1#1) (i : S8x1024x1024.Idx) : IsNum (B i) :=
  num_of bits_inf_bf16 (congrFun e i)

end Cert.Pre_finite
-- ==== Proof.BandFinite.lean ====
module

public import proofs.«01_k».proof.Proof.BackwardFinite
public import proofs.«01_k».proof.Proof.Gen.Pre_real

/-!
# What the attention call's precondition says

Every entry of every argument is a real number.
-/

@[expose] public section

noncomputable section

namespace Cert.Pre_real

open Idealize.ShloMosaic
open Cert.Num (IsNum)
open Cert.Pre_finite (num_of bits_inf bits_inf_bf16)

variable (Q : FVec Ideal S4x4096x128 .bf16) (K W : FVec Ideal S2x4096x128 .bf16) (T : FVec Ideal S32x8 .f32) (A : FVec Ideal S8 .f32)
  (G : FVec Ideal S4x4096x128 .bf16)

/-- The predicate all ones, argument by argument. -/
theorem queries (e : (fn (F := Ideal) Q K W T A G).1 = fun _ => 1#1) (i : S4x4096x128.Idx) : IsNum (Q i) :=
  num_of bits_inf_bf16 (congrFun e i)
theorem keys (e : (fn (F := Ideal) Q K W T A G).2.1 = fun _ => 1#1) (i : S2x4096x128.Idx) : IsNum (K i) :=
  num_of bits_inf_bf16 (congrFun e i)
theorem values (e : (fn (F := Ideal) Q K W T A G).2.2.1 = fun _ => 1#1) (i : S2x4096x128.Idx) : IsNum (W i) :=
  num_of bits_inf_bf16 (congrFun e i)
theorem table (e : (fn (F := Ideal) Q K W T A G).2.2.2.1 = fun _ => 1#1) (i : S32x8.Idx) : IsNum (T i) :=
  num_of bits_inf (congrFun e i)
theorem sink (e : (fn (F := Ideal) Q K W T A G).2.2.2.2.1 = fun _ => 1#1) (i : S8.Idx) : IsNum (A i) :=
  num_of bits_inf (congrFun e i)
theorem incoming (e : (fn (F := Ideal) Q K W T A G).2.2.2.2.2 = fun _ => 1#1) (i : S4x4096x128.Idx) : IsNum (G i) :=
  num_of bits_inf_bf16 (congrFun e i)

end Cert.Pre_real
-- ==== Proof.Words.lean ====
module

public import proofs.«01_k».proof.Proof.Run
public import proofs.«01_k».proof.Proof.Gen.Kernel.Points

/-!
# The attention call at machine words

The printed call and its idealization are the same text, so that a run of one is a run of the other.
-/

@[expose] public section

set_option maxRecDepth 65536

noncomputable section

namespace Cert.Kernel.Band

open Idealize.ShloMosaic Idealize.ShloMosaic.TcCoe Idealize.SL.Sem

variable {F : FTy → Type} [FloatOps F]

set_option maxHeartbeats 40000000 in
/-- The two programs call the same kernel function. -/
theorem defs₀_eq : Cert.Kernel.defs₀ (F := F) = Cert.KernelIdeal.defs₀ (F := F) := by
  unfold Cert.Kernel.defs₀ Cert.KernelIdeal.defs₀
  refine congrArg Defs.onTc ?_
  funext l
  match l with
  | 0 =>
    funext p
    obtain ⟨t, s⟩ := p
    rfl

set_option maxHeartbeats 40000000 in
/-- They launch it through the same pipeline. -/
theorem defs_eq : Cert.Kernel.defs (F := F) = Cert.KernelIdeal.defs (F := F) := by
  unfold Cert.Kernel.defs Cert.KernelIdeal.defs
  exact congrArg (Pipeline.defs (Cert.Kernel.pcfgs (F := F))) defs₀_eq

set_option maxHeartbeats 40000000 in
/-- What holds after every run of the idealized program holds after every run of the printed one. -/
theorem run_of (s : MemSt Cert.Kernel.nD Cert.Kernel.τ Cert.Kernel.sig (Elt F))
    (Q : (PUnit × MemSt Cert.Kernel.nD Cert.Kernel.τ Cert.Kernel.sig (Elt F)) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq]
  exact h

end Cert.Kernel.Band
-- ==== Proof.Weights.lean ====
module

public import Idealize.ShloMosaic.Lib.Pipeline.ValueKit.Tiles
public import proofs.«01_k».proof.Proof.Gen.Kernel2Ideal.Value
public import Idealize.ShloMosaic.Lib.Pipeline.Value
public import Idealize.ShloMosaic.Lib.Pointwise
public import Idealize.ShloMosaic.PureOps.Ideal

/-!
# The gradients of a feed-forward block's two weight matrices: what the call leaves

The grid has a point for each pair of a chunk `j` of the hidden width and a half of the tokens; a chunk's points are `2j`
and `2j + 1`. Three accumulators are cleared at the chunk's first point and receive one product over the point's 2048
tokens at each; the second point writes them out.
-/

@[expose] public section

noncomputable section

namespace Cert.Kernel2Ideal.Weights

open Idealize.ShloMosaic Idealize.ShloMosaic.TcCoe Idealize.ShloMosaic.Tactic
open Idealize.SL.Sem
open Cert.Kernel2Ideal Cert.Kernel2Ideal.Gen Cert.Kernel2Ideal.Value

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The gate accumulator after a chunk's first point: the first half's product, added to zeros. -/
theorem gate_first (c : Dev nD) (t : Fin cfg0.N) (h0 : t.val % 2 = 0) (h1 : ¬t.val % 2 = 1) :
    (outsAt0 m c t.val t.isLt).2.2.1 = k0_pay8 (iblk m c 0 t) k0_pay5 (iblk m c 1 t) := by
  rw [outsAt0_A m c t h0 h1]
  dsimp only
  unfold sout0_A_0
  refine Eq.trans (View.read_writes_eq_canon _ _ _ (fun y => scover0_A_0 ..)) ?_
  unfold kernelRun0_A
  dsimp only
  sl_unfold_words
  rw [View.canon_cons_unit_zero zero2, View.readCov_unit_zero _ zero2]
  simp only [View.readAt_eq_ld, (hs0_0 t).read_unread, (hs0_1 t).read_unread, View.ld_unit_zero (S := S2048x1024) zero2,
    View.ld_unit_zero (S := S1024x704) zero2, View.ld_unit_zero (S := S704x1024) zero2, View.ld_unit_zero (S := S1x2048x704) zero3]

/-- The up accumulator after a chunk's first point. -/
theorem up_first (c : Dev nD) (t : Fin cfg0.N) (h0 : t.val % 2 = 0) (h1 : ¬t.val % 2 = 1) :
    (outsAt0 m c t.val t.isLt).2.2.2.1 = k0_pay9 (iblk m c 0 t) k0_pay6 (iblk m c 2 t) := by
  rw [outsAt0_A m c t h0 h1]
  dsimp only
  unfold sout0_A_1
  refine Eq.trans (View.read_writes_eq_canon _ _ _ (fun y => scover0_A_1 ..)) ?_
  unfold kernelRun0_A
  dsimp only
  sl_unfold_words
  rw [View.canon_cons_unit_zero zero2, View.readCov_unit_zero _ zero2]
  simp only [View.readAt_eq_ld, (hs0_0 t).read_unread, (hs0_2 t).read_unread, View.ld_unit_zero (S := S2048x1024) zero2,
    View.ld_unit_zero (S := S1024x704) zero2, View.ld_unit_zero (S := S704x1024) zero2, View.ld_unit_zero (S := S1x2048x704) zero3]

/-- The output-weight accumulator after a chunk's first point. -/
theorem out_first (c : Dev nD) (t : Fin cfg0.N) (h0 : t.val % 2 = 0) (h1 : ¬t.val % 2 = 1) :
    (outsAt0 m c t.val t.isLt).2.2.2.2 = k0_pay1 (k0_pay10 k0_pay7 (iblk m c 3 t) (iblk m c 4 t)) := by
  rw [outsAt0_A m c t h0 h1]
  dsimp only
  unfold sout0_A_2
  refine Eq.trans (View.read_writes_eq_canon _ _ _ (fun y => scover0_A_2 ..)) ?_
  unfold kernelRun0_A
  dsimp only
  sl_unfold_words
  rw [View.canon_cons_unit_zero zero2, View.readCov_unit_zero _ zero2]
  simp only [View.readAt_eq_ld, (hs0_3 t).read_unread, (hs0_4 t).read_unread, View.ld_unit_zero (S := S2048x1024) zero2,
    View.ld_unit_zero (S := S1024x704) zero2, View.ld_unit_zero (S := S704x1024) zero2, View.ld_unit_zero (S := S1x2048x704) zero3]

/-- What a chunk's second point writes out of the gate and the up accumulators. -/
theorem in_last (c : Dev nD) (t : Fin cfg0.N) (h0 : ¬t.val % 2 = 0) (h1 : t.val % 2 = 1) (y : S2x1x1024x704.Idx) (acc) :
    (stAt0 m c t.val t.isLt acc).1 y
      = if (y 0).val = 0 then k0_pay2 (k0_pay8 (iblk m c 0 t) acc.2.2.1 (iblk m c 1 t)) (ix4 0 0 (y 2) (y 3))
        else k0_pay3 (k0_pay9 (iblk m c 0 t) acc.2.2.2.1 (iblk m c 2 t)) (ix4 0 0 (y 2) (y 3)) := by
  rw [stAt0_B m c t acc h0 h1]
  dsimp only
  unfold out0_B_5
  refine (congrFun (View.read_writes_eq_canon _ _ _ (fun z => cover0_B_5 ..)) y).trans ?_
  refine View.canon_eq_of_allAt _ y _ (cover0_B_5 ..) ?_
  unfold kernelRun0_B
  dsimp only
  sl_unfold_words
  rw [View.readCov_unit_zero _ zero2, View.readCov_unit_zero _ zero2]
  simp only [View.readAt_eq_ld, (hs0_0 t).read_unread, (hs0_1 t).read_unread, (hs0_2 t).read_unread, (Memref.isWhole_whole _).read_unread, View.ld_unit_zero (S := S2048x1024) zero2,
    View.ld_unit_zero (S := S1024x704) zero2, View.ld_unit_zero (S := S704x1024) zero2, View.ld_unit_zero (S := S1x2048x704) zero3]
  have hx : ∀ (o : Nat) (x : S1x1x1024x704.Idx) (h : ∀ a, (y a : Nat) = (![o, 0, 0, 0] : Fin 4 → Nat) a + x a),
      (y 0).val = o ∧ x = ix4 0 0 (y 2) (y 3) := by
    intro o x h
    have e0 : (y 0).val = o + (x 0).val := h 0
    have e2 : (y 2).val = 0 + (x 2).val := h 2
    have e3 : (y 3).val = 0 + (x 3).val := h 3
    have l0 : (x 0).val < 1 := (x 0).isLt
    have l1 : (x 1).val < 1 := (x 1).isLt
    refine ⟨by omega, funext fun a => ?_⟩
    match a with
    | ⟨0, _⟩ => exact Fin.ext (show (x 0).val = 0 by omega)
    | ⟨1, _⟩ => exact Fin.ext (show (x 1).val = 0 by omega)
    | ⟨2, _⟩ => exact Fin.ext (show (x 2).val = (y 2).val by omega)
    | ⟨3, _⟩ => exact Fin.ext (show (x 3).val = (y 3).val by omega)
  refine View.allAt_cons_unit _ _ _ _ _ (fun x h => ?_) (View.allAt_cons_unit _ _ _ _ _ (fun x h => ?_) (View.allAt_nil _ _))
  · obtain ⟨e, rfl⟩ := hx 1 x h
    rw [if_neg (by omega)]; rfl
  · obtain ⟨e, rfl⟩ := hx 0 x h
    rw [if_pos e]; rfl

/-- What a chunk's second point writes out of the output-weight accumulator. -/
theorem out_last (c : Dev nD) (t : Fin cfg0.N) (h0 : ¬t.val % 2 = 0) (h1 : t.val % 2 = 1) (acc) :
    (stAt0 m c t.val t.isLt acc).2.1
      = k0_pay4 (k0_pay1 (k0_pay10 acc.2.2.2.2 (iblk m c 3 t) (iblk m c 4 t))) := by
  rw [stAt0_B m c t acc h0 h1]
  dsimp only
  unfold out0_B_6
  refine Eq.trans (View.read_writes_eq_canon _ _ _ (fun y => cover0_B_6 ..)) ?_
  unfold kernelRun0_B
  dsimp only
  sl_unfold_words
  rw [View.canon_unit_zero zero3, View.readCov_unit_zero _ zero2]
  simp only [View.readAt_eq_ld, (hs0_3 t).read_unread, (hs0_4 t).read_unread, (Memref.isWhole_whole _).read_unread, View.ld_unit_zero (S := S2048x1024) zero2,
    View.ld_unit_zero (S := S1024x704) zero2, View.ld_unit_zero (S := S704x1024) zero2, View.ld_unit_zero (S := S1x2048x704) zero3]

end Cert.Kernel2Ideal.Weights

end
-- ==== Proof.WeightsValue.lean ====
module

public import proofs.«01_k».proof.Proof.Weights
public import proofs.«01_k».proof.Proof.Gen.Reference2Ideal.Read

/-!
# The gradients of a feed-forward block's two weight matrices: the kernel's against the reference's

Each element the call leaves is a product over the first half of the tokens plus one over the second half; the reference's
is one product over all the tokens.
-/

@[expose] public section

noncomputable section

namespace Cert.Kernel2Ideal.Weights

open Idealize.ShloMosaic Idealize.ShloMosaic.TcCoe Idealize.ShloMosaic.Tactic
open Idealize.SL.Sem
open Cert.Kernel2Ideal Cert.Kernel2Ideal.Gen Cert.Kernel2Ideal.Value

section Blocks

variable {F : FTy → Type} [FloatOps F]
variable (m : (ℓ : Loc nD τ sig) → Buf (Elt F) ℓ)

/-- The token rows of a point's block of `h`: half `t % 2`. -/
theorem h_block (c : Dev nD) (t : Fin cfg0.N) (a : Fin 2048) (r : Fin 1024) (a' : Fin 4096)
    (e : a'.val = 2048 * (t.val % 2) + a.val) :
    (iblk m c 0 t : Vec F S2048x1024 .bf16) (ix2 a r) = m ((c : Thread nD τ).loc main_arg0) (ix2 a' r) := by
  have hi : ∀ t : Fin 8, win0_0.index t 0 = t.val % 2 ∧ win0_0.index t 1 = 0 := by decide
  obtain ⟨i0, i1⟩ := hi t
  unfold iblk
  rw [View.read_apply]
  show V m c main_arg0 _ = m (c.tc.loc main_arg0) _
  unfold V
  congr 1
  funext x
  apply Fin.ext
  match x with
  | ⟨0, _⟩ => show win0_0.index t 0 * 2048 + 1 * a.val = a'.val; rw [i0]; omega
  | ⟨1, _⟩ => show win0_0.index t 1 * 1024 + 1 * r.val = r.val; rw [i1]; omega

/-- A point's block of the gate's gradient: chunk `t / 2`, token half `t % 2`. -/
theorem gate_block (c : Dev nD) (t : Fin cfg0.N) (j : Fin 4) (hj : t.val / 2 = j.val) (a : Fin 2048) (l : Fin 704) (a' : Fin 4096)
    (e : a'.val = 2048 * (t.val % 2) + a.val) :
    (iblk m c 1 t : Vec F S1x2048x704 .bf16) (ix3 0 a l) = m ((c : Thread nD τ).loc main_arg1) (ix3 j a' l) := by
  have hi : ∀ t : Fin 8, win0_1.index t 0 = t.val / 2 ∧ win0_1.index t 1 = t.val % 2 ∧ win0_1.index t 2 = 0 := by decide
  obtain ⟨i0, i1, i2⟩ := hi t
  unfold iblk
  rw [View.read_apply]
  show V m c main_arg1 _ = m (c.tc.loc main_arg1) _
  unfold V
  congr 1
  funext x
  apply Fin.ext
  match x with
  | ⟨0, _⟩ => show win0_1.index t 0 * 1 + 1 * 0 = j.val; rw [i0]; omega
  | ⟨1, _⟩ => show win0_1.index t 1 * 2048 + 1 * a.val = a'.val; rw [i1]; omega
  | ⟨2, _⟩ => show win0_1.index t 2 * 704 + 1 * l.val = l.val; rw [i2]; omega

/-- A point's block of the up projection's gradient. -/
theorem up_block (c : Dev nD) (t : Fin cfg0.N) (j : Fin 4) (hj : t.val / 2 = j.val) (a : Fin 2048) (l : Fin 704) (a' : Fin 4096)
    (e : a'.val = 2048 * (t.val % 2) + a.val) :
    (iblk m c 2 t : Vec F S1x2048x704 .bf16) (ix3 0 a l) = m ((c : Thread nD τ).loc main_arg2) (ix3 j a' l) := by
  have hi : ∀ t : Fin 8, win0_2.index t 0 = t.val / 2 ∧ win0_2.index t 1 = t.val % 2 ∧ win0_2.index t 2 = 0 := by decide
  obtain ⟨i0, i1, i2⟩ := hi t
  unfold iblk
  rw [View.read_apply]
  show V m c main_arg2 _ = m (c.tc.loc main_arg2) _
  unfold V
  congr 1
  funext x
  apply Fin.ext
  match x with
  | ⟨0, _⟩ => show win0_2.index t 0 * 1 + 1 * 0 = j.val; rw [i0]; omega
  | ⟨1, _⟩ => show win0_2.index t 1 * 2048 + 1 * a.val = a'.val; rw [i1]; omega
  | ⟨2, _⟩ => show win0_2.index t 2 * 704 + 1 * l.val = l.val; rw [i2]; omega

/-- A point's block of the gated activations. -/
theorem s_block (c : Dev nD) (t : Fin cfg0.N) (j : Fin 4) (hj : t.val / 2 = j.val) (a : Fin 2048) (l : Fin 704) (a' : Fin 4096)
    (e : a'.val = 2048 * (t.val % 2) + a.val) :
    (iblk m c 3 t : Vec F S1x2048x704 .bf16) (ix3 0 a l) = m ((c : Thread nD τ).loc main_arg3) (ix3 j a' l) := by
  have hi : ∀ t : Fin 8, win0_3.index t 0 = t.val / 2 ∧ win0_3.index t 1 = t.val % 2 ∧ win0_3.index t 2 = 0 := by decide
  obtain ⟨i0, i1, i2⟩ := hi t
  unfold iblk
  rw [View.read_apply]
  show V m c main_arg3 _ = m (c.tc.loc main_arg3) _
  unfold V
  congr 1
  funext x
  apply Fin.ext
  match x with
  | ⟨0, _⟩ => show win0_3.index t 0 * 1 + 1 * 0 = j.val; rw [i0]; omega
  | ⟨1, _⟩ => show win0_3.index t 1 * 2048 + 1 * a.val = a'.val; rw [i1]; omega
  | ⟨2, _⟩ => show win0_3.index t 2 * 704 + 1 * l.val = l.val; rw [i2]; omega

/-- A point's block of the output's gradient: token half `t % 2`. -/
theorem dy_block (c : Dev nD) (t : Fin cfg0.N) (a : Fin 2048) (r : Fin 1024) (a' : Fin 4096)
    (e : a'.val = 2048 * (t.val % 2) + a.val) :
    (iblk m c 4 t : Vec F S2048x1024 .bf16) (ix2 a r) = m ((c : Thread nD τ).loc main_arg4) (ix2 a' r) := by
  have hi : ∀ t : Fin 8, win0_4.index t 0 = t.val % 2 ∧ win0_4.index t 1 = 0 := by decide
  obtain ⟨i0, i1⟩ := hi t
  unfold iblk
  rw [View.read_apply]
  show V m c main_arg4 _ = m (c.tc.loc main_arg4) _
  unfold V
  congr 1
  funext x
  apply Fin.ext
  match x with
  | ⟨0, _⟩ => show win0_4.index t 0 * 2048 + 1 * a.val = a'.val; rw [i0]; omega
  | ⟨1, _⟩ => show win0_4.index t 1 * 1024 + 1 * r.val = r.val; rw [i1]; omega

/-- The state after a chunk's second point, from the state after its first. -/
theorem state_last (c : Dev nD) (j n : ℕ) (hn : n < cfg0.N) (hj : 2 * j + 1 < cfg0.N) (e : n = 2 * j + 1) :
    outsAt0 m c n hn = stAt0 m c (2 * j + 1) hj (outsAt0 m c (2 * j) (Nat.lt_of_succ_lt hj)) := by
  subst e; rfl

end Blocks

section Payloads

/-- One product added to the gate accumulator. -/
theorem pay8_apply (x0 : Vec Ideal S2048x1024 .bf16) (acc : Vec Ideal S1024x704 .f32) (x1 : Vec Ideal S1x2048x704 .bf16)
    (r : Fin 1024) (l : Fin 704) :
    k0_pay8 x0 acc x1 (ix2 r l) = acc (ix2 r l) + ∑ a : Fin 2048, x0 (ix2 a r) * x1 (ix3 0 a l) := by
  simp only [k0_pay8, pointwise, zero_add]

/-- One product added to the up accumulator. -/
theorem pay9_apply (x0 : Vec Ideal S2048x1024 .bf16) (acc : Vec Ideal S1024x704 .f32) (x1 : Vec Ideal S1x2048x704 .bf16)
    (r : Fin 1024) (l : Fin 704) :
    k0_pay9 x0 acc x1 (ix2 r l) = acc (ix2 r l) + ∑ a : Fin 2048, x0 (ix2 a r) * x1 (ix3 0 a l) := by
  simp only [k0_pay9, pointwise, zero_add]

/-- One product added to the output-weight accumulator. -/
theorem pay10_apply (acc : Vec Ideal S704x1024 .f32) (x3 : Vec Ideal S1x2048x704 .bf16) (x4 : Vec Ideal S2048x1024 .bf16)
    (l : Fin 704) (r : Fin 1024) :
    k0_pay1 (k0_pay10 acc x3 x4) (ix2 l r) = acc (ix2 l r) + ∑ a : Fin 2048, x3 (ix3 0 a l) * x4 (ix2 a r) := by
  simp only [k0_pay1, k0_pay10, pointwise, zero_add]

/-- The accumulators start at zero. -/
theorem pay5_apply (i : S1024x704.Idx) : k0_pay5 (F := Ideal) i = 0 := by
  simp only [k0_pay5, pointwise]
theorem pay6_apply (i : S1024x704.Idx) : k0_pay6 (F := Ideal) i = 0 := by
  simp only [k0_pay6, pointwise]
theorem pay7_apply (i : S704x1024.Idx) : k0_pay7 (F := Ideal) i = 0 := by
  simp only [k0_pay7, pointwise]

/-- What is written out is the accumulator. -/
theorem pay2_apply (x : Vec Ideal S1024x704 .f32) (r : Fin 1024) (l : Fin 704) : k0_pay2 x (ix4 0 0 r l) = x (ix2 r l) := by
  simp only [k0_pay2, pointwise]
theorem pay3_apply (x : Vec Ideal S1024x704 .f32) (r : Fin 1024) (l : Fin 704) : k0_pay3 x (ix4 0 0 r l) = x (ix2 r l) := by
  simp only [k0_pay3, pointwise]
theorem pay4_apply (x : Vec Ideal S704x1024 .f32) (l : Fin 704) (r : Fin 1024) : k0_pay4 x (ix3 0 l r) = x (ix2 l r) := by
  simp only [k0_pay4, pointwise]

end Payloads

section Elements

variable (m : (ℓ : Loc nD τ sig) → Buf (Elt Ideal) ℓ)

/-- Each element of the input weight's gradient: a sum over all the tokens. -/
theorem in_value (c : Dev nD) (H : Vec Ideal S4096x1024 .bf16) (hH : m ((c : Thread nD τ).loc main_arg0) = H)
    (A B : Vec Ideal S4x4096x704 .bf16) (hA : m ((c : Thread nD τ).loc main_arg1) = A)
    (hB : m ((c : Thread nD τ).loc main_arg2) = B) (g : Fin 2) (j : Fin 4) (r : Fin 1024) (l : Fin 704) :
    (G5 m c : Vec Ideal S2x4x1024x704 .bf16) (ix4 g j r l)
      = ∑ k : Fin 4096, H (ix2 k r) * (if g.val = 0 then A (ix3 j k l) else B (ix3 j k l)) := by
  have hj := j.isLt
  have hg := g.isLt
  have hN : cfg0.N = 8 := N_0
  have hlast : 2 * j.val + 1 < cfg0.N := by omega
  have hfirst : 2 * j.val < cfg0.N := by omega
  have hp : pt5Of (ix4 g j r l) = 2 * j.val + 1 := by
    have hr := r.isLt
    have hl := l.isLt
    show 2 * (4 * (g.val / 2 - 0) + 1 * (j.val / 1 - 0) + 1 * (r.val / 1024 - 0) + 1 * (l.val / 704 - 0)) + 1 = _
    omega
  have hloc : loc5Of (ix4 g j r l) = ix4 g 0 r l := by
    have hr := r.isLt
    have hl := l.isLt
    funext a
    match a with
    | ⟨0, _⟩ => exact Fin.ext (show g.val % 2 = g.val by omega)
    | ⟨1, _⟩ => exact Fin.ext (show j.val % 1 = 0 by omega)
    | ⟨2, _⟩ => exact Fin.ext (show r.val % 1024 = r.val by omega)
    | ⟨3, _⟩ => exact Fin.ext (show l.val % 704 = l.val by omega)
  unfold G5
  rw [dif_pos (hp.trans_lt hlast), ← outsAt0_sweep m c _ (hp.trans_lt hlast), state_last m c j.val _ _ hlast hp, hloc,
    in_last m c ⟨2 * j.val + 1, hlast⟩ (by show ¬(2 * j.val + 1) % 2 = 0; omega) (by show (2 * j.val + 1) % 2 = 1; omega)]
  have e0 : (2 * j.val) % 2 = 0 := by omega
  have e1 : ¬(2 * j.val) % 2 = 1 := by omega
  rw [gate_first m c ⟨2 * j.val, hfirst⟩ e0 e1, up_first m c ⟨2 * j.val, hfirst⟩ e0 e1,
    Fin.sum_univ_two_halves 2048 2048 rfl]
  show (if g.val = 0 then k0_pay2 _ (ix4 0 0 r l) else k0_pay3 _ (ix4 0 0 r l)) = _
  have h0 : ∀ a : Fin 2048, (iblk m c 0 ⟨2 * j.val, hfirst⟩ : Vec Ideal S2048x1024 .bf16) (ix2 a r) = H (ix2 ⟨a.val, by omega⟩ r) :=
    fun a => (h_block m c ⟨2 * j.val, hfirst⟩ a r ⟨a.val, by omega⟩ (by show a.val = 2048 * (2 * j.val % 2) + a.val; omega)).trans
      (by rw [hH])
  have h1 : ∀ a : Fin 2048, (iblk m c 0 ⟨2 * j.val + 1, hlast⟩ : Vec Ideal S2048x1024 .bf16) (ix2 a r)
      = H (ix2 ⟨2048 + a.val, by omega⟩ r) :=
    fun a => (h_block m c ⟨2 * j.val + 1, hlast⟩ a r ⟨2048 + a.val, by omega⟩
      (by show 2048 + a.val = 2048 * ((2 * j.val + 1) % 2) + a.val; omega)).trans (by rw [hH])
  by_cases h : g.val = 0
  · simp only [if_pos h]
    rw [pay2_apply, pay8_apply, pay8_apply, pay5_apply, zero_add]
    refine congrArg₂ (· + ·) (Finset.sum_congr rfl fun a _ => ?_) (Finset.sum_congr rfl fun a _ => ?_)
    · rw [h0, gate_block m c ⟨2 * j.val, hfirst⟩ j (by show 2 * j.val / 2 = _; omega) a l ⟨a.val, by omega⟩
        (by show a.val = 2048 * (2 * j.val % 2) + a.val; omega), hA]
    · rw [h1, gate_block m c ⟨2 * j.val + 1, hlast⟩ j (by show (2 * j.val + 1) / 2 = _; omega) a l ⟨2048 + a.val, by omega⟩
        (by show 2048 + a.val = 2048 * ((2 * j.val + 1) % 2) + a.val; omega), hA]
  · simp only [if_neg h]
    rw [pay3_apply, pay9_apply, pay9_apply, pay6_apply, zero_add]
    refine congrArg₂ (· + ·) (Finset.sum_congr rfl fun a _ => ?_) (Finset.sum_congr rfl fun a _ => ?_)
    · rw [h0, up_block m c ⟨2 * j.val, hfirst⟩ j (by show 2 * j.val / 2 = _; omega) a l ⟨a.val, by omega⟩
        (by show a.val = 2048 * (2 * j.val % 2) + a.val; omega), hB]
    · rw [h1, up_block m c ⟨2 * j.val + 1, hlast⟩ j (by show (2 * j.val + 1) / 2 = _; omega) a l ⟨2048 + a.val, by omega⟩
        (by show 2048 + a.val = 2048 * ((2 * j.val + 1) % 2) + a.val; omega), hB]

/-- Each element of the output weight's gradient: a sum over all the tokens. -/
theorem out_value (c : Dev nD) (A : Vec Ideal S4x4096x704 .bf16) (hA : m ((c : Thread nD τ).loc main_arg3) = A)
    (H : Vec Ideal S4096x1024 .bf16) (hH : m ((c : Thread nD τ).loc main_arg4) = H) (j : Fin 4) (l : Fin 704) (r : Fin 1024) :
    (G6 m c : Vec Ideal S4x704x1024 .bf16) (ix3 j l r) = ∑ k : Fin 4096, A (ix3 j k l) * H (ix2 k r) := by
  have hj := j.isLt
  have hN : cfg0.N = 8 := N_0
  have hlast : 2 * j.val + 1 < cfg0.N := by omega
  have hfirst : 2 * j.val < cfg0.N := by omega
  have hp : pt6Of (ix3 j l r) = 2 * j.val + 1 := by
    have hr := r.isLt
    have hl := l.isLt
    show 2 * (1 * (j.val / 1 - 0) + 1 * (l.val / 704 - 0) + 1 * (r.val / 1024 - 0)) + 1 = _
    omega
  have hloc : loc6Of (ix3 j l r) = ix3 0 l r := by
    have hr := r.isLt
    have hl := l.isLt
    funext a
    match a with
    | ⟨0, _⟩ => exact Fin.ext (show j.val % 1 = 0 by omega)
    | ⟨1, _⟩ => exact Fin.ext (show l.val % 704 = l.val by omega)
    | ⟨2, _⟩ => exact Fin.ext (show r.val % 1024 = r.val by omega)
  unfold G6
  rw [dif_pos (hp.trans_lt hlast), ← outsAt0_sweep m c _ (hp.trans_lt hlast), state_last m c j.val _ _ hlast hp, hloc,
    out_last m c ⟨2 * j.val + 1, hlast⟩ (by show ¬(2 * j.val + 1) % 2 = 0; omega) (by show (2 * j.val + 1) % 2 = 1; omega)]
  have e0 : (2 * j.val) % 2 = 0 := by omega
  have e1 : ¬(2 * j.val) % 2 = 1 := by omega
  rw [out_first m c ⟨2 * j.val, hfirst⟩ e0 e1, Fin.sum_univ_two_halves 2048 2048 rfl, pay4_apply, pay10_apply, pay10_apply,
    pay7_apply, zero_add]
  refine congrArg₂ (· + ·) (Finset.sum_congr rfl fun a _ => ?_) (Finset.sum_congr rfl fun a _ => ?_)
  · rw [s_block m c ⟨2 * j.val, hfirst⟩ j (by show 2 * j.val / 2 = _; omega) a l ⟨a.val, by omega⟩
        (by show a.val = 2048 * (2 * j.val % 2) + a.val; omega), hA,
      dy_block m c ⟨2 * j.val, hfirst⟩ a r ⟨a.val, by omega⟩ (by show a.val = 2048 * (2 * j.val % 2) + a.val; omega), hH]
  · rw [s_block m c ⟨2 * j.val + 1, hlast⟩ j (by show (2 * j.val + 1) / 2 = _; omega) a l ⟨2048 + a.val, by omega⟩
        (by show 2048 + a.val = 2048 * ((2 * j.val + 1) % 2) + a.val; omega), hA,
      dy_block m c ⟨2 * j.val + 1, hlast⟩ a r ⟨2048 + a.val, by omega⟩
        (by show 2048 + a.val = 2048 * ((2 * j.val + 1) % 2) + a.val; omega), hH]

end Elements

end Cert.Kernel2Ideal.Weights

namespace Cert.Reference2Ideal.Weights

open Idealize.ShloMosaic Idealize.ShloMosaic.TcCoe Idealize.ShloMosaic.Tactic
open Cert.Reference2Ideal Cert.Reference2Ideal.Gen Cert.Reference2Ideal.Read

/-- The reference's gradient of the input weight at an index. -/
theorem in_ref (H : Vec Ideal S4096x1024 .bf16) (A B : Vec Ideal S4x4096x704 .bf16) (g : Fin 2) (j : Fin 4) (r : Fin 1024)
    (l : Fin 704) :
    val_main_v19 (F := Ideal) H A B (ix4 g j r l)
      = ∑ k : Fin 4096, H (ix2 k r) * (if g.val = 0 then A (ix3 j k l) else B (ix3 j k l)) := by
  rw [val_main_v19_apply, val_main_v18_apply, val_main_v17_apply, val_main_v16_apply, Ideal.truncf_def, val_main_v15_apply]
  refine Finset.sum_congr rfl fun k _ => ?_
  rw [val_main_v11_apply, val_main_v5_apply, val_main_v2_apply, val_main_v1_apply]
  have hr := r.isLt
  have hl := l.isLt
  have hj := j.isLt
  have hg := g.isLt
  have hk := k.isLt
  have ei : idx_main_v1 (idx_main_v2 (lidx_main_v15 (idx_main_v16 (idx_main_v17 (idx_main_v18 (ix4 g j r l)))) k))
      = ix3 ⟨4 * g.val + j.val, by omega⟩ k l := by
    funext a
    apply Fin.ext
    match a with
    | ⟨0, _⟩ =>
      show (k.val * 5632 + (((r.val * 2 + g.val) * 4 + j.val) * 704 + l.val) % 5632) / 704 % 8 = 4 * g.val + j.val
      omega
    | ⟨1, _⟩ =>
      show (k.val * 5632 + (((r.val * 2 + g.val) * 4 + j.val) * 704 + l.val) % 5632) / 5632 = k.val
      omega
    | ⟨2, _⟩ =>
      show (k.val * 5632 + (((r.val * 2 + g.val) * 4 + j.val) * 704 + l.val) % 5632) % 704 = l.val
      omega
  have eh : ridx_main_v15 (idx_main_v16 (idx_main_v17 (idx_main_v18 (ix4 g j r l)))) k = ix2 k r := by
    funext a
    apply Fin.ext
    match a with
    | ⟨0, _⟩ => rfl
    | ⟨1, _⟩ =>
      show (((r.val * 2 + g.val) * 4 + j.val) * 704 + l.val) / 5632 = r.val
      omega
  rw [ei, eh, Ideal.extf_def, Ideal.extf_def, mul_comm]
  congr 1
  simp only [val_main_v0, pointwise]
  by_cases h : g.val = 0
  · simp only [if_pos h]
    rw [dif_pos (by omega)]
    exact congrArg (fun x => A (ix3 x k l)) (Fin.ext (show 4 * g.val + j.val = j.val by omega))
  · simp only [if_neg h]
    rw [dif_neg (by omega)]
    refine congrArg B (funext fun a => Fin.ext ?_)
    match a with
    | ⟨0, _⟩ => show 4 * g.val + j.val - 4 = j.val; omega
    | ⟨1, _⟩ => rfl
    | ⟨2, _⟩ => rfl

/-- The reference's gradient of the output weight at an index. -/
theorem out_ref (A : Vec Ideal S4x4096x704 .bf16) (H : Vec Ideal S4096x1024 .bf16) (j : Fin 4) (l : Fin 704) (r : Fin 1024) :
    val_main_v21 (F := Ideal) A H (ix3 j l r) = ∑ k : Fin 4096, A (ix3 j k l) * H (ix2 k r) := by
  have hr := r.isLt
  have hl := l.isLt
  have hj := j.isLt
  rw [val_main_v21_apply, val_main_v20_apply, val_main_v14_apply, Ideal.truncf_def, val_main_v13_apply]
  refine Finset.sum_congr rfl fun k _ => ?_
  rw [val_main_v12_apply, val_main_v9_apply, val_main_v8_apply, val_main_v7_apply]
  rw [Ideal.extf_def, Ideal.extf_def, mul_comm]
  have hk := k.isLt
  have ei : idx_main_v7 (idx_main_v8 (ridx_main_v13 (idx_main_v14 (idx_main_v20 (ix3 j l r))) k)) = ix3 j k l := by
    funext a
    apply Fin.ext
    match a with
    | ⟨0, _⟩ =>
      show (k.val * 2816 + ((j.val * 704 + l.val) * 1024 + r.val) / 1024) / 704 % 4 = j.val
      omega
    | ⟨1, _⟩ =>
      show (k.val * 2816 + ((j.val * 704 + l.val) * 1024 + r.val) / 1024) / 2816 = k.val
      omega
    | ⟨2, _⟩ =>
      show (k.val * 2816 + ((j.val * 704 + l.val) * 1024 + r.val) / 1024) % 704 = l.val
      omega
  have eh : lidx_main_v13 (idx_main_v14 (idx_main_v20 (ix3 j l r))) k = ix2 k r := by
    funext a
    apply Fin.ext
    match a with
    | ⟨0, _⟩ => rfl
    | ⟨1, _⟩ =>
      show ((j.val * 704 + l.val) * 1024 + r.val) % 1024 = r.val
      omega
  rw [ei, eh]

end Cert.Reference2Ideal.Weights

namespace Cert.Kernel2Ideal.Weights

open Idealize.ShloMosaic Idealize.ShloMosaic.TcCoe
open Cert.Kernel2Ideal Cert.Kernel2Ideal.Gen Cert.Kernel2Ideal.Value

variable (m : (ℓ : Loc nD τ sig) → Buf (Elt Ideal) ℓ)

/-- The reference's gradient of the input weight is what the call leaves. -/
theorem in_eq (c : Dev nD) :
    Cert.Reference2Ideal.Read.val_main_v19 (F := Ideal) (m ((c : Thread nD τ).loc main_arg0)) (m ((c : Thread nD τ).loc main_arg1))
      (m ((c : Thread nD τ).loc main_arg2)) = G5 m c := by
  funext i
  obtain ⟨g, j, r, l, rfl⟩ : ∃ (g : Fin 2) (j : Fin 4) (r : Fin 1024) (l : Fin 704), i = ix4 g j r l :=
    ⟨i 0, i 1, i 2, i 3, funext fun a => by match a with | ⟨0, _⟩ => rfl | ⟨1, _⟩ => rfl | ⟨2, _⟩ => rfl | ⟨3, _⟩ => rfl⟩
  exact (Cert.Reference2Ideal.Weights.in_ref ..).trans (in_value m c _ rfl _ _ rfl rfl g j r l).symm

/-- The reference's gradient of the output weight is what the call leaves. -/
theorem out_eq (c : Dev nD) :
    Cert.Reference2Ideal.Read.val_main_v21 (F := Ideal) (m ((c : Thread nD τ).loc main_arg3)) (m ((c : Thread nD τ).loc main_arg4))
      = G6 m c := by
  funext i
  obtain ⟨j, l, r, rfl⟩ : ∃ (j : Fin 4) (l : Fin 704) (r : Fin 1024), i = ix3 j l r :=
    ⟨i 0, i 1, i 2, funext fun a => by match a with | ⟨0, _⟩ => rfl | ⟨1, _⟩ => rfl | ⟨2, _⟩ => rfl⟩
  exact (Cert.Reference2Ideal.Weights.out_ref ..).trans (out_value m c _ rfl _ rfl j l r).symm

end Cert.Kernel2Ideal.Weights

end
-- ==== Proof.Forward.lean ====
module
/-
  One grid point of the feed-forward's forward launch. The first point of a block of tokens normalises the tokens, keeps the
  normalised rows in scratch memory and in the result, and clears the accumulator; every point multiplies by one slice of the
  hidden columns, the rows in two halves, and adds its share into the accumulator; the last point adds half the accumulator
  to the tokens.
-/

public import proofs.«01_k».proof.Proof.Gen.Kernel3Ideal.Frame
public import proofs.«01_k».proof.Proof.Gen.Kernel3Ideal.Skeleton
public import Idealize.ShloMosaic.Lib.VecWindow

@[expose] public section

noncomputable section

namespace Cert.Kernel3Ideal.Fwd

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (UR sig nD τ) ℕ

/-- The upper 512 rows. -/
def top {e : EltTy} (x : Vec F S1024x1024 e) : Vec F S512x1024 e := window x ![0, 0] S512x1024.size inb_S1024x1024_S512x1024_0_0
/-- The lower 512 rows. -/
def bot {e : EltTy} (x : Vec F S1024x1024 e) : Vec F S512x1024 e := window x ![512, 0] S512x1024.size inb_S1024x1024_S512x1024_512_0
/-- A block of 1024 rows from its two halves. -/
def stack (a b : Vec F S1x512x704 .bf16) : Vec F S1x1024x704 .bf16 :=
  put (put (fun _ => Scalar.ofBits .bf16 0x0000#16) ![0, 0, 0] S1x512x704.size a) ![0, 512, 0] S1x512x704.size b

/-- The two halves cover the block, whatever it held. -/
theorem stack_of (d : Vec F S1x1024x704 .bf16) (a b : Vec F S1x512x704 .bf16) :
    put (put d ![0, 0, 0] S1x512x704.size a) ![0, 512, 0] S1x512x704.size b = stack a b := by
  unfold stack
  funext y
  unfold put
  by_cases h : ∀ k, (![0, 512, 0] : Fin 3 → ℕ) k ≤ (y k).val ∧ (y k).val < (![0, 512, 0] : Fin 3 → ℕ) k + S1x512x704.size k
  · rw [dif_pos h, dif_pos h]
  · rw [dif_neg h, dif_neg h]
    have h' : ∀ k, (![0, 0, 0] : Fin 3 → ℕ) k ≤ (y k).val ∧ (y k).val < (![0, 0, 0] : Fin 3 → ℕ) k + S1x512x704.size k := by
      have h0 : (y 0).val < 1 := (y 0).isLt
      have h1 : (y 1).val < 1024 := (y 1).isLt
      have h2 : (y 2).val < 704 := (y 2).isLt
      have hn : ¬ 512 ≤ (y 1).val := fun hc => h fun k => by
        match k with
        | ⟨0, _⟩ => exact ⟨Nat.zero_le _, by change (y 0).val < 0 + 1; omega⟩
        | ⟨1, _⟩ => exact ⟨hc, by change (y 1).val < 512 + 512; omega⟩
        | ⟨2, _⟩ => exact ⟨Nat.zero_le _, by change (y 2).val < 0 + 704; omega⟩
      intro k
      match k with
      | ⟨0, _⟩ => exact ⟨Nat.zero_le _, by change (y 0).val < 0 + 1; omega⟩
      | ⟨1, _⟩ => exact ⟨Nat.zero_le _, by change (y 1).val < 0 + 512; omega⟩
      | ⟨2, _⟩ => exact ⟨Nat.zero_le _, by change (y 2).val < 0 + 704; omega⟩
    rw [dif_pos h', dif_pos h']

/-- A whole block of rows from its two halves. -/
def pile (a b : Vec F S512x1024 .f32) : Vec F S1024x1024 .f32 :=
  put (put (fun _ => Scalar.ofBits .f32 0x00000000#32) ![0, 0] S512x1024.size a) ![512, 0] S512x1024.size b

/-- The two halves cover it, whatever it held. -/
theorem pile_of (d : Vec F S1024x1024 .f32) (a b : Vec F S512x1024 .f32) :
    put (put d ![0, 0] S512x1024.size a) ![512, 0] S512x1024.size b = pile a b := by
  unfold pile
  funext y
  unfold put
  by_cases h : ∀ k, (![512, 0] : Fin 2 → ℕ) k ≤ (y k).val ∧ (y k).val < (![512, 0] : Fin 2 → ℕ) k + S512x1024.size k
  · rw [dif_pos h, dif_pos h]
  · rw [dif_neg h, dif_neg h]
    have h' : ∀ k, (![0, 0] : Fin 2 → ℕ) k ≤ (y k).val ∧ (y k).val < (![0, 0] : Fin 2 → ℕ) k + S512x1024.size k := by
      have h0 : (y 0).val < 1024 := (y 0).isLt
      have h1 : (y 1).val < 1024 := (y 1).isLt
      have hn : ¬ 512 ≤ (y 0).val := fun hc => h fun k => by
        match k with
        | ⟨0, _⟩ => exact ⟨hc, by change (y 0).val < 512 + 512; omega⟩
        | ⟨1, _⟩ => exact ⟨Nat.zero_le _, by change (y 1).val < 0 + 1024; omega⟩
      intro k
      match k with
      | ⟨0, _⟩ => exact ⟨Nat.zero_le _, by change (y 0).val < 0 + 512; omega⟩
      | ⟨1, _⟩ => exact ⟨Nat.zero_le _, by change (y 1).val < 0 + 1024; omega⟩
    rw [dif_pos h', dif_pos h']

/-- The gate's slice of the hidden columns. -/
def gateOf (h : Vec F S1024x1024 .bf16) (wg : Vec F S1x1x1024x704 .bf16) : Vec F S1x1024x704 .bf16 :=
  stack (k0_pay12 (top h) wg) (k0_pay19 (bot h) wg)
/-- The other factor's slice. -/
def upOf (h : Vec F S1024x1024 .bf16) (wu : Vec F S1x1x1024x704 .bf16) : Vec F S1x1024x704 .bf16 :=
  stack (k0_pay13 (top h) wu) (k0_pay1 (k0_pay17 (bot h) wu))
/-- The activation's slice. -/
def actOf (h : Vec F S1024x1024 .bf16) (wg wu : Vec F S1x1x1024x704 .bf16) : Vec F S1x1024x704 .bf16 :=
  stack (k0_pay14 (k0_pay11 (top h) wg wu)) (k0_pay2 (k0_pay18 (bot h) wg wu))
/-- The accumulator after adding the slice's share. -/
def accOf (h : Vec F S1024x1024 .bf16) (wg wu : Vec F S1x1x1024x704 .bf16) (wo : Vec F S2x352x1024 .bf16)
    (a : Vec F S1024x1024 .f32) : Vec F S1024x1024 .f32 :=
  pile (k0_pay15 (k0_pay8 wo) (k0_pay11 (top h) wg wu) (top a)) (k0_pay3 (k0_pay8 wo) (k0_pay18 (bot h) wg wu) (bot a))

/-- The normalised rows in scratch memory, as the point's products find them. -/
def hIn (i : grid0.Coords) (x : Vec F S1024x1024 .f32) (g : Vec F S1x1024 .f32) (h : Vec F S1024x1024 .bf16) : Vec F S1024x1024 .bf16 :=
  if k0_cond1 i = 1#1 then k0_pay6 x g else h
/-- The normalised rows in the result's block. -/
def nIn (i : grid0.Coords) (x : Vec F S1024x1024 .f32) (g : Vec F S1x1024 .f32) (n : Vec F S1024x1024 .bf16) : Vec F S1024x1024 .bf16 :=
  if k0_cond1 i = 1#1 then k0_pay5 x g else n
/-- The accumulator, as the point's products find it. -/
def aIn (i : grid0.Coords) (a : Vec F S1024x1024 .f32) : Vec F S1024x1024 .f32 :=
  if k0_cond1 i = 1#1 then k0_pay7 else a
/-- The result's block after the point. -/
def oOut (i : grid0.Coords) (x a d : Vec F S1024x1024 .f32) : Vec F S1024x1024 .f32 :=
  if k0_cond2 i = 1#1 then k0_pay4 x a else d

section Reads
variable {κ : Kind} {sp : Space} (v : View sig κ sp S1024x1024 .bf16) (u : View sig κ sp S1024x1024 .f32)
  (w : View sig κ sp S1x1024x704 .bf16)

/-- The upper rows of a block, read out of memory. -/
theorem read_top {e : EltTy} {z : View sig κ sp S1024x1024 e} {f : z.ty.Contents (Elt F)} {h : Vec F S1024x1024 e}
    (hf : z.read (Elt F) f = h) :
    z.readAt (Elt F) (Rect.unit (s := S1024x1024) ![0, 0] S512x1024.size inb_S1024x1024_S512x1024_0_0).toLoadRect f = top h := by
  subst hf; exact View.readAt_unit z f _ rfl _
/-- The lower rows, likewise. -/
theorem read_bot {e : EltTy} {z : View sig κ sp S1024x1024 e} {f : z.ty.Contents (Elt F)} {h : Vec F S1024x1024 e}
    (hf : z.read (Elt F) f = h) :
    z.readAt (Elt F) (Rect.unit (s := S1024x1024) ![512, 0] S512x1024.size inb_S1024x1024_S512x1024_512_0).toLoadRect f = bot h := by
  subst hf; exact View.readAt_unit z f _ rfl _
/-- Two halves written are the block. -/
theorem read_stack (f : w.ty.Contents (Elt F)) (a b a' b' : Vec F S1x512x704 .bf16) (ha : a = a') (hb : b = b') :
    w.read (Elt F) (w.writes (Elt F) f [⟨Rect.unit (s := S1x1024x704) ![0, 512, 0] S1x512x704.size inb_S1x1024x704_S1x512x704_0_512_0, b⟩,
      ⟨Rect.unit (s := S1x1024x704) ![0, 0, 0] S1x512x704.size inb_S1x1024x704_S1x512x704_0_0_0, a⟩]) = stack a' b' := by
  subst ha; subst hb
  rw [View.read_writes_cons_put w f _ _ _ rfl, View.read_writes_cons_put w f _ _ _ rfl]
  exact stack_of _ a b
/-- Two halves written, and whatever was before them, are the whole. -/
theorem read_pile (f : u.ty.Contents (Elt F)) (a b a' b' : Vec F S512x1024 .f32) (L : List (View.Piece (Elt F) S1024x1024 .f32))
    (ha : a = a') (hb : b = b') :
    u.read (Elt F) (u.writes (Elt F) f (⟨Rect.unit (s := S1024x1024) ![512, 0] S512x1024.size inb_S1024x1024_S512x1024_512_0, b⟩
      :: ⟨Rect.unit (s := S1024x1024) ![0, 0] S512x1024.size inb_S1024x1024_S512x1024_0_0, a⟩ :: L)) = pile a' b' := by
  subst ha; subst hb
  rw [View.read_writes_cons_put u f _ _ _ rfl, View.read_writes_cons_put u f _ _ _ rfl]
  exact pile_of _ a b
/-- The lower rows after the upper were written. -/
theorem read_bot_over {f : u.ty.Contents (Elt F)} {a : Vec F S512x1024 .f32} {L : List (View.Piece (Elt F) S1024x1024 .f32)}
    {h : Vec F S1024x1024 .f32} (hf : u.read (Elt F) (u.writes (Elt F) f L) = h) :
    u.readAt (Elt F) (Rect.unit (s := S1024x1024) ![512, 0] S512x1024.size inb_S1024x1024_S512x1024_512_0).toLoadRect
      (u.writes (Elt F) f (⟨Rect.unit (s := S1024x1024) ![0, 0] S512x1024.size inb_S1024x1024_S512x1024_0_0, a⟩ :: L)) = bot h := by
  subst hf
  rw [read_bot rfl, View.read_writes_cons_put u f _ _ _ rfl]
  exact VecWindow.window_put_of_disjoint (s := S1024x1024) _ ![0, 0] S512x1024.size ![512, 0] S512x1024.size inb_S1024x1024_S512x1024_512_0 a 0
    (.inr (by decide))
end Reads

section Body
variable (arg2 : Memref sig .tc .vmem S1024x1024 .f32) (harg2 : arg2.IsWhole) (arg3 : Memref sig .tc .vmem S1x1024 .f32) (harg3 : arg3.IsWhole) (arg4 : Memref sig .tc .vmem S1x1x1024x704 .bf16) (harg4 : arg4.IsWhole) (arg5 : Memref sig .tc .vmem S1x1x1024x704 .bf16) (harg5 : arg5.IsWhole) (arg6 : Memref sig .tc .vmem S2x352x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .bf16) (harg12 : arg12.IsWhole) (arg13 : Memref sig .tc .vmem S1024x1024 .f32) (harg13 : arg13.IsWhole)
variable (c : Dev nD)

set_option maxHeartbeats 4000000 in
set_option maxRecDepth 65536 in
/-- The run of one grid point. -/
theorem run_body (i : grid0.Coords) (x : Vec F S1024x1024 .f32) (g : Vec F S1x1024 .f32) (wg wu : Vec F S1x1x1024x704 .bf16)
    (wo : Vec F S2x352x1024 .bf16) (d : Vec F S1024x1024 .f32) (n h : Vec F S1024x1024 .bf16) (a : Vec F S1024x1024 .f32)
    (K : PUnit → sProp 𝕄) :
    iprop(owns (c : Thread nD τ) arg2 fullShare x ∗ owns (c : Thread nD τ) arg3 fullShare g
        ∗ owns (c : Thread nD τ) arg4 fullShare wg ∗ owns (c : Thread nD τ) arg5 fullShare wu
        ∗ owns (c : Thread nD τ) arg6 fullShare wo
        ∗ owns (c : Thread nD τ) arg7 fullShare d ∗ owns (c : Thread nD τ) arg8 fullShare n
        ∗ (∃ e, owns (c : Thread nD τ) arg9 fullShare e) ∗ (∃ e, owns (c : Thread nD τ) arg10 fullShare e)
        ∗ (∃ e, owns (c : Thread nD τ) arg11 fullShare e)
        ∗ owns (c : Thread nD τ) arg12 fullShare h ∗ owns (c : Thread nD τ) arg13 fullShare a
        ∗ (owns (c : Thread nD τ) arg2 fullShare x ∗ owns (c : Thread nD τ) arg3 fullShare g
          ∗ owns (c : Thread nD τ) arg4 fullShare wg ∗ owns (c : Thread nD τ) arg5 fullShare wu
          ∗ owns (c : Thread nD τ) arg6 fullShare wo
          ∗ owns (c : Thread nD τ) arg7 fullShare (oOut i x (accOf (hIn i x g h) wg wu wo (aIn i a)) d)
          ∗ owns (c : Thread nD τ) arg8 fullShare (nIn i x g n)
          ∗ owns (c : Thread nD τ) arg9 fullShare (gateOf (hIn i x g h) wg)
          ∗ owns (c : Thread nD τ) arg10 fullShare (upOf (hIn i x g h) wu)
          ∗ owns (c : Thread nD τ) arg11 fullShare (actOf (hIn i x g h) wg wu)
          ∗ owns (c : Thread nD τ) arg12 fullShare (hIn i x g h)
          ∗ owns (c : Thread nD τ) arg13 fullShare (accOf (hIn i x g h) wg wu wo (aIn i a)) -∗ K ⟨⟩))
      ⊢ wp frame (wpE (defs₀ (F := F)) Variants.none c none) Set.univ (cc0_ffn_fwd (F := F) i arg2 harg2 arg3 harg3 arg4 harg4 arg5 harg5 arg6 harg6 arg7 harg7 arg8 harg8 arg9 harg9 arg10 harg10 arg11 harg11 arg12 harg12 arg13 harg13) K := by
  rw [cc0_ffn_fwd_eq_skeleton]
  unfold cc0_ffn_fwd_skel
  rw [k0_part1_eq_skeleton, k0_part2_eq_skeleton]
  unfold k0_part1_skel k0_part2_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩,
    ⟨%f8, %h8, H8⟩, ⟨%e9, %f9, -, H9⟩, ⟨%e10, %f10, -, H10⟩, ⟨%e11, %f11, -, H11⟩, ⟨%f12, %h12, H12⟩, ⟨%f13, %h13, H13⟩, Hk⟩
  have hx2 : arg2.view.readAt (Elt F) (Rect.unit (s := S1024x1024) ![0, 0] S1024x1024.size inb_S1024x1024_S1024x1024_0_0).toLoadRect f2 = x :=
    (View.readAt_full _ _ _).trans h2
  have hx3 : arg3.view.readAt (Elt F) (Rect.unit (s := S1x1024) ![0, 0] S1x1024.size inb_S1x1024_S1x1024_0_0).toLoadRect f3 = g :=
    (View.readAt_full _ _ _).trans h3
  have hx4 : arg4.view.readAt (Elt F) (Rect.unit (s := S1x1x1024x704) ![0, 0, 0, 0] S1x1x1024x704.size inb_S1x1x1024x704_S1x1x1024x704_0_0_0_0).toLoadRect f4 = wg :=
    (View.readAt_full _ _ _).trans h4
  have hx5 : arg5.view.readAt (Elt F) (Rect.unit (s := S1x1x1024x704) ![0, 0, 0, 0] S1x1x1024x704.size inb_S1x1x1024x704_S1x1x1024x704_0_0_0_0).toLoadRect f5 = wu :=
    (View.readAt_full _ _ _).trans h5
  have hx6 : arg6.view.readAt (Elt F) (Rect.unit (s := S2x352x1024) ![0, 0, 0] S2x352x1024.size inb_S2x352x1024_S2x352x1024_0_0_0).toLoadRect f6 = wo :=
    (View.readAt_full _ _ _).trans h6
  by_cases hc : k0_cond1 i = 1#1
  · sl_exec (disch := (first | sl_exact hc))
    have hH : hIn i x g h = k0_pay6 x g := (if_pos hc)
    have hN : nIn i x g n = k0_pay5 x g := (if_pos hc)
    have hA : aIn i a = k0_pay7 := (if_pos hc)
    rw [hH, hN, hA]
    have hr12 : ∀ f : arg12.view.ty.Contents (Elt F), arg12.view.read (Elt F) (arg12.view.writes (Elt F) f [⟨Rect.unit (s := S1024x1024) ![0, 0] S1024x1024.size inb_S1024x1024_S1024x1024_0_0, k0_pay6 x g⟩]) = k0_pay6 x g :=
      fun f => View.read_writes_full _ _ _ _ _
    have hr13 : ∀ f : arg13.view.ty.Contents (Elt F), arg13.view.read (Elt F) (arg13.view.writes (Elt F) f [⟨Rect.unit (s := S1024x1024) ![0, 0] S1024x1024.size inb_S1024x1024_S1024x1024_0_0, k0_pay7⟩]) = k0_pay7 :=
      fun f => View.read_writes_full _ _ _ _ _
    sl_step
    iapply Hk
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]
    · iexists _; isplitr
      swap; · iexact H7
      ipureintro
      unfold oOut
      by_cases he : k0_cond2 i = 1#1
      · rw [dif_pos he, if_pos he]
        exact (View.read_writes_full _ _ _ _ _).trans (congrArg (k0_pay4 x) ((View.readAt_full _ _ _).trans
          (read_pile _ _ _ _ _ _ _ (congrArg₂ (k0_pay15 (k0_pay8 wo)) (congrArg (k0_pay11 · wg wu) (read_top (hr12 _))) (read_top (hr13 _))) (congrArg₂ (k0_pay3 (k0_pay8 wo)) (congrArg (k0_pay18 · wg wu) (read_bot (hr12 _))) (read_bot_over _ (hr13 _))))))
      · rw [dif_neg he, if_neg he]; exact h7
    isplitl [H8]; · iexists _; isplitr
                    swap; · iexact H8
                    ipureintro; exact View.read_writes_full _ _ _ _ _
    isplitl [H9]; · iexists _; isplitr
                    swap; · iexact H9
                    ipureintro; exact read_stack _ _ _ _ _ _ (congrArg (k0_pay12 · wg) (read_top (hr12 _))) (congrArg (k0_pay19 · wg) (read_bot (hr12 _)))
    isplitl [H10]; · iexists _; isplitr
                     swap; · iexact H10
                     ipureintro; exact read_stack _ _ _ _ _ _ (congrArg (k0_pay13 · wu) (read_top (hr12 _))) (congrArg (fun z => k0_pay1 (k0_pay17 z wu)) (read_bot (hr12 _)))
    isplitl [H11]; · iexists _; isplitr
                     swap; · iexact H11
                     ipureintro; exact read_stack _ _ _ _ _ _ (congrArg (fun z => k0_pay14 (k0_pay11 z wg wu)) (read_top (hr12 _))) (congrArg (fun z => k0_pay2 (k0_pay18 z wg wu)) (read_bot (hr12 _)))
    isplitl [H12]; · iexists _; isplitr
                     swap; · iexact H12
                     ipureintro; exact hr12 _
    iexists _; isplitr
    swap; · iexact H13
    ipureintro; exact read_pile _ _ _ _ _ _ _ (congrArg₂ (k0_pay15 (k0_pay8 wo)) (congrArg (k0_pay11 · wg wu) (read_top (hr12 _))) (read_top (hr13 _))) (congrArg₂ (k0_pay3 (k0_pay8 wo)) (congrArg (k0_pay18 · wg wu) (read_bot (hr12 _))) (read_bot_over _ (hr13 _)))
  · sl_exec (disch := (first | sl_exact hc))
    have hH : hIn i x g h = h := (if_neg hc)
    have hN : nIn i x g n = n := (if_neg hc)
    have hA : aIn i a = a := (if_neg hc)
    rw [hH, hN, hA]
    sl_step
    iapply Hk
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]
    · iexists _; isplitr
      swap; · iexact H7
      ipureintro
      unfold oOut
      by_cases he : k0_cond2 i = 1#1
      · rw [dif_pos he, if_pos he]
        exact (View.read_writes_full _ _ _ _ _).trans (congrArg (k0_pay4 x) ((View.readAt_full _ _ _).trans
          (read_pile _ _ _ _ _ _ _ (congrArg₂ (k0_pay15 (k0_pay8 wo)) (congrArg (k0_pay11 · wg wu) (read_top h12)) (read_top h13)) (congrArg₂ (k0_pay3 (k0_pay8 wo)) (congrArg (k0_pay18 · wg wu) (read_bot h12)) (read_bot h13)))))
      · rw [dif_neg he, if_neg he]; exact h7
    isplitl [H8]; · iexists f8; isplitr; · ipureintro; exact h8
                    iexact H8
    isplitl [H9]; · iexists _; isplitr
                    swap; · iexact H9
                    ipureintro; exact read_stack _ _ _ _ _ _ (congrArg (k0_pay12 · wg) (read_top h12)) (congrArg (k0_pay19 · wg) (read_bot h12))
    isplitl [H10]; · iexists _; isplitr
                     swap; · iexact H10
                     ipureintro; exact read_stack _ _ _ _ _ _ (congrArg (k0_pay13 · wu) (read_top h12)) (congrArg (fun z => k0_pay1 (k0_pay17 z wu)) (read_bot h12))
    isplitl [H11]; · iexists _; isplitr
                     swap; · iexact H11
                     ipureintro; exact read_stack _ _ _ _ _ _ (congrArg (fun z => k0_pay14 (k0_pay11 z wg wu)) (read_top h12)) (congrArg (fun z => k0_pay2 (k0_pay18 z wg wu)) (read_bot h12))
    isplitl [H12]; · iexists f12; isplitr; · ipureintro; exact h12
                     iexact H12
    iexists _; isplitr
    swap; · iexact H13
    ipureintro; exact read_pile _ _ _ _ _ _ _ (congrArg₂ (k0_pay15 (k0_pay8 wo)) (congrArg (k0_pay11 · wg wu) (read_top h12)) (read_top h13)) (congrArg₂ (k0_pay3 (k0_pay8 wo)) (congrArg (k0_pay18 · wg wu) (read_bot h12)) (read_bot h13))

end Body

end Cert.Kernel3Ideal.Fwd

end
-- ==== Proof.ForwardRun.lean ====
module
/-
  The launch of the feed-forward's forward pass: what each point of the four by four grid leaves, the body's obligation, the
  run of the program and its frame. The normalised rows and the accumulator live in scratch memory across the four points of a
  block of tokens.
-/

public import proofs.«01_k».proof.Proof.Forward
public import proofs.«01_k».proof.Proof.Gen.Kernel3Ideal.Points
public import Idealize.ShloMosaic.Lib.Pipeline.TableIdle

@[expose] public section

noncomputable section

namespace Cert.Kernel3Ideal.Fwd

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The first point of a point's block of tokens, and the `k`-th after it. -/
def pt (t : Fin cfg0.N) (k : ℕ) : Fin cfg0.N := ⟨(t.val - t.val % 4 + k) % 16, Nat.mod_lt _ (by decide)⟩

/-- Between points of one block the first is the same. -/
theorem pt_eq (s t : Fin cfg0.N) (h : s.val + 1 = t.val) (hs : s.val % 4 ≠ 3) (k : ℕ) : pt s k = pt t k := by
  unfold pt; congr 2; omega
/-- The point itself is the `t % 4`-th. -/
theorem pt_self (t : Fin cfg0.N) : pt t (t.val % 4) = t :=
  Fin.ext (by have : t.val < 16 := t.isLt; change (t.val - t.val % 4 + t.val % 4) % 16 = t.val; omega)

/-- The normalised rows of a point's block of tokens, as the scratch memory holds them. -/
def hAt (c : Dev nD) (t : Fin cfg0.N) : Vec F S1024x1024 .bf16 := k0_pay6 (iblk m c 0 (pt t 0)) (iblk m c 1 (pt t 0))
/-- The same in the result's block. -/
def nAt (c : Dev nD) (t : Fin cfg0.N) : Vec F S1024x1024 .bf16 := k0_pay5 (iblk m c 0 (pt t 0)) (iblk m c 1 (pt t 0))
/-- The accumulator after the `k`-th point of a block. -/
def accN (c : Dev nD) (t : Fin cfg0.N) : ℕ → Vec F S1024x1024 .f32
  | 0 => accOf (hAt m c t) (iblk m c 2 (pt t 0)) (iblk m c 3 (pt t 0)) (X0_4 m c (pt t 0)) k0_pay7
  | k + 1 => accOf (hAt m c t) (iblk m c 2 (pt t (k + 1))) (iblk m c 3 (pt t (k + 1))) (X0_4 m c (pt t (k + 1))) (accN c t k)
/-- The accumulator after a point. -/
def accAt (c : Dev nD) (t : Fin cfg0.N) : Vec F S1024x1024 .f32 := accN m c t (t.val % 4)

/-- What the scratch memory holds between points. -/
def Carry (c : Dev nD) (n : ℕ) : sProp 𝕄 :=
  iprop(∃ h a, ⌜∀ s : Fin cfg0.N, s.val + 1 = n → h = hAt m c s ∧ a = accAt m c s⌝
    ∗ owns (c : Thread nD τ) (Memref.whole cc0_scratch0) fullShare h
    ∗ owns (c : Thread nD τ) (Memref.whole cc0_scratch1) fullShare a)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => k0_pay4 (iblk m c 0 t) (accAt m c t)
    | ⟨6, _⟩ => nAt m c t
    | ⟨7, _⟩ => gateOf (hAt m c t) (iblk m c 2 t)
    | ⟨8, _⟩ => upOf (hAt m c t) (iblk m c 3 t)
    | ⟨9, _⟩ => actOf (hAt m c t) (iblk m c 2 t) (iblk m c 3 t)
  Φ t := iprop(Carry m c t.val ∗ ∃ r, prngReg c r)
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves and finds, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = k0_pay4 (iblk m c 0 t) (accAt m c t) := by dsimp only [dats]
theorem after0_6 (c : Dev nD) (t : Fin cfg0.N) : (dats m 0 c).after 6 t = nAt m c t := by dsimp only [dats]
theorem after0_7 (c : Dev nD) (t : Fin cfg0.N) : (dats m 0 c).after 7 t = gateOf (hAt m c t) (iblk m c 2 t) := by dsimp only [dats]
theorem after0_8 (c : Dev nD) (t : Fin cfg0.N) : (dats m 0 c).after 8 t = upOf (hAt m c t) (iblk m c 3 t) := by dsimp only [dats]
theorem after0_9 (c : Dev nD) (t : Fin cfg0.N) : (dats m 0 c).after 9 t = actOf (hAt m c t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d

/-- The invariant between points, spelt out. -/
theorem Φ_eq (c : Dev nD) (t : Fin (cfg0.N + 1)) : (dats m 0 c).Φ t = iprop(Carry m c t.val ∗ ∃ r, prngReg c r) := by
  dsimp only [dats]

/-! The conditions of the body, and where a result's block is left alone and written back. -/
theorem first_at : ∀ t : Fin cfg0.N, k0_cond1 (grid0.coords t) = if t.val % 4 = 0 then 1#1 else 0#1 := by decide +kernel
theorem last_at : ∀ t : Fin cfg0.N, k0_cond2 (grid0.coords t) = if t.val % 4 = 3 then 1#1 else 0#1 := by decide +kernel
theorem liveAt : ∀ w : Fin cfg0.W, w.val ≠ 5 → w.val ≠ 6 → ∀ t : Fin cfg0.N, cfg0.idle w (grid0.coords t) = false := by decide +kernel
theorem idle5 : ∀ t : Fin cfg0.N, cfg0.idle 5 (grid0.coords t) = !decide (t.val % 4 = 3) := by decide +kernel
theorem idle6 : ∀ t : Fin cfg0.N, cfg0.idle 6 (grid0.coords t) = !decide (t.val % 4 = 0) := by decide +kernel
theorem fresh6 : ∀ n, n ≤ cfg0.N → cfg0.fresh 6 n = decide (n % 4 = 0) :=
  cfg0.fresh_tab 6 (fun n => decide (n % 4 = 0)) rfl (by
    intro t
    rw [show (cfg0.win 6).flush t = decide (t.val % 4 = 3) from by
      rw [Bool.eq_iff_iff, flush0_6, decide_eq_true_iff], idle6]
    rw [Bool.eq_iff_iff]; simp only [decide_eq_true_iff, Bool.or_eq_true, Bool.and_eq_true, Bool.not_eq_true', decide_eq_false_iff_not]
    omega)

/-- Past the first point of a block the result's block holds the normalised rows. -/
theorem before0_6 (c : Dev nD) (t : Fin cfg0.N) (ht : t.val % 4 ≠ 0) (d) : (dats m 0 c).before 6 t d = nAt m c t := by
  rw [(dats m 0 c).before_out_traj 6 rfl (fun _ _ => rfl) (fun s hs _ hf => by
    rw [fresh6 _ (Nat.le_of_lt s.isLt)] at hf
    have h4 : s.val % 4 ≠ 0 := of_decide_eq_false hf
    rw [after0_6, after0_6]
    unfold nAt
    rw [pt_eq ⟨s.val - 1, by omega⟩ s (by change s.val - 1 + 1 = s.val; omega) (by change (s.val - 1) % 4 ≠ 3; omega)]) t.val t rfl d,
    fresh6 _ (Nat.le_of_lt t.isLt), decide_eq_false ht, if_neg Bool.false_ne_true, after0_6]
  unfold nAt
  rw [pt_eq ⟨t.val - 1, by omega⟩ t (by change t.val - 1 + 1 = t.val; omega) (by change (t.val - 1) % 4 ≠ 3; omega)]

/-! The body's obligation on a buffer, window by window. -/
theorem leaves0_0 (c : Dev nD) (t : Fin cfg0.N) :
    (dats m 0 c).leavesExact 0 t = owns (c : Thread nD τ) (st0_0 t) fullShare ((dats m 0 c).after 0 t) := by
  unfold Dat.leavesExact; rw [liveAt 0 (by decide) (by decide) t]
theorem leaves0_1 (c : Dev nD) (t : Fin cfg0.N) :
    (dats m 0 c).leavesExact 1 t = owns (c : Thread nD τ) (st0_1 t) fullShare ((dats m 0 c).after 1 t) := by
  unfold Dat.leavesExact; rw [liveAt 1 (by decide) (by decide) t]
theorem leaves0_2 (c : Dev nD) (t : Fin cfg0.N) :
    (dats m 0 c).leavesExact 2 t = owns (c : Thread nD τ) (st0_2 t) fullShare ((dats m 0 c).after 2 t) := by
  unfold Dat.leavesExact; rw [liveAt 2 (by decide) (by decide) t]
theorem leaves0_3 (c : Dev nD) (t : Fin cfg0.N) :
    (dats m 0 c).leavesExact 3 t = owns (c : Thread nD τ) (st0_3 t) fullShare ((dats m 0 c).after 3 t) := by
  unfold Dat.leavesExact; rw [liveAt 3 (by decide) (by decide) t]
theorem leaves0_4 (c : Dev nD) (t : Fin cfg0.N) :
    (dats m 0 c).leavesExact 4 t = owns (c : Thread nD τ) (st0_4 t) fullShare ((dats m 0 c).after 4 t) := by
  unfold Dat.leavesExact; rw [liveAt 4 (by decide) (by decide) t]
theorem leaves0_7 (c : Dev nD) (t : Fin cfg0.N) :
    (dats m 0 c).leavesExact 7 t = owns (c : Thread nD τ) (st0_7 t) fullShare ((dats m 0 c).after 7 t) := by
  unfold Dat.leavesExact; rw [liveAt 7 (by decide) (by decide) t]
theorem leaves0_8 (c : Dev nD) (t : Fin cfg0.N) :
    (dats m 0 c).leavesExact 8 t = owns (c : Thread nD τ) (st0_8 t) fullShare ((dats m 0 c).after 8 t) := by
  unfold Dat.leavesExact; rw [liveAt 8 (by decide) (by decide) t]
theorem leaves0_9 (c : Dev nD) (t : Fin cfg0.N) :
    (dats m 0 c).leavesExact 9 t = owns (c : Thread nD τ) (st0_9 t) fullShare ((dats m 0 c).after 9 t) := by
  unfold Dat.leavesExact; rw [liveAt 9 (by decide) (by decide) t]

/-- The result's block: whole at a block's last point, else left as found. -/
theorem leaves0_5 (c : Dev nD) (t : Fin cfg0.N) (d) :
    owns (c : Thread nD τ) (st0_5 t) fullShare (oOut (grid0.coords t) (iblk m c 0 t) (accAt m c t) ((dats m 0 c).before 5 t d))
      ⊢ ((dats m 0 c).leavesExact 5 t : sProp 𝕄) := by
  unfold oOut
  rw [last_at]
  by_cases h : t.val % 4 = 3
  · rw [if_pos h, if_pos rfl]
    unfold Dat.leavesExact
    rw [show cfg0.idle 5 (cfg0.grid.coords t) = false from by rw [idle5, decide_eq_true h]; rfl, after0_5]
  · rw [if_neg h, if_neg (by decide), Dat.leavesExact_idle (dats m 0 c) 5 t (by rw [idle5, decide_eq_false h]; rfl)
      (by rw [← Bool.not_eq_true, flush0_5]; exact h)]
    iintro H; iexists d; iexact H

/-- The normalised rows: stored at a block's first point, then left as found, to be written back at the last. -/
theorem leaves0_6 (c : Dev nD) (t : Fin cfg0.N) (d) :
    owns (c : Thread nD τ) (st0_6 t) fullShare (nIn (grid0.coords t) (iblk m c 0 t) (iblk m c 1 t) ((dats m 0 c).before 6 t d))
      ⊢ ((dats m 0 c).leavesExact 6 t : sProp 𝕄) := by
  unfold nIn
  rw [first_at]
  by_cases h : t.val % 4 = 0
  · rw [if_pos h, if_pos rfl]
    unfold Dat.leavesExact
    rw [show cfg0.idle 6 (cfg0.grid.coords t) = false from by rw [idle6, decide_eq_true h]; rfl, after0_6]
    unfold nAt
    rw [show pt t 0 = t from by have := pt_self t; rwa [h] at this]
  · rw [if_neg h, if_neg (by decide)]
    by_cases h3 : t.val % 4 = 3
    · unfold Dat.leavesExact
      rw [show cfg0.idle 6 (cfg0.grid.coords t) = true from by rw [idle6, decide_eq_false h]; rfl,
        show (cfg0.win 6).flush t = true from (flush0_6 t).mpr h3, before0_6 m c t h, after0_6]
    · rw [Dat.leavesExact_idle (dats m 0 c) 6 t (by rw [idle6, decide_eq_false h]; rfl)
        (by rw [← Bool.not_eq_true, flush0_6]; exact h3)]
      iintro H; iexists d; iexact H

/-- The scratch memory's rows as a point's products find them. -/
theorem hIn_eq (c : Dev nD) (t : Fin cfg0.N) (h : Vec F S1024x1024 .bf16) (hh : ∀ s : Fin cfg0.N, s.val + 1 = t.val → h = hAt m c s) :
    hIn (grid0.coords t) (iblk m c 0 t) (iblk m c 1 t) h = hAt m c t := by
  unfold hIn
  rw [first_at]
  by_cases h0 : t.val % 4 = 0
  · rw [if_pos h0, if_pos rfl]
    unfold hAt
    rw [show pt t 0 = t from by have := pt_self t; rwa [h0] at this]
  · rw [if_neg h0, if_neg (by decide), hh ⟨t.val - 1, by omega⟩ (by change t.val - 1 + 1 = t.val; omega)]
    unfold hAt
    rw [pt_eq ⟨t.val - 1, by omega⟩ t (by change t.val - 1 + 1 = t.val; omega) (by change (t.val - 1) % 4 ≠ 3; omega)]

/-- A block's accumulator does not depend on which of its points names it. -/
theorem accN_eq (c : Dev nD) (s t : Fin cfg0.N) (h : ∀ k, pt s k = pt t k) : ∀ k, accN m c s k = accN m c t k
  | 0 => by unfold accN hAt; rw [h]
  | k + 1 => by unfold accN hAt; rw [h, h, accN_eq c s t h k]

/-- The accumulator after a point, from what it found. -/
theorem acc_eq (c : Dev nD) (t : Fin cfg0.N) (a : Vec F S1024x1024 .f32) (ha : ∀ s : Fin cfg0.N, s.val + 1 = t.val → a = accAt m c s) :
    accOf (hAt m c t) (iblk m c 2 t) (iblk m c 3 t) (X0_4 m c t) (aIn (grid0.coords t) a) = accAt m c t := by
  unfold aIn
  rw [first_at]
  by_cases h0 : t.val % 4 = 0
  · rw [if_pos h0, if_pos rfl]
    unfold accAt
    rw [h0]
    unfold accN
    rw [show pt t 0 = t from by have := pt_self t; rwa [h0] at this]
  · rw [if_neg h0, if_neg (by decide), ha ⟨t.val - 1, by omega⟩ (by change t.val - 1 + 1 = t.val; omega)]
    unfold accAt
    obtain ⟨k, hk⟩ : ∃ k, t.val % 4 = k + 1 := ⟨t.val % 4 - 1, by omega⟩
    have hp : pt t (k + 1) = t := by have := pt_self t; rwa [hk] at this
    rw [hk, accN, hp, accN_eq m c _ t (pt_eq ⟨t.val - 1, by omega⟩ t (by change t.val - 1 + 1 = t.val; omega)
      (by change (t.val - 1) % 4 ≠ 3; omega)), show (t.val - 1) % 4 = k from by omega]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl, Φ_eq, Φ_eq, leaves0_0, leaves0_1, leaves0_2,
    leaves0_3, leaves0_4, leaves0_7, leaves0_8, leaves0_9, after0_0, after0_1, after0_2, after0_3, after0_4, after0_7, after0_8, after0_9]
  unfold Carry
  iintro ⟨⟨⟨%h, %a, %hcar, H12, H13⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hh := hIn_eq m c t h fun s hs => (hcar s hs).1
  have ha := acc_eq m c t a fun s hs => (hcar s hs).2
  iapply (run_body _ _ _ _ _ _ _ _ _ _ _ _ _ _ _ _ _ _ _ _ _ _ _ _ c (grid0.coords t) (iblk m c 0 t) (iblk m c 1 t)
    (iblk m c 2 t) (iblk m c 3 t) (X0_4 m c t) ((dats m 0 c).before 5 t d5) ((dats m 0 c).before 6 t d6) h a _)
  rw [hh, ha]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H12]; · iexact H12
  isplitl [H13]; · iexact H13
  iintro ⟨H0, H1, H2, H3, H4, H5, H6, H7, H8, H9, H12, H13⟩
  isplitl [H12 H13 Hr]
  · isplitl [H12 H13]
    · iexists _, _
      isplitr
      swap
      · isplitl [H12]; · iexact H12
        iexact H13
      ipureintro
      intro s hs
      have hst : s = t := Fin.ext (by change s.val + 1 = t.val + 1 at hs; omega)
      subst hst
      exact ⟨rfl, rfl⟩
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iapply (leaves0_5 m c t d5); iexact H5
  isplitl [H6]; · iapply (leaves0_6 m c t d6); iexact H6
  isplitl [H7]; · iexact H7
  isplitl [H8]; · iexact H8
  iexact H9

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) :
    Pipeline.BodyObligation (dats (F := F) m 0 c) (defs₀ (F := F)) Variants.none () Set.univ := fun t => by
  rw [bigSep_W0, bigSep_W0, defs₀_row]
  exact triple_restated (sound_body m c t) rfl .rfl fun _ => .rfl

/-- The scratch memory at the launch's start may hold anything. -/
theorem enter (c : Dev nD) : (Pipeline.ΦA spec0 c : sProp 𝕄) ⊢ (dats m 0 c).Φ 0 := by
  rw [Φ_eq]
  unfold Pipeline.ΦA Carry
  rw [scopedRest0_eq]
  iintro ⟨⟨⟨%f, Hf⟩, ⟨%g, Hg⟩⟩, Hr⟩
  isplitl [Hf Hg]
  · iexists f, g
    isplitr
    · ipureintro
      intro s hs
      exact absurd hs (by change ¬ s.val + 1 = 0; omega)
    rw [owns_whole, owns_whole]
    isplitl [Hf]; · iexact Hf
    iexact Hg
  iexact Hr

/-- And it is given back at the end. -/
theorem leave (c : Dev nD) : (dats m 0 c).Φ (Fin.last cfg0.N) ⊢ (Pipeline.ΦA spec0 c : sProp 𝕄) := by
  rw [Φ_eq]
  unfold Pipeline.ΦA Carry
  rw [scopedRest0_eq]
  simp only [owns_whole]
  iintro ⟨⟨%f, %g, -, Hf, Hg⟩, Hr⟩
  isplitl [Hf Hg]
  · isplitl [Hf]; · iexists f; iexact Hf
    iexists g; iexact Hg
  iexact Hr

set_option maxHeartbeats 1000000 in
set_option backward.isDefEq.respectTransparency.types false in
/-- The run of the program: it ends, the windows' arrays hold what the proof data says, and every counter is zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- An operand's array ends as the program found it. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c)))⟩

/-- The frame at any float values. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h.1, h.2⟩) (run_main m ρ)

end Cert.Kernel3Ideal.Fwd

end
-- ==== Proof.ForwardWords.lean ====
module

public import proofs.«01_k».proof.Proof.ForwardRun
public import proofs.«01_k».proof.Proof.Gen.Kernel3.Frame

/-!
# The forward call at machine words

The printed call and its idealization are the same text, so that a run of one is a run of the other.
-/

@[expose] public section

set_option maxRecDepth 65536

noncomputable section

namespace Cert.Kernel3.Fwd

open Idealize.ShloMosaic Idealize.ShloMosaic.TcCoe Idealize.SL.Sem

variable {F : FTy → Type} [FloatOps F]

/-- The two programs call the same kernel function. -/
theorem defs₀_eq : Cert.Kernel3.defs₀ (F := F) = Cert.Kernel3Ideal.defs₀ (F := F) := by
  unfold Cert.Kernel3.defs₀ Cert.Kernel3Ideal.defs₀
  refine congrArg Defs.onTc ?_
  funext l
  match l with
  | 0 =>
    funext p
    obtain ⟨t, s⟩ := p
    rfl

/-- They launch it through the same pipeline. -/
theorem defs_eq : Cert.Kernel3.defs (F := F) = Cert.Kernel3Ideal.defs (F := F) := by
  unfold Cert.Kernel3.defs Cert.Kernel3Ideal.defs
  exact congrArg (Pipeline.defs (Cert.Kernel3.pcfgs (F := F))) defs₀_eq

/-- What holds after every run of the idealized program holds after every run of the printed one. -/
theorem run_of (s : MemSt Cert.Kernel3.nD Cert.Kernel3.τ Cert.Kernel3.sig (Elt F))
    (Q : (PUnit × MemSt Cert.Kernel3.nD Cert.Kernel3.τ Cert.Kernel3.sig (Elt F)) → Prop)
    (h : θ_run (Cert.Kernel3Ideal.defs (F := F)) (onTc (τ := Cert.Kernel3Ideal.τ) (Cert.Kernel3Ideal.main (F := F))) s Q) :
    θ_run (Cert.Kernel3.defs (F := F)) (onTc (τ := Cert.Kernel3.τ) (Cert.Kernel3.main (F := F))) s Q := by
  rw [defs_eq]
  exact h

end Cert.Kernel3.Fwd
-- ==== Proof.ForwardSpec.lean ====
module

public import proofs.«01_k».proof.Proof.ForwardRun
public import Idealize.ShloMosaic.Lib.Pointwise
public import Idealize.ShloMosaic.Lib.ValueIdx
public import Idealize.ShloMosaic.PureOps.Ideal

/-!
# A feed-forward block, element by element

What one point's pieces are, one element at a time over the extended reals, and the block as a formula of its arguments.
-/

@[expose] public section

noncomputable section

namespace Cert.Kernel3Ideal.Fwd

open Idealize.ShloMosaic Idealize.ShloMosaic.TcCoe Idealize.ShloMosaic.Tactic
open Idealize.SL.Sem
open Cert.Kernel3Ideal Cert.Kernel3Ideal.Gen
open Idealize.ShloMosaic.VecWindow (window put)

section Formula

/-- An element of the normalised rows. -/
def nrm (X : Vec Ideal S4096x1024 .f32) (G : Vec Ideal S1x1024 .f32) (a : Fin 4096) (r : Fin 1024) : EReal :=
  X (ix2 a r) * Ideal.rsqrt (Ideal.div (∑ k : Fin 1024, X (ix2 a k) * X (ix2 a k)) (Ideal.ofBits .f32 0x44800000#32)
    + Ideal.ofBits .f32 0x358637BD#32) * G (ix2 0 r)

/-- An element of their product with the input weight: chunks 0 to 3 are the gate's, 4 to 7 the other factor's. -/
def prj (X : Vec Ideal S4096x1024 .f32) (G : Vec Ideal S1x1024 .f32) (A : Vec Ideal S8x2x1024x704 .bf16) (a : Fin 4096)
    (j : Fin 8) (l : Fin 704) : EReal :=
  ∑ k : Fin 1024, nrm X G a k * A (ix4 j 1 k l)

/-- The gated product of two numbers. -/
def glu (p q : EReal) : EReal := p * Ideal.div 1 (1 + Ideal.exp (0 - p)) * q

/-- An element of the gated activations. -/
def act (X : Vec Ideal S4096x1024 .f32) (G : Vec Ideal S1x1024 .f32) (A : Vec Ideal S8x2x1024x704 .bf16) (a : Fin 4096)
    (j : Fin 4) (l : Fin 704) : EReal :=
  glu (prj X G A a ⟨j.val, by omega⟩ l) (prj X G A a ⟨j.val + 4, by omega⟩ l)

/-- A chunk's share of an element of the product with the output weight. -/
def share (X : Vec Ideal S4096x1024 .f32) (G : Vec Ideal S1x1024 .f32) (A : Vec Ideal S8x2x1024x704 .bf16)
    (B : Vec Ideal S8x1024x1024 .bf16) (a : Fin 4096) (r : Fin 1024) (j : Fin 4) : EReal :=
  ∑ l : Fin 704, act X G A a j l * B (ix3 ⟨2 * j.val + l.val / 352, by omega⟩ ⟨352 + l.val % 352, by omega⟩ r)

/-- An element of the block's result. -/
def res (X : Vec Ideal S4096x1024 .f32) (G : Vec Ideal S1x1024 .f32) (A : Vec Ideal S8x2x1024x704 .bf16)
    (B : Vec Ideal S8x1024x1024 .bf16) (a : Fin 4096) (r : Fin 1024) : EReal :=
  X (ix2 a r) + Ideal.ofBits .f32 0x3F000000#32 * ∑ j : Fin 4, share X G A B a r j

end Formula

section Pieces

/-- An element of the upper rows. -/
theorem top_apply {e : EltTy} (x : Vec Ideal S1024x1024 e) (a : Fin 512) (r : Fin 1024) :
    top x (ix2 a r) = x (ix2 ⟨a.val, by omega⟩ r) := by
  unfold top window
  congr 1
  funext k
  apply Fin.ext
  match k with
  | ⟨0, _⟩ => show 0 + 1 * a.val = a.val; omega
  | ⟨1, _⟩ => show 0 + 1 * r.val = r.val; omega

/-- An element of the lower rows. -/
theorem bot_apply {e : EltTy} (x : Vec Ideal S1024x1024 e) (a : Fin 512) (r : Fin 1024) :
    bot x (ix2 a r) = x (ix2 ⟨512 + a.val, by omega⟩ r) := by
  unfold bot window
  congr 1
  funext k
  apply Fin.ext
  match k with
  | ⟨0, _⟩ => show 512 + 1 * a.val = 512 + a.val; omega
  | ⟨1, _⟩ => show 0 + 1 * r.val = r.val; omega

/-- An element of the upper half of a stacked block. -/
theorem stack_top (x y : Vec Ideal S1x512x704 .bf16) (a : Fin 1024) (l : Fin 704) (b : Fin 512) (h : a.val = b.val) :
    stack x y (ix3 0 a l) = x (ix3 0 b l) := by
  have hb := b.isLt
  unfold stack put
  rw [dif_neg (by intro hh; have : 512 ≤ a.val := (hh 1).1; omega), dif_pos (by
    intro k
    match k with
    | ⟨0, _⟩ => exact ⟨Nat.le_refl 0, Nat.one_pos⟩
    | ⟨1, _⟩ => exact ⟨Nat.zero_le _, by show a.val < 0 + 512; omega⟩
    | ⟨2, _⟩ => exact ⟨Nat.zero_le _, by show l.val < 0 + 704; omega⟩)]
  congr 1
  funext k
  apply Fin.ext
  match k with
  | ⟨0, _⟩ => rfl
  | ⟨1, _⟩ => show a.val - 0 = b.val; omega
  | ⟨2, _⟩ => rfl

/-- An element of the lower half of a stacked block. -/
theorem stack_bot (x y : Vec Ideal S1x512x704 .bf16) (a : Fin 1024) (l : Fin 704) (b : Fin 512) (h : a.val = 512 + b.val) :
    stack x y (ix3 0 a l) = y (ix3 0 b l) := by
  have hb := b.isLt
  unfold stack
  unfold put
  rw [dif_pos (by
    intro k
    match k with
    | ⟨0, _⟩ => exact ⟨Nat.le_refl 0, Nat.one_pos⟩
    | ⟨1, _⟩ => exact ⟨by show 512 ≤ a.val; omega, by show a.val < 512 + 512; omega⟩
    | ⟨2, _⟩ => exact ⟨Nat.zero_le _, by show l.val < 0 + 704; omega⟩)]
  congr 1
  funext k
  apply Fin.ext
  match k with
  | ⟨0, _⟩ => rfl
  | ⟨1, _⟩ => show a.val - 512 = b.val; omega
  | ⟨2, _⟩ => rfl

/-- An element of the upper half of the accumulator. -/
theorem pile_top (x y : Vec Ideal S512x1024 .f32) (a r : Fin 1024) (b : Fin 512) (h : a.val = b.val) :
    pile x y (ix2 a r) = x (ix2 b r) := by
  have hb := b.isLt
  unfold pile put
  rw [dif_neg (by intro hh; have : 512 ≤ a.val := (hh 0).1; omega), dif_pos (by
    intro k
    match k with
    | ⟨0, _⟩ => exact ⟨Nat.zero_le _, by show a.val < 0 + 512; omega⟩
    | ⟨1, _⟩ => exact ⟨Nat.zero_le _, by show r.val < 0 + 1024; omega⟩)]
  congr 1
  funext k
  apply Fin.ext
  match k with
  | ⟨0, _⟩ => show a.val - 0 = b.val; omega
  | ⟨1, _⟩ => rfl

/-- An element of the lower half of the accumulator. -/
theorem pile_bot (x y : Vec Ideal S512x1024 .f32) (a r : Fin 1024) (b : Fin 512) (h : a.val = 512 + b.val) :
    pile x y (ix2 a r) = y (ix2 b r) := by
  have hb := b.isLt
  unfold pile
  unfold put
  rw [dif_pos (by
    intro k
    match k with
    | ⟨0, _⟩ => exact ⟨by show 512 ≤ a.val; omega, by show a.val < 512 + 512; omega⟩
    | ⟨1, _⟩ => exact ⟨Nat.zero_le _, by show r.val < 0 + 1024; omega⟩)]
  congr 1
  funext k
  apply Fin.ext
  match k with
  | ⟨0, _⟩ => show a.val - 512 = b.val; omega
  | ⟨1, _⟩ => rfl

end Pieces

section Payloads

/-- A row of the scratch memory times a column of a weight block. -/
def dotW (h : Vec Ideal S1024x1024 .bf16) (w : Vec Ideal S1x1x1024x704 .bf16) (a : Fin 1024) (l : Fin 704) : EReal :=
  ∑ k : Fin 1024, h (ix2 a k) * w (ix4 0 0 k l)

/-- An element of a block's normalised rows. -/
theorem pay5_apply (x : Vec Ideal S1024x1024 .f32) (g : Vec Ideal S1x1024 .f32) (a r : Fin 1024) :
    k0_pay5 x g (ix2 a r)
      = x (ix2 a r) * Ideal.rsqrt (Ideal.div (∑ k : Fin 1024, x (ix2 a k) * x (ix2 a k)) (Ideal.ofBits .f32 0x44800000#32)
          + Ideal.ofBits .f32 0x358637BD#32) * g (ix2 0 r) := by
  simp only [k0_pay5, pointwise, zero_add]
  rfl

/-- Scratch memory holds the same rows. -/
theorem pay6_apply (x : Vec Ideal S1024x1024 .f32) (g : Vec Ideal S1x1024 .f32) (a r : Fin 1024) :
    k0_pay6 x g (ix2 a r) = k0_pay5 x g (ix2 a r) := by
  simp only [k0_pay6, pointwise]

/-- The accumulator starts at zero. -/
theorem pay7_apply (i : S1024x1024.Idx) : k0_pay7 (F := Ideal) i = 0 := by
  simp only [k0_pay7, pointwise]

/-- What is written out at a block's last point. -/
theorem pay4_apply (x y : Vec Ideal S1024x1024 .f32) (a r : Fin 1024) :
    k0_pay4 x y (ix2 a r) = x (ix2 a r) + Ideal.ofBits .f32 0x3F000000#32 * y (ix2 a r) := by
  simp only [k0_pay4, pointwise]

/-- A point's piece of the gate, one element. -/
theorem gateOf_apply (h : Vec Ideal S1024x1024 .bf16) (w : Vec Ideal S1x1x1024x704 .bf16) (a : Fin 1024) (l : Fin 704) :
    gateOf h w (ix3 0 a l) = dotW h w a l := by
  unfold gateOf
  by_cases ha : a.val < 512
  · rw [stack_top _ _ a l ⟨a.val, ha⟩ rfl]
    simp only [k0_pay12, k0_pay9, pointwise, zero_add, top_apply]
    rfl
  · have e : a.val = 512 + (a.val - 512) := by omega
    rw [stack_bot _ _ a l ⟨a.val - 512, by omega⟩ e]
    simp only [k0_pay19, k0_pay16, pointwise, zero_add, bot_apply]
    simp only [← e]
    rfl

/-- A point's piece of the other factor, one element. -/
theorem upOf_apply (h : Vec Ideal S1024x1024 .bf16) (w : Vec Ideal S1x1x1024x704 .bf16) (a : Fin 1024) (l : Fin 704) :
    upOf h w (ix3 0 a l) = dotW h w a l := by
  unfold upOf
  by_cases ha : a.val < 512
  · rw [stack_top _ _ a l ⟨a.val, ha⟩ rfl]
    simp only [k0_pay13, k0_pay10, pointwise, zero_add, top_apply]
    rfl
  · have e : a.val = 512 + (a.val - 512) := by omega
    rw [stack_bot _ _ a l ⟨a.val - 512, by omega⟩ e]
    simp only [k0_pay1, k0_pay17, pointwise, zero_add, bot_apply]
    simp only [← e]
    rfl

/-- The gated product of a row of the upper half. -/
theorem pay11_apply (h : Vec Ideal S1024x1024 .bf16) (wg wu : Vec Ideal S1x1x1024x704 .bf16) (a : Fin 512) (l : Fin 704) :
    k0_pay11 (top h) wg wu (ix2 a l) = glu (dotW h wg ⟨a.val, by omega⟩ l) (dotW h wu ⟨a.val, by omega⟩ l) := by
  simp only [k0_pay11, k0_pay9, k0_pay10, pointwise, zero_add, top_apply]
  rfl

/-- The gated product of a row of the lower half. -/
theorem pay18_apply (h : Vec Ideal S1024x1024 .bf16) (wg wu : Vec Ideal S1x1x1024x704 .bf16) (a : Fin 512) (l : Fin 704) :
    k0_pay18 (bot h) wg wu (ix2 a l) = glu (dotW h wg ⟨512 + a.val, by omega⟩ l) (dotW h wu ⟨512 + a.val, by omega⟩ l) := by
  simp only [k0_pay18, k0_pay16, k0_pay17, pointwise, zero_add, bot_apply]
  rfl

/-- A point's piece of the activations, one element. -/
theorem actOf_apply (h : Vec Ideal S1024x1024 .bf16) (wg wu : Vec Ideal S1x1x1024x704 .bf16) (a : Fin 1024) (l : Fin 704) :
    actOf h wg wu (ix3 0 a l) = glu (dotW h wg a l) (dotW h wu a l) := by
  unfold actOf
  by_cases ha : a.val < 512
  · rw [stack_top _ _ a l ⟨a.val, ha⟩ rfl]
    simp only [k0_pay14, pointwise]
    exact pay11_apply h wg wu ⟨a.val, ha⟩ l
  · have e : a.val = 512 + (a.val - 512) := by omega
    rw [stack_bot _ _ a l ⟨a.val - 512, by omega⟩ e]
    simp only [k0_pay2, pointwise]
    rw [pay18_apply]
    simp only [← e]

/-- What a point adds to an element of the accumulator. -/
theorem accOf_apply (h : Vec Ideal S1024x1024 .bf16) (wg wu : Vec Ideal S1x1x1024x704 .bf16) (wo : Vec Ideal S2x352x1024 .bf16)
    (acc : Vec Ideal S1024x1024 .f32) (a r : Fin 1024) :
    accOf h wg wu wo acc (ix2 a r) = acc (ix2 a r) + ∑ l : Fin 704, glu (dotW h wg a l) (dotW h wu a l)
      * wo (ix3 ⟨l.val / 352, by omega⟩ ⟨l.val % 352, by omega⟩ r) := by
  unfold accOf
  by_cases ha : a.val < 512
  · rw [pile_top _ _ a r ⟨a.val, ha⟩ rfl]
    simp only [k0_pay15, k0_pay8, pointwise, zero_add, top_apply, pay11_apply]
  · have e : a.val = 512 + (a.val - 512) := by omega
    rw [pile_bot _ _ a r ⟨a.val - 512, by omega⟩ e]
    simp only [k0_pay3, k0_pay8, pointwise, zero_add, bot_apply, pay18_apply]
    simp only [← e]

end Payloads

end Cert.Kernel3Ideal.Fwd
-- ==== Proof.ForwardValue.lean ====
module

public import proofs.«01_k».proof.Proof.ForwardSpec
public import Idealize.ShloMosaic.Lib.Pipeline.ValueKit.Geometry
public import Idealize.ShloMosaic.Lib.Pipeline.ValueKit.Tiles

/-!
# What the forward call leaves in its five results

Each result array is the block's formula, element by element.
-/

@[expose] public section

noncomputable section

namespace Cert.Kernel3Ideal.Fwd

open Idealize.ShloMosaic Idealize.ShloMosaic.TcCoe Idealize.ShloMosaic.Tactic
open Idealize.SL.Sem
open Cert.Kernel3Ideal Cert.Kernel3Ideal.Gen

section Blocks

variable {F : FTy → Type} [FloatOps F]
variable (m : (ℓ : Loc nD τ sig) → Buf (Elt F) ℓ)

/-- A point's block of tokens: rows from 1024 times `t / 4`. -/
theorem x_block (c : Dev nD) (t : Fin cfg0.N) (a r : Fin 1024) (a' : Fin 4096) (e : a'.val = 1024 * (t.val / 4) + a.val) :
    (iblk m c 0 t : Vec F S1024x1024 .f32) (ix2 a r) = m ((c : Thread nD τ).loc main_arg0) (ix2 a' r) := by
  have hi : ∀ t : Fin 16, win0_0.index t 0 = t.val / 4 ∧ win0_0.index t 1 = 0 := by decide
  obtain ⟨i0, i1⟩ := hi t
  unfold iblk
  rw [View.read_apply]
  show V m c main_arg0 _ = m (c.tc.loc main_arg0) _
  unfold V
  congr 1
  funext x
  apply Fin.ext
  match x with
  | ⟨0, _⟩ => show win0_0.index t 0 * 1024 + 1 * a.val = a'.val; rw [i0]; omega
  | ⟨1, _⟩ => show win0_0.index t 1 * 1024 + 1 * r.val = r.val; rw [i1]; omega

/-- The gains, whole at every point. -/
theorem g_block (c : Dev nD) (t : Fin cfg0.N) (r : Fin 1024) :
    (iblk m c 1 t : Vec F S1x1024 .f32) (ix2 0 r) = m ((c : Thread nD τ).loc main_arg1) (ix2 0 r) := by
  have hi : ∀ t : Fin 16, win0_1.index t 0 = 0 ∧ win0_1.index t 1 = 0 := by decide
  obtain ⟨i0, i1⟩ := hi t
  unfold iblk
  rw [View.read_apply]
  show V m c main_arg1 _ = m (c.tc.loc main_arg1) _
  unfold V
  congr 1
  funext x
  apply Fin.ext
  match x with
  | ⟨0, _⟩ => show win0_1.index t 0 * 1 + 1 * 0 = 0; rw [i0]
  | ⟨1, _⟩ => show win0_1.index t 1 * 1024 + 1 * r.val = r.val; rw [i1]; omega

/-- A point's block of the gate's weight: chunk `t % 4`. -/
theorem wg_block (c : Dev nD) (t : Fin cfg0.N) (k : Fin 1024) (l : Fin 704) (j : Fin 8) (e : j.val = t.val % 4) :
    (iblk m c 2 t : Vec F S1x1x1024x704 .bf16) (ix4 0 0 k l) = m ((c : Thread nD τ).loc main_arg2) (ix4 j 1 k l) := by
  have hi : ∀ t : Fin 16, win0_2.index t 0 = t.val % 4 ∧ win0_2.index t 1 = 1 ∧ win0_2.index t 2 = 0 ∧ win0_2.index t 3 = 0 := by
    decide
  obtain ⟨i0, i1, i2, i3⟩ := hi t
  unfold iblk
  rw [View.read_apply]
  show V m c main_arg2 _ = m (c.tc.loc main_arg2) _
  unfold V
  congr 1
  funext x
  apply Fin.ext
  match x with
  | ⟨0, _⟩ => show win0_2.index t 0 * 1 + 1 * 0 = j.val; rw [i0]; omega
  | ⟨1, _⟩ => show win0_2.index t 1 * 1 + 1 * 0 = 1; rw [i1]
  | ⟨2, _⟩ => show win0_2.index t 2 * 1024 + 1 * k.val = k.val; rw [i2]; omega
  | ⟨3, _⟩ => show win0_2.index t 3 * 704 + 1 * l.val = l.val; rw [i3]; omega

/-- A point's block of the other factor's weight: chunk `t % 4 + 4`. -/
theorem wu_block (c : Dev nD) (t : Fin cfg0.N) (k : Fin 1024) (l : Fin 704) (j : Fin 8) (e : j.val = t.val % 4 + 4) :
    (iblk m c 3 t : Vec F S1x1x1024x704 .bf16) (ix4 0 0 k l) = m ((c : Thread nD τ).loc main_arg2) (ix4 j 1 k l) := by
  have hi : ∀ t : Fin 16, win0_3.index t 0 = t.val % 4 + 4 ∧ win0_3.index t 1 = 1 ∧ win0_3.index t 2 = 0 ∧ win0_3.index t 3 = 0 := by
    decide
  obtain ⟨i0, i1, i2, i3⟩ := hi t
  unfold iblk
  rw [View.read_apply]
  show V m c main_arg2 _ = m (c.tc.loc main_arg2) _
  unfold V
  congr 1
  funext x
  apply Fin.ext
  match x with
  | ⟨0, _⟩ => show win0_3.index t 0 * 1 + 1 * 0 = j.val; rw [i0]; omega
  | ⟨1, _⟩ => show win0_3.index t 1 * 1 + 1 * 0 = 1; rw [i1]
  | ⟨2, _⟩ => show win0_3.index t 2 * 1024 + 1 * k.val = k.val; rw [i2]; omega
  | ⟨3, _⟩ => show win0_3.index t 3 * 704 + 1 * l.val = l.val; rw [i3]; omega

/-- A point's block of the output weight: rows 352 to 703 of two slices of the array, from slice twice `t % 4`. -/
theorem wo_block (c : Dev nD) (t : Fin cfg0.N) (p : Fin 2) (q : Fin 352) (r : Fin 1024) (p' : Fin 8) (q' : Fin 1024)
    (ep : p'.val = 2 * (t.val % 4) + p.val) (eq : q'.val = 352 + q.val) :
    (X0_4 m c t : Vec F S2x352x1024 .bf16) (ix3 p q r) = m ((c : Thread nD τ).loc main_arg3) (ix3 p' q' r) := by
  have hi : ∀ t : Fin 16, win0_4.index t 0 = t.val % 4 ∧ win0_4.index t 1 = 1 ∧ win0_4.index t 2 = 0 := by decide
  obtain ⟨i0, i1, i2⟩ := hi t
  unfold X0_4 Pipeline.Window.fill
  rw [dif_pos (moved0_4 t _)]
  unfold iblk
  rw [View.read_apply]
  show V m c main_arg3 _ = m (c.tc.loc main_arg3) _
  unfold V
  congr 1
  funext x
  apply Fin.ext
  match x with
  | ⟨0, _⟩ => show win0_4.index t 0 * 2 + 1 * p.val = p'.val; rw [i0]; omega
  | ⟨1, _⟩ => show win0_4.index t 1 * 352 + 1 * q.val = q'.val; rw [i1]; omega
  | ⟨2, _⟩ => show win0_4.index t 2 * 1024 + 1 * r.val = r.val; rw [i2]; omega

/-- The points of one block of tokens. -/
theorem pt_val (t : Fin cfg0.N) (k : ℕ) (hk : k < 4) : (pt t k).val = 4 * (t.val / 4) + k := by
  have ht : t.val < 16 := t.isLt
  show (t.val - t.val % 4 + k) % 16 = _
  omega

end Blocks

section Elements

variable (m : (ℓ : Loc nD τ sig) → Buf (Elt Ideal) ℓ) (c : Dev nD)
  (X : Vec Ideal S4096x1024 .f32) (hX : m ((c : Thread nD τ).loc main_arg0) = X)
  (G : Vec Ideal S1x1024 .f32) (hG : m ((c : Thread nD τ).loc main_arg1) = G)
  (A : Vec Ideal S8x2x1024x704 .bf16) (hA : m ((c : Thread nD τ).loc main_arg2) = A)
  (B : Vec Ideal S8x1024x1024 .bf16) (hB : m ((c : Thread nD τ).loc main_arg3) = B)
include hX hG

/-- The normalised rows a block computes. -/
theorem nAt_apply (t : Fin cfg0.N) (a r : Fin 1024) (a' : Fin 4096) (e : a'.val = 1024 * (t.val / 4) + a.val) :
    (nAt m c t) (ix2 a r) = nrm X G a' r := by
  have e' : a'.val = 1024 * ((pt t 0).val / 4) + a.val := by rw [pt_val t 0 (by omega)]; omega
  unfold nAt nrm
  rw [pay5_apply, x_block m c _ a r a' e', g_block, hX, hG]
  simp only [x_block m c _ a _ a' e', hX]

/-- Scratch memory holds them too. -/
theorem hAt_apply (t : Fin cfg0.N) (a r : Fin 1024) (a' : Fin 4096) (e : a'.val = 1024 * (t.val / 4) + a.val) :
    (hAt m c t) (ix2 a r) = nrm X G a' r := by
  unfold hAt
  rw [pay6_apply]
  exact nAt_apply m c X hX G hG t a r a' e

include hA

/-- The gate's product. -/
theorem gate_apply (t s : Fin cfg0.N) (a : Fin 1024) (l : Fin 704) (a' : Fin 4096) (e : a'.val = 1024 * (t.val / 4) + a.val)
    (j : Fin 8) (hj : j.val = s.val % 4) : dotW (hAt m c t) (iblk m c 2 s) a l = prj X G A a' j l := by
  unfold dotW prj
  refine Finset.sum_congr rfl fun k _ => ?_
  rw [hAt_apply m c X hX G hG t a k a' e, wg_block m c s k l j hj, hA]

/-- The other factor's product. -/
theorem up_apply (t s : Fin cfg0.N) (a : Fin 1024) (l : Fin 704) (a' : Fin 4096) (e : a'.val = 1024 * (t.val / 4) + a.val)
    (j : Fin 8) (hj : j.val = s.val % 4 + 4) : dotW (hAt m c t) (iblk m c 3 s) a l = prj X G A a' j l := by
  unfold dotW prj
  refine Finset.sum_congr rfl fun k _ => ?_
  rw [hAt_apply m c X hX G hG t a k a' e, wu_block m c s k l j hj, hA]

/-- The gated product. -/
theorem act_apply (t s : Fin cfg0.N) (a : Fin 1024) (l : Fin 704) (a' : Fin 4096) (e : a'.val = 1024 * (t.val / 4) + a.val)
    (j : Fin 4) (hj : j.val = s.val % 4) :
    glu (dotW (hAt m c t) (iblk m c 2 s) a l) (dotW (hAt m c t) (iblk m c 3 s) a l) = act X G A a' j l := by
  unfold act
  rw [gate_apply m c X hX G hG A hA t s a l a' e ⟨j.val, by omega⟩ hj,
    up_apply m c X hX G hG A hA t s a l a' e ⟨j.val + 4, by omega⟩ (by show j.val + 4 = _; omega)]

include hB

/-- What one point adds to the accumulator: its chunk's share. -/
theorem acc_step (t : Fin cfg0.N) (acc : Vec Ideal S1024x1024 .f32) (a r : Fin 1024) (a' : Fin 4096)
    (e : a'.val = 1024 * (t.val / 4) + a.val) (j : Fin 4) :
    accOf (hAt m c t) (iblk m c 2 (pt t j.val)) (iblk m c 3 (pt t j.val)) (X0_4 m c (pt t j.val)) acc (ix2 a r)
      = acc (ix2 a r) + share X G A B a' r j := by
  have hp : (pt t j.val).val % 4 = j.val := by rw [pt_val t j.val j.isLt]; omega
  rw [accOf_apply]
  unfold share
  refine congrArg (acc (ix2 a r) + ·) (Finset.sum_congr rfl fun l _ => ?_)
  refine congrArg₂ (· * ·) (act_apply m c X hX G hG A hA t (pt t j.val) a l a' e j hp.symm) ?_
  have hq : 2 * j.val + l.val / 352 = 2 * ((pt t j.val).val % 4) + l.val / 352 := by rw [hp]
  exact (wo_block m c (pt t j.val) ⟨l.val / 352, by omega⟩ ⟨l.val % 352, by omega⟩ r ⟨2 * j.val + l.val / 352, by omega⟩
    ⟨352 + l.val % 352, by omega⟩ hq rfl).trans (by rw [hB])

/-- The accumulator at a block's last point: the four shares. -/
theorem acc_last (t : Fin cfg0.N) (ht : t.val % 4 = 3) (a r : Fin 1024) (a' : Fin 4096) (e : a'.val = 1024 * (t.val / 4) + a.val) :
    (accAt m c t) (ix2 a r) = ∑ j : Fin 4, share X G A B a' r j := by
  have s3 : accN m c t 3 (ix2 a r) = accN m c t 2 (ix2 a r) + share X G A B a' r 3 :=
    acc_step m c X hX G hG A hA B hB t (accN m c t 2) a r a' e 3
  have s2 : accN m c t 2 (ix2 a r) = accN m c t 1 (ix2 a r) + share X G A B a' r 2 :=
    acc_step m c X hX G hG A hA B hB t (accN m c t 1) a r a' e 2
  have s1 : accN m c t 1 (ix2 a r) = accN m c t 0 (ix2 a r) + share X G A B a' r 1 :=
    acc_step m c X hX G hG A hA B hB t (accN m c t 0) a r a' e 1
  have s0 : accN m c t 0 (ix2 a r) = k0_pay7 (F := Ideal) (ix2 a r) + share X G A B a' r 0 :=
    acc_step m c X hX G hG A hA B hB t (k0_pay7 (F := Ideal)) a r a' e 0
  unfold accAt
  rw [ht, s3, s2, s1, s0, pay7_apply, zero_add, Fin.sum_univ_four]

end Elements

section Arrays

variable (m : (ℓ : Loc nD τ sig) → Buf (Elt Ideal) ℓ) (c : Dev nD)
  (X : Vec Ideal S4096x1024 .f32) (hX : m ((c : Thread nD τ).loc main_arg0) = X)
  (G : Vec Ideal S1x1024 .f32) (hG : m ((c : Thread nD τ).loc main_arg1) = G)
  (A : Vec Ideal S8x2x1024x704 .bf16) (hA : m ((c : Thread nD τ).loc main_arg2) = A)
  (B : Vec Ideal S8x1024x1024 .bf16) (hB : m ((c : Thread nD τ).loc main_arg3) = B)
include hX hG

/-- The result that keeps the normalised rows. -/
theorem final6 : (dats m 0 c).arrAt 6 cfg0.N = (fun i => nrm X G (i 0) (i 1) : Vec Ideal S4096x1024 .bf16) := by
  have hi : ∀ t : Fin 16, win0_6.index t 0 = t.val / 4 ∧ win0_6.index t 1 = 0 := by decide
  refine (dats m 0 c).arrAt_eq_of_covers 6 _ (by decide +kernel) fun t hf y => ?_
  obtain ⟨i0, i1⟩ := hi t
  have e0 : (((cfg0.win 6).blk t).view.emb y 0 : ℕ) = 1024 * (t.val / 4) + (y 0).val := by blk_simp [i0, i1]; omega
  have e1 : (((cfg0.win 6).blk t).view.emb y 1 : ℕ) = (y 1).val := by blk_simp [i0, i1]
  blk_simp [i0, i1]
  rw [after0_6]
  refine (congrArg _ (eq_ix2 (n0 := 1024) (n1 := 1024) y)).trans
    ((nAt_apply m c X hX G hG t (y 0) (y 1) (((cfg0.win 6).blk t).view.emb y 0) e0).trans ?_)
  exact congrArg _ (Fin.ext e1.symm)

include hA

/-- The result that keeps the gate. -/
theorem final7 : (dats m 0 c).arrAt 7 cfg0.N
    = (fun i => prj X G A (i 1) ⟨(i 0).val, (i 0).isLt.trans (by decide)⟩ (i 2) : Vec Ideal S4x4096x704 .bf16) := by
  have hi : ∀ t : Fin 16, win0_7.index t 0 = t.val % 4 ∧ win0_7.index t 1 = t.val / 4 ∧ win0_7.index t 2 = 0 := by decide
  refine (dats m 0 c).arrAt_eq_of_covers 7 _ (by decide +kernel) fun t hf y => ?_
  obtain ⟨i0, i1, i2⟩ := hi t
  have y0 : (y 0).val < 1 := (y 0).isLt
  have e0 : (((cfg0.win 7).blk t).view.emb y 0 : ℕ) = t.val % 4 := by blk_simp [i0, i1, i2]
  have e1 : (((cfg0.win 7).blk t).view.emb y 1 : ℕ) = 1024 * (t.val / 4) + (y 1).val := by blk_simp [i0, i1, i2]; omega
  have e2 : (((cfg0.win 7).blk t).view.emb y 2 : ℕ) = (y 2).val := by blk_simp [i0, i1, i2]
  have hy : (y : S1x1024x704.Idx) = ix3 0 (y 1) (y 2) :=
    (eq_ix3 (n0 := 1) (n1 := 1024) (n2 := 704) y).trans (by congr 1; exact Fin.ext (by show (y 0).val = 0; omega))
  blk_simp [i0, i1, i2]
  rw [after0_7]
  refine (congrArg _ hy).trans ((gateOf_apply _ _ (y 1) (y 2)).trans
    ((gate_apply m c X hX G hG A hA t t (y 1) (y 2) (((cfg0.win 7).blk t).view.emb y 1) e1 ⟨t.val % 4, by omega⟩ rfl).trans ?_))
  exact congrArg _ (Fin.ext e2.symm)

/-- The result that keeps the other factor. -/
theorem final8 : (dats m 0 c).arrAt 8 cfg0.N
    = (fun i => prj X G A (i 1) ⟨(i 0).val + 4, Nat.add_lt_add_right (i 0).isLt 4⟩ (i 2) : Vec Ideal S4x4096x704 .bf16) := by
  have hi : ∀ t : Fin 16, win0_8.index t 0 = t.val % 4 ∧ win0_8.index t 1 = t.val / 4 ∧ win0_8.index t 2 = 0 := by decide
  refine (dats m 0 c).arrAt_eq_of_covers 8 _ (by decide +kernel) fun t hf y => ?_
  obtain ⟨i0, i1, i2⟩ := hi t
  have y0 : (y 0).val < 1 := (y 0).isLt
  have e0 : (((cfg0.win 8).blk t).view.emb y 0 : ℕ) = t.val % 4 := by blk_simp [i0, i1, i2]
  have e1 : (((cfg0.win 8).blk t).view.emb y 1 : ℕ) = 1024 * (t.val / 4) + (y 1).val := by blk_simp [i0, i1, i2]; omega
  have e2 : (((cfg0.win 8).blk t).view.emb y 2 : ℕ) = (y 2).val := by blk_simp [i0, i1, i2]
  have hy : (y : S1x1024x704.Idx) = ix3 0 (y 1) (y 2) :=
    (eq_ix3 (n0 := 1) (n1 := 1024) (n2 := 704) y).trans (by congr 1; exact Fin.ext (by show (y 0).val = 0; omega))
  blk_simp [i0, i1, i2]
  rw [after0_8]
  refine (congrArg _ hy).trans ((upOf_apply _ _ (y 1) (y 2)).trans
    ((up_apply m c X hX G hG A hA t t (y 1) (y 2) (((cfg0.win 8).blk t).view.emb y 1) e1 ⟨t.val % 4 + 4, by omega⟩ rfl).trans ?_))
  exact congrArg _ (Fin.ext e2.symm)

/-- The result that keeps the activations. -/
theorem final9 : (dats m 0 c).arrAt 9 cfg0.N
    = (fun i => act X G A (i 1) (i 0) (i 2) : Vec Ideal S4x4096x704 .bf16) := by
  have hi : ∀ t : Fin 16, win0_9.index t 0 = t.val % 4 ∧ win0_9.index t 1 = t.val / 4 ∧ win0_9.index t 2 = 0 := by decide
  refine (dats m 0 c).arrAt_eq_of_covers 9 _ (by decide +kernel) fun t hf y => ?_
  obtain ⟨i0, i1, i2⟩ := hi t
  have y0 : (y 0).val < 1 := (y 0).isLt
  have e0 : (((cfg0.win 9).blk t).view.emb y 0 : ℕ) = t.val % 4 := by blk_simp [i0, i1, i2]
  have e1 : (((cfg0.win 9).blk t).view.emb y 1 : ℕ) = 1024 * (t.val / 4) + (y 1).val := by blk_simp [i0, i1, i2]; omega
  have e2 : (((cfg0.win 9).blk t).view.emb y 2 : ℕ) = (y 2).val := by blk_simp [i0, i1, i2]
  have hy : (y : S1x1024x704.Idx) = ix3 0 (y 1) (y 2) :=
    (eq_ix3 (n0 := 1) (n1 := 1024) (n2 := 704) y).trans (by congr 1; exact Fin.ext (by show (y 0).val = 0; omega))
  blk_simp [i0, i1, i2]
  rw [after0_9]
  refine (congrArg _ hy).trans ((actOf_apply _ _ _ (y 1) (y 2)).trans
    ((act_apply m c X hX G hG A hA t t (y 1) (y 2) (((cfg0.win 9).blk t).view.emb y 1) e1 ⟨t.val % 4, by omega⟩ rfl).trans ?_))
  exact congrArg₂ (act X G A (((cfg0.win 9).blk t).view.emb y 1)) (Fin.ext (e0.symm)) (Fin.ext e2.symm)

include hB

/-- The block's result. -/
theorem final5 : (dats m 0 c).arrAt 5 cfg0.N = (fun i => res X G A B (i 0) (i 1) : Vec Ideal S4096x1024 .f32) := by
  have hi : ∀ t : Fin 16, win0_5.index t 0 = t.val / 4 ∧ win0_5.index t 1 = 0 := by decide
  refine (dats m 0 c).arrAt_eq_of_covers 5 _ (by decide +kernel) fun t hf y => ?_
  obtain ⟨i0, i1⟩ := hi t
  have ht : t.val % 4 = 3 := (flush0_5 t).mp hf
  have e0 : (((cfg0.win 5).blk t).view.emb y 0 : ℕ) = 1024 * (t.val / 4) + (y 0).val := by blk_simp [i0, i1]; omega
  have e1 : (((cfg0.win 5).blk t).view.emb y 1 : ℕ) = (y 1).val := by blk_simp [i0, i1]
  blk_simp [i0, i1]
  rw [after0_5]
  refine (congrArg _ (eq_ix2 (n0 := 1024) (n1 := 1024) y)).trans ((pay4_apply _ _ (y 0) (y 1)).trans ?_)
  refine Eq.trans ?_ (congrArg (res X G A B (((cfg0.win 5).blk t).view.emb y 0)) (Fin.ext e1.symm))
  unfold res
  exact congrArg₂ (fun p q => p + Ideal.ofBits .f32 0x3F000000#32 * q)
    ((x_block m c t (y 0) (y 1) (((cfg0.win 5).blk t).view.emb y 0) e0).trans (by rw [hX]))
    (acc_last m c X hX G hG A hA B hB t ht (y 0) (y 1) (((cfg0.win 5).blk t).view.emb y 0) e0)

end Arrays

/-- After the call: the five results hold the block's formula of the arguments, and the arguments are unchanged. -/
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (fun i => res (m ((c.tc : Thread nD τ).loc main_arg0))
          (m ((c.tc : Thread nD τ).loc main_arg1)) (m ((c.tc : Thread nD τ).loc main_arg2))
          (m ((c.tc : Thread nD τ).loc main_arg3)) (i 0) (i 1) : Vec Ideal S4096x1024 .f32)
      ∧ r.2.mem ((c.tc : Thread nD τ).loc main_v0_1) = (fun i => nrm (m ((c.tc : Thread nD τ).loc main_arg0))
          (m ((c.tc : Thread nD τ).loc main_arg1)) (i 0) (i 1) : Vec Ideal S4096x1024 .bf16)
      ∧ r.2.mem ((c.tc : Thread nD τ).loc main_v0_2) = (fun i => prj (m ((c.tc : Thread nD τ).loc main_arg0))
          (m ((c.tc : Thread nD τ).loc main_arg1)) (m ((c.tc : Thread nD τ).loc main_arg2)) (i 1)
          ⟨(i 0).val, (i 0).isLt.trans (by decide)⟩ (i 2) : Vec Ideal S4x4096x704 .bf16)
      ∧ r.2.mem ((c.tc : Thread nD τ).loc main_v0_3) = (fun i => prj (m ((c.tc : Thread nD τ).loc main_arg0))
          (m ((c.tc : Thread nD τ).loc main_arg1)) (m ((c.tc : Thread nD τ).loc main_arg2)) (i 1)
          ⟨(i 0).val + 4, Nat.add_lt_add_right (i 0).isLt 4⟩ (i 2) : Vec Ideal S4x4096x704 .bf16)
      ∧ r.2.mem ((c.tc : Thread nD τ).loc main_v0_4) = (fun i => act (m ((c.tc : Thread nD τ).loc main_arg0))
          (m ((c.tc : Thread nD τ).loc main_arg1)) (m ((c.tc : Thread nD τ).loc main_arg2)) (i 1) (i 0) (i 2)
          : Vec Ideal S4x4096x704 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 5).trans (final5 m c _ rfl _ rfl _ rfl _ rfl), ((h.1 c).1 6).trans (final6 m c _ rfl _ rfl),
      ((h.1 c).1 7).trans (final7 m c _ rfl _ rfl _ rfl), ((h.1 c).1 8).trans (final8 m c _ rfl _ rfl _ rfl),
      ((h.1 c).1 9).trans (final9 m c _ rfl _ rfl _ rfl), args_kept m h.1 c⟩) (run_main m ρ)

end Cert.Kernel3Ideal.Fwd
-- ==== Proof.ForwardRef.lean ====
module

public import proofs.«01_k».proof.Proof.ForwardSpec
public import proofs.«01_k».proof.Proof.Gen.Reference3Ideal.Read

/-!
# What the reference's feed-forward block computes

The reference's five results, element by element: the same formula of the arguments.
-/

@[expose] public section

noncomputable section

namespace Cert.Reference3Ideal.Fwd

open Idealize.ShloMosaic Idealize.ShloMosaic.TcCoe
open Cert.Reference3Ideal Cert.Reference3Ideal.Read
open Cert.Kernel3Ideal.Fwd (nrm prj glu act share res)

/-- Two indices of a matrix with the same coordinates. -/
theorem idx2 {n0 n1 : ℕ} (i : (⟨2, ![n0, n1]⟩ : Shape).Idx) (a : Fin n0) (b : Fin n1) (h0 : (i 0).val = a.val) (h1 : (i 1).val = b.val) :
    i = ix2 a b :=
  funext fun k => Fin.ext (by match k with | ⟨0, _⟩ => exact h0 | ⟨1, _⟩ => exact h1)

/-- Two indices of a stack of matrices with the same coordinates. -/
theorem idx3 {n0 n1 n2 : ℕ} (i : (⟨3, ![n0, n1, n2]⟩ : Shape).Idx) (a : Fin n0) (b : Fin n1) (d : Fin n2) (h0 : (i 0).val = a.val)
    (h1 : (i 1).val = b.val) (h2 : (i 2).val = d.val) : i = ix3 a b d :=
  funext fun k => Fin.ext (by match k with | ⟨0, _⟩ => exact h0 | ⟨1, _⟩ => exact h1 | ⟨2, _⟩ => exact h2)

/-- Two indices of an array of rank four with the same coordinates. -/
theorem idx4 {n0 n1 n2 n3 : ℕ} (i : (⟨4, ![n0, n1, n2, n3]⟩ : Shape).Idx) (a : Fin n0) (b : Fin n1) (d : Fin n2) (e : Fin n3)
    (h0 : (i 0).val = a.val) (h1 : (i 1).val = b.val) (h2 : (i 2).val = d.val) (h3 : (i 3).val = e.val) : i = ix4 a b d e :=
  funext fun k => Fin.ext (by match k with | ⟨0, _⟩ => exact h0 | ⟨1, _⟩ => exact h1 | ⟨2, _⟩ => exact h2 | ⟨3, _⟩ => exact h3)

section Weights

/-- The input weight's columns are the chunks of the second of the two stacked matrices. -/
theorem win_ref (A : Vec Ideal S8x2x1024x704 .bf16) (k : Fin 1024) (q : Fin 5632) (j : Fin 8) (l : Fin 704) (e : q.val = 704 * j.val + l.val) :
    val_main_v4 (F := Ideal) A (ix2 k q) = A (ix4 j 1 k l) := by
  have hk := k.isLt
  have hj := j.isLt
  have hl := l.isLt
  rw [val_main_v4_apply, Ideal.extf_def, val_main_v3_apply]
  rw [idx3 (idx_main_v3 (ix2 k q)) k j l (by show (k.val * 5632 + q.val) / 5632 = k.val; omega)
    (by show (k.val * 5632 + q.val) / 704 % 8 = j.val; omega) (by show (k.val * 5632 + q.val) % 704 = l.val; omega)]
  rw [val_main_v2_apply, idx3 (idx_main_v2 (ix3 k j l)) j k l rfl rfl rfl, val_main_v1_apply]
  rw [idx4 (idx_main_v1 (ix3 j k l)) j 0 k l (by show ((j.val * 1024 + k.val) * 704 + l.val) / 720896 = j.val; omega) rfl
    (by show ((j.val * 1024 + k.val) * 704 + l.val) / 704 % 1024 = k.val; omega)
    (by show ((j.val * 1024 + k.val) * 704 + l.val) % 704 = l.val; omega)]
  rw [val_main_v0_apply, idx4 (idx_main_v0 (ix4 j 0 k l)) j 1 k l rfl rfl rfl rfl]

/-- The output weight's rows are rows 352 to 703 of each slice. -/
theorem wout_ref (B : Vec Ideal S8x1024x1024 .bf16) (q : Fin 2816) (r : Fin 1024) (p : Fin 8) (n : Fin 1024)
    (hp : p.val = q.val / 352) (hn : n.val = 352 + q.val % 352) : val_main_v7 (F := Ideal) B (ix2 q r) = B (ix3 p n r) := by
  have hq := q.isLt
  have hr := r.isLt
  rw [val_main_v7_apply, Ideal.extf_def, val_main_v6_apply]
  rw [idx3 (idx_main_v6 (ix2 q r)) p ⟨q.val % 352, Nat.mod_lt _ (by decide)⟩ r
    (by show (q.val * 1024 + r.val) / 360448 = p.val; omega)
    (by show (q.val * 1024 + r.val) / 1024 % 352 = q.val % 352; omega) (by show (q.val * 1024 + r.val) % 1024 = r.val; omega)]
  rw [val_main_v5_apply, idx3 (idx_main_v5 (ix3 p ⟨q.val % 352, Nat.mod_lt _ (by decide)⟩ r)) p n r rfl hn.symm rfl]

end Weights

section Results

variable (X : Vec Ideal S4096x1024 .f32) (G : Vec Ideal S1x1024 .f32) (A : Vec Ideal S8x2x1024x704 .bf16)
  (B : Vec Ideal S8x1024x1024 .bf16)

/-- The reference's normalised rows. -/
theorem nrm_ref (a : Fin 4096) (r : Fin 1024) : val_main_v21 (F := Ideal) X G (ix2 a r) = nrm X G a r := by
  rw [val_main_v21_apply, val_main_v17_apply, val_main_v16_apply, val_main_v15_apply, val_main_v14_apply, val_main_v13_apply,
    val_main_v12_apply, val_main_v11_apply, val_main_v10_apply, val_main_v9_apply, val_main_v20_apply, val_main_v19_apply,
    val_main_v18_apply]
  simp only [val_main_v8_apply, val_main_cst_apply, val_main_cst_0_apply, val_main_cst_1_apply, pointwise, zero_add]
  have e9 : ∀ k : Fin 1024, idx_main_v9 (idx_main_v10 (idx_main_v16 (ix2 a r))) k = ix2 a k := fun k => idx2 _ a k rfl rfl
  have e18 : idx_main_v18 (idx_main_v19 (idx_main_v20 (ix2 a r))) = ix2 0 r :=
    idx2 _ 0 r rfl (by show r.val % 1024 = r.val; exact Nat.mod_eq_of_lt r.isLt)
  simp only [e9, e18]
  rfl

/-- The reference's product with the input weight. -/
theorem prj_ref (a : Fin 4096) (q : Fin 5632) (j : Fin 8) (l : Fin 704) (e : q.val = 704 * j.val + l.val) :
    val_main_v22 (F := Ideal) X G A (ix2 a q) = prj X G A a j l := by
  rw [val_main_v22_apply]
  unfold prj
  refine Finset.sum_congr rfl fun k _ => ?_
  rw [idx2 (lidx_main_v22 (ix2 a q) k) a k rfl rfl, idx2 (ridx_main_v22 (ix2 a q) k) k q rfl rfl, nrm_ref, win_ref A k q j l e]

/-- The reference's gate. -/
theorem gate_ref (a : Fin 4096) (q : Fin 2816) (j : Fin 8) (l : Fin 704) (e : q.val = 704 * j.val + l.val) :
    val_main_v23 (F := Ideal) X G A (ix2 a q) = prj X G A a j l := by
  rw [val_main_v23_apply, idx2 (idx_main_v23 (ix2 a q)) a ⟨q.val, by omega⟩ rfl rfl]
  exact prj_ref X G A a _ j l e

/-- The reference's other factor. -/
theorem up_ref (a : Fin 4096) (q : Fin 2816) (j : Fin 8) (l : Fin 704) (e : 2816 + q.val = 704 * j.val + l.val) :
    val_main_v24 (F := Ideal) X G A (ix2 a q) = prj X G A a j l := by
  rw [val_main_v24_apply, idx2 (idx_main_v24 (ix2 a q)) a ⟨2816 + q.val, by omega⟩ rfl rfl]
  exact prj_ref X G A a _ j l e

/-- The reference's gated activations. -/
theorem act_ref (a : Fin 4096) (q : Fin 2816) (j : Fin 4) (l : Fin 704) (e : q.val = 704 * j.val + l.val) :
    val_main_v26 (F := Ideal) X G A (ix2 a q) = act X G A a j l := by
  rw [val_main_v26_apply, val_main_v25_apply, val_main_call0_v5_apply, val_main_call0_v4_apply, val_main_call0_v3_apply,
    val_main_call0_v2_apply, val_main_call0_v1_apply, val_main_call0_v0_apply,
    gate_ref X G A a q ⟨j.val, by omega⟩ l e, up_ref X G A a q ⟨j.val + 4, by omega⟩ l (by show _ = 704 * (j.val + 4) + l.val; omega)]
  simp only [val_main_call0_cst_apply, val_main_call0_cst_0_apply, pointwise]
  unfold act glu
  rw [zero_sub]

/-- The reference's result. -/
theorem res_ref (a : Fin 4096) (r : Fin 1024) : val_main_v30 (F := Ideal) X G A B (ix2 a r) = res X G A B a r := by
  rw [val_main_v30_apply, val_main_v29_apply, val_main_v28_apply, val_main_v27_apply]
  have term : ∀ (q : Fin 2816) (j : Fin 4) (l : Fin 704), q.val = 704 * j.val + l.val →
      val_main_v26 (F := Ideal) X G A (lidx_main_v27 (ix2 a r) q) * val_main_v7 (F := Ideal) B (ridx_main_v27 (ix2 a r) q)
        = act X G A a j l * B (ix3 ⟨2 * j.val + l.val / 352, by omega⟩ ⟨352 + l.val % 352, by omega⟩ r) := by
    intro q j l e
    rw [idx2 (lidx_main_v27 (ix2 a r) q) a q rfl rfl, idx2 (ridx_main_v27 (ix2 a r) q) q r rfl rfl, act_ref X G A a q j l e,
      wout_ref B q r ⟨2 * j.val + l.val / 352, by omega⟩ ⟨352 + l.val % 352, by omega⟩
        (by show 2 * j.val + l.val / 352 = _; omega) (by show 352 + l.val % 352 = _; omega)]
  have chunk : ∀ (j : Fin 4) (q : Fin 704 → Fin 2816), (∀ l, (q l).val = 704 * j.val + l.val) →
      ∑ l : Fin 704, val_main_v26 (F := Ideal) X G A (lidx_main_v27 (ix2 a r) (q l))
        * val_main_v7 (F := Ideal) B (ridx_main_v27 (ix2 a r) (q l)) = share X G A B a r j :=
    fun j q e => Finset.sum_congr rfl fun l _ => term (q l) j l (e l)
  have total : (∑ q : Fin 2816, val_main_v26 (F := Ideal) X G A (lidx_main_v27 (ix2 a r) q)
      * val_main_v7 (F := Ideal) B (ridx_main_v27 (ix2 a r) q)) = ∑ j : Fin 4, share X G A B a r j := by
    rw [Fin.sum_univ_two_halves 1408 1408 rfl, Fin.sum_univ_two_halves 704 704 rfl, Fin.sum_univ_two_halves 704 704 rfl,
      Fin.sum_univ_four, add_assoc (share X G A B a r 0 + share X G A B a r 1)]
    refine congrArg₂ (· + ·) (congrArg₂ (· + ·) (chunk 0 _ fun l => ?_) (chunk 1 _ fun l => ?_))
      (congrArg₂ (· + ·) (chunk 2 _ fun l => ?_) (chunk 3 _ fun l => ?_))
    · show l.val = 704 * 0 + l.val; omega
    · show 704 + l.val = 704 * 1 + l.val; omega
    · show 1408 + l.val = 704 * 2 + l.val; omega
    · show 1408 + (704 + l.val) = 704 * 3 + l.val; omega
  unfold res
  rw [total]
  simp only [val_main_cst_2_apply, pointwise]

/-- A chunk of the reference's gate. -/
theorem gates_ref (j : Fin 4) (a : Fin 4096) (l : Fin 704) :
    val_main_v34 (F := Ideal) X G A (ix3 j a l) = prj X G A a ⟨j.val, by omega⟩ l := by
  have ha := a.isLt
  have hj := j.isLt
  have hl := l.isLt
  rw [val_main_v34_apply, Ideal.truncf_def, val_main_v33_apply, idx3 (idx_main_v33 (ix3 j a l)) a j l rfl rfl rfl,
    val_main_v32_apply, idx2 (idx_main_v32 (ix3 a j l)) a ⟨704 * j.val + l.val, by omega⟩
      (by show ((a.val * 4 + j.val) * 704 + l.val) / 2816 = a.val; omega)
      (by show ((a.val * 4 + j.val) * 704 + l.val) % 2816 = 704 * j.val + l.val; omega)]
  exact gate_ref X G A a _ ⟨j.val, by omega⟩ l rfl

/-- A chunk of the reference's other factor. -/
theorem ups_ref (j : Fin 4) (a : Fin 4096) (l : Fin 704) :
    val_main_v37 (F := Ideal) X G A (ix3 j a l) = prj X G A a ⟨j.val + 4, by omega⟩ l := by
  have ha := a.isLt
  have hj := j.isLt
  have hl := l.isLt
  rw [val_main_v37_apply, Ideal.truncf_def, val_main_v36_apply, idx3 (idx_main_v36 (ix3 j a l)) a j l rfl rfl rfl,
    val_main_v35_apply, idx2 (idx_main_v35 (ix3 a j l)) a ⟨704 * j.val + l.val, by omega⟩
      (by show ((a.val * 4 + j.val) * 704 + l.val) / 2816 = a.val; omega)
      (by show ((a.val * 4 + j.val) * 704 + l.val) % 2816 = 704 * j.val + l.val; omega)]
  exact up_ref X G A a _ ⟨j.val + 4, by omega⟩ l (by show 2816 + (704 * j.val + l.val) = 704 * (j.val + 4) + l.val; omega)

/-- A chunk of the reference's activations. -/
theorem acts_ref (j : Fin 4) (a : Fin 4096) (l : Fin 704) :
    val_main_v40 (F := Ideal) X G A (ix3 j a l) = act X G A a j l := by
  have ha := a.isLt
  have hj := j.isLt
  have hl := l.isLt
  rw [val_main_v40_apply, Ideal.truncf_def, val_main_v39_apply, idx3 (idx_main_v39 (ix3 j a l)) a j l rfl rfl rfl,
    val_main_v38_apply, idx2 (idx_main_v38 (ix3 a j l)) a ⟨704 * j.val + l.val, by omega⟩
      (by show ((a.val * 4 + j.val) * 704 + l.val) / 2816 = a.val; omega)
      (by show ((a.val * 4 + j.val) * 704 + l.val) % 2816 = 704 * j.val + l.val; omega)]
  exact act_ref X G A a _ j l rfl

end Results

end Cert.Reference3Ideal.Fwd
-- ==== Proof.Backward.lean ====
module
/-
  One grid point of the feed-forward's backward launch. The first point of a block of tokens halves the incoming gradient,
  keeps it in scratch memory and in the result, and clears the accumulator; every point takes one slice of the hidden columns,
  the rows in two halves: it forms the gradients of the slice's two projections and adds what they send back to the
  normalised rows into the accumulator; the last point sends the accumulator through the normalisation and adds the block's
  share of the gain's gradient.
-/

public import proofs.«01_k».proof.Proof.Gen.Kernel4Ideal.Frame
public import proofs.«01_k».proof.Proof.Gen.Kernel4Ideal.Skeleton
public import Idealize.ShloMosaic.Lib.VecWindow

@[expose] public section

noncomputable section

namespace Cert.Kernel4Ideal.Bwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (UR sig nD τ) ℕ

/-- The upper 256 rows. -/
def top {e : EltTy} (x : Vec F S512x1024 e) : Vec F S256x1024 e := window x ![0, 0] S256x1024.size inb_S512x1024_S256x1024_0_0
/-- The lower 256 rows. -/
def bot {e : EltTy} (x : Vec F S512x1024 e) : Vec F S256x1024 e := window x ![256, 0] S256x1024.size inb_S512x1024_S256x1024_256_0
/-- A block of 512 rows from its two halves. -/
def stack (a b : Vec F S1x256x704 .bf16) : Vec F S1x512x704 .bf16 :=
  put (put (fun _ => Scalar.ofBits .bf16 0x0000#16) ![0, 0, 0] S1x256x704.size a) ![0, 256, 0] S1x256x704.size b

/-- The two halves cover the block, whatever it held. -/
theorem stack_of (d : Vec F S1x512x704 .bf16) (a b : Vec F S1x256x704 .bf16) :
    put (put d ![0, 0, 0] S1x256x704.size a) ![0, 256, 0] S1x256x704.size b = stack a b := by
  unfold stack
  funext y
  unfold put
  by_cases h : ∀ k, (![0, 256, 0] : Fin 3 → ℕ) k ≤ (y k).val ∧ (y k).val < (![0, 256, 0] : Fin 3 → ℕ) k + S1x256x704.size k
  · rw [dif_pos h, dif_pos h]
  · rw [dif_neg h, dif_neg h]
    have h' : ∀ k, (![0, 0, 0] : Fin 3 → ℕ) k ≤ (y k).val ∧ (y k).val < (![0, 0, 0] : Fin 3 → ℕ) k + S1x256x704.size k := by
      have h0 : (y 0).val < 1 := (y 0).isLt
      have h1 : (y 1).val < 512 := (y 1).isLt
      have h2 : (y 2).val < 704 := (y 2).isLt
      have hn : ¬ 256 ≤ (y 1).val := fun hc => h fun k => by
        match k with
        | ⟨0, _⟩ => exact ⟨Nat.zero_le _, by change (y 0).val < 0 + 1; omega⟩
        | ⟨1, _⟩ => exact ⟨hc, by change (y 1).val < 256 + 256; omega⟩
        | ⟨2, _⟩ => exact ⟨Nat.zero_le _, by change (y 2).val < 0 + 704; omega⟩
      intro k
      match k with
      | ⟨0, _⟩ => exact ⟨Nat.zero_le _, by change (y 0).val < 0 + 1; omega⟩
      | ⟨1, _⟩ => exact ⟨Nat.zero_le _, by change (y 1).val < 0 + 256; omega⟩
      | ⟨2, _⟩ => exact ⟨Nat.zero_le _, by change (y 2).val < 0 + 704; omega⟩
    rw [dif_pos h', dif_pos h']

/-- A whole block of rows from its two halves. -/
def pile (a b : Vec F S256x1024 .f32) : Vec F S512x1024 .f32 :=
  put (put (fun _ => Scalar.ofBits .f32 0x00000000#32) ![0, 0] S256x1024.size a) ![256, 0] S256x1024.size b

/-- The two halves cover it, whatever it held. -/
theorem pile_of (d : Vec F S512x1024 .f32) (a b : Vec F S256x1024 .f32) :
    put (put d ![0, 0] S256x1024.size a) ![256, 0] S256x1024.size b = pile a b := by
  unfold pile
  funext y
  unfold put
  by_cases h : ∀ k, (![256, 0] : Fin 2 → ℕ) k ≤ (y k).val ∧ (y k).val < (![256, 0] : Fin 2 → ℕ) k + S256x1024.size k
  · rw [dif_pos h, dif_pos h]
  · rw [dif_neg h, dif_neg h]
    have h' : ∀ k, (![0, 0] : Fin 2 → ℕ) k ≤ (y k).val ∧ (y k).val < (![0, 0] : Fin 2 → ℕ) k + S256x1024.size k := by
      have h0 : (y 0).val < 512 := (y 0).isLt
      have h1 : (y 1).val < 1024 := (y 1).isLt
      have hn : ¬ 256 ≤ (y 0).val := fun hc => h fun k => by
        match k with
        | ⟨0, _⟩ => exact ⟨hc, by change (y 0).val < 256 + 256; omega⟩
        | ⟨1, _⟩ => exact ⟨Nat.zero_le _, by change (y 1).val < 0 + 1024; omega⟩
      intro k
      match k with
      | ⟨0, _⟩ => exact ⟨Nat.zero_le _, by change (y 0).val < 0 + 256; omega⟩
      | ⟨1, _⟩ => exact ⟨Nat.zero_le _, by change (y 1).val < 0 + 1024; omega⟩
    rw [dif_pos h', dif_pos h']

/-- The upper 256 rows of a slice. -/
def topz (z : Vec F S1x512x704 .bf16) : Vec F S1x256x704 .bf16 := window z ![0, 0, 0] S1x256x704.size inb_S1x512x704_S1x256x704_0_0_0
/-- The lower 256 rows of a slice. -/
def botz (z : Vec F S1x512x704 .bf16) : Vec F S1x256x704 .bf16 := window z ![0, 256, 0] S1x256x704.size inb_S1x512x704_S1x256x704_0_256_0

/-- The gradient of the gate's slice, lower rows. -/
def lowGate (y : Vec F S512x1024 .bf16) (zg zu : Vec F S1x512x704 .bf16) (wo : Vec F S2x352x1024 .bf16) : Vec F S1x256x704 .bf16 :=
  k0_pay25 (k0_pay18 (k0_pay9 wo) (bot y)) (k0_pay19 (botz zg)) (k0_pay20 (botz zu)) (k0_pay21 (botz zg)) (Scalar.ofBits .f32 0x3F800000#32)
/-- The gradient of the other factor's slice, lower rows. -/
def lowUp (y : Vec F S512x1024 .bf16) (zg : Vec F S1x512x704 .bf16) (wo : Vec F S2x352x1024 .bf16) : Vec F S1x256x704 .bf16 :=
  k0_pay26 (k0_pay18 (k0_pay9 wo) (bot y)) (k0_pay19 (botz zg)) (k0_pay21 (botz zg)) (Scalar.ofBits .f32 0x3F800000#32)
/-- The accumulator's upper rows after adding the slice's share. -/
def highAcc (y : Vec F S512x1024 .bf16) (zg zu : Vec F S1x512x704 .bf16) (wg wu : Vec F S1x1x1024x704 .bf16) (wo : Vec F S2x352x1024 .bf16)
    (a : Vec F S512x1024 .f32) : Vec F S256x1024 .f32 :=
  k0_pay17 (k0_pay13 wo (top y) (topz zg) (topz zu)) (k0_pay14 wo (top y) (topz zg)) (top a) wg wu
/-- The accumulator's lower rows, likewise. -/
def lowAcc (y : Vec F S512x1024 .bf16) (zg zu : Vec F S1x512x704 .bf16) (wg wu : Vec F S1x1x1024x704 .bf16) (wo : Vec F S2x352x1024 .bf16)
    (a : Vec F S512x1024 .f32) : Vec F S256x1024 .f32 :=
  k0_pay27 (k0_pay18 (k0_pay9 wo) (bot y)) (k0_pay19 (botz zg)) (k0_pay20 (botz zu)) (k0_pay21 (botz zg)) (Scalar.ofBits .f32 0x3F800000#32)
    (bot a) wg wu

/-- The gradient of the gate's slice. -/
def gateOf (y : Vec F S512x1024 .bf16) (zg zu : Vec F S1x512x704 .bf16) (wo : Vec F S2x352x1024 .bf16) : Vec F S1x512x704 .bf16 :=
  stack (k0_pay15 wo (top y) (topz zg) (topz zu)) (lowGate y zg zu wo)
/-- The gradient of the other factor's slice. -/
def upOf (y : Vec F S512x1024 .bf16) (zg : Vec F S1x512x704 .bf16) (wo : Vec F S2x352x1024 .bf16) : Vec F S1x512x704 .bf16 :=
  stack (k0_pay16 (k0_pay14 wo (top y) (topz zg))) (lowUp y zg wo)
/-- The accumulator after adding the slice's share. -/
def accOf (y : Vec F S512x1024 .bf16) (zg zu : Vec F S1x512x704 .bf16) (wg wu : Vec F S1x1x1024x704 .bf16) (wo : Vec F S2x352x1024 .bf16)
    (a : Vec F S512x1024 .f32) : Vec F S512x1024 .f32 :=
  pile (highAcc y zg zu wg wu wo a) (lowAcc y zg zu wg wu wo a)

/-- The halved gradient in scratch memory, as the point's products find it. -/
def yIn (i : grid0.Coords) (o : Vec F S512x1024 .f32) (y : Vec F S512x1024 .bf16) : Vec F S512x1024 .bf16 :=
  if k0_cond1 i = 1#1 then k0_pay7 o else y
/-- The halved gradient in the result's block. -/
def rIn (i : grid0.Coords) (o : Vec F S512x1024 .f32) (r : Vec F S512x1024 .bf16) : Vec F S512x1024 .bf16 :=
  if k0_cond1 i = 1#1 then k0_pay6 o else r
/-- The accumulator, as the point's products find it. -/
def aIn (i : grid0.Coords) (a : Vec F S512x1024 .f32) : Vec F S512x1024 .f32 :=
  if k0_cond1 i = 1#1 then k0_pay8 else a
/-- The tokens' gradient after the point. -/
def dOut (i : grid0.Coords) (a x : Vec F S512x1024 .f32) (g : Vec F S1x1024 .f32) (o d : Vec F S512x1024 .f32) : Vec F S512x1024 .f32 :=
  if k0_cond2 i = 1#1 then k0_pay4 a x g o else d
/-- The gain's gradient where the first block of tokens sets it. -/
def nSet (i : grid0.Coords) (a x : Vec F S512x1024 .f32) (n : Vec F S1x1024 .f32) : Vec F S1x1024 .f32 :=
  if k0_cond3 i = 1#1 then k0_pay3 a x else n
/-- The gain's gradient where a later block adds to it. -/
def nAdd (i : grid0.Coords) (a x : Vec F S512x1024 .f32) (n : Vec F S1x1024 .f32) : Vec F S1x1024 .f32 :=
  if k0_cond4 i = 1#1 then k0_pay5 a x n else n
/-- The gain's gradient after the point. -/
def nOut (i : grid0.Coords) (a x : Vec F S512x1024 .f32) (n : Vec F S1x1024 .f32) : Vec F S1x1024 .f32 :=
  if k0_cond2 i = 1#1 then nAdd i a x (nSet i a x n) else n

section Reads
variable {κ : Kind} {sp : Space} (v : View sig κ sp S512x1024 .bf16) (u : View sig κ sp S512x1024 .f32)
  (w : View sig κ sp S1x512x704 .bf16)

/-- The upper rows of a block, read out of memory. -/
theorem read_top {e : EltTy} {z : View sig κ sp S512x1024 e} {f : z.ty.Contents (Elt F)} {h : Vec F S512x1024 e}
    (hf : z.read (Elt F) f = h) :
    z.readAt (Elt F) (Rect.unit (s := S512x1024) ![0, 0] S256x1024.size inb_S512x1024_S256x1024_0_0).toLoadRect f = top h := by
  subst hf; exact View.readAt_unit z f _ rfl _
/-- The lower rows, likewise. -/
theorem read_bot {e : EltTy} {z : View sig κ sp S512x1024 e} {f : z.ty.Contents (Elt F)} {h : Vec F S512x1024 e}
    (hf : z.read (Elt F) f = h) :
    z.readAt (Elt F) (Rect.unit (s := S512x1024) ![256, 0] S256x1024.size inb_S512x1024_S256x1024_256_0).toLoadRect f = bot h := by
  subst hf; exact View.readAt_unit z f _ rfl _
/-- The upper rows of a slice, read out of memory. -/
theorem read_topz {f : w.ty.Contents (Elt F)} {h : Vec F S1x512x704 .bf16} (hf : w.read (Elt F) f = h) :
    w.readAt (Elt F) (Rect.unit (s := S1x512x704) ![0, 0, 0] S1x256x704.size inb_S1x512x704_S1x256x704_0_0_0).toLoadRect f = topz h := by
  subst hf; exact View.readAt_unit w f _ rfl _
/-- The lower rows of a slice, likewise. -/
theorem read_botz {f : w.ty.Contents (Elt F)} {h : Vec F S1x512x704 .bf16} (hf : w.read (Elt F) f = h) :
    w.readAt (Elt F) (Rect.unit (s := S1x512x704) ![0, 256, 0] S1x256x704.size inb_S1x512x704_S1x256x704_0_256_0).toLoadRect f = botz h := by
  subst hf; exact View.readAt_unit w f _ rfl _
/-- Two halves written are the block. -/
theorem read_stack (f : w.ty.Contents (Elt F)) (a b a' b' : Vec F S1x256x704 .bf16) (ha : a = a') (hb : b = b') :
    w.read (Elt F) (w.writes (Elt F) f [⟨Rect.unit (s := S1x512x704) ![0, 256, 0] S1x256x704.size inb_S1x512x704_S1x256x704_0_256_0, b⟩,
      ⟨Rect.unit (s := S1x512x704) ![0, 0, 0] S1x256x704.size inb_S1x512x704_S1x256x704_0_0_0, a⟩]) = stack a' b' := by
  subst ha; subst hb
  rw [View.read_writes_cons_put w f _ _ _ rfl, View.read_writes_cons_put w f _ _ _ rfl]
  exact stack_of _ a b
/-- Two halves written, and whatever was before them, are the whole. -/
theorem read_pile (f : u.ty.Contents (Elt F)) (a b a' b' : Vec F S256x1024 .f32) (L : List (View.Piece (Elt F) S512x1024 .f32))
    (ha : a = a') (hb : b = b') :
    u.read (Elt F) (u.writes (Elt F) f (⟨Rect.unit (s := S512x1024) ![256, 0] S256x1024.size inb_S512x1024_S256x1024_256_0, b⟩
      :: ⟨Rect.unit (s := S512x1024) ![0, 0] S256x1024.size inb_S512x1024_S256x1024_0_0, a⟩ :: L)) = pile a' b' := by
  subst ha; subst hb
  rw [View.read_writes_cons_put u f _ _ _ rfl, View.read_writes_cons_put u f _ _ _ rfl]
  exact pile_of _ a b
/-- The lower rows after the upper were written. -/
theorem read_bot_over {f : u.ty.Contents (Elt F)} {a : Vec F S256x1024 .f32} {L : List (View.Piece (Elt F) S512x1024 .f32)}
    {h : Vec F S512x1024 .f32} (hf : u.read (Elt F) (u.writes (Elt F) f L) = h) :
    u.readAt (Elt F) (Rect.unit (s := S512x1024) ![256, 0] S256x1024.size inb_S512x1024_S256x1024_256_0).toLoadRect
      (u.writes (Elt F) f (⟨Rect.unit (s := S512x1024) ![0, 0] S256x1024.size inb_S512x1024_S256x1024_0_0, a⟩ :: L)) = bot h := by
  subst hf
  rw [read_bot rfl, View.read_writes_cons_put u f _ _ _ rfl]
  exact VecWindow.window_put_of_disjoint (s := S512x1024) _ ![0, 0] S256x1024.size ![256, 0] S256x1024.size inb_S512x1024_S256x1024_256_0 a 0
    (.inr (by decide))
end Reads

section Congr
variable {y : Vec F S512x1024 .bf16} {zg zu : Vec F S1x512x704 .bf16} {wg wu : Vec F S1x1x1024x704 .bf16} {wo : Vec F S2x352x1024 .bf16}
  {a : Vec F S512x1024 .f32} {y' : Vec F S256x1024 .bf16} {a' : Vec F S256x1024 .f32}

/-- The gate's upper rows from the rows read. -/
theorem gate_top (hy : y' = top y) : k0_pay15 wo y' (topz zg) (topz zu) = k0_pay15 wo (top y) (topz zg) (topz zu) := by rw [hy]
/-- The gate's lower rows. -/
theorem gate_bot (hy : y' = bot y) : k0_pay25 (k0_pay18 (k0_pay9 wo) y') (k0_pay19 (botz zg)) (k0_pay20 (botz zu)) (k0_pay21 (botz zg))
    (Scalar.ofBits .f32 0x3F800000#32) = lowGate y zg zu wo := by rw [hy]; rfl
/-- The other factor's upper rows. -/
theorem up_top (hy : y' = top y) : k0_pay16 (k0_pay14 wo y' (topz zg)) = k0_pay16 (k0_pay14 wo (top y) (topz zg)) := by rw [hy]
/-- The other factor's lower rows. -/
theorem up_bot (hy : y' = bot y) : k0_pay26 (k0_pay18 (k0_pay9 wo) y') (k0_pay19 (botz zg)) (k0_pay21 (botz zg))
    (Scalar.ofBits .f32 0x3F800000#32) = lowUp y zg wo := by rw [hy]; rfl
/-- The accumulator's upper rows. -/
theorem acc_top (hy : y' = top y) (ha : a' = top a) :
    k0_pay17 (k0_pay13 wo y' (topz zg) (topz zu)) (k0_pay14 wo y' (topz zg)) a' wg wu = highAcc y zg zu wg wu wo a := by rw [hy, ha]; rfl
/-- The accumulator's lower rows. -/
theorem acc_bot (hy : y' = bot y) (ha : a' = bot a) :
    k0_pay27 (k0_pay18 (k0_pay9 wo) y') (k0_pay19 (botz zg)) (k0_pay20 (botz zu)) (k0_pay21 (botz zg)) (Scalar.ofBits .f32 0x3F800000#32)
      a' wg wu = lowAcc y zg zu wg wu wo a := by rw [hy, ha]; rfl
end Congr

section Body
variable (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x1x1024x704 .bf16) (harg7 : arg7.IsWhole) (arg8 : Memref sig .tc .vmem S1x1x1024x704 .bf16) (harg8 : arg8.IsWhole) (arg9 : Memref sig .tc .vmem S2x352x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
variable (c : Dev nD)

set_option maxHeartbeats 4000000 in
set_option maxRecDepth 65536 in
/-- The run of one grid point. -/
theorem run_body (i : grid0.Coords) (o x : Vec F S512x1024 .f32) (g : Vec F S1x1024 .f32) (zg zu : Vec F S1x512x704 .bf16)
    (wg wu : Vec F S1x1x1024x704 .bf16) (wo : Vec F S2x352x1024 .bf16) (d : Vec F S512x1024 .f32) (r y : Vec F S512x1024 .bf16)
    (n : Vec F S1x1024 .f32) (a : Vec F S512x1024 .f32) (K : PUnit → sProp 𝕄) :
    iprop(owns (c : Thread nD τ) arg2 fullShare o ∗ owns (c : Thread nD τ) arg3 fullShare x
        ∗ owns (c : Thread nD τ) arg4 fullShare g ∗ owns (c : Thread nD τ) arg5 fullShare zg
        ∗ owns (c : Thread nD τ) arg6 fullShare zu ∗ owns (c : Thread nD τ) arg7 fullShare wg
        ∗ owns (c : Thread nD τ) arg8 fullShare wu ∗ owns (c : Thread nD τ) arg9 fullShare wo
        ∗ owns (c : Thread nD τ) arg10 fullShare d ∗ owns (c : Thread nD τ) arg11 fullShare r
        ∗ (∃ e, owns (c : Thread nD τ) arg12 fullShare e) ∗ (∃ e, owns (c : Thread nD τ) arg13 fullShare e)
        ∗ owns (c : Thread nD τ) arg14 fullShare n
        ∗ owns (c : Thread nD τ) arg15 fullShare y ∗ owns (c : Thread nD τ) arg16 fullShare a
        ∗ (owns (c : Thread nD τ) arg2 fullShare o ∗ owns (c : Thread nD τ) arg3 fullShare x
          ∗ owns (c : Thread nD τ) arg4 fullShare g ∗ owns (c : Thread nD τ) arg5 fullShare zg
          ∗ owns (c : Thread nD τ) arg6 fullShare zu ∗ owns (c : Thread nD τ) arg7 fullShare wg
          ∗ owns (c : Thread nD τ) arg8 fullShare wu ∗ owns (c : Thread nD τ) arg9 fullShare wo
          ∗ owns (c : Thread nD τ) arg10 fullShare (dOut i (accOf (yIn i o y) zg zu wg wu wo (aIn i a)) x g o d)
          ∗ owns (c : Thread nD τ) arg11 fullShare (rIn i o r)
          ∗ owns (c : Thread nD τ) arg12 fullShare (gateOf (yIn i o y) zg zu wo)
          ∗ owns (c : Thread nD τ) arg13 fullShare (upOf (yIn i o y) zg wo)
          ∗ owns (c : Thread nD τ) arg14 fullShare (nOut i (accOf (yIn i o y) zg zu wg wu wo (aIn i a)) x n)
          ∗ owns (c : Thread nD τ) arg15 fullShare (yIn i o y)
          ∗ owns (c : Thread nD τ) arg16 fullShare (accOf (yIn i o y) zg zu wg wu wo (aIn i a)) -∗ K ⟨⟩))
      ⊢ wp frame (wpE (defs₀ (F := F)) Variants.none c none) Set.univ (cc0_ffn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_ffn_bwd_eq_skeleton]
  unfold cc0_ffn_bwd_skel
  rw [k0_part1_eq_skeleton, k0_part2_eq_skeleton, k0_part3_eq_skeleton, k0_part4_eq_skeleton]
  unfold k0_part1_skel k0_part2_skel k0_part3_skel k0_part4_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%f9, %h9, H9⟩, ⟨%f10, %h10, H10⟩, ⟨%f11, %h11, H11⟩, ⟨%e12, %f12, -, H12⟩, ⟨%e13, %f13, -, H13⟩, ⟨%f14, %h14, H14⟩,
    ⟨%f15, %h15, H15⟩, ⟨%f16, %h16, H16⟩, Hk⟩
  have hx2 : arg2.view.readAt (Elt F) (Rect.unit (s := S512x1024) ![0, 0] S512x1024.size inb_S512x1024_S512x1024_0_0).toLoadRect f2 = o :=
    (View.readAt_full _ _ _).trans h2
  have hx3 : arg3.view.readAt (Elt F) (Rect.unit (s := S512x1024) ![0, 0] S512x1024.size inb_S512x1024_S512x1024_0_0).toLoadRect f3 = x :=
    (View.readAt_full _ _ _).trans h3
  have hx4 : arg4.view.readAt (Elt F) (Rect.unit (s := S1x1024) ![0, 0] S1x1024.size inb_S1x1024_S1x1024_0_0).toLoadRect f4 = g :=
    (View.readAt_full _ _ _).trans h4
  have hx7 : arg7.view.readAt (Elt F) (Rect.unit (s := S1x1x1024x704) ![0, 0, 0, 0] S1x1x1024x704.size inb_S1x1x1024x704_S1x1x1024x704_0_0_0_0).toLoadRect f7 = wg :=
    (View.readAt_full _ _ _).trans h7
  have hx8 : arg8.view.readAt (Elt F) (Rect.unit (s := S1x1x1024x704) ![0, 0, 0, 0] S1x1x1024x704.size inb_S1x1x1024x704_S1x1x1024x704_0_0_0_0).toLoadRect f8 = wu :=
    (View.readAt_full _ _ _).trans h8
  have hx9 : arg9.view.readAt (Elt F) (Rect.unit (s := S2x352x1024) ![0, 0, 0] S2x352x1024.size inb_S2x352x1024_S2x352x1024_0_0_0).toLoadRect f9 = wo :=
    (View.readAt_full _ _ _).trans h9
  have h5t := read_topz _ h5
  have h5b := read_botz _ h5
  have h6t := read_topz _ h6
  have h6b := read_botz _ h6
  by_cases hc : k0_cond1 i = 1#1
  · sl_exec (disch := (first | sl_exact hc))
    have hY : yIn i o y = k0_pay7 o := if_pos hc
    have hR : rIn i o r = k0_pay6 o := if_pos hc
    have hA : aIn i a = k0_pay8 := if_pos hc
    rw [hY, hR, hA]
    have hr15 : ∀ f : arg15.view.ty.Contents (Elt F), arg15.view.read (Elt F) (arg15.view.writes (Elt F) f [⟨Rect.unit (s := S512x1024) ![0, 0] S512x1024.size inb_S512x1024_S512x1024_0_0, k0_pay7 o⟩]) = k0_pay7 o :=
      fun f => View.read_writes_full _ _ _ _ _
    have hr16 : ∀ f : arg16.view.ty.Contents (Elt F), arg16.view.read (Elt F) (arg16.view.writes (Elt F) f [⟨Rect.unit (s := S512x1024) ![0, 0] S512x1024.size inb_S512x1024_S512x1024_0_0, k0_pay8⟩]) = k0_pay8 :=
      fun f => View.read_writes_full _ _ _ _ _
    sl_step
    iapply Hk
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]; · iexists f7; isplitr; · ipureintro; exact h7
                    iexact H7
    isplitl [H8]; · iexists f8; isplitr; · ipureintro; exact h8
                    iexact H8
    isplitl [H9]; · iexists f9; isplitr; · ipureintro; exact h9
                    iexact H9
    isplitl [H10]
    · iexists _; isplitr
      swap; · iexact H10
      ipureintro
      unfold dOut
      by_cases he : k0_cond2 i = 1#1
      · rw [dif_pos he, if_pos he]
        exact (View.read_writes_full _ _ _ _ _).trans (congrArg (k0_pay4 · x g o) ((View.readAt_full _ _ _).trans
          (read_pile _ _ _ _ _ _ _ (acc_top (read_top (hr15 _)) (read_top (hr16 _))) (acc_bot (read_bot (hr15 _)) (read_bot_over _ (hr16 _))))))
      · rw [dif_neg he, if_neg he]; exact h10
    isplitl [H11]; · iexists _; isplitr
                     swap; · iexact H11
                     ipureintro; exact View.read_writes_full _ _ _ _ _
    isplitl [H12]; · iexists _; isplitr
                     swap; · iexact H12
                     ipureintro; exact read_stack _ _ _ _ _ _ (gate_top (read_top (hr15 _))) (gate_bot (read_bot (hr15 _)))
    isplitl [H13]; · iexists _; isplitr
                     swap; · iexact H13
                     ipureintro; exact read_stack _ _ _ _ _ _ (up_top (read_top (hr15 _))) (up_bot (read_bot (hr15 _)))
    isplitl [H14]
    · iexists _; isplitr
      swap; · iexact H14
      ipureintro
      unfold nOut
      by_cases he : k0_cond2 i = 1#1
      · rw [dif_pos he, if_pos he]
        unfold nAdd
        by_cases hd : k0_cond4 i = 1#1
        · rw [dif_pos hd, if_pos hd]
          refine (View.read_writes_full _ _ _ _ _).trans (congrArg₂ (k0_pay5 · x ·) ((View.readAt_full _ _ _).trans
            (read_pile _ _ _ _ _ _ _ (acc_top (read_top (hr15 _)) (read_top (hr16 _))) (acc_bot (read_bot (hr15 _)) (read_bot_over _ (hr16 _))))) ((View.readAt_full _ _ _).trans ?_))
          unfold nSet
          by_cases ht : k0_cond3 i = 1#1
          · rw [dif_pos ht, if_pos ht]
            exact (View.read_writes_full _ _ _ _ _).trans (congrArg (k0_pay3 · x) ((View.readAt_full _ _ _).trans
              (read_pile _ _ _ _ _ _ _ (acc_top (read_top (hr15 _)) (read_top (hr16 _))) (acc_bot (read_bot (hr15 _)) (read_bot_over _ (hr16 _))))))
          · rw [dif_neg ht, if_neg ht]; exact h14
        · rw [dif_neg hd, if_neg hd]
          unfold nSet
          by_cases ht : k0_cond3 i = 1#1
          · rw [dif_pos ht, if_pos ht]
            exact (View.read_writes_full _ _ _ _ _).trans (congrArg (k0_pay3 · x) ((View.readAt_full _ _ _).trans
              (read_pile _ _ _ _ _ _ _ (acc_top (read_top (hr15 _)) (read_top (hr16 _))) (acc_bot (read_bot (hr15 _)) (read_bot_over _ (hr16 _))))))
          · rw [dif_neg ht, if_neg ht]; exact h14
      · rw [dif_neg he, if_neg he]; exact h14
    isplitl [H15]; · iexists _; isplitr
                     swap; · iexact H15
                     ipureintro; exact hr15 _
    iexists _; isplitr
    swap; · iexact H16
    ipureintro; exact read_pile _ _ _ _ _ _ _ (acc_top (read_top (hr15 _)) (read_top (hr16 _))) (acc_bot (read_bot (hr15 _)) (read_bot_over _ (hr16 _)))
  · sl_exec (disch := (first | sl_exact hc))
    have hY : yIn i o y = y := if_neg hc
    have hR : rIn i o r = r := if_neg hc
    have hA : aIn i a = a := if_neg hc
    rw [hY, hR, hA]
    sl_step
    iapply Hk
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]; · iexists f7; isplitr; · ipureintro; exact h7
                    iexact H7
    isplitl [H8]; · iexists f8; isplitr; · ipureintro; exact h8
                    iexact H8
    isplitl [H9]; · iexists f9; isplitr; · ipureintro; exact h9
                    iexact H9
    isplitl [H10]
    · iexists _; isplitr
      swap; · iexact H10
      ipureintro
      unfold dOut
      by_cases he : k0_cond2 i = 1#1
      · rw [dif_pos he, if_pos he]
        exact (View.read_writes_full _ _ _ _ _).trans (congrArg (k0_pay4 · x g o) ((View.readAt_full _ _ _).trans
          (read_pile _ _ _ _ _ _ _ (acc_top (read_top h15) (read_top h16)) (acc_bot (read_bot h15) (read_bot h16)))))
      · rw [dif_neg he, if_neg he]; exact h10
    isplitl [H11]; · iexists f11; isplitr; · ipureintro; exact h11
                     iexact H11
    isplitl [H12]; · iexists _; isplitr
                     swap; · iexact H12
                     ipureintro; exact read_stack _ _ _ _ _ _ (gate_top (read_top h15)) (gate_bot (read_bot h15))
    isplitl [H13]; · iexists _; isplitr
                     swap; · iexact H13
                     ipureintro; exact read_stack _ _ _ _ _ _ (up_top (read_top h15)) (up_bot (read_bot h15))
    isplitl [H14]
    · iexists _; isplitr
      swap; · iexact H14
      ipureintro
      unfold nOut
      by_cases he : k0_cond2 i = 1#1
      · rw [dif_pos he, if_pos he]
        unfold nAdd
        by_cases hd : k0_cond4 i = 1#1
        · rw [dif_pos hd, if_pos hd]
          refine (View.read_writes_full _ _ _ _ _).trans (congrArg₂ (k0_pay5 · x ·) ((View.readAt_full _ _ _).trans
            (read_pile _ _ _ _ _ _ _ (acc_top (read_top h15) (read_top h16)) (acc_bot (read_bot h15) (read_bot h16)))) ((View.readAt_full _ _ _).trans ?_))
          unfold nSet
          by_cases ht : k0_cond3 i = 1#1
          · rw [dif_pos ht, if_pos ht]
            exact (View.read_writes_full _ _ _ _ _).trans (congrArg (k0_pay3 · x) ((View.readAt_full _ _ _).trans
              (read_pile _ _ _ _ _ _ _ (acc_top (read_top h15) (read_top h16)) (acc_bot (read_bot h15) (read_bot h16)))))
          · rw [dif_neg ht, if_neg ht]; exact h14
        · rw [dif_neg hd, if_neg hd]
          unfold nSet
          by_cases ht : k0_cond3 i = 1#1
          · rw [dif_pos ht, if_pos ht]
            exact (View.read_writes_full _ _ _ _ _).trans (congrArg (k0_pay3 · x) ((View.readAt_full _ _ _).trans
              (read_pile _ _ _ _ _ _ _ (acc_top (read_top h15) (read_top h16)) (acc_bot (read_bot h15) (read_bot h16)))))
          · rw [dif_neg ht, if_neg ht]; exact h14
      · rw [dif_neg he, if_neg he]; exact h14
    isplitl [H15]; · iexists f15; isplitr; · ipureintro; exact h15
                     iexact H15
    iexists _; isplitr
    swap; · iexact H16
    ipureintro; exact read_pile _ _ _ _ _ _ _ (acc_top (read_top h15) (read_top h16)) (acc_bot (read_bot h15) (read_bot h16))

end Body

end Cert.Kernel4Ideal.Bwd

end
-- ==== Proof.BackwardRun.lean ====
module
/-
  The launch of the feed-forward's backward pass: what each point of the eight by four grid leaves, the body's obligation, the
  run of the program and its frame. The halved gradient and the accumulator live in scratch memory across the four points of a
  block of tokens; the gain's gradient lives in its result's block across the whole grid.
-/

public import proofs.«01_k».proof.Proof.Backward
public import proofs.«01_k».proof.Proof.Gen.Kernel4Ideal.Points
public import Idealize.ShloMosaic.Lib.Pipeline.TableIdle

@[expose] public section

noncomputable section

namespace Cert.Kernel4Ideal.Bwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The first point of a point's block of tokens, and the `k`-th after it. -/
def pt (t : Fin cfg0.N) (k : ℕ) : Fin cfg0.N := ⟨(t.val - t.val % 4 + k) % 32, Nat.mod_lt _ (by decide)⟩
/-- The last point of the `b`-th block of tokens. -/
def lastPt (b : ℕ) : Fin cfg0.N := ⟨(4 * b + 3) % 32, Nat.mod_lt _ (by decide)⟩

/-- Between points of one block the first is the same. -/
theorem pt_eq (s t : Fin cfg0.N) (h : s.val + 1 = t.val) (hs : s.val % 4 ≠ 3) (k : ℕ) : pt s k = pt t k := by
  unfold pt; congr 2; omega
/-- The point itself is the `t % 4`-th. -/
theorem pt_self (t : Fin cfg0.N) : pt t (t.val % 4) = t :=
  Fin.ext (by have : t.val < 32 := t.isLt; change (t.val - t.val % 4 + t.val % 4) % 32 = t.val; omega)
/-- A last point is its block's. -/
theorem lastPt_self (t : Fin cfg0.N) (h : t.val % 4 = 3) : lastPt (t.val / 4) = t :=
  Fin.ext (by have : t.val < 32 := t.isLt; change (4 * (t.val / 4) + 3) % 32 = t.val; omega)

/-- The halved gradient of a point's block of tokens, as the scratch memory holds it. -/
def yAt (c : Dev nD) (t : Fin cfg0.N) : Vec F S512x1024 .bf16 := k0_pay7 (iblk m c 0 (pt t 0))
/-- The same in the result's block. -/
def rAt (c : Dev nD) (t : Fin cfg0.N) : Vec F S512x1024 .bf16 := k0_pay6 (iblk m c 0 (pt t 0))
/-- The accumulator after the `k`-th point of a block. -/
def accN (c : Dev nD) (t : Fin cfg0.N) : ℕ → Vec F S512x1024 .f32
  | 0 => accOf (yAt m c t) (iblk m c 3 (pt t 0)) (iblk m c 4 (pt t 0)) (iblk m c 5 (pt t 0)) (iblk m c 6 (pt t 0)) (X0_7 m c (pt t 0)) k0_pay8
  | k + 1 => accOf (yAt m c t) (iblk m c 3 (pt t (k + 1))) (iblk m c 4 (pt t (k + 1))) (iblk m c 5 (pt t (k + 1))) (iblk m c 6 (pt t (k + 1)))
      (X0_7 m c (pt t (k + 1))) (accN c t k)
/-- The accumulator after a point. -/
def accAt (c : Dev nD) (t : Fin cfg0.N) : Vec F S512x1024 .f32 := accN m c t (t.val % 4)
/-- The gain's gradient after the `b`-th block of tokens. -/
def gainN (c : Dev nD) : ℕ → Vec F S1x1024 .f32
  | 0 => k0_pay3 (accAt m c (lastPt 0)) (iblk m c 1 (lastPt 0))
  | b + 1 => k0_pay5 (accAt m c (lastPt (b + 1))) (iblk m c 1 (lastPt (b + 1))) (gainN c b)

/-- What the scratch memory holds between points. -/
def Carry (c : Dev nD) (n : ℕ) : sProp 𝕄 :=
  iprop(∃ y a, ⌜∀ s : Fin cfg0.N, s.val + 1 = n → y = yAt m c s ∧ a = accAt m c s⌝
    ∗ owns (c : Thread nD τ) (Memref.whole cc0_scratch0) fullShare y
    ∗ owns (c : Thread nD τ) (Memref.whole cc0_scratch1) fullShare a)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => X0_7 m c t
    | ⟨8, _⟩ => k0_pay4 (accAt m c t) (iblk m c 1 t) (iblk m c 2 t) (iblk m c 0 t)
    | ⟨9, _⟩ => rAt m c t
    | ⟨10, _⟩ => gateOf (yAt m c t) (iblk m c 3 t) (iblk m c 4 t) (X0_7 m c t)
    | ⟨11, _⟩ => upOf (yAt m c t) (iblk m c 3 t) (X0_7 m c t)
    | ⟨12, _⟩ => gainN m c ((t.val + 1) / 4 - 1)
  Φ t := iprop(Carry m c t.val ∗ ∃ r, prngReg c r)
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves and finds, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = k0_pay4 (accAt m c t) (iblk m c 1 t) (iblk m c 2 t) (iblk m c 0 t) := by dsimp only [dats]
theorem after0_9 (c : Dev nD) (t : Fin cfg0.N) : (dats m 0 c).after 9 t = rAt m c t := by dsimp only [dats]
theorem after0_10 (c : Dev nD) (t : Fin cfg0.N) : (dats m 0 c).after 10 t = gateOf (yAt m c t) (iblk m c 3 t) (iblk m c 4 t) (X0_7 m c t) := by dsimp only [dats]
theorem after0_11 (c : Dev nD) (t : Fin cfg0.N) : (dats m 0 c).after 11 t = upOf (yAt m c t) (iblk m c 3 t) (X0_7 m c t) := by dsimp only [dats]
theorem after0_12 (c : Dev nD) (t : Fin cfg0.N) : (dats m 0 c).after 12 t = gainN m c ((t.val + 1) / 4 - 1) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d

/-- The invariant between points, spelt out. -/
theorem Φ_eq (c : Dev nD) (t : Fin (cfg0.N + 1)) : (dats m 0 c).Φ t = iprop(Carry m c t.val ∗ ∃ r, prngReg c r) := by
  dsimp only [dats]

/-! The conditions of the body, and where a result's block is left alone and written back. -/
theorem first_at : ∀ t : Fin cfg0.N, k0_cond1 (grid0.coords t) = if t.val % 4 = 0 then 1#1 else 0#1 := by decide +kernel
theorem last_at : ∀ t : Fin cfg0.N, k0_cond2 (grid0.coords t) = if t.val % 4 = 3 then 1#1 else 0#1 := by decide +kernel
theorem set_at : ∀ t : Fin cfg0.N, k0_cond3 (grid0.coords t) = if t.val < 4 then 1#1 else 0#1 := by decide +kernel
theorem add_at : ∀ t : Fin cfg0.N, k0_cond4 (grid0.coords t) = if t.val < 4 then 0#1 else 1#1 := by decide +kernel
theorem liveAt : ∀ w : Fin cfg0.W, w.val ≠ 8 → w.val ≠ 9 → w.val ≠ 12 → ∀ t : Fin cfg0.N, cfg0.idle w (grid0.coords t) = false := by
  decide +kernel
theorem idle8 : ∀ t : Fin cfg0.N, cfg0.idle 8 (grid0.coords t) = !decide (t.val % 4 = 3) := by decide +kernel
theorem idle9 : ∀ t : Fin cfg0.N, cfg0.idle 9 (grid0.coords t) = !decide (t.val % 4 = 0) := by decide +kernel
theorem idle12 : ∀ t : Fin cfg0.N, cfg0.idle 12 (grid0.coords t) = !decide (t.val % 4 = 3) := by decide +kernel
theorem fresh9 : ∀ n, n ≤ cfg0.N → cfg0.fresh 9 n = decide (n % 4 = 0) :=
  cfg0.fresh_tab 9 (fun n => decide (n % 4 = 0)) rfl (by
    intro t
    rw [show (cfg0.win 9).flush t = decide (t.val % 4 = 3) from by
      rw [Bool.eq_iff_iff, flush0_9, decide_eq_true_iff], idle9]
    rw [Bool.eq_iff_iff]; simp only [decide_eq_true_iff, Bool.or_eq_true, Bool.and_eq_true, Bool.not_eq_true', decide_eq_false_iff_not]
    omega)
theorem fresh12 : ∀ n, n ≤ cfg0.N → cfg0.fresh 12 n = decide (n < 4 ∨ n = 32) :=
  cfg0.fresh_tab 12 (fun n => decide (n < 4 ∨ n = 32)) rfl (by
    intro t
    have hN : t.val < 32 := t.isLt
    rw [show (cfg0.win 12).flush t = decide (t.val % 32 = 31) from by
      rw [Bool.eq_iff_iff, flush0_12, decide_eq_true_iff], idle12]
    rw [Bool.eq_iff_iff]; simp only [decide_eq_true_iff, Bool.or_eq_true, Bool.and_eq_true, Bool.not_eq_true', decide_eq_false_iff_not]
    omega)

/-- Past the first point of a block the result's block holds the halved gradient. -/
theorem before0_9 (c : Dev nD) (t : Fin cfg0.N) (ht : t.val % 4 ≠ 0) (d) : (dats m 0 c).before 9 t d = rAt m c t := by
  rw [(dats m 0 c).before_out_traj 9 rfl (fun _ _ => rfl) (fun s hs _ hf => by
    rw [fresh9 _ (Nat.le_of_lt s.isLt)] at hf
    have h4 : s.val % 4 ≠ 0 := of_decide_eq_false hf
    rw [after0_9, after0_9]
    unfold rAt
    rw [pt_eq ⟨s.val - 1, by omega⟩ s (by change s.val - 1 + 1 = s.val; omega) (by change (s.val - 1) % 4 ≠ 3; omega)]) t.val t rfl d,
    fresh9 _ (Nat.le_of_lt t.isLt), decide_eq_false ht, if_neg Bool.false_ne_true, after0_9]
  unfold rAt
  rw [pt_eq ⟨t.val - 1, by omega⟩ t (by change t.val - 1 + 1 = t.val; omega) (by change (t.val - 1) % 4 ≠ 3; omega)]

/-- Past the first block of tokens the gain's gradient is what the block before left. -/
theorem before0_12 (c : Dev nD) (t : Fin cfg0.N) (ht : ¬ t.val < 4) (d) : (dats m 0 c).before 12 t d = gainN m c (t.val / 4 - 1) := by
  have hN : t.val < 32 := t.isLt
  rw [(dats m 0 c).before_out_traj 12 rfl (fun _ _ => rfl) (fun s hs hi hf => by
    rw [idle12, Bool.not_eq_true', decide_eq_false_iff_not] at hi
    rw [after0_12, after0_12]
    congr 1
    change (s.val + 1) / 4 - 1 = (s.val - 1 + 1) / 4 - 1
    omega) t.val t rfl d,
    fresh12 _ (Nat.le_of_lt t.isLt), decide_eq_false (by omega), if_neg Bool.false_ne_true, after0_12]
  congr 1
  change (t.val - 1 + 1) / 4 - 1 = t.val / 4 - 1
  omega

/-! The body's obligation on a buffer, window by window. -/
theorem leaves0_0 (c : Dev nD) (t : Fin cfg0.N) :
    (dats m 0 c).leavesExact 0 t = owns (c : Thread nD τ) (st0_0 t) fullShare ((dats m 0 c).after 0 t) := by
  unfold Dat.leavesExact; rw [liveAt 0 (by decide) (by decide) (by decide) t]
theorem leaves0_1 (c : Dev nD) (t : Fin cfg0.N) :
    (dats m 0 c).leavesExact 1 t = owns (c : Thread nD τ) (st0_1 t) fullShare ((dats m 0 c).after 1 t) := by
  unfold Dat.leavesExact; rw [liveAt 1 (by decide) (by decide) (by decide) t]
theorem leaves0_2 (c : Dev nD) (t : Fin cfg0.N) :
    (dats m 0 c).leavesExact 2 t = owns (c : Thread nD τ) (st0_2 t) fullShare ((dats m 0 c).after 2 t) := by
  unfold Dat.leavesExact; rw [liveAt 2 (by decide) (by decide) (by decide) t]
theorem leaves0_3 (c : Dev nD) (t : Fin cfg0.N) :
    (dats m 0 c).leavesExact 3 t = owns (c : Thread nD τ) (st0_3 t) fullShare ((dats m 0 c).after 3 t) := by
  unfold Dat.leavesExact; rw [liveAt 3 (by decide) (by decide) (by decide) t]
theorem leaves0_4 (c : Dev nD) (t : Fin cfg0.N) :
    (dats m 0 c).leavesExact 4 t = owns (c : Thread nD τ) (st0_4 t) fullShare ((dats m 0 c).after 4 t) := by
  unfold Dat.leavesExact; rw [liveAt 4 (by decide) (by decide) (by decide) t]
theorem leaves0_5 (c : Dev nD) (t : Fin cfg0.N) :
    (dats m 0 c).leavesExact 5 t = owns (c : Thread nD τ) (st0_5 t) fullShare ((dats m 0 c).after 5 t) := by
  unfold Dat.leavesExact; rw [liveAt 5 (by decide) (by decide) (by decide) t]
theorem leaves0_6 (c : Dev nD) (t : Fin cfg0.N) :
    (dats m 0 c).leavesExact 6 t = owns (c : Thread nD τ) (st0_6 t) fullShare ((dats m 0 c).after 6 t) := by
  unfold Dat.leavesExact; rw [liveAt 6 (by decide) (by decide) (by decide) t]
theorem leaves0_7 (c : Dev nD) (t : Fin cfg0.N) :
    (dats m 0 c).leavesExact 7 t = owns (c : Thread nD τ) (st0_7 t) fullShare ((dats m 0 c).after 7 t) := by
  unfold Dat.leavesExact; rw [liveAt 7 (by decide) (by decide) (by decide) t]
theorem leaves0_10 (c : Dev nD) (t : Fin cfg0.N) :
    (dats m 0 c).leavesExact 10 t = owns (c : Thread nD τ) (st0_10 t) fullShare ((dats m 0 c).after 10 t) := by
  unfold Dat.leavesExact; rw [liveAt 10 (by decide) (by decide) (by decide) t]
theorem leaves0_11 (c : Dev nD) (t : Fin cfg0.N) :
    (dats m 0 c).leavesExact 11 t = owns (c : Thread nD τ) (st0_11 t) fullShare ((dats m 0 c).after 11 t) := by
  unfold Dat.leavesExact; rw [liveAt 11 (by decide) (by decide) (by decide) t]

/-- The tokens' gradient: whole at a block's last point, else left as found. -/
theorem leaves0_8 (c : Dev nD) (t : Fin cfg0.N) (d) :
    owns (c : Thread nD τ) (st0_8 t) fullShare
        (dOut (grid0.coords t) (accAt m c t) (iblk m c 1 t) (iblk m c 2 t) (iblk m c 0 t) ((dats m 0 c).before 8 t d))
      ⊢ ((dats m 0 c).leavesExact 8 t : sProp 𝕄) := by
  unfold dOut
  rw [last_at]
  by_cases h : t.val % 4 = 3
  · rw [if_pos h, if_pos rfl]
    unfold Dat.leavesExact
    rw [show cfg0.idle 8 (cfg0.grid.coords t) = false from by rw [idle8, decide_eq_true h]; rfl, after0_8]
  · rw [if_neg h, if_neg (by decide), Dat.leavesExact_idle (dats m 0 c) 8 t (by rw [idle8, decide_eq_false h]; rfl)
      (by rw [← Bool.not_eq_true, flush0_8]; exact h)]
    iintro H; iexists d; iexact H

/-- The halved gradient: stored at a block's first point, then left as found, to be written back at the last. -/
theorem leaves0_9 (c : Dev nD) (t : Fin cfg0.N) (d) :
    owns (c : Thread nD τ) (st0_9 t) fullShare (rIn (grid0.coords t) (iblk m c 0 t) ((dats m 0 c).before 9 t d))
      ⊢ ((dats m 0 c).leavesExact 9 t : sProp 𝕄) := by
  unfold rIn
  rw [first_at]
  by_cases h : t.val % 4 = 0
  · rw [if_pos h, if_pos rfl]
    unfold Dat.leavesExact
    rw [show cfg0.idle 9 (cfg0.grid.coords t) = false from by rw [idle9, decide_eq_true h]; rfl, after0_9]
    unfold rAt
    rw [show pt t 0 = t from by have := pt_self t; rwa [h] at this]
  · rw [if_neg h, if_neg (by decide)]
    by_cases h3 : t.val % 4 = 3
    · unfold Dat.leavesExact
      rw [show cfg0.idle 9 (cfg0.grid.coords t) = true from by rw [idle9, decide_eq_false h]; rfl,
        show (cfg0.win 9).flush t = true from (flush0_9 t).mpr h3, before0_9 m c t h, after0_9]
    · rw [Dat.leavesExact_idle (dats m 0 c) 9 t (by rw [idle9, decide_eq_false h]; rfl)
        (by rw [← Bool.not_eq_true, flush0_9]; exact h3)]
      iintro H; iexists d; iexact H

/-- The gain's gradient: a block's last point sets it or adds to it, the other points leave it as found. -/
theorem leaves0_12 (c : Dev nD) (t : Fin cfg0.N) (d) :
    owns (c : Thread nD τ) (st0_12 t) fullShare
        (nOut (grid0.coords t) (accAt m c t) (iblk m c 1 t) ((dats m 0 c).before 12 t d))
      ⊢ ((dats m 0 c).leavesExact 12 t : sProp 𝕄) := by
  have hN : t.val < 32 := t.isLt
  unfold nOut
  rw [last_at]
  by_cases h : t.val % 4 = 3
  · rw [if_pos h, if_pos rfl]
    unfold nAdd nSet
    rw [set_at, add_at]
    unfold Dat.leavesExact
    rw [show cfg0.idle 12 (cfg0.grid.coords t) = false from by rw [idle12, decide_eq_true h]; rfl, after0_12]
    have hp := lastPt_self t h
    by_cases h4 : t.val < 4
    · rw [if_pos h4, if_neg (by decide), if_pos h4, if_pos rfl, show (t.val + 1) / 4 - 1 = 0 from by omega]
      unfold gainN
      rw [show lastPt 0 = t from by rw [← hp]; congr 1; omega]
    · rw [if_neg h4, if_pos rfl, if_neg h4, if_neg (by decide), before0_12 m c t h4]
      obtain ⟨b, hb⟩ : ∃ b, t.val / 4 = b + 1 := ⟨t.val / 4 - 1, by omega⟩
      rw [show (t.val + 1) / 4 - 1 = b + 1 from by omega, show t.val / 4 - 1 = b from by omega]
      rw [hb] at hp
      rw [gainN, hp]
  · rw [if_neg h, if_neg (by decide), Dat.leavesExact_idle (dats m 0 c) 12 t (by rw [idle12, decide_eq_false h]; rfl)
      (by rw [← Bool.not_eq_true, flush0_12]; omega)]
    iintro H; iexists d; iexact H

/-- The scratch memory's rows as a point's products find them. -/
theorem yIn_eq (c : Dev nD) (t : Fin cfg0.N) (y : Vec F S512x1024 .bf16) (hy : ∀ s : Fin cfg0.N, s.val + 1 = t.val → y = yAt m c s) :
    yIn (grid0.coords t) (iblk m c 0 t) y = yAt m c t := by
  unfold yIn
  rw [first_at]
  by_cases h0 : t.val % 4 = 0
  · rw [if_pos h0, if_pos rfl]
    unfold yAt
    rw [show pt t 0 = t from by have := pt_self t; rwa [h0] at this]
  · rw [if_neg h0, if_neg (by decide), hy ⟨t.val - 1, by omega⟩ (by change t.val - 1 + 1 = t.val; omega)]
    unfold yAt
    rw [pt_eq ⟨t.val - 1, by omega⟩ t (by change t.val - 1 + 1 = t.val; omega) (by change (t.val - 1) % 4 ≠ 3; omega)]

/-- A block's accumulator does not depend on which of its points names it. -/
theorem accN_eq (c : Dev nD) (s t : Fin cfg0.N) (h : ∀ k, pt s k = pt t k) : ∀ k, accN m c s k = accN m c t k
  | 0 => by unfold accN yAt; rw [h]
  | k + 1 => by unfold accN yAt; rw [h, h, accN_eq c s t h k]

/-- The accumulator after a point, from what it found. -/
theorem acc_eq (c : Dev nD) (t : Fin cfg0.N) (a : Vec F S512x1024 .f32) (ha : ∀ s : Fin cfg0.N, s.val + 1 = t.val → a = accAt m c s) :
    accOf (yAt m c t) (iblk m c 3 t) (iblk m c 4 t) (iblk m c 5 t) (iblk m c 6 t) (X0_7 m c t) (aIn (grid0.coords t) a) = accAt m c t := by
  unfold aIn
  rw [first_at]
  by_cases h0 : t.val % 4 = 0
  · rw [if_pos h0, if_pos rfl]
    unfold accAt
    rw [h0]
    unfold accN
    rw [show pt t 0 = t from by have := pt_self t; rwa [h0] at this]
  · rw [if_neg h0, if_neg (by decide), ha ⟨t.val - 1, by omega⟩ (by change t.val - 1 + 1 = t.val; omega)]
    unfold accAt
    obtain ⟨k, hk⟩ : ∃ k, t.val % 4 = k + 1 := ⟨t.val % 4 - 1, by omega⟩
    have hp : pt t (k + 1) = t := by have := pt_self t; rwa [hk] at this
    rw [hk, accN, hp, accN_eq m c _ t (pt_eq ⟨t.val - 1, by omega⟩ t (by change t.val - 1 + 1 = t.val; omega)
      (by change (t.val - 1) % 4 ≠ 3; omega)), show (t.val - 1) % 4 = k from by omega]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, Φ_eq, Φ_eq, leaves0_0, leaves0_1, leaves0_2,
    leaves0_3, leaves0_4, leaves0_5, leaves0_6, leaves0_7, leaves0_10, leaves0_11, after0_0, after0_1, after0_2, after0_3, after0_4,
    after0_5, after0_6, after0_7, after0_10, after0_11]
  unfold Carry
  iintro ⟨⟨⟨%y, %a, %hcar, H15, H16⟩, Hr⟩, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩, ⟨%d9, H9⟩, ⟨%d10, H10⟩, ⟨%d11, H11⟩, ⟨%d12, H12⟩⟩
  have hy := yIn_eq m c t y fun s hs => (hcar s hs).1
  have ha := acc_eq m c t a fun s hs => (hcar s hs).2
  iapply (run_body _ _ _ _ _ _ _ _ _ _ _ _ _ _ _ _ _ _ _ _ _ _ _ _ _ _ _ _ _ _ c (grid0.coords t) (iblk m c 0 t) (iblk m c 1 t)
    (iblk m c 2 t) (iblk m c 3 t) (iblk m c 4 t) (iblk m c 5 t) (iblk m c 6 t) (X0_7 m c t) ((dats m 0 c).before 8 t d8)
    ((dats m 0 c).before 9 t d9) y ((dats m 0 c).before 12 t d12) a _)
  rw [hy, ha]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H15]; · iexact H15
  isplitl [H16]; · iexact H16
  iintro ⟨H0, H1, H2, H3, H4, H5, H6, H7, H8, H9, H10, H11, H12, H15, H16⟩
  isplitl [H15 H16 Hr]
  · isplitl [H15 H16]
    · iexists _, _
      isplitr
      swap
      · isplitl [H15]; · iexact H15
        iexact H16
      ipureintro
      intro s hs
      have hst : s = t := Fin.ext (by change s.val + 1 = t.val + 1 at hs; omega)
      subst hst
      exact ⟨rfl, rfl⟩
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves0_8 m c t d8); iexact H8
  isplitl [H9]; · iapply (leaves0_9 m c t d9); iexact H9
  isplitl [H10]; · iexact H10
  isplitl [H11]; · iexact H11
  iapply (leaves0_12 m c t d12); iexact H12

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) :
    Pipeline.BodyObligation (dats (F := F) m 0 c) (defs₀ (F := F)) Variants.none () Set.univ := fun t => by
  rw [bigSep_W0, bigSep_W0, defs₀_row]
  exact triple_restated (sound_body m c t) rfl .rfl fun _ => .rfl

/-- The scratch memory at the launch's start may hold anything. -/
theorem enter (c : Dev nD) : (Pipeline.ΦA spec0 c : sProp 𝕄) ⊢ (dats m 0 c).Φ 0 := by
  rw [Φ_eq]
  unfold Pipeline.ΦA Carry
  rw [scopedRest0_eq]
  iintro ⟨⟨⟨%f, Hf⟩, ⟨%g, Hg⟩⟩, Hr⟩
  isplitl [Hf Hg]
  · iexists f, g
    isplitr
    · ipureintro
      intro s hs
      exact absurd hs (by change ¬ s.val + 1 = 0; omega)
    rw [owns_whole, owns_whole]
    isplitl [Hf]; · iexact Hf
    iexact Hg
  iexact Hr

/-- And it is given back at the end. -/
theorem leave (c : Dev nD) : (dats m 0 c).Φ (Fin.last cfg0.N) ⊢ (Pipeline.ΦA spec0 c : sProp 𝕄) := by
  rw [Φ_eq]
  unfold Pipeline.ΦA Carry
  rw [scopedRest0_eq]
  simp only [owns_whole]
  iintro ⟨⟨%f, %g, -, Hf, Hg⟩, Hr⟩
  isplitl [Hf Hg]
  · isplitl [Hf]; · iexists f; iexact Hf
    iexists g; iexact Hg
  iexact Hr

set_option maxHeartbeats 1000000 in
set_option backward.isDefEq.respectTransparency.types false in
/-- The run of the program: it ends, the windows' arrays hold what the proof data says, and every counter is zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- An operand's array ends as the program found it. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 5).trans (((dats m 0 c).arrAt_in 5 rfl _).trans ((A_eq m c 5).trans (V_main_arg3 m c))),
    ((h c).1 7).trans (((dats m 0 c).arrAt_in 7 rfl _).trans ((A_eq m c 7).trans (V_main_arg4 m c)))⟩

/-- The frame at any float values. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run_main m ρ)

end Cert.Kernel4Ideal.Bwd

end
-- ==== Proof.BackwardWords.lean ====
module

public import proofs.«01_k».proof.Proof.BackwardRun
public import proofs.«01_k».proof.Proof.Gen.Kernel4.Frame

/-!
# The backward call at machine words

The printed call and its idealization are the same text, so that a run of one is a run of the other.
-/

@[expose] public section

set_option maxRecDepth 65536

noncomputable section

namespace Cert.Kernel4.Bwd

open Idealize.ShloMosaic Idealize.ShloMosaic.TcCoe Idealize.SL.Sem

variable {F : FTy → Type} [FloatOps F]

set_option maxHeartbeats 4000000 in
/-- The two programs call the same kernel function. -/
theorem defs₀_eq : Cert.Kernel4.defs₀ (F := F) = Cert.Kernel4Ideal.defs₀ (F := F) := by
  unfold Cert.Kernel4.defs₀ Cert.Kernel4Ideal.defs₀
  refine congrArg Defs.onTc ?_
  funext l
  match l with
  | 0 =>
    funext p
    obtain ⟨t, s⟩ := p
    rfl

set_option maxHeartbeats 4000000 in
/-- They launch it through the same pipeline. -/
theorem defs_eq : Cert.Kernel4.defs (F := F) = Cert.Kernel4Ideal.defs (F := F) := by
  unfold Cert.Kernel4.defs Cert.Kernel4Ideal.defs
  exact congrArg (Pipeline.defs (Cert.Kernel4.pcfgs (F := F))) defs₀_eq

set_option maxHeartbeats 4000000 in
/-- What holds after every run of the idealized program holds after every run of the printed one. -/
theorem run_of (s : MemSt Cert.Kernel4.nD Cert.Kernel4.τ Cert.Kernel4.sig (Elt F))
    (Q : (PUnit × MemSt Cert.Kernel4.nD Cert.Kernel4.τ Cert.Kernel4.sig (Elt F)) → Prop)
    (h : θ_run (Cert.Kernel4Ideal.defs (F := F)) (onTc (τ := Cert.Kernel4Ideal.τ) (Cert.Kernel4Ideal.main (F := F))) s Q) :
    θ_run (Cert.Kernel4.defs (F := F)) (onTc (τ := Cert.Kernel4.τ) (Cert.Kernel4.main (F := F))) s Q := by
  rw [defs_eq]
  exact h

end Cert.Kernel4.Bwd
-- ==== Proof.BackwardSpec.lean ====
module

public import proofs.«01_k».proof.Proof.BackwardRun
public import proofs.«01_k».proof.Proof.ForwardSpec
public import Idealize.ShloMosaic.Lib.Pointwise
public import Idealize.ShloMosaic.Lib.ValueIdx
public import Idealize.ShloMosaic.PureOps.Ideal

/-!
# The backward of a feed-forward block, element by element

What one point's pieces are, one element at a time over the extended reals, and the gradients as formulas of the arguments.
-/

@[expose] public section

noncomputable section

namespace Cert.Kernel4Ideal.Bwd

open Idealize.ShloMosaic Idealize.ShloMosaic.TcCoe Idealize.ShloMosaic.Tactic
open Idealize.SL.Sem
open Cert.Kernel4Ideal Cert.Kernel4Ideal.Gen
open Idealize.ShloMosaic.VecWindow (window put)
open Cert.Kernel3Ideal.Fwd (prj)

section Formula

/-- The logistic function. -/
def sg (p : EReal) : EReal := Ideal.div 1 (1 + Ideal.exp (0 - p))
/-- The gate's gradient from the activation's `d`, the gate `p` and the other factor `u`. -/
def gE (d p u : EReal) : EReal := d * u * (sg p * (1 + p * (1 - sg p)))
/-- The other factor's gradient. -/
def uE (d p : EReal) : EReal := d * (p * sg p)

/-- The reciprocal root mean square of a row. -/
def inv (X : Vec Ideal S4096x1024 .f32) (a : Fin 4096) : EReal :=
  Ideal.rsqrt (Ideal.div (∑ k : Fin 1024, X (ix2 a k) * X (ix2 a k)) (Ideal.ofBits .f32 0x44800000#32)
    + Ideal.ofBits .f32 0x358637BD#32)

variable (O X : Vec Ideal S4096x1024 .f32) (G : Vec Ideal S1x1024 .f32) (A : Vec Ideal S8x2x1024x704 .bf16)
  (B : Vec Ideal S8x1024x1024 .bf16)

/-- The incoming gradient, halved. -/
def dy (a : Fin 4096) (k : Fin 1024) : EReal := Ideal.ofBits .f32 0x3F000000#32 * O (ix2 a k)
/-- The gradient of the activations. -/
def ds (a : Fin 4096) (j : Fin 4) (l : Fin 704) : EReal :=
  ∑ k : Fin 1024, dy O a k * B (ix3 ⟨2 * j.val + l.val / 352, by omega⟩ ⟨352 + l.val % 352, by omega⟩ k)
/-- The gradient of the gate. -/
def dgate (a : Fin 4096) (j : Fin 4) (l : Fin 704) : EReal :=
  gE (ds O B a j l) (prj X G A a ⟨j.val, by omega⟩ l) (prj X G A a ⟨j.val + 4, by omega⟩ l)
/-- The gradient of the other factor. -/
def dup (a : Fin 4096) (j : Fin 4) (l : Fin 704) : EReal := uE (ds O B a j l) (prj X G A a ⟨j.val, by omega⟩ l)
/-- What one chunk sends back to the normalised rows. -/
def back (a : Fin 4096) (r : Fin 1024) (j : Fin 4) : EReal :=
  (∑ l : Fin 704, dgate O X G A B a j l * A (ix4 ⟨j.val, by omega⟩ 1 r l))
    + ∑ l : Fin 704, dup O X G A B a j l * A (ix4 ⟨j.val + 4, by omega⟩ 1 r l)
/-- The gradient of the normalised rows. -/
def dh (a : Fin 4096) (r : Fin 1024) : EReal := ∑ j : Fin 4, back O X G A B a r j
/-- The gradient of the tokens. -/
def dtok (a : Fin 4096) (r : Fin 1024) : EReal :=
  O (ix2 a r) + inv X a * (dh O X G A B a r * G (ix2 0 r)
    - X (ix2 a r) * inv X a * Ideal.div (∑ k : Fin 1024, dh O X G A B a k * G (ix2 0 k) * (X (ix2 a k) * inv X a))
      (Ideal.ofBits .f32 0x44800000#32))
/-- The gradient of the gains. -/
def dgain (r : Fin 1024) : EReal := ∑ a : Fin 4096, dh O X G A B a r * (X (ix2 a r) * inv X a)

end Formula

section Pieces

/-- An element of the upper rows. -/
theorem top_apply {e : EltTy} (x : Vec Ideal S512x1024 e) (a : Fin 256) (r : Fin 1024) :
    top x (ix2 a r) = x (ix2 ⟨a.val, by omega⟩ r) := by
  unfold top window
  congr 1
  funext k
  apply Fin.ext
  match k with
  | ⟨0, _⟩ => show 0 + 1 * a.val = a.val; omega
  | ⟨1, _⟩ => show 0 + 1 * r.val = r.val; omega

/-- An element of the lower rows. -/
theorem bot_apply {e : EltTy} (x : Vec Ideal S512x1024 e) (a : Fin 256) (r : Fin 1024) :
    bot x (ix2 a r) = x (ix2 ⟨256 + a.val, by omega⟩ r) := by
  unfold bot window
  congr 1
  funext k
  apply Fin.ext
  match k with
  | ⟨0, _⟩ => show 256 + 1 * a.val = 256 + a.val; omega
  | ⟨1, _⟩ => show 0 + 1 * r.val = r.val; omega

/-- An element of the upper half of a stacked block. -/
theorem stack_top (x y : Vec Ideal S1x256x704 .bf16) (a : Fin 512) (l : Fin 704) (b : Fin 256) (h : a.val = b.val) :
    stack x y (ix3 0 a l) = x (ix3 0 b l) := by
  have hb := b.isLt
  unfold stack put
  rw [dif_neg (by intro hh; have : 256 ≤ a.val := (hh 1).1; omega), dif_pos (by
    intro k
    match k with
    | ⟨0, _⟩ => exact ⟨Nat.le_refl 0, Nat.one_pos⟩
    | ⟨1, _⟩ => exact ⟨Nat.zero_le _, by show a.val < 0 + 256; omega⟩
    | ⟨2, _⟩ => exact ⟨Nat.zero_le _, by show l.val < 0 + 704; omega⟩)]
  congr 1
  funext k
  apply Fin.ext
  match k with
  | ⟨0, _⟩ => rfl
  | ⟨1, _⟩ => show a.val - 0 = b.val; omega
  | ⟨2, _⟩ => rfl

/-- An element of the lower half of a stacked block. -/
theorem stack_bot (x y : Vec Ideal S1x256x704 .bf16) (a : Fin 512) (l : Fin 704) (b : Fin 256) (h : a.val = 256 + b.val) :
    stack x y (ix3 0 a l) = y (ix3 0 b l) := by
  have hb := b.isLt
  unfold stack
  unfold put
  rw [dif_pos (by
    intro k
    match k with
    | ⟨0, _⟩ => exact ⟨Nat.le_refl 0, Nat.one_pos⟩
    | ⟨1, _⟩ => exact ⟨by show 256 ≤ a.val; omega, by show a.val < 256 + 256; omega⟩
    | ⟨2, _⟩ => exact ⟨Nat.zero_le _, by show l.val < 0 + 704; omega⟩)]
  congr 1
  funext k
  apply Fin.ext
  match k with
  | ⟨0, _⟩ => rfl
  | ⟨1, _⟩ => show a.val - 256 = b.val; omega
  | ⟨2, _⟩ => rfl

/-- An element of the upper half of the accumulator. -/
theorem pile_top (x y : Vec Ideal S256x1024 .f32) (a : Fin 512) (r : Fin 1024) (b : Fin 256) (h : a.val = b.val) :
    pile x y (ix2 a r) = x (ix2 b r) := by
  have hb := b.isLt
  unfold pile put
  rw [dif_neg (by intro hh; have : 256 ≤ a.val := (hh 0).1; omega), dif_pos (by
    intro k
    match k with
    | ⟨0, _⟩ => exact ⟨Nat.zero_le _, by show a.val < 0 + 256; omega⟩
    | ⟨1, _⟩ => exact ⟨Nat.zero_le _, by show r.val < 0 + 1024; omega⟩)]
  congr 1
  funext k
  apply Fin.ext
  match k with
  | ⟨0, _⟩ => show a.val - 0 = b.val; omega
  | ⟨1, _⟩ => rfl

/-- An element of the lower half of the accumulator. -/
theorem pile_bot (x y : Vec Ideal S256x1024 .f32) (a : Fin 512) (r : Fin 1024) (b : Fin 256) (h : a.val = 256 + b.val) :
    pile x y (ix2 a r) = y (ix2 b r) := by
  have hb := b.isLt
  unfold pile
  unfold put
  rw [dif_pos (by
    intro k
    match k with
    | ⟨0, _⟩ => exact ⟨by show 256 ≤ a.val; omega, by show a.val < 256 + 256; omega⟩
    | ⟨1, _⟩ => exact ⟨Nat.zero_le _, by show r.val < 0 + 1024; omega⟩)]
  congr 1
  funext k
  apply Fin.ext
  match k with
  | ⟨0, _⟩ => show a.val - 256 = b.val; omega
  | ⟨1, _⟩ => rfl

end Pieces

section Payloads

/-- A row of the halved gradient times a row of a slice of the output weight. -/
def dotO (y : Vec Ideal S512x1024 .bf16) (wo : Vec Ideal S2x352x1024 .bf16) (a : Fin 512) (l : Fin 704) : EReal :=
  ∑ k : Fin 1024, y (ix2 a k) * wo (ix3 ⟨l.val / 352, by omega⟩ ⟨l.val % 352, by omega⟩ k)

/-- A block's reciprocal root mean squares. -/
def invB (x : Vec Ideal S512x1024 .f32) (a : Fin 512) : EReal :=
  Ideal.rsqrt (Ideal.div (∑ k : Fin 1024, x (ix2 a k) * x (ix2 a k)) (Ideal.ofBits .f32 0x44800000#32)
    + Ideal.ofBits .f32 0x358637BD#32)

/-- The halved gradient in scratch memory. -/
theorem pay7_apply (o : Vec Ideal S512x1024 .f32) (i : S512x1024.Idx) :
    k0_pay7 o i = Ideal.ofBits .f32 0x3F000000#32 * o i := by
  simp only [k0_pay7, k0_pay6, pointwise]

/-- The halved gradient in the result. -/
theorem pay6_apply (o : Vec Ideal S512x1024 .f32) (i : S512x1024.Idx) :
    k0_pay6 o i = Ideal.ofBits .f32 0x3F000000#32 * o i := by
  simp only [k0_pay6, pointwise]

/-- The accumulator starts at zero. -/
theorem pay8_apply (i : S512x1024.Idx) : k0_pay8 (F := Ideal) i = 0 := by
  simp only [k0_pay8, pointwise]

/-- The first block's share of the gain's gradient. -/
theorem pay3_apply (a x : Vec Ideal S512x1024 .f32) (r : Fin 1024) :
    k0_pay3 a x (ix2 0 r) = ∑ b : Fin 512, a (ix2 b r) * (x (ix2 b r) * invB x b) := by
  simp only [k0_pay3, k0_pay2, k0_pay1, pointwise, zero_add]
  rfl

/-- A later block's. -/
theorem pay5_apply (a x : Vec Ideal S512x1024 .f32) (n : Vec Ideal S1x1024 .f32) (r : Fin 1024) :
    k0_pay5 a x n (ix2 0 r) = n (ix2 0 r) + ∑ b : Fin 512, a (ix2 b r) * (x (ix2 b r) * invB x b) := by
  simp only [k0_pay5, k0_pay2, k0_pay1, pointwise, zero_add]
  rw [pay3_apply]

/-- The tokens' gradient, from the finished accumulator. -/
theorem pay4_apply (a x : Vec Ideal S512x1024 .f32) (g : Vec Ideal S1x1024 .f32) (o : Vec Ideal S512x1024 .f32) (b : Fin 512) (r : Fin 1024) :
    k0_pay4 a x g o (ix2 b r) = o (ix2 b r) + invB x b * (a (ix2 b r) * g (ix2 0 r)
      - x (ix2 b r) * invB x b * Ideal.div (∑ k : Fin 1024, a (ix2 b k) * g (ix2 0 k) * (x (ix2 b k) * invB x b))
        (Ideal.ofBits .f32 0x44800000#32)) := by
  simp only [k0_pay4, k0_pay2, k0_pay1, pointwise, zero_add]
  rfl

/-- An element of the upper rows of a slice. -/
theorem topz_apply (z : Vec Ideal S1x512x704 .bf16) (a : Fin 256) (l : Fin 704) :
    topz z (ix3 0 a l) = z (ix3 0 ⟨a.val, by omega⟩ l) := by
  unfold topz window
  congr 1
  funext k
  apply Fin.ext
  match k with
  | ⟨0, _⟩ => rfl
  | ⟨1, _⟩ => show 0 + 1 * a.val = a.val; omega
  | ⟨2, _⟩ => show 0 + 1 * l.val = l.val; omega

/-- An element of the lower rows of a slice. -/
theorem botz_apply (z : Vec Ideal S1x512x704 .bf16) (a : Fin 256) (l : Fin 704) :
    botz z (ix3 0 a l) = z (ix3 0 ⟨256 + a.val, by omega⟩ l) := by
  unfold botz window
  congr 1
  funext k
  apply Fin.ext
  match k with
  | ⟨0, _⟩ => rfl
  | ⟨1, _⟩ => show 256 + 1 * a.val = 256 + a.val; omega
  | ⟨2, _⟩ => show 0 + 1 * l.val = l.val; omega

/-- The gate's gradient, a row of the upper half. -/
theorem pay13_apply (y : Vec Ideal S512x1024 .bf16) (zg zu : Vec Ideal S1x512x704 .bf16) (wo : Vec Ideal S2x352x1024 .bf16)
    (a : Fin 256) (l : Fin 704) : k0_pay13 wo (top y) (topz zg) (topz zu) (ix2 a l)
      = gE (dotO y wo ⟨a.val, by omega⟩ l) (zg (ix3 0 ⟨a.val, by omega⟩ l)) (zu (ix3 0 ⟨a.val, by omega⟩ l)) := by
  simp only [k0_pay13, k0_pay12, k0_pay11, k0_pay10, k0_pay9, pointwise, zero_add, top_apply, topz_apply]
  rfl

/-- The other factor's gradient, a row of the upper half. -/
theorem pay14_apply (y : Vec Ideal S512x1024 .bf16) (zg : Vec Ideal S1x512x704 .bf16) (wo : Vec Ideal S2x352x1024 .bf16)
    (a : Fin 256) (l : Fin 704) : k0_pay14 wo (top y) (topz zg) (ix2 a l)
      = uE (dotO y wo ⟨a.val, by omega⟩ l) (zg (ix3 0 ⟨a.val, by omega⟩ l)) := by
  simp only [k0_pay14, k0_pay12, k0_pay11, k0_pay10, k0_pay9, pointwise, zero_add, top_apply, topz_apply]
  rfl

/-- A point's piece of the gate's gradient, one element. -/
theorem gateOf_apply (y : Vec Ideal S512x1024 .bf16) (zg zu : Vec Ideal S1x512x704 .bf16) (wo : Vec Ideal S2x352x1024 .bf16)
    (a : Fin 512) (l : Fin 704) :
    gateOf y zg zu wo (ix3 0 a l) = gE (dotO y wo a l) (zg (ix3 0 a l)) (zu (ix3 0 a l)) := by
  unfold gateOf
  by_cases ha : a.val < 256
  · rw [stack_top _ _ a l ⟨a.val, ha⟩ rfl]
    simp only [k0_pay15, pointwise]
    exact pay13_apply y zg zu wo ⟨a.val, ha⟩ l
  · have e : a.val = 256 + (a.val - 256) := by omega
    rw [stack_bot _ _ a l ⟨a.val - 256, by omega⟩ e]
    unfold lowGate
    simp only [k0_pay25, k0_pay23, k0_pay22, k0_pay21, k0_pay20, k0_pay19, k0_pay18, k0_pay9, pointwise, zero_add, bot_apply, botz_apply]
    simp only [← e]
    rfl

/-- A point's piece of the other factor's gradient, one element. -/
theorem upOf_apply (y : Vec Ideal S512x1024 .bf16) (zg : Vec Ideal S1x512x704 .bf16) (wo : Vec Ideal S2x352x1024 .bf16)
    (a : Fin 512) (l : Fin 704) : upOf y zg wo (ix3 0 a l) = uE (dotO y wo a l) (zg (ix3 0 a l)) := by
  unfold upOf
  by_cases ha : a.val < 256
  · rw [stack_top _ _ a l ⟨a.val, ha⟩ rfl]
    simp only [k0_pay16, pointwise]
    exact pay14_apply y zg wo ⟨a.val, ha⟩ l
  · have e : a.val = 256 + (a.val - 256) := by omega
    rw [stack_bot _ _ a l ⟨a.val - 256, by omega⟩ e]
    unfold lowUp
    simp only [k0_pay26, k0_pay24, k0_pay22, k0_pay21, k0_pay19, k0_pay18, k0_pay9, pointwise, zero_add, bot_apply, botz_apply]
    simp only [← e]
    rfl

/-- What a point adds to an element of the accumulator. -/
theorem accOf_apply (y : Vec Ideal S512x1024 .bf16) (zg zu : Vec Ideal S1x512x704 .bf16) (wg wu : Vec Ideal S1x1x1024x704 .bf16)
    (wo : Vec Ideal S2x352x1024 .bf16) (acc : Vec Ideal S512x1024 .f32) (a : Fin 512) (r : Fin 1024) :
    accOf y zg zu wg wu wo acc (ix2 a r) = acc (ix2 a r)
      + ((∑ l : Fin 704, gE (dotO y wo a l) (zg (ix3 0 a l)) (zu (ix3 0 a l)) * wg (ix4 0 0 r l))
        + ∑ l : Fin 704, uE (dotO y wo a l) (zg (ix3 0 a l)) * wu (ix4 0 0 r l)) := by
  unfold accOf
  by_cases ha : a.val < 256
  · rw [pile_top _ _ a r ⟨a.val, ha⟩ rfl]
    unfold highAcc
    simp only [k0_pay17, pointwise, zero_add, top_apply, pay13_apply, pay14_apply]
  · have e : a.val = 256 + (a.val - 256) := by omega
    rw [pile_bot _ _ a r ⟨a.val - 256, by omega⟩ e]
    unfold lowAcc
    simp only [k0_pay27, k0_pay24, k0_pay23, k0_pay22, k0_pay21, k0_pay20, k0_pay19, k0_pay18, k0_pay9, pointwise, zero_add, bot_apply, botz_apply]
    simp only [← e]
    rfl

end Payloads

end Cert.Kernel4Ideal.Bwd
-- ==== Proof.BackwardHost.lean ====
module

public import proofs.«01_k».proof.Proof.BackwardRun
public import proofs.«01_k».proof.Proof.ForwardRef
public import Idealize.ShloMosaic.Lib.StableHlo.Run

/-!
# What the host computes before the backward call

The gate and the other factor, as the forward pass has them.
-/

@[expose] public section

noncomputable section

namespace Cert.Kernel4Ideal.Bwd

open Idealize.ShloMosaic Idealize.ShloMosaic.TcCoe
open Idealize.SL.Sem
open Cert.Kernel4Ideal Cert.Kernel4Ideal.Gen
open Cert.Kernel3Ideal.Fwd (prj)

variable (m : (ℓ : Loc nD τ sig) → Buf (Elt Ideal) ℓ) (c : Dev nD)

set_option maxRecDepth 65536 in
set_option maxHeartbeats 4000000 in
/-- The gate's chunks, as the call finds them. -/
theorem V_gates : (V m c main_v24 : Vec Ideal S4x4096x704 .bf16)
    = Cert.Reference3Ideal.Read.val_main_v34 (F := Ideal) (m ((c : Thread nD τ).loc main_arg1))
        (m ((c : Thread nD τ).loc main_arg2)) (m ((c : Thread nD τ).loc main_arg3)) := by
  show StableHlo.after hostOps0 _ (Proc.devRef .tc main_v24) = _
  simp only [hostOps0, List.flatten_cons, List.flatten_nil, List.append_nil, List.cons_append, List.nil_append]
  after_results_simp
  rfl

set_option maxRecDepth 65536 in
set_option maxHeartbeats 4000000 in
/-- The other factor's chunks. -/
theorem V_ups : (V m c main_v27 : Vec Ideal S4x4096x704 .bf16)
    = Cert.Reference3Ideal.Read.val_main_v37 (F := Ideal) (m ((c : Thread nD τ).loc main_arg1))
        (m ((c : Thread nD τ).loc main_arg2)) (m ((c : Thread nD τ).loc main_arg3)) := by
  show StableHlo.after hostOps0 _ (Proc.devRef .tc main_v27) = _
  simp only [hostOps0, List.flatten_cons, List.flatten_nil, List.append_nil, List.cons_append, List.nil_append]
  after_results_simp
  rfl

end Cert.Kernel4Ideal.Bwd
-- ==== Proof.BackwardValue.lean ====
module

public import proofs.«01_k».proof.Proof.BackwardSpec
public import proofs.«01_k».proof.Proof.BackwardHost
public import Idealize.ShloMosaic.Lib.Pipeline.ValueKit.Geometry
public import Idealize.ShloMosaic.Lib.Pipeline.ValueKit.Tiles

/-!
# What the backward call leaves in its five results

Each result array is a gradient's formula, element by element.
-/

@[expose] public section

noncomputable section

namespace Cert.Kernel4Ideal.Bwd

open Idealize.ShloMosaic Idealize.ShloMosaic.TcCoe Idealize.ShloMosaic.Tactic
open Idealize.SL.Sem
open Cert.Kernel4Ideal Cert.Kernel4Ideal.Gen
open Cert.Kernel3Ideal.Fwd (prj)

section Blocks

variable (m : (ℓ : Loc nD τ sig) → Buf (Elt Ideal) ℓ)

/-- A point's block of the incoming gradient: rows from 512 times `t / 4`. -/
theorem o_block (c : Dev nD) (t : Fin cfg0.N) (a : Fin 512) (r : Fin 1024) (a' : Fin 4096) (e : a'.val = 512 * (t.val / 4) + a.val) :
    (iblk m c 0 t : Vec Ideal S512x1024 .f32) (ix2 a r) = m ((c : Thread nD τ).loc main_arg0) (ix2 a' r) := by
  have hi : ∀ t : Fin 32, win0_0.index t 0 = t.val / 4 ∧ win0_0.index t 1 = 0 := by decide
  obtain ⟨i0, i1⟩ := hi t
  unfold iblk
  rw [View.read_apply]
  show V m c main_arg0 _ = m (c.tc.loc main_arg0) _
  rw [V_main_arg0]
  congr 1
  funext x
  apply Fin.ext
  match x with
  | ⟨0, _⟩ => show win0_0.index t 0 * 512 + 1 * a.val = a'.val; rw [i0]; omega
  | ⟨1, _⟩ => show win0_0.index t 1 * 1024 + 1 * r.val = r.val; rw [i1]; omega

/-- A point's block of tokens. -/
theorem x_block (c : Dev nD) (t : Fin cfg0.N) (a : Fin 512) (r : Fin 1024) (a' : Fin 4096) (e : a'.val = 512 * (t.val / 4) + a.val) :
    (iblk m c 1 t : Vec Ideal S512x1024 .f32) (ix2 a r) = m ((c : Thread nD τ).loc main_arg1) (ix2 a' r) := by
  have hi : ∀ t : Fin 32, win0_1.index t 0 = t.val / 4 ∧ win0_1.index t 1 = 0 := by decide
  obtain ⟨i0, i1⟩ := hi t
  unfold iblk
  rw [View.read_apply]
  show V m c main_arg1 _ = m (c.tc.loc main_arg1) _
  rw [V_main_arg1]
  congr 1
  funext x
  apply Fin.ext
  match x with
  | ⟨0, _⟩ => show win0_1.index t 0 * 512 + 1 * a.val = a'.val; rw [i0]; omega
  | ⟨1, _⟩ => show win0_1.index t 1 * 1024 + 1 * r.val = r.val; rw [i1]; omega

/-- The gains, whole at every point. -/
theorem g_block (c : Dev nD) (t : Fin cfg0.N) (r : Fin 1024) :
    (iblk m c 2 t : Vec Ideal S1x1024 .f32) (ix2 0 r) = m ((c : Thread nD τ).loc main_arg2) (ix2 0 r) := by
  have hi : ∀ t : Fin 32, win0_2.index t 0 = 0 ∧ win0_2.index t 1 = 0 := by decide
  obtain ⟨i0, i1⟩ := hi t
  unfold iblk
  rw [View.read_apply]
  show V m c main_arg2 _ = m (c.tc.loc main_arg2) _
  rw [V_main_arg2]
  congr 1
  funext x
  apply Fin.ext
  match x with
  | ⟨0, _⟩ => show win0_2.index t 0 * 1 + 1 * 0 = 0; rw [i0]
  | ⟨1, _⟩ => show win0_2.index t 1 * 1024 + 1 * r.val = r.val; rw [i1]; omega

/-- A point's block of the gate: chunk `t % 4`. -/
theorem zg_block (c : Dev nD) (t : Fin cfg0.N) (a : Fin 512) (l : Fin 704) (a' : Fin 4096) (e : a'.val = 512 * (t.val / 4) + a.val)
    (j : Fin 4) (hj : j.val = t.val % 4) : (iblk m c 3 t : Vec Ideal S1x512x704 .bf16) (ix3 0 a l)
      = prj (m ((c : Thread nD τ).loc main_arg1)) (m ((c : Thread nD τ).loc main_arg2)) (m ((c : Thread nD τ).loc main_arg3)) a'
        ⟨j.val, by omega⟩ l := by
  have hi : ∀ t : Fin 32, win0_3.index t 0 = t.val % 4 ∧ win0_3.index t 1 = t.val / 4 ∧ win0_3.index t 2 = 0 := by decide
  obtain ⟨i0, i1, i2⟩ := hi t
  unfold iblk
  rw [View.read_apply]
  refine Eq.trans ?_ (Cert.Reference3Ideal.Fwd.gates_ref _ _ _ j a' l)
  rw [← V_gates]
  show V m c main_v24 _ = V m c main_v24 _
  congr 1
  funext x
  apply Fin.ext
  match x with
  | ⟨0, _⟩ => show win0_3.index t 0 * 1 + 1 * 0 = j.val; rw [i0]; omega
  | ⟨1, _⟩ => show win0_3.index t 1 * 512 + 1 * a.val = a'.val; rw [i1]; omega
  | ⟨2, _⟩ => show win0_3.index t 2 * 704 + 1 * l.val = l.val; rw [i2]; omega

/-- A point's block of the other factor. -/
theorem zu_block (c : Dev nD) (t : Fin cfg0.N) (a : Fin 512) (l : Fin 704) (a' : Fin 4096) (e : a'.val = 512 * (t.val / 4) + a.val)
    (j : Fin 4) (hj : j.val = t.val % 4) : (iblk m c 4 t : Vec Ideal S1x512x704 .bf16) (ix3 0 a l)
      = prj (m ((c : Thread nD τ).loc main_arg1)) (m ((c : Thread nD τ).loc main_arg2)) (m ((c : Thread nD τ).loc main_arg3)) a'
        ⟨j.val + 4, by omega⟩ l := by
  have hi : ∀ t : Fin 32, win0_4.index t 0 = t.val % 4 ∧ win0_4.index t 1 = t.val / 4 ∧ win0_4.index t 2 = 0 := by decide
  obtain ⟨i0, i1, i2⟩ := hi t
  unfold iblk
  rw [View.read_apply]
  refine Eq.trans ?_ (Cert.Reference3Ideal.Fwd.ups_ref _ _ _ j a' l)
  rw [← V_ups]
  show V m c main_v27 _ = V m c main_v27 _
  congr 1
  funext x
  apply Fin.ext
  match x with
  | ⟨0, _⟩ => show win0_4.index t 0 * 1 + 1 * 0 = j.val; rw [i0]; omega
  | ⟨1, _⟩ => show win0_4.index t 1 * 512 + 1 * a.val = a'.val; rw [i1]; omega
  | ⟨2, _⟩ => show win0_4.index t 2 * 704 + 1 * l.val = l.val; rw [i2]; omega

/-- A point's block of the gate's weight: chunk `t % 4`. -/
theorem wg_block (c : Dev nD) (t : Fin cfg0.N) (k : Fin 1024) (l : Fin 704) (j : Fin 8) (e : j.val = t.val % 4) :
    (iblk m c 5 t : Vec Ideal S1x1x1024x704 .bf16) (ix4 0 0 k l) = m ((c : Thread nD τ).loc main_arg3) (ix4 j 1 k l) := by
  have hi : ∀ t : Fin 32, win0_5.index t 0 = t.val % 4 ∧ win0_5.index t 1 = 1 ∧ win0_5.index t 2 = 0 ∧ win0_5.index t 3 = 0 := by
    decide
  obtain ⟨i0, i1, i2, i3⟩ := hi t
  unfold iblk
  rw [View.read_apply]
  show V m c main_arg3 _ = m (c.tc.loc main_arg3) _
  rw [V_main_arg3]
  congr 1
  funext x
  apply Fin.ext
  match x with
  | ⟨0, _⟩ => show win0_5.index t 0 * 1 + 1 * 0 = j.val; rw [i0]; omega
  | ⟨1, _⟩ => show win0_5.index t 1 * 1 + 1 * 0 = 1; rw [i1]
  | ⟨2, _⟩ => show win0_5.index t 2 * 1024 + 1 * k.val = k.val; rw [i2]; omega
  | ⟨3, _⟩ => show win0_5.index t 3 * 704 + 1 * l.val = l.val; rw [i3]; omega

/-- A point's block of the other factor's weight: chunk `t % 4 + 4`. -/
theorem wu_block (c : Dev nD) (t : Fin cfg0.N) (k : Fin 1024) (l : Fin 704) (j : Fin 8) (e : j.val = t.val % 4 + 4) :
    (iblk m c 6 t : Vec Ideal S1x1x1024x704 .bf16) (ix4 0 0 k l) = m ((c : Thread nD τ).loc main_arg3) (ix4 j 1 k l) := by
  have hi : ∀ t : Fin 32, win0_6.index t 0 = t.val % 4 + 4 ∧ win0_6.index t 1 = 1 ∧ win0_6.index t 2 = 0 ∧ win0_6.index t 3 = 0 := by
    decide
  obtain ⟨i0, i1, i2, i3⟩ := hi t
  unfold iblk
  rw [View.read_apply]
  show V m c main_arg3 _ = m (c.tc.loc main_arg3) _
  rw [V_main_arg3]
  congr 1
  funext x
  apply Fin.ext
  match x with
  | ⟨0, _⟩ => show win0_6.index t 0 * 1 + 1 * 0 = j.val; rw [i0]; omega
  | ⟨1, _⟩ => show win0_6.index t 1 * 1 + 1 * 0 = 1; rw [i1]
  | ⟨2, _⟩ => show win0_6.index t 2 * 1024 + 1 * k.val = k.val; rw [i2]; omega
  | ⟨3, _⟩ => show win0_6.index t 3 * 704 + 1 * l.val = l.val; rw [i3]; omega

/-- A point's block of the output weight: rows 352 to 703 of two slices of the array, from slice twice `t % 4`. -/
theorem wo_block (c : Dev nD) (t : Fin cfg0.N) (p : Fin 2) (q : Fin 352) (r : Fin 1024) (p' : Fin 8) (q' : Fin 1024)
    (ep : p'.val = 2 * (t.val % 4) + p.val) (eq : q'.val = 352 + q.val) :
    (X0_7 m c t : Vec Ideal S2x352x1024 .bf16) (ix3 p q r) = m ((c : Thread nD τ).loc main_arg4) (ix3 p' q' r) := by
  have hi : ∀ t : Fin 32, win0_7.index t 0 = t.val % 4 ∧ win0_7.index t 1 = 1 ∧ win0_7.index t 2 = 0 := by decide
  obtain ⟨i0, i1, i2⟩ := hi t
  unfold X0_7 Pipeline.Window.fill
  rw [dif_pos (moved0_7 t _)]
  unfold iblk
  rw [View.read_apply]
  show V m c main_arg4 _ = m (c.tc.loc main_arg4) _
  rw [V_main_arg4]
  congr 1
  funext x
  apply Fin.ext
  match x with
  | ⟨0, _⟩ => show win0_7.index t 0 * 2 + 1 * p.val = p'.val; rw [i0]; omega
  | ⟨1, _⟩ => show win0_7.index t 1 * 352 + 1 * q.val = q'.val; rw [i1]; omega
  | ⟨2, _⟩ => show win0_7.index t 2 * 1024 + 1 * r.val = r.val; rw [i2]; omega

/-- The points of one block of tokens. -/
theorem pt_val (t : Fin cfg0.N) (k : ℕ) (hk : k < 4) : (pt t k).val = 4 * (t.val / 4) + k := by
  have ht : t.val < 32 := t.isLt
  show (t.val - t.val % 4 + k) % 32 = _
  omega

/-- The last point of a block of tokens. -/
theorem lastPt_val (b : ℕ) (hb : b < 8) : (lastPt b).val = 4 * b + 3 := by
  show (4 * b + 3) % 32 = _
  omega

end Blocks

section Elements

variable (m : (ℓ : Loc nD τ sig) → Buf (Elt Ideal) ℓ) (c : Dev nD)
  (O : Vec Ideal S4096x1024 .f32) (hO : m ((c : Thread nD τ).loc main_arg0) = O)
  (X : Vec Ideal S4096x1024 .f32) (hX : m ((c : Thread nD τ).loc main_arg1) = X)
  (G : Vec Ideal S1x1024 .f32) (hG : m ((c : Thread nD τ).loc main_arg2) = G)
  (A : Vec Ideal S8x2x1024x704 .bf16) (hA : m ((c : Thread nD τ).loc main_arg3) = A)
  (B : Vec Ideal S8x1024x1024 .bf16) (hB : m ((c : Thread nD τ).loc main_arg4) = B)

include hX in
/-- A row's reciprocal root mean square. -/
theorem inv_apply (t : Fin cfg0.N) (a : Fin 512) (a' : Fin 4096) (e : a'.val = 512 * (t.val / 4) + a.val) :
    invB (iblk m c 1 t) a = inv X a' := by
  unfold invB inv
  simp only [x_block m c t a _ a' e, hX]

include hO in
/-- The halved gradient in scratch memory. -/
theorem yAt_apply (t : Fin cfg0.N) (a : Fin 512) (r : Fin 1024) (a' : Fin 4096) (e : a'.val = 512 * (t.val / 4) + a.val) :
    (yAt m c t) (ix2 a r) = dy O a' r := by
  have e' : a'.val = 512 * ((pt t 0).val / 4) + a.val := by rw [pt_val t 0 (by omega)]; omega
  unfold yAt dy
  rw [pay7_apply, o_block m c _ a r a' e', hO]

include hO in
/-- The halved gradient in the result. -/
theorem rAt_apply (t : Fin cfg0.N) (a : Fin 512) (r : Fin 1024) (a' : Fin 4096) (e : a'.val = 512 * (t.val / 4) + a.val) :
    (rAt m c t) (ix2 a r) = dy O a' r := by
  have e' : a'.val = 512 * ((pt t 0).val / 4) + a.val := by rw [pt_val t 0 (by omega)]; omega
  unfold rAt dy
  rw [pay6_apply, o_block m c _ a r a' e', hO]

include hO hB in
/-- The gradient of the activations. -/
theorem ds_apply (t s : Fin cfg0.N) (a : Fin 512) (l : Fin 704) (a' : Fin 4096) (e : a'.val = 512 * (t.val / 4) + a.val)
    (j : Fin 4) (hj : j.val = s.val % 4) : dotO (yAt m c t) (X0_7 m c s) a l = ds O B a' j l := by
  unfold dotO ds
  refine Finset.sum_congr rfl fun k _ => congrArg₂ (· * ·) (yAt_apply m c O hO t a k a' e) ?_
  exact (wo_block m c s ⟨l.val / 352, by omega⟩ ⟨l.val % 352, by omega⟩ k ⟨2 * j.val + l.val / 352, by omega⟩
    ⟨352 + l.val % 352, by omega⟩ (by show 2 * j.val + l.val / 352 = 2 * (s.val % 4) + l.val / 352; rw [hj]) rfl).trans (by rw [hB])

include hO hX hG hA hB

/-- The gradient of the gate. -/
theorem dgate_apply (t s : Fin cfg0.N) (hs : s.val / 4 = t.val / 4) (a : Fin 512) (l : Fin 704) (a' : Fin 4096)
    (e : a'.val = 512 * (t.val / 4) + a.val) (j : Fin 4) (hj : j.val = s.val % 4) :
    gE (dotO (yAt m c t) (X0_7 m c s) a l) ((iblk m c 3 s : Vec Ideal S1x512x704 .bf16) (ix3 0 a l))
      ((iblk m c 4 s : Vec Ideal S1x512x704 .bf16) (ix3 0 a l)) = dgate O X G A B a' j l := by
  unfold dgate
  rw [ds_apply m c O hO B hB t s a l a' e j hj, zg_block m c s a l a' (by omega) j hj, zu_block m c s a l a' (by omega) j hj, hX, hG, hA]

/-- The gradient of the other factor. -/
theorem dup_apply (t s : Fin cfg0.N) (hs : s.val / 4 = t.val / 4) (a : Fin 512) (l : Fin 704) (a' : Fin 4096)
    (e : a'.val = 512 * (t.val / 4) + a.val) (j : Fin 4) (hj : j.val = s.val % 4) :
    uE (dotO (yAt m c t) (X0_7 m c s) a l) ((iblk m c 3 s : Vec Ideal S1x512x704 .bf16) (ix3 0 a l)) = dup O X G A B a' j l := by
  unfold dup
  rw [ds_apply m c O hO B hB t s a l a' e j hj, zg_block m c s a l a' (by omega) j hj, hX, hG, hA]

/-- What one point adds to the accumulator: its chunk's share. -/
theorem acc_step (t : Fin cfg0.N) (acc : Vec Ideal S512x1024 .f32) (a : Fin 512) (r : Fin 1024) (a' : Fin 4096)
    (e : a'.val = 512 * (t.val / 4) + a.val) (j : Fin 4) :
    accOf (yAt m c t) (iblk m c 3 (pt t j.val)) (iblk m c 4 (pt t j.val)) (iblk m c 5 (pt t j.val)) (iblk m c 6 (pt t j.val))
      (X0_7 m c (pt t j.val)) acc (ix2 a r) = acc (ix2 a r) + back O X G A B a' r j := by
  have hv := pt_val t j.val j.isLt
  have hp : (pt t j.val).val % 4 = j.val := by omega
  have hq : (pt t j.val).val / 4 = t.val / 4 := by omega
  rw [accOf_apply]
  unfold back
  refine congrArg (acc (ix2 a r) + ·) (congrArg₂ (· + ·) (Finset.sum_congr rfl fun l _ => congrArg₂ (· * ·) ?_ ?_)
    (Finset.sum_congr rfl fun l _ => congrArg₂ (· * ·) ?_ ?_))
  · exact dgate_apply m c O hO X hX G hG A hA B hB t _ hq a l a' e j hp.symm
  · rw [wg_block m c _ r l ⟨j.val, by omega⟩ hp.symm, hA]
  · exact dup_apply m c O hO X hX G hG A hA B hB t _ hq a l a' e j hp.symm
  · rw [wu_block m c _ r l ⟨j.val + 4, by omega⟩ (by rw [hp]), hA]

/-- The accumulator at a block's last point: the gradient of the normalised rows. -/
theorem acc_last (t : Fin cfg0.N) (ht : t.val % 4 = 3) (a : Fin 512) (r : Fin 1024) (a' : Fin 4096)
    (e : a'.val = 512 * (t.val / 4) + a.val) : (accAt m c t) (ix2 a r) = dh O X G A B a' r := by
  have s3 : accN m c t 3 (ix2 a r) = accN m c t 2 (ix2 a r) + back O X G A B a' r 3 :=
    acc_step m c O hO X hX G hG A hA B hB t (accN m c t 2) a r a' e 3
  have s2 : accN m c t 2 (ix2 a r) = accN m c t 1 (ix2 a r) + back O X G A B a' r 2 :=
    acc_step m c O hO X hX G hG A hA B hB t (accN m c t 1) a r a' e 2
  have s1 : accN m c t 1 (ix2 a r) = accN m c t 0 (ix2 a r) + back O X G A B a' r 1 :=
    acc_step m c O hO X hX G hG A hA B hB t (accN m c t 0) a r a' e 1
  have s0 : accN m c t 0 (ix2 a r) = k0_pay8 (F := Ideal) (ix2 a r) + back O X G A B a' r 0 :=
    acc_step m c O hO X hX G hG A hA B hB t (k0_pay8 (F := Ideal)) a r a' e 0
  unfold accAt dh
  rw [ht, s3, s2, s1, s0, pay8_apply, zero_add, Fin.sum_univ_four]

/-- One block's share of the gain's gradient. -/
def gainB (r : Fin 1024) (b : Fin 8) : EReal :=
  ∑ a : Fin 512, dh O X G A B ⟨512 * b.val + a.val, by omega⟩ r * (X (ix2 ⟨512 * b.val + a.val, by omega⟩ r) * inv X ⟨512 * b.val + a.val, by omega⟩)

omit hO hX hG hA hB in
/-- The whole gradient of the gains, a block at a time. -/
theorem dgain_blocks (r : Fin 1024) : dgain O X G A B r = ∑ b : Fin 8, gainB O X G A B r b := by
  unfold dgain gainB
  rw [← Fintype.sum_prod_type', ← (finProdFinEquiv (m := 8) (n := 512)).sum_comp]
  refine Finset.sum_congr rfl fun p _ => ?_
  have h : (finProdFinEquiv (m := 8) (n := 512) p : Fin 4096) = ⟨512 * p.1.val + p.2.val, by omega⟩ :=
    Fin.ext (by show p.2.val + 512 * p.1.val = 512 * p.1.val + p.2.val; omega)
  rw [h]

/-- A block's share, from its accumulator and its tokens. -/
def gainOf (acc x : Vec Ideal S512x1024 .f32) (r : Fin 1024) : EReal :=
  ∑ a : Fin 512, acc (ix2 a r) * (x (ix2 a r) * invB x a)

/-- A block's share, as its last point forms it. -/
theorem gain_step (b : Fin 8) (r : Fin 1024) :
    gainOf (accAt m c (lastPt b.val)) (iblk m c 1 (lastPt b.val)) r = gainB O X G A B r b := by
  have hv := lastPt_val b.val b.isLt
  have hb := b.isLt
  unfold gainOf gainB
  refine Finset.sum_congr rfl fun a _ => ?_
  have e : (⟨512 * b.val + a.val, by omega⟩ : Fin 4096).val = 512 * ((lastPt b.val).val / 4) + a.val := by
    show 512 * b.val + a.val = _; omega
  rw [acc_last m c O hO X hX G hG A hA B hB _ (by omega) a r _ e, x_block m c _ a r _ e, inv_apply m c X hX _ a _ e, hX]

/-- The gain's gradient after the last block. -/
theorem gain_last (r : Fin 1024) : (gainN m c 7) (ix2 0 r) = dgain O X G A B r := by
  have st : ∀ b : Fin 8, gainOf (accAt m c (lastPt b.val)) (iblk m c 1 (lastPt b.val)) r = gainB O X G A B r b := fun b => gain_step m c O hO X hX G hG A hA B hB b r
  have s0 : (gainN m c 0) (ix2 0 r) = gainB O X G A B r 0 := (pay3_apply _ _ r).trans (st 0)
  have s1 : (gainN m c 1) (ix2 0 r) = (gainN m c 0) (ix2 0 r) + gainB O X G A B r 1 := (pay5_apply _ _ _ r).trans (congrArg _ (st 1))
  have s2 : (gainN m c 2) (ix2 0 r) = (gainN m c 1) (ix2 0 r) + gainB O X G A B r 2 := (pay5_apply _ _ _ r).trans (congrArg _ (st 2))
  have s3 : (gainN m c 3) (ix2 0 r) = (gainN m c 2) (ix2 0 r) + gainB O X G A B r 3 := (pay5_apply _ _ _ r).trans (congrArg _ (st 3))
  have s4 : (gainN m c 4) (ix2 0 r) = (gainN m c 3) (ix2 0 r) + gainB O X G A B r 4 := (pay5_apply _ _ _ r).trans (congrArg _ (st 4))
  have s5 : (gainN m c 5) (ix2 0 r) = (gainN m c 4) (ix2 0 r) + gainB O X G A B r 5 := (pay5_apply _ _ _ r).trans (congrArg _ (st 5))
  have s6 : (gainN m c 6) (ix2 0 r) = (gainN m c 5) (ix2 0 r) + gainB O X G A B r 6 := (pay5_apply _ _ _ r).trans (congrArg _ (st 6))
  have s7 : (gainN m c 7) (ix2 0 r) = (gainN m c 6) (ix2 0 r) + gainB O X G A B r 7 := (pay5_apply _ _ _ r).trans (congrArg _ (st 7))
  rw [s7, s6, s5, s4, s3, s2, s1, s0, dgain_blocks, Fin.sum_univ_eight]

/-- The tokens' gradient, as a block's last point forms it. -/
theorem dtok_apply (t : Fin cfg0.N) (ht : t.val % 4 = 3) (a : Fin 512) (r : Fin 1024) (a' : Fin 4096)
    (e : a'.val = 512 * (t.val / 4) + a.val) :
    k0_pay4 (accAt m c t) (iblk m c 1 t) (iblk m c 2 t) (iblk m c 0 t) (ix2 a r) = dtok O X G A B a' r := by
  have hacc : ∀ r, (accAt m c t) (ix2 a r) = dh O X G A B a' r := fun r => acc_last m c O hO X hX G hG A hA B hB t ht a r a' e
  have hx : ∀ r, (iblk m c 1 t : Vec Ideal S512x1024 .f32) (ix2 a r) = X (ix2 a' r) := fun r => (x_block m c t a r a' e).trans (by rw [hX])
  have hg : ∀ r, (iblk m c 2 t : Vec Ideal S1x1024 .f32) (ix2 0 r) = G (ix2 0 r) := fun r => (g_block m c t r).trans (by rw [hG])
  have ho : (iblk m c 0 t : Vec Ideal S512x1024 .f32) (ix2 a r) = O (ix2 a' r) := (o_block m c t a r a' e).trans (by rw [hO])
  rw [pay4_apply, inv_apply m c X hX t a a' e, ho]
  unfold dtok
  simp only [hacc, hx, hg]

end Elements

section Arrays

variable (m : (ℓ : Loc nD τ sig) → Buf (Elt Ideal) ℓ) (c : Dev nD)
  (O : Vec Ideal S4096x1024 .f32) (hO : m ((c : Thread nD τ).loc main_arg0) = O)
  (X : Vec Ideal S4096x1024 .f32) (hX : m ((c : Thread nD τ).loc main_arg1) = X)
  (G : Vec Ideal S1x1024 .f32) (hG : m ((c : Thread nD τ).loc main_arg2) = G)
  (A : Vec Ideal S8x2x1024x704 .bf16) (hA : m ((c : Thread nD τ).loc main_arg3) = A)
  (B : Vec Ideal S8x1024x1024 .bf16) (hB : m ((c : Thread nD τ).loc main_arg4) = B)
include hO

/-- The result that holds the halved gradient. -/
theorem final9 : (dats m 0 c).arrAt 9 cfg0.N = (fun i => dy O (i 0) (i 1) : Vec Ideal S4096x1024 .bf16) := by
  have hi : ∀ t : Fin 32, win0_9.index t 0 = t.val / 4 ∧ win0_9.index t 1 = 0 := by decide
  refine (dats m 0 c).arrAt_eq_of_covers 9 _ (by decide +kernel) fun t hf y => ?_
  obtain ⟨i0, i1⟩ := hi t
  have e0 : (((cfg0.win 9).blk t).view.emb y 0 : ℕ) = 512 * (t.val / 4) + (y 0).val := by blk_simp [i0, i1]; omega
  have e1 : (((cfg0.win 9).blk t).view.emb y 1 : ℕ) = (y 1).val := by blk_simp [i0, i1]
  blk_simp [i0, i1]
  rw [after0_9]
  refine (congrArg _ (eq_ix2 (n0 := 512) (n1 := 1024) y)).trans
    ((rAt_apply m c O hO t (y 0) (y 1) (((cfg0.win 9).blk t).view.emb y 0) e0).trans ?_)
  exact congrArg _ (Fin.ext e1.symm)

include hX hG hA hB

/-- The result that holds the gate's gradient. -/
theorem final10 : (dats m 0 c).arrAt 10 cfg0.N
    = (fun i => dgate O X G A B (i 1) (i 0) (i 2) : Vec Ideal S4x4096x704 .bf16) := by
  have hi : ∀ t : Fin 32, win0_10.index t 0 = t.val % 4 ∧ win0_10.index t 1 = t.val / 4 ∧ win0_10.index t 2 = 0 := by decide
  refine (dats m 0 c).arrAt_eq_of_covers 10 _ (by decide +kernel) fun t hf y => ?_
  obtain ⟨i0, i1, i2⟩ := hi t
  have y0 : (y 0).val < 1 := (y 0).isLt
  have e0 : (((cfg0.win 10).blk t).view.emb y 0 : ℕ) = t.val % 4 := by blk_simp [i0, i1, i2]
  have e1 : (((cfg0.win 10).blk t).view.emb y 1 : ℕ) = 512 * (t.val / 4) + (y 1).val := by blk_simp [i0, i1, i2]; omega
  have e2 : (((cfg0.win 10).blk t).view.emb y 2 : ℕ) = (y 2).val := by blk_simp [i0, i1, i2]
  have hy : (y : S1x512x704.Idx) = ix3 0 (y 1) (y 2) :=
    (eq_ix3 (n0 := 1) (n1 := 512) (n2 := 704) y).trans (by congr 1; exact Fin.ext (by show (y 0).val = 0; omega))
  blk_simp [i0, i1, i2]
  rw [after0_10]
  refine (congrArg _ hy).trans ((gateOf_apply _ _ _ _ (y 1) (y 2)).trans
    ((dgate_apply m c O hO X hX G hG A hA B hB t t rfl (y 1) (y 2) (((cfg0.win 10).blk t).view.emb y 1) e1 ⟨t.val % 4, by omega⟩ rfl).trans ?_))
  exact congrArg₂ (dgate O X G A B (((cfg0.win 10).blk t).view.emb y 1)) (Fin.ext (e0.symm)) (Fin.ext e2.symm)

/-- The result that holds the other factor's gradient. -/
theorem final11 : (dats m 0 c).arrAt 11 cfg0.N
    = (fun i => dup O X G A B (i 1) (i 0) (i 2) : Vec Ideal S4x4096x704 .bf16) := by
  have hi : ∀ t : Fin 32, win0_11.index t 0 = t.val % 4 ∧ win0_11.index t 1 = t.val / 4 ∧ win0_11.index t 2 = 0 := by decide
  refine (dats m 0 c).arrAt_eq_of_covers 11 _ (by decide +kernel) fun t hf y => ?_
  obtain ⟨i0, i1, i2⟩ := hi t
  have y0 : (y 0).val < 1 := (y 0).isLt
  have e0 : (((cfg0.win 11).blk t).view.emb y 0 : ℕ) = t.val % 4 := by blk_simp [i0, i1, i2]
  have e1 : (((cfg0.win 11).blk t).view.emb y 1 : ℕ) = 512 * (t.val / 4) + (y 1).val := by blk_simp [i0, i1, i2]; omega
  have e2 : (((cfg0.win 11).blk t).view.emb y 2 : ℕ) = (y 2).val := by blk_simp [i0, i1, i2]
  have hy : (y : S1x512x704.Idx) = ix3 0 (y 1) (y 2) :=
    (eq_ix3 (n0 := 1) (n1 := 512) (n2 := 704) y).trans (by congr 1; exact Fin.ext (by show (y 0).val = 0; omega))
  blk_simp [i0, i1, i2]
  rw [after0_11]
  refine (congrArg _ hy).trans ((upOf_apply _ _ _ (y 1) (y 2)).trans
    ((dup_apply m c O hO X hX G hG A hA B hB t t rfl (y 1) (y 2) (((cfg0.win 11).blk t).view.emb y 1) e1 ⟨t.val % 4, by omega⟩ rfl).trans ?_))
  exact congrArg₂ (dup O X G A B (((cfg0.win 11).blk t).view.emb y 1)) (Fin.ext (e0.symm)) (Fin.ext e2.symm)

/-- The result that holds the tokens' gradient. -/
theorem final8 : (dats m 0 c).arrAt 8 cfg0.N = (fun i => dtok O X G A B (i 0) (i 1) : Vec Ideal S4096x1024 .f32) := by
  have hi : ∀ t : Fin 32, win0_8.index t 0 = t.val / 4 ∧ win0_8.index t 1 = 0 := by decide
  refine (dats m 0 c).arrAt_eq_of_covers 8 _ (by decide +kernel) fun t hf y => ?_
  obtain ⟨i0, i1⟩ := hi t
  have ht : t.val % 4 = 3 := (flush0_8 t).mp hf
  have e0 : (((cfg0.win 8).blk t).view.emb y 0 : ℕ) = 512 * (t.val / 4) + (y 0).val := by blk_simp [i0, i1]; omega
  have e1 : (((cfg0.win 8).blk t).view.emb y 1 : ℕ) = (y 1).val := by blk_simp [i0, i1]
  blk_simp [i0, i1]
  rw [after0_8]
  refine (congrArg _ (eq_ix2 (n0 := 512) (n1 := 1024) y)).trans
    ((dtok_apply m c O hO X hX G hG A hA B hB t ht (y 0) (y 1) (((cfg0.win 8).blk t).view.emb y 0) e0).trans ?_)
  exact congrArg _ (Fin.ext e1.symm)

/-- The result that holds the gains' gradient. -/
theorem final12 : (dats m 0 c).arrAt 12 cfg0.N = (fun i => dgain O X G A B (i 1) : Vec Ideal S1x1024 .f32) := by
  have hi : ∀ t : Fin 32, win0_12.index t 0 = 0 ∧ win0_12.index t 1 = 0 := by decide
  refine (dats m 0 c).arrAt_eq_of_covers 12 _ (by decide +kernel) fun t hf y => ?_
  obtain ⟨i0, i1⟩ := hi t
  have ht : t.val % 32 = 31 := (flush0_12 t).mp hf
  have hN : t.val < 32 := t.isLt
  have y0 : (y 0).val < 1 := (y 0).isLt
  have e1 : (((cfg0.win 12).blk t).view.emb y 1 : ℕ) = (y 1).val := by blk_simp [i0, i1]
  have hy : (y : S1x1024.Idx) = ix2 0 (y 1) :=
    (eq_ix2 (n0 := 1) (n1 := 1024) y).trans (by congr 1; exact Fin.ext (by show (y 0).val = 0; omega))
  blk_simp [i0, i1]
  rw [after0_12, show (t.val + 1) / 4 - 1 = 7 by omega]
  refine (congrArg _ hy).trans ((gain_last m c O hO X hX G hG A hA B hB (y 1)).trans ?_)
  exact congrArg _ (Fin.ext e1.symm)

end Arrays

/-- After the call: the five results hold the gradients' formulas of the arguments, and the arguments are unchanged. -/
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v28_0) = (fun i => dtok (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (i 0) (i 1) : Vec Ideal S4096x1024 .f32)
      ∧ r.2.mem ((c.tc : Thread nD τ).loc main_v28_1) = (fun i => dy (m ((c.tc : Thread nD τ).loc main_arg0)) (i 0) (i 1)
          : Vec Ideal S4096x1024 .bf16)
      ∧ r.2.mem ((c.tc : Thread nD τ).loc main_v28_2) = (fun i => dgate (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (i 1) (i 0) (i 2) : Vec Ideal S4x4096x704 .bf16)
      ∧ r.2.mem ((c.tc : Thread nD τ).loc main_v28_3) = (fun i => dup (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (i 1) (i 0) (i 2) : Vec Ideal S4x4096x704 .bf16)
      ∧ r.2.mem ((c.tc : Thread nD τ).loc main_v28_4) = (fun i => dgain (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (i 1) : Vec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).1 8).trans (final8 m c _ rfl _ rfl _ rfl _ rfl _ rfl), ((h.1 c).1 9).trans (final9 m c _ rfl),
      ((h.1 c).1 10).trans (final10 m c _ rfl _ rfl _ rfl _ rfl _ rfl), ((h.1 c).1 11).trans (final11 m c _ rfl _ rfl _ rfl _ rfl _ rfl),
      ((h.1 c).1 12).trans (final12 m c _ rfl _ rfl _ rfl _ rfl _ rfl), args_kept m h.1 c⟩) (run_main m ρ)

end Cert.Kernel4Ideal.Bwd
-- ==== Proof.BackwardRef.lean ====
module

public import proofs.«01_k».proof.Proof.BackwardSpec
public import proofs.«01_k».proof.Proof.BackwardReal
public import proofs.«01_k».proof.Proof.ForwardRef
public import proofs.«01_k».proof.Proof.Gen.Reference4Ideal.Read

/-!
# What the reference's backward computes

The reference's five results, element by element.
-/

@[expose] public section

noncomputable section

namespace Cert.Reference4Ideal.Bwd

open Idealize.ShloMosaic Idealize.ShloMosaic.TcCoe
open Cert.Reference4Ideal Cert.Reference4Ideal.Read
open Cert.Reference3Ideal.Fwd (idx2 idx3)
open Cert.Kernel3Ideal.Fwd (prj nrm)
open Cert.Kernel4Ideal.Bwd (sg gE uE dy ds dgate dup back dh dtok dgain)
open Cert.Num (IsNum)

variable (O X : Vec Ideal S4096x1024 .f32) (G : Vec Ideal S1x1024 .f32) (A : Vec Ideal S8x2x1024x704 .bf16)
  (B : Vec Ideal S8x1024x1024 .bf16)

/-- The forward lines are the forward block's. -/
theorem w_in : val_main_v4 (F := Ideal) A = Cert.Reference3Ideal.Read.val_main_v4 (F := Ideal) A := rfl
theorem w_out : val_main_v7 (F := Ideal) B = Cert.Reference3Ideal.Read.val_main_v7 (F := Ideal) B := rfl
theorem gates : val_main_v26 (F := Ideal) X G A = Cert.Reference3Ideal.Read.val_main_v23 (F := Ideal) X G A := rfl
theorem ups : val_main_v27 (F := Ideal) X G A = Cert.Reference3Ideal.Read.val_main_v24 (F := Ideal) X G A := rfl

section Numbers

variable {O X G A B}

/-- The reciprocal root mean square of a row of numbers. -/
theorem inv_num (a : Fin 4096) (hX : ∀ k : Fin 1024, IsNum (X (ix2 a k))) : IsNum (Cert.Kernel4Ideal.Bwd.inv X a) := by
  choose x hx using hX
  obtain ⟨e, he, hb⟩ := Cert.Num.bits_eps
  unfold Cert.Kernel4Ideal.Bwd.inv
  rw [hb, Cert.Num.bits_1024]
  simp only [hx]
  obtain ⟨hm, pos⟩ := Cert.Num.mean x e he _ rfl
  rw [hm, Cert.Num.inv_root pos]
  exact Cert.Num.of_real _

/-- The mean square of a row that holds an infinity. -/
theorem mean_top (a : Fin 4096) (k : Fin 1024) (hk : ¬ IsNum (X (ix2 a k))) :
    Ideal.div (∑ k : Fin 1024, X (ix2 a k) * X (ix2 a k)) (Ideal.ofBits .f32 0x44800000#32) + Ideal.ofBits .f32 0x358637BD#32 = ⊤ := by
  obtain ⟨e, he, hb⟩ := Cert.Num.bits_eps
  rw [hb, Cert.Num.bits_1024]
  exact Cert.Num.root_zero (fun k => X (ix2 a k)) k hk

/-- The reciprocal root of a row that holds an infinity. -/
theorem inv_zero (a : Fin 4096) (k : Fin 1024) (hk : ¬ IsNum (X (ix2 a k))) : Cert.Kernel4Ideal.Bwd.inv X a = 0 := by
  unfold Cert.Kernel4Ideal.Bwd.inv
  rw [mean_top a k hk, Ideal.rsqrt_top]

/-- A normalised entry is a number, whatever the row holds. -/
theorem unit_num (a : Fin 4096) (k : Fin 1024) : IsNum (X (ix2 a k) * Cert.Kernel4Ideal.Bwd.inv X a) := by
  by_cases h : ∀ k : Fin 1024, IsNum (X (ix2 a k))
  · exact Cert.Num.mul (h k) (inv_num a h)
  · obtain ⟨q, hq⟩ := not_forall.mp h
    rw [inv_zero a q hq, mul_zero]
    exact Cert.Num.zero

/-- The gate and the other factor. -/
theorem prj_num (hG : ∀ i, IsNum (G i)) (hA : ∀ i, IsNum (A i)) (a : Fin 4096) (j : Fin 8) (l : Fin 704) :
    IsNum (prj X G A a j l) :=
  Cert.Num.sum _ _ fun k _ => Cert.Num.mul (Cert.Num.mul (unit_num a k) (hG _)) (hA _)

/-- The gradient of the activations. -/
theorem ds_num (hO : ∀ i, IsNum (O i)) (hB : ∀ i, IsNum (B i)) (a : Fin 4096) (j : Fin 4) (l : Fin 704) : IsNum (ds O B a j l) :=
  Cert.Num.sum _ _ fun k _ => Cert.Num.mul (Cert.Num.mul ⟨_, Cert.Num.bits_half⟩ (hO _)) (hB _)

/-- The logistic function. -/
theorem sg_num {p : EReal} (hp : IsNum p) : IsNum (sg p) := by
  obtain ⟨r, rfl⟩ := hp
  exact ⟨_, Cert.Num.logistic r⟩

/-- The gradient of the gate. -/
theorem gE_num {d p u : EReal} (hd : IsNum d) (hp : IsNum p) (hu : IsNum u) : IsNum (gE d p u) :=
  Cert.Num.mul (Cert.Num.mul hd hu) (Cert.Num.mul (sg_num hp) (Cert.Num.add Cert.Num.one (Cert.Num.mul hp (Cert.Num.sub Cert.Num.one (sg_num hp)))))

/-- The gradient of the other factor. -/
theorem uE_num {d p : EReal} (hd : IsNum d) (hp : IsNum p) : IsNum (uE d p) := Cert.Num.mul hd (Cert.Num.mul hp (sg_num hp))

/-- Between numbers, the gate's gradient as the product rule writes it. -/
theorem gE_eq {d p u : EReal} (hd : IsNum d) (hp : IsNum p) (hu : IsNum u) :
    d * u * sg p + p * (d * u) * (sg p * (1 - sg p)) = gE d p u := by
  obtain ⟨s, hs⟩ := sg_num hp
  obtain ⟨d, rfl⟩ := hd
  obtain ⟨p, rfl⟩ := hp
  obtain ⟨u, rfl⟩ := hu
  unfold gE
  rw [hs]
  exact (Cert.Num.gate_eq d u p s).symm

/-- The gradient of the normalised rows. -/
theorem dh_num (hO : ∀ i, IsNum (O i)) (hG : ∀ i, IsNum (G i)) (hA : ∀ i, IsNum (A i)) (hB : ∀ i, IsNum (B i))
    (a : Fin 4096) (r : Fin 1024) : IsNum (dh O X G A B a r) :=
  Cert.Num.sum _ _ fun j _ => Cert.Num.add
    (Cert.Num.sum _ _ fun l _ => Cert.Num.mul (gE_num (ds_num hO hB a j l) (prj_num hG hA _ _ _) (prj_num hG hA _ _ _)) (hA _))
    (Cert.Num.sum _ _ fun l _ => Cert.Num.mul (uE_num (ds_num hO hB a j l) (prj_num hG hA _ _ _)) (hA _))

end Numbers

section Results

/-- A sum over the hidden columns, a chunk at a time. -/
theorem sum_chunks (f : Fin 2816 → EReal) : ∑ q : Fin 2816, f q = ∑ j : Fin 4, ∑ l : Fin 704, f ⟨704 * j.val + l.val, by omega⟩ := by
  rw [← Fintype.sum_prod_type', ← (finProdFinEquiv (m := 4) (n := 704)).sum_comp]
  refine Finset.sum_congr rfl fun p _ => ?_
  have h : (finProdFinEquiv (m := 4) (n := 704) p : Fin 2816) = ⟨704 * p.1.val + p.2.val, by omega⟩ :=
    Fin.ext (by show p.2.val + 704 * p.1.val = 704 * p.1.val + p.2.val; omega)
  rw [h]

/-- The reference's halved gradient. -/
theorem dy_ref (a : Fin 4096) (k : Fin 1024) : val_main_v36 (F := Ideal) O (ix2 a k) = dy O a k := by
  have ha := a.isLt
  have hk := k.isLt
  rw [val_main_v36_apply, val_main_v35_apply, val_main_v34_apply, idx2 (idx_main_v34 (ix2 a k)) a k
    (by show (a.val * 1024 + k.val) / 1024 = a.val; omega) (by show (a.val * 1024 + k.val) % 1024 = k.val; omega)]
  simp only [val_main_cst_4_apply, pointwise]
  rfl

/-- The reference's gradient of the activations. -/
theorem ds_ref (a : Fin 4096) (q : Fin 2816) (j : Fin 4) (l : Fin 704) (e : q.val = 704 * j.val + l.val) :
    val_main_v37 (F := Ideal) O B (ix2 a q) = ds O B a j l := by
  rw [val_main_v37_apply]
  unfold ds
  refine Finset.sum_congr rfl fun k _ => ?_
  rw [idx2 (lidx_main_v37 (ix2 a q) k) a k rfl rfl, idx2 (ridx_main_v37 (ix2 a q) k) q k rfl rfl, dy_ref, w_out,
    Cert.Reference3Ideal.Fwd.wout_ref B q k ⟨2 * j.val + l.val / 352, by omega⟩ ⟨352 + l.val % 352, by omega⟩
      (by show 2 * j.val + l.val / 352 = _; omega) (by show 352 + l.val % 352 = _; omega)]

/-- The reference's gate. -/
theorem gate_ref (a : Fin 4096) (q : Fin 2816) (j : Fin 4) (l : Fin 704) (e : q.val = 704 * j.val + l.val) :
    val_main_v26 (F := Ideal) X G A (ix2 a q) = prj X G A a ⟨j.val, by omega⟩ l := by
  rw [gates]
  exact Cert.Reference3Ideal.Fwd.gate_ref X G A a q ⟨j.val, by omega⟩ l e

/-- The reference's other factor. -/
theorem up_ref (a : Fin 4096) (q : Fin 2816) (j : Fin 4) (l : Fin 704) (e : q.val = 704 * j.val + l.val) :
    val_main_v27 (F := Ideal) X G A (ix2 a q) = prj X G A a ⟨j.val + 4, by omega⟩ l := by
  rw [ups]
  exact Cert.Reference3Ideal.Fwd.up_ref X G A a q ⟨j.val + 4, by omega⟩ l (by show _ = 704 * (j.val + 4) + l.val; omega)

/-- The reference's logistic of the gate. -/
theorem sg_ref (a : Fin 4096) (q : Fin 2816) (j : Fin 4) (l : Fin 704) (e : q.val = 704 * j.val + l.val) :
    val_main_v28_2 (F := Ideal) X G A (ix2 a q) = sg (prj X G A a ⟨j.val, by omega⟩ l) := by
  rw [val_main_v28_2_apply, val_main_call0_v4_apply, val_main_call0_v3_apply, val_main_call0_v2_apply, val_main_call0_v1_apply,
    val_main_call0_v0_apply, gate_ref X G A a q j l e]
  simp only [val_main_call0_cst_apply, val_main_call0_cst_0_apply, pointwise]
  unfold sg
  rw [zero_sub]

/-- The reference's gradient of the other factor. -/
theorem dup_ref (a : Fin 4096) (q : Fin 2816) (j : Fin 4) (l : Fin 704) (e : q.val = 704 * j.val + l.val) :
    val_main_v38 (F := Ideal) O X G A B (ix2 a q) = dup O X G A B a j l := by
  rw [val_main_v38_apply, val_main_v28_0_apply, gate_ref X G A a q j l e, sg_ref X G A a q j l e, ds_ref O B a q j l e]
  simp only [pointwise]
  exact mul_comm _ _

variable {O X G A B}
variable (hO : ∀ i, IsNum (O i)) (hG : ∀ i, IsNum (G i)) (hA : ∀ i, IsNum (A i)) (hB : ∀ i, IsNum (B i))
include hO hG hA hB

/-- The reference's gradient of the gate. -/
theorem dgate_ref (a : Fin 4096) (q : Fin 2816) (j : Fin 4) (l : Fin 704) (e : q.val = 704 * j.val + l.val) :
    val_main_v40 (F := Ideal) O X G A B (ix2 a q) = dgate O X G A B a j l := by
  rw [val_main_v40_apply, val_main_call1_v1_apply, val_main_call1_v2_apply, val_main_call1_v0_apply, val_main_v39_apply,
    val_main_v28_1_apply, val_main_call0_v7_apply, val_main_call0_v6_apply, gate_ref X G A a q j l e, up_ref X G A a q j l e,
    sg_ref X G A a q j l e, ds_ref O B a q j l e]
  simp only [val_main_call0_cst_1_apply, pointwise]
  exact gE_eq (ds_num hO hB a j l) (prj_num hG hA _ _ _) (prj_num hG hA _ _ _)

/-- The reference's gradient of the normalised rows. -/
theorem dh_ref (a : Fin 4096) (r : Fin 1024) : val_main_v42 (F := Ideal) O X G A B (ix2 a r) = dh O X G A B a r := by
  rw [val_main_v42_apply, Fin.sum_univ_two_halves 2816 2816 rfl, sum_chunks, sum_chunks, ← Finset.sum_add_distrib]
  unfold dh
  refine Finset.sum_congr rfl fun j _ => ?_
  unfold back
  refine congrArg₂ (· + ·) (Finset.sum_congr rfl fun l _ => congrArg₂ (· * ·) ?_ ?_)
    (Finset.sum_congr rfl fun l _ => congrArg₂ (· * ·) ?_ ?_)
  · rw [← dgate_ref hO hG hA hB a ⟨704 * j.val + l.val, by omega⟩ j l rfl]
    unfold val_main_v41
    refine concatenate_pair_apply_left (t := S4096x5632) (s₁ := S4096x2816) (s₂ := S4096x2816) _ _ _ _ _ rfl _ fun b => ?_
    match b with
    | ⟨0, _⟩ => rfl
    | ⟨1, _⟩ => rfl
  · rw [w_in, idx2 (ridx_main_v42 (ix2 a r) _) r ⟨704 * j.val + l.val, by omega⟩ rfl rfl]
    exact Cert.Reference3Ideal.Fwd.win_ref A r _ ⟨j.val, by omega⟩ l rfl
  · rw [← dup_ref O X G A B a ⟨704 * j.val + l.val, by omega⟩ j l rfl]
    unfold val_main_v41
    refine concatenate_pair_apply_right (t := S4096x5632) (s₁ := S4096x2816) (s₂ := S4096x2816) _ _ _ _ _ rfl rfl _ (fun b hb => ?_) ?_
    · match b with
      | ⟨0, _⟩ => rfl
      | ⟨1, _⟩ => exact absurd rfl hb
    · show 704 * j.val + l.val + 2816 = 2816 + (704 * j.val + l.val); omega
  · rw [w_in, idx2 (ridx_main_v42 (ix2 a r) _) r ⟨2816 + (704 * j.val + l.val), by omega⟩ rfl rfl]
    exact Cert.Reference3Ideal.Fwd.win_ref A r _ ⟨j.val + 4, by omega⟩ l (by show 2816 + (704 * j.val + l.val) = 704 * (j.val + 4) + l.val; omega)

omit hO hG hA hB in
/-- The reference's mean square plus epsilon. -/
theorem mean_ref (a : Fin 4096) : val_main_v14 (F := Ideal) X (ix2 a 0)
    = Ideal.div (∑ k : Fin 1024, X (ix2 a k) * X (ix2 a k)) (Ideal.ofBits .f32 0x44800000#32) + Ideal.ofBits .f32 0x358637BD#32 := by
  rw [val_main_v14_apply, val_main_v13_apply, val_main_v12_apply, val_main_v11_apply, val_main_v10_apply, val_main_v9_apply]
  simp only [val_main_v8_apply, val_main_cst_apply, val_main_cst_0_apply, val_main_cst_1_apply, pointwise, zero_add]
  have e9 : ∀ k : Fin 1024, idx_main_v9 (idx_main_v10 (ix2 a 0)) k = ix2 a k := fun k => idx2 _ a k rfl rfl
  simp only [e9]

omit hO hG hA hB in
/-- The reference's reciprocal root mean square. -/
theorem inv_ref (a : Fin 4096) : val_main_v15 (F := Ideal) X (ix2 a 0) = Cert.Kernel4Ideal.Bwd.inv X a := by
  rw [val_main_v15_apply, mean_ref]
  rfl

omit hO hG hA hB in
/-- The reference's gains. -/
theorem gain_ref (r : Fin 1024) : val_main_v22 (F := Ideal) G (ix2 0 r) = G (ix2 0 r) := by
  rw [val_main_v22_apply, val_main_v21_apply]
  exact congrArg G (idx2 _ 0 r rfl (by show r.val % 1024 = r.val; exact Nat.mod_eq_of_lt r.isLt))

/-- The reference's gradient of the gains. -/
theorem dgain_ref (r : Fin 1024) : val_main_v49 (F := Ideal) O X G A B (ix2 0 r) = dgain O X G A B r := by
  rw [val_main_v49_apply, val_main_v48_apply, Fin.sum_univ_one, val_main_v45_apply, val_main_v44_apply]
  simp only [val_main_cst_5_apply, val_main_cst_6_apply, pointwise, zero_add]
  unfold dgain
  refine Finset.sum_congr rfl fun a _ => ?_
  rw [idx2 (idx_main_v44 _ a) a r rfl (by show 0 * 1024 + r.val = r.val; omega), val_main_v43_apply, val_main_v20_apply, val_main_v19_apply,
    idx2 (idx_main_v19 (ix2 a r)) a 0 rfl rfl, inv_ref, dh_ref hO hG hA hB]
  simp only [pointwise]
  exact mul_comm _ _

/-- What the reference sends back to the normalised row before the gains. -/
theorem scaled_ref (a : Fin 4096) (r : Fin 1024) :
    val_main_v47 (F := Ideal) O X G A B (ix2 a r) = dh O X G A B a r * G (ix2 0 r) := by
  rw [val_main_v47_apply, val_main_v46_apply, idx2 (idx_main_v46 (ix2 a r)) 0 r rfl rfl, gain_ref, dh_ref hO hG hA hB]
  rfl

/-- The reference's derivative of the reciprocal root, times the row's share of it. -/
theorem root_ref (a : Fin 4096) (r : Fin 1024) : val_main_v59 (F := Ideal) O X G A B (ix2 a r)
    = Ideal.div ((∑ k : Fin 1024, X (ix2 a k) * (dh O X G A B a k * G (ix2 0 k))) * (Ideal.ofBits .f32 0xBF000000#32
      * Ideal.div (Cert.Kernel4Ideal.Bwd.inv X a) (Ideal.div (∑ k : Fin 1024, X (ix2 a k) * X (ix2 a k)) (Ideal.ofBits .f32 0x44800000#32)
        + Ideal.ofBits .f32 0x358637BD#32))) (Ideal.ofBits .f32 0x44800000#32) := by
  rw [val_main_v59_apply, val_main_v58_apply, Fin.sum_univ_one, idx2 (idx_main_v58 _ 0) a 0 rfl rfl, val_main_v57_apply, val_main_v56_apply,
    val_main_v55_apply, val_main_v52_apply, val_main_v51_apply, val_main_v18_apply, val_main_v17_apply, val_main_v16_apply, inv_ref, mean_ref]
  have e51 : ∀ k : Fin 1024, idx_main_v51 (idx_main_v52 (ix2 a 0)) k = ix2 a k := fun k => idx2 _ a k (by show a.val * 1 + 0 = a.val; omega) rfl
  simp only [e51, val_main_v50_apply, scaled_ref hO hG hA hB, val_main_cst_2_apply, val_main_cst_7_apply, val_main_cst_8_apply,
    val_main_cst_9_apply, pointwise, zero_add]

/-- The reference's gradient of the tokens. -/
theorem dtok_ref (a : Fin 4096) (r : Fin 1024) : val_main_v64 (F := Ideal) O X G A B (ix2 a r) = dtok O X G A B a r := by
  rw [val_main_v64_apply, val_main_v63_apply, val_main_v62_apply, val_main_v61_apply, val_main_v60_apply, val_main_v54_apply,
    val_main_v53_apply, idx2 (idx_main_v53 (ix2 a r)) a 0 rfl rfl, inv_ref, scaled_ref hO hG hA hB, root_ref hO hG hA hB]
  simp only [pointwise]
  have hd := dh_num (X := X) hO hG hA hB a
  unfold dtok
  refine congrArg (O (ix2 a r) + ·) ?_
  by_cases hX : ∀ k : Fin 1024, IsNum (X (ix2 a k))
  swap
  · obtain ⟨q, hq⟩ := not_forall.mp hX
    rw [mean_top a q hq, inv_zero a q hq, Cert.Num.bits_1024, Ideal.div_coe (by norm_num)]
    simp [Ideal.div]
  have hv : Cert.Kernel4Ideal.Bwd.inv X a = Ideal.rsqrt (Ideal.div (∑ k : Fin 1024, X (ix2 a k) * X (ix2 a k)) (Ideal.ofBits .f32 0x44800000#32)
    + Ideal.ofBits .f32 0x358637BD#32) := rfl
  generalize Cert.Kernel4Ideal.Bwd.inv X a = v at hv ⊢
  generalize dh O X G A B a = d at hd ⊢
  obtain ⟨e, he, hb⟩ := Cert.Num.bits_eps
  choose x hx using hX
  choose g hg using hG
  choose h hh using hd
  rw [hb, Cert.Num.bits_1024, Cert.Num.bits_neg_half]
  rw [hb, Cert.Num.bits_1024] at hv
  simp only [hx, hg, hh] at hv ⊢
  exact (Cert.Num.norm_eq x h (fun k => g (ix2 0 k)) e he r v hv).symm

omit hG hA hB hO in
/-- The reference's halved gradient, as the call returns it. -/
theorem dys_ref (a : Fin 4096) (k : Fin 1024) : val_main_v65 (F := Ideal) O (ix2 a k) = dy O a k := by
  rw [val_main_v65_apply, Ideal.truncf_def]
  exact dy_ref O a k

/-- A chunk of the reference's gradient of the gate. -/
theorem dgates_ref (j : Fin 4) (a : Fin 4096) (l : Fin 704) :
    val_main_v68 (F := Ideal) O X G A B (ix3 j a l) = dgate O X G A B a j l := by
  have ha := a.isLt
  have hj := j.isLt
  have hl := l.isLt
  rw [val_main_v68_apply, Ideal.truncf_def, val_main_v67_apply, idx3 (idx_main_v67 (ix3 j a l)) a j l rfl rfl rfl,
    val_main_v66_apply, idx2 (idx_main_v66 (ix3 a j l)) a ⟨704 * j.val + l.val, by omega⟩
      (by show ((a.val * 4 + j.val) * 704 + l.val) / 2816 = a.val; omega)
      (by show ((a.val * 4 + j.val) * 704 + l.val) % 2816 = 704 * j.val + l.val; omega)]
  exact dgate_ref hO hG hA hB a _ j l rfl

omit hG hA hB hO in
/-- A chunk of the reference's gradient of the other factor. -/
theorem dups_ref (j : Fin 4) (a : Fin 4096) (l : Fin 704) :
    val_main_v71 (F := Ideal) O X G A B (ix3 j a l) = dup O X G A B a j l := by
  have ha := a.isLt
  have hj := j.isLt
  have hl := l.isLt
  rw [val_main_v71_apply, Ideal.truncf_def, val_main_v70_apply, idx3 (idx_main_v70 (ix3 j a l)) a j l rfl rfl rfl,
    val_main_v69_apply, idx2 (idx_main_v69 (ix3 a j l)) a ⟨704 * j.val + l.val, by omega⟩
      (by show ((a.val * 4 + j.val) * 704 + l.val) / 2816 = a.val; omega)
      (by show ((a.val * 4 + j.val) * 704 + l.val) % 2816 = 704 * j.val + l.val; omega)]
  exact dup_ref O X G A B a _ j l rfl

end Results

end Cert.Reference4Ideal.Bwd
-- ==== Proof.lean ====
module

public import proofs.«01_k».proof.Defs
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Points
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Skeleton
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Skeleton
public import proofs.«01_k».proof.Proof.Gen.Kernel4Ideal.Points
public import proofs.«01_k».proof.Proof.Gen.Reference4Ideal.Run
public import proofs.«01_k».proof.Proof.Gen.Reference4Ideal.Read
public import proofs.«01_k».proof.Proof.Run
public import proofs.«01_k».proof.Proof.BandFinal
public import proofs.«01_k».proof.Proof.BandFinite
public import proofs.«01_k».proof.Proof.Words
public import proofs.«01_k».proof.Proof.WeightsValue
public import proofs.«01_k».proof.Proof.ForwardWords
public import proofs.«01_k».proof.Proof.ForwardValue
public import proofs.«01_k».proof.Proof.ForwardRef
public import proofs.«01_k».proof.Proof.BackwardWords
public import proofs.«01_k».proof.Proof.BackwardValue
public import proofs.«01_k».proof.Proof.BackwardRef
public import proofs.«01_k».proof.Proof.Gen.Pre_finite
public import proofs.«01_k».proof.Proof.Gen.Pre_real
public import proofs.«01_k».proof.Proof.BackwardFinite

@[expose] public section

noncomputable section

namespace Cert.Proof

open Idealize.ShloMosaic Idealize.ShloMosaic.TcCoe Idealize.SL.Sem

/-- The gradient of banded attention: its frame, read at the extended reals. -/
theorem attention_frame : quiescent_KernelIdeal (hKernelIdeal := Cert.KernelIdeal.Gen.facts) :=
  fun m ρ _ => Cert.KernelIdeal.Band.frame_run (F := Ideal) m ρ

/-- The gradient of banded attention at machine words: the same run. -/
theorem attention_frame_words : quiescent_Kernel (hKernel := Cert.Kernel.Gen.facts) :=
  fun m ρ _ => Cert.Kernel.Band.run_of _ _ (Cert.KernelIdeal.Band.frame_run (F := Bits) m ρ)

/-- The reference of attention's gradient: a straight line of host operations, no semaphore. -/
theorem attention_ref_frame : quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The reference of the weight gradients: a straight line of host operations, no semaphore. -/
theorem weights_ref_frame : quiescent_Reference2Ideal (hReference2Ideal := Cert.Reference2Ideal.Gen.facts) :=
  fun m ρ _ => (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The call leaves the reference's two gradients. -/
theorem weights_value : algebraic_Kernel2Ideal_Reference2Ideal (hKernel2Ideal := Cert.Kernel2Ideal.Gen.facts)
    (hReference2Ideal := Cert.Reference2Ideal.Gen.facts) := by
  intro m ρ m' ρ' _ hargs
  refine ⟨fun c => Cert.Kernel2Ideal.Value.G5 m c, fun c => Cert.Kernel2Ideal.Value.G6 m c, Cert.Kernel2Ideal.Value.run m ρ,
    (θ_run _ _ _).mono (fun _ h c => ?_) (Cert.Reference2Ideal.Value.run m' ρ')⟩
  obtain ⟨a0, a1, a2, a3, a4⟩ := hargs c
  obtain ⟨h0, h1, h2⟩ := h c
  refine ⟨h0.trans ?_, h1.trans ?_, h2⟩
  · rw [a0, a1, a2, Cert.Reference2Ideal.Read.val_main_v19_eq]
    exact Cert.Kernel2Ideal.Weights.in_eq m c
  · rw [a3, a4, Cert.Reference2Ideal.Read.val_main_v21_eq]
    exact Cert.Kernel2Ideal.Weights.out_eq m c

/-- The feed-forward block at the extended reals: its frame. -/
theorem forward_frame : quiescent_Kernel3Ideal (hKernel3Ideal := Cert.Kernel3Ideal.Gen.facts) :=
  fun m ρ _ => Cert.Kernel3Ideal.Fwd.frame_run (F := Ideal) m ρ

/-- The feed-forward block at machine words: the same run. -/
theorem forward_frame_words : quiescent_Kernel3 (hKernel3 := Cert.Kernel3.Gen.facts) :=
  fun m ρ _ => Cert.Kernel3.Fwd.run_of _ _ (Cert.Kernel3Ideal.Fwd.frame_run (F := Bits) m ρ)

/-- The reference of the feed-forward block: a straight line of host operations, no semaphore. -/
theorem forward_ref_frame : quiescent_Reference3Ideal (hReference3Ideal := Cert.Reference3Ideal.Gen.facts) :=
  fun m ρ _ => (θ_run Cert.Reference3Ideal.defs _ _).mono
    (fun r h => ⟨fun c => (h c).2.2.2.2.2, Idealize.ShloMosaic.sem_eq_zero_of_no_sems (by decide) r.2⟩)
    (Cert.Reference3Ideal.Value.run (F := Ideal) m ρ)

/-- The call leaves the reference's five arrays. -/
theorem forward_value : algebraic_Kernel3Ideal_Reference3Ideal (hKernel3Ideal := Cert.Kernel3Ideal.Gen.facts)
    (hReference3Ideal := Cert.Reference3Ideal.Gen.facts) := by
  intro m ρ m' ρ' _ hargs
  refine ⟨_, _, _, _, _, Cert.Kernel3Ideal.Fwd.value_run m ρ,
    (θ_run _ _ _).mono (fun _ h c => ?_) (Cert.Reference3Ideal.Value.run m' ρ')⟩
  obtain ⟨a0, a1, a2, a3⟩ := hargs c
  obtain ⟨h0, h1, h2, h3, h4, h5⟩ := h c
  refine ⟨h0.trans ?_, h1.trans ?_, h2.trans ?_, h3.trans ?_, h4.trans ?_, h5⟩
  · rw [Cert.Reference3Ideal.Read.val_main_v30_eq, a0, a1, a2, a3]
    funext i
    exact (congrArg _ (eq_ix2 (n0 := 4096) (n1 := 1024) i)).trans (Cert.Reference3Ideal.Fwd.res_ref _ _ _ _ (i 0) (i 1))
  · rw [Cert.Reference3Ideal.Read.val_main_v31_eq, a0, a1]
    funext i
    exact (congrArg _ (eq_ix2 (n0 := 4096) (n1 := 1024) i)).trans (Cert.Reference3Ideal.Fwd.nrm_ref _ _ (i 0) (i 1))
  · rw [Cert.Reference3Ideal.Read.val_main_v34_eq, a0, a1, a2]
    funext i
    exact (congrArg _ (eq_ix3 (n0 := 4) (n1 := 4096) (n2 := 704) i)).trans
      (Cert.Reference3Ideal.Fwd.gates_ref _ _ _ (i 0) (i 1) (i 2))
  · rw [Cert.Reference3Ideal.Read.val_main_v37_eq, a0, a1, a2]
    funext i
    exact (congrArg _ (eq_ix3 (n0 := 4) (n1 := 4096) (n2 := 704) i)).trans
      (Cert.Reference3Ideal.Fwd.ups_ref _ _ _ (i 0) (i 1) (i 2))
  · rw [Cert.Reference3Ideal.Read.val_main_v40_eq, a0, a1, a2]
    funext i
    exact (congrArg _ (eq_ix3 (n0 := 4) (n1 := 4096) (n2 := 704) i)).trans
      (Cert.Reference3Ideal.Fwd.acts_ref _ _ _ (i 0) (i 1) (i 2))

/-- The backward of the feed-forward block at the extended reals: its frame. -/
theorem backward_frame : quiescent_Kernel4Ideal (hKernel4Ideal := Cert.Kernel4Ideal.Gen.facts) :=
  fun m ρ _ => Cert.Kernel4Ideal.Bwd.frame_run (F := Ideal) m ρ

/-- The backward of the feed-forward block at machine words: the same run. -/
theorem backward_frame_words : quiescent_Kernel4 (hKernel4 := Cert.Kernel4.Gen.facts) :=
  fun m ρ _ => Cert.Kernel4.Bwd.run_of _ _ (Cert.Kernel4Ideal.Bwd.frame_run (F := Bits) m ρ)

/-- The reference of the backward: a straight line of host operations, no semaphore. -/
theorem backward_ref_frame : quiescent_Reference4Ideal (hReference4Ideal := Cert.Reference4Ideal.Gen.facts) :=
  fun m ρ _ => (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m ρ)

/-- The backward's five results are the reference's: no infinity in the incoming gradient, the gains and the weights. -/
theorem backward_value : algebraic_Kernel4Ideal_Reference4Ideal_pre_finite (hKernel4Ideal := Cert.Kernel4Ideal.Gen.facts)
    (hReference4Ideal := Cert.Reference4Ideal.Gen.facts) (hPre_finite := Cert.Pre_finite.Gen.facts) := by
  intro m ρ m' ρ' hpre hargs
  refine ⟨_, _, _, _, _, Cert.Kernel4Ideal.Bwd.value_run m ρ,
    (θ_run _ _ _).mono (fun _ h c => ?_) (Cert.Reference4Ideal.Value.run m' ρ')⟩
  obtain ⟨a0, a1, a2, a3, a4⟩ := hargs c
  obtain ⟨p0, p2, p3, p4⟩ := hpre c
  obtain ⟨h0, h1, h2, h3, h4, h5⟩ := h c
  have n0 := Cert.Pre_finite.first _ _ _ _ _ p0
  have n2 := Cert.Pre_finite.second _ _ _ _ _ p2
  have n3 := Cert.Pre_finite.third _ _ _ _ _ p3
  have n4 := Cert.Pre_finite.fourth _ _ _ _ _ p4
  refine ⟨h0.trans ?_, h1.trans ?_, h2.trans ?_, h3.trans ?_, h4.trans ?_, h5⟩
  · rw [Cert.Reference4Ideal.Read.val_main_v64_eq, a0, a1, a2, a3, a4]
    funext i
    exact (congrArg _ (eq_ix2 (n0 := 4096) (n1 := 1024) i)).trans (Cert.Reference4Ideal.Bwd.dtok_ref n0 n2 n3 n4 (i 0) (i 1))
  · rw [Cert.Reference4Ideal.Read.val_main_v65_eq, a0]
    funext i
    exact (congrArg _ (eq_ix2 (n0 := 4096) (n1 := 1024) i)).trans (Cert.Reference4Ideal.Bwd.dys_ref (i 0) (i 1))
  · rw [Cert.Reference4Ideal.Read.val_main_v68_eq, a0, a1, a2, a3, a4]
    funext i
    exact (congrArg _ (eq_ix3 (n0 := 4) (n1 := 4096) (n2 := 704) i)).trans
      (Cert.Reference4Ideal.Bwd.dgates_ref n0 n2 n3 n4 (i 0) (i 1) (i 2))
  · rw [Cert.Reference4Ideal.Read.val_main_v71_eq, a0, a1, a2, a3, a4]
    funext i
    exact (congrArg _ (eq_ix3 (n0 := 4) (n1 := 4096) (n2 := 704) i)).trans
      (Cert.Reference4Ideal.Bwd.dups_ref (i 0) (i 1) (i 2))
  · rw [Cert.Reference4Ideal.Read.val_main_v49_eq, a0, a1, a2, a3, a4]
    funext i
    have e0 : i 0 = (0 : Fin 1) := Subsingleton.elim (α := Fin 1) _ _
    refine (congrArg _ ((eq_ix2 (n0 := 1) (n1 := 1024) i).trans (congrArg (ix2 · (i 1)) e0))).trans
      (Cert.Reference4Ideal.Bwd.dgain_ref n0 n2 n3 n4 (i 1))

/-- The attention call's three gradients are the reference's, where the arguments hold no infinity. -/
theorem attention_value : algebraic_KernelIdeal_ReferenceIdeal_pre_real (hKernelIdeal := Cert.KernelIdeal.Gen.facts)
    (hReferenceIdeal := Cert.ReferenceIdeal.Gen.facts) (hPre_real := Cert.Pre_real.Gen.facts) := by
  intro m ρ m' ρ' hpre hargs
  refine ⟨_, _, _, Cert.KernelIdeal.Band.value_run m ρ (fun c => Cert.Pre_real.queries _ _ _ _ _ _ (hpre c).1)
      (fun c => Cert.Pre_real.keys _ _ _ _ _ _ (hpre c).2.1) (fun c => Cert.Pre_real.values _ _ _ _ _ _ (hpre c).2.2.1)
      (fun c => Cert.Pre_real.table _ _ _ _ _ _ (hpre c).2.2.2.1) (fun c => Cert.Pre_real.sink _ _ _ _ _ _ (hpre c).2.2.2.2.1)
      (fun c => Cert.Pre_real.incoming _ _ _ _ _ _ (hpre c).2.2.2.2.2),
    (θ_run _ _ _).mono (fun _ h c => ?_) (Cert.ReferenceIdeal.Value.run m' ρ')⟩
  obtain ⟨a0, a1, a2, a3, a4, a5⟩ := hargs c
  obtain ⟨h0, h1, h2, h3⟩ := h c
  refine ⟨h0.trans ?_, h1.trans ?_, h2.trans ?_, h3⟩
  · rw [Cert.ReferenceIdeal.Read.val_main_v132_eq]
    exact congr (congr (congr (congr (congr (congrArg (Cert.ReferenceIdeal.Read.val_main_v132 (F := Ideal)) a0) a1) a2) a3) a4) a5
  · rw [Cert.ReferenceIdeal.Read.val_main_v133_eq]
    exact congr (congr (congr (congr (congr (congrArg (Cert.ReferenceIdeal.Read.val_main_v133 (F := Ideal)) a0) a1) a2) a3) a4) a5
  · rw [Cert.ReferenceIdeal.Read.val_main_v134_eq]
    exact congr (congr (congr (congr (congrArg (Cert.ReferenceIdeal.Read.val_main_v134 (F := Ideal)) a0) a1) a3) a4) a5

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_real.Gen.facts, Cert.Pre_finite.Gen.facts,
    attention_frame_words, attention_frame, fun m ρ _ => attention_frame m ρ trivial, attention_ref_frame,
    fun m ρ _ => attention_ref_frame m ρ trivial, fun m ρ _ => Cert.Kernel2.Gen.frame m ρ, fun m ρ _ => Cert.Kernel2Ideal.Gen.frame m ρ,
    weights_ref_frame, forward_frame_words, forward_frame, forward_ref_frame,
    backward_frame_words, backward_frame, fun m ρ _ => backward_frame m ρ trivial, backward_ref_frame,
    fun m ρ _ => backward_ref_frame m ρ trivial, trivial, attention_value, trivial, weights_value, trivial, forward_value, trivial, backward_value⟩

end Cert.Proof
